-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_in [hPre_finite_in : Cert.Pre_finite_in.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_in [hPre_finite_in : Cert.Pre_finite_in.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_in [hKernel2Ideal : Cert.Kernel2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_in m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_in [hReference2Ideal : Cert.Reference2Ideal.Facts] [hPre_finite_in : Cert.Pre_finite_in.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_in m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)) (v8 : (c : Dev Cert.KernelIdeal.nD) → Buf (Elt Ideal) ((c.tc : Thread Cert.KernelIdeal.nD Cert.KernelIdeal.τ).loc Cert.KernelIdeal.main_v9_8)) (v9 : (c : Dev Cert.KernelIdeal.nD) → Buf (Elt Ideal) ((c.tc : Thread Cert.KernelIdeal.nD Cert.KernelIdeal.τ).loc Cert.KernelIdeal.main_v9_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_v9_8) = v8 c
          ∧ r.2.mem ((c.tc : Thread Cert.KernelIdeal.nD Cert.KernelIdeal.τ).loc Cert.KernelIdeal.main_v9_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_v196) = v4 c
          ∧ r.2.mem ((c.tc : Thread Cert.ReferenceIdeal.nD Cert.ReferenceIdeal.τ).loc Cert.ReferenceIdeal.main_v141) = v5 c
          ∧ r.2.mem ((c.tc : Thread Cert.ReferenceIdeal.nD Cert.ReferenceIdeal.τ).loc Cert.ReferenceIdeal.main_v197) = v6 c
          ∧ r.2.mem ((c.tc : Thread Cert.ReferenceIdeal.nD Cert.ReferenceIdeal.τ).loc Cert.ReferenceIdeal.main_v184) = v7 c
          ∧ r.2.mem ((c.tc : Thread Cert.ReferenceIdeal.nD Cert.ReferenceIdeal.τ).loc Cert.ReferenceIdeal.main_v164) = v8 c
          ∧ r.2.mem ((c.tc : Thread Cert.ReferenceIdeal.nD Cert.ReferenceIdeal.τ).loc Cert.ReferenceIdeal.main_v191) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite_in [hKernel2Ideal : Cert.Kernel2Ideal.Facts] [hReference2Ideal : Cert.Reference2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_in m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)) (v5 : (c : Dev Cert.Kernel4Ideal.nD) → Buf (Elt Ideal) ((c.tc : Thread Cert.Kernel4Ideal.nD Cert.Kernel4Ideal.τ).loc Cert.Kernel4Ideal.main_v22_5)) (v6 : (c : Dev Cert.Kernel4Ideal.nD) → Buf (Elt Ideal) ((c.tc : Thread Cert.Kernel4Ideal.nD Cert.Kernel4Ideal.τ).loc Cert.Kernel4Ideal.main_v22_6)) (v7 : (c : Dev Cert.Kernel4Ideal.nD) → Buf (Elt Ideal) ((c.tc : Thread Cert.Kernel4Ideal.nD Cert.Kernel4Ideal.τ).loc Cert.Kernel4Ideal.main_v22_7)) (v8 : (c : Dev Cert.Kernel4Ideal.nD) → Buf (Elt Ideal) ((c.tc : Thread Cert.Kernel4Ideal.nD Cert.Kernel4Ideal.τ).loc Cert.Kernel4Ideal.main_v22_8)) (v9 : (c : Dev Cert.Kernel4Ideal.nD) → Buf (Elt Ideal) ((c.tc : Thread Cert.Kernel4Ideal.nD Cert.Kernel4Ideal.τ).loc Cert.Kernel4Ideal.main_v22_9)) (v10 : (c : Dev Cert.Kernel4Ideal.nD) → Buf (Elt Ideal) ((c.tc : Thread Cert.Kernel4Ideal.nD Cert.Kernel4Ideal.τ).loc Cert.Kernel4Ideal.main_v22_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_v22_5) = v5 c
          ∧ r.2.mem ((c.tc : Thread Cert.Kernel4Ideal.nD Cert.Kernel4Ideal.τ).loc Cert.Kernel4Ideal.main_v22_6) = v6 c
          ∧ r.2.mem ((c.tc : Thread Cert.Kernel4Ideal.nD Cert.Kernel4Ideal.τ).loc Cert.Kernel4Ideal.main_v22_7) = v7 c
          ∧ r.2.mem ((c.tc : Thread Cert.Kernel4Ideal.nD Cert.Kernel4Ideal.τ).loc Cert.Kernel4Ideal.main_v22_8) = v8 c
          ∧ r.2.mem ((c.tc : Thread Cert.Kernel4Ideal.nD Cert.Kernel4Ideal.τ).loc Cert.Kernel4Ideal.main_v22_9) = v9 c
          ∧ r.2.mem ((c.tc : Thread Cert.Kernel4Ideal.nD Cert.Kernel4Ideal.τ).loc Cert.Kernel4Ideal.main_v22_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v24) = v5 c
          ∧ r.2.mem ((c.tc : Thread Cert.Reference4Ideal.nD Cert.Reference4Ideal.τ).loc Cert.Reference4Ideal.main_v25) = v6 c
          ∧ r.2.mem ((c.tc : Thread Cert.Reference4Ideal.nD Cert.Reference4Ideal.τ).loc Cert.Reference4Ideal.main_v26) = v7 c
          ∧ r.2.mem ((c.tc : Thread Cert.Reference4Ideal.nD Cert.Reference4Ideal.τ).loc Cert.Reference4Ideal.main_v34) = v8 c
          ∧ r.2.mem ((c.tc : Thread Cert.Reference4Ideal.nD Cert.Reference4Ideal.τ).loc Cert.Reference4Ideal.main_v42) = v9 c
          ∧ r.2.mem ((c.tc : Thread Cert.Reference4Ideal.nD Cert.Reference4Ideal.τ).loc Cert.Reference4Ideal.main_v50) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.block ⟨2, ![4096, 1024]⟩ ⟨2, ![32768, 1024]⟩ 0 8 c (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = Layout.block ⟨2, ![4096, 4096]⟩ ⟨2, ![32768, 4096]⟩ 0 8 c (m' (((0 : Dev Cert.Reference5Ideal.nD).tc : Thread Cert.Reference5Ideal.nD Cert.Reference5Ideal.τ).loc Cert.Reference5Ideal.main_arg1))
      ∧ m ((c.tc : Thread Cert.Kernel5Ideal.nD Cert.Kernel5Ideal.τ).loc Cert.Kernel5Ideal.main_arg2) = Layout.block ⟨3, ![8, 512, 1024]⟩ ⟨3, ![64, 512, 1024]⟩ 0 8 c (m' (((0 : Dev Cert.Reference5Ideal.nD).tc : Thread Cert.Reference5Ideal.nD Cert.Reference5Ideal.τ).loc Cert.Reference5Ideal.main_arg2))) →
    ∃ (v0 : Buf (Elt Ideal) (((0 : Dev Cert.Reference5Ideal.nD).tc : Thread Cert.Reference5Ideal.nD Cert.Reference5Ideal.τ).loc Cert.Reference5Ideal.main_v8)) (v1 : Buf (Elt Ideal) (((0 : Dev Cert.Reference5Ideal.nD).tc : Thread Cert.Reference5Ideal.nD Cert.Reference5Ideal.τ).loc Cert.Reference5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.block ⟨3, ![8, 1024, 512]⟩ ⟨3, ![64, 1024, 512]⟩ 0 8 c v0
          ∧ r.2.mem ((c.tc : Thread Cert.Kernel5Ideal.nD Cert.Kernel5Ideal.τ).loc Cert.Kernel5Ideal.main_v1_1) = Layout.block ⟨3, ![2, 512, 1024]⟩ ⟨3, ![16, 512, 1024]⟩ 0 8 c v1
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v8) = v0
          ∧ r.2.mem (((0 : Dev Cert.Reference5Ideal.nD).tc : Thread Cert.Reference5Ideal.nD Cert.Reference5Ideal.τ).loc Cert.Reference5Ideal.main_v25) = v1
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1)
          ∧ r.2.mem (((0 : Dev Cert.Reference5Ideal.nD).tc : Thread Cert.Reference5Ideal.nD Cert.Reference5Ideal.τ).loc Cert.Reference5Ideal.main_arg2) = m' (((0 : Dev Cert.Reference5Ideal.nD).tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_in (hKernel2Ideal := hKernel2Ideal) (hPre_finite_in := hPre_finite_in)
    ∧ quiescent_Reference2Ideal (hReference2Ideal := hReference2Ideal)
    ∧ quiescent_Reference2Ideal_pre_finite_in (hReference2Ideal := hReference2Ideal) (hPre_finite_in := hPre_finite_in)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_in (hKernel2Ideal := hKernel2Ideal) (hReference2Ideal := hReference2Ideal) (hPre_finite_in := hPre_finite_in)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1024x4096 .f32) (main_arg9 : FVec F S4096x1024 .f32) (main_arg10 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x4096 .f32 := Host.absf main_arg8
  let main_cst_14 : FVec F S_ .f32 := constant S_ .f32 0x7F800000#32
  let main_v33 : FVec F S1024x4096 .f32 := broadcastInDim S1024x4096 ![] bcast_S_S1024x4096 main_cst_14
  let main_v34 : IVec S1024x4096 1 := cmpf .olt main_v32 main_v33
  let main_c_15 : IVec S_ 1 := constantI S_ 1 1#1
  let main_v35 : IVec S_ 1 := (fun x v => Host.reduce IntOp.andi x v reducesTo_S1024x4096_S_d0_1 h_S_) main_v34 main_c_15
  let main_v36 : FVec F S4096x1024 .f32 := Host.absf main_arg9
  let main_cst_16 : FVec F S_ .f32 := constant S_ .f32 0x7F800000#32
  let main_v37 : FVec F S4096x1024 .f32 := broadcastInDim S4096x1024 ![] bcast_S_S4096x1024 main_cst_16
  let main_v38 : IVec S4096x1024 1 := cmpf .olt main_v36 main_v37
  let main_c_17 : IVec S_ 1 := constantI S_ 1 1#1
  let main_v39 : IVec S_ 1 := (fun x v => Host.reduce IntOp.andi x v reducesTo_S4096x1024_S_d0_1 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S512 .f32) (main_arg5 : FVec F S512 .f32) (main_arg6 : FVec F S1024x1024 .f32) (main_arg7 : FVec F S1024 .f32) (main_arg8 : FVec F S1024x4096 .f32) (main_arg9 : FVec F S4096x1024 .f32) (main_arg10 : FVec F S1024 .f32) (main_v3 : IVec S_ 1) (main_v7 : IVec S_ 1) (main_v11 : IVec S_ 1) (main_v15 : IVec S_ 1) : IVec S_ 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_arg8 main_arg9 main_arg10 main_v3 main_v7 main_v11 main_v15 main_v19 main_v23 main_v27 main_v31

def fn {F : FTy → Type} [FloatOps F] (main_arg0 : FVec F S4096x1024 .f32) (main_arg1 : FVec F S4096x512 .f32) (main_arg2 : FVec F S4096x512 .f32) (main_arg3 : FVec F S4096x1024 .f32) (main_arg4 : FVec F S512 .f32) (main_arg5 : FVec F S512 .f32) (main_arg6 : FVec F S1024x1024 .f32) (main_arg7 : FVec F S1024 .f32) (main_arg8 : FVec F S1024x4096 .f32) (main_arg9 : FVec F S4096x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_arg8 main_arg9 main_arg10 main_v3 main_v7 main_v11 main_v15
-- ==== Pre_finite_in.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v4 : IVec S_ 1) (main_v9 : IVec S_ 1) (main_v14 : IVec S_ 1) (main_v19 : IVec S_ 1) (main_v23 : IVec S_ 1) (main_v27 : IVec S_ 1) (main_v31 : IVec S_ 1) (main_v32 : FVec F S1024 .f32) (main_cst_12 : FVec F S_ .f32) : IVec S_ 1 :=
  let main_v33 : FVec F S1024 .f32 := broadcastInDim S1024 ![] bcast_S_S1024 main_cst_12
  let main_v34 : IVec S1024 1 := cmpf .olt main_v32 main_v33
  let main_c_13 : IVec S_ 1 := constantI S_ 1 1#1
  let main_v35 : IVec S_ 1 := (fun x v => Host.reduce IntOp.andi x v reducesTo_S1024_S_d0 h_S_) main_v34 main_c_13
  let main_v36 : IVec S_ 1 := andi main_v4 main_v9
  let main_v37 : IVec S_ 1 := andi main_v36 main_v14
  let main_v38 : IVec S_ 1 := andi main_v37 main_v19
  let main_v39 : IVec S_ 1 := andi main_v38 main_v23
  let main_v40 : IVec S_ 1 := andi main_v39 main_v27
  let main_v41 : IVec S_ 1 := andi main_v40 main_v31
  let main_v42 : IVec S_ 1 := andi main_v41 main_v35
  main_v42

def fn_part1 {F : FTy → Type} [FloatOps F] (main_arg4 : FVec F S1024x2048 .f32) (main_arg5 : FVec F S4096x1024 .f32) (main_arg6 : FVec F S4096x1024 .f32) (main_arg7 : FVec F S1024 .f32) (main_v4 : IVec S_ 1) (main_v9 : IVec S_ 1) (main_v14 : IVec S_ 1) (main_v16 : FVec F S4096x512 .f32) (main_cst_4 : FVec F S_ .f32) : IVec S_ 1 :=
  let main_v17 : FVec F S4096x512 .f32 := broadcastInDim S4096x512 ![] bcast_S_S4096x512 main_cst_4
  let main_v18 : IVec S4096x512 1 := cmpf .olt main_v16 main_v17
  let main_c_5 : IVec S_ 1 := constantI S_ 1 1#1
  let main_v19 : IVec S_ 1 := (fun x v => Host.reduce IntOp.andi x v reducesTo_S4096x512_S_d0_1 h_S_) main_v18 main_c_5
  let main_v20 : FVec F S1024x2048 .f32 := Host.absf main_arg4
  let main_cst_6 : FVec F S_ .f32 := constant S_ .f32 0x7F800000#32
  let main_v21 : FVec F S1024x2048 .f32 := broadcastInDim S1024x2048 ![] bcast_S_S1024x2048 main_cst_6
  let main_v22 : IVec S1024x2048 1 := cmpf .olt main_v20 main_v21
  let main_c_7 : IVec S_ 1 := constantI S_ 1 1#1
  let main_v23 : IVec S_ 1 := (fun x v => Host.reduce IntOp.andi x v reducesTo_S1024x2048_S_d0_1 h_S_) main_v22 main_c_7
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : FVec F S4096x1024 .f32 := Host.absf main_arg6
  let main_cst_10 : FVec F S_ .f32 := constant S_ .f32 0x7F800000#32
  let main_v29 : FVec F S4096x1024 .f32 := broadcastInDim S4096x1024 ![] bcast_S_S4096x1024 main_cst_10
  let main_v30 : IVec S4096x1024 1 := cmpf .olt main_v28 main_v29
  let main_c_11 : IVec S_ 1 := constantI S_ 1 1#1
  let main_v31 : IVec S_ 1 := (fun x v => Host.reduce IntOp.andi x v reducesTo_S4096x1024_S_d0_1 h_S_) main_v30 main_c_11
  let main_v32 : FVec F S1024 .f32 := Host.absf main_arg7
  let main_cst_12 : FVec F S_ .f32 := constant S_ .f32 0x7F800000#32
  fn_part2 (F := F) main_v4 main_v9 main_v14 main_v19 main_v23 main_v27 main_v31 main_v32 main_cst_12

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S1024x2048 .f32) (main_arg5 : FVec F S4096x1024 .f32) (main_arg6 : FVec F S4096x1024 .f32) (main_arg7 : FVec F S1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : FVec F S4096x512 .f32 := (extf .f32 · bitsLt_bf16_f32) main_arg3
  let main_v16 : FVec F S4096x512 .f32 := Host.absf main_v15
  let main_cst_4 : FVec F S_ .f32 := constant S_ .f32 0x7F800000#32
  fn_part1 (F := F) main_arg4 main_arg5 main_arg6 main_arg7 main_v4 main_v9 main_v14 main_v16 main_cst_4
-- ==== Kernel.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x512 : Shape := ⟨2, ![1, 512]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S512x1024 : Shape := ⟨2, ![512, 1024]⟩
abbrev S1x1 : Shape := ⟨2, ![1, 1]⟩

abbrev nBuf : Space → Nat
  | .hbm => 30
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024x4096, .bf16⟩
  | .hbm, ⟨12, _⟩ => ⟨S1024x8x512, .bf16⟩
  | .hbm, ⟨13, _⟩ => ⟨S8x1024x512, .bf16⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x4096, .bf16⟩
  | .hbm, ⟨23, _⟩ => ⟨S4096x4096, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x512, .f32⟩
  | .hbm, ⟨28, _⟩ => ⟨S4096x512, .f32⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x1024, .f32⟩
  | .local _ .vmem, ⟨31, _⟩ => ⟨S1024x1024, .bf16⟩
  | .local _ .vmem, ⟨32, _⟩ => ⟨S8x1024x512, .bf16⟩
  | .local _ .vmem, ⟨33, _⟩ => ⟨S4096x1024, .bf16⟩
  | .local _ .vmem, ⟨34, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 262
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x1024, .f32⟩
  | 4 => ⟨S512, .f32⟩
  | 5 => ⟨S512, .f32⟩
  | 6 => ⟨S1024x1024, .f32⟩
  | 7 => ⟨S1024, .f32⟩
  | 8 => ⟨S1024x4096, .f32⟩
  | 9 => ⟨S4096x1024, .f32⟩
  | 10 => ⟨S1024, .f32⟩
  | 11 => ⟨S_, .f32⟩
  | 12 => ⟨S4096x4096, .f32⟩
  | 13 => ⟨S_, .f32⟩
  | 14 => ⟨S4096x1024, .f32⟩
  | 15 => ⟨S4096x512, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x512, .f32⟩
  | 51 => ⟨S4096x512, .f32⟩
  | 52 => ⟨S1x512, .f32⟩
  | 53 => ⟨S4096x512, .f32⟩
  | 54 => ⟨S4096x512, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S_, .f32⟩
  | 84 => ⟨S4096x4096, .f32⟩
  | 85 => ⟨S4096x4096, .i1⟩
  | 86 => ⟨S_, .f32⟩
  | 87 => ⟨S4096x4096, .f32⟩
  | 88 => ⟨S4096x4096, .f32⟩
  | 89 => ⟨S_, .f32⟩
  | 90 => ⟨S4096x4096, .f32⟩
  | 91 => ⟨S4096x4096, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S_, .f32⟩
  | 121 => ⟨S4096, .f32⟩
  | 122 => ⟨S_, .f32⟩
  | 123 => ⟨S4096, .f32⟩
  | 124 => ⟨S4096, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S4096, .f32⟩
  | 5 => ⟨S_, .f32⟩
  | 6 => ⟨S4096, .f32⟩
  | 7 => ⟨S4096, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S4096x1024, .f32⟩
  | 19 => ⟨S_, .f32⟩
  | 20 => ⟨S4096, .f32⟩
  | 21 => ⟨S4096x1, .f32⟩
  | 22 => ⟨S4096x1024, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S4096x1024, .f32⟩
  | 46 => ⟨S4096x1024, .f32⟩
  | 47 => ⟨S_, .f32⟩
  | 48 => ⟨S1024, .f32⟩
  | 49 => ⟨S4096x1024, .f32⟩
  | 50 => ⟨S_, .f32⟩
  | 51 => ⟨S4096, .f32⟩
  | 52 => ⟨S4096x1, .f32⟩
  | 53 => ⟨S4096x1024, .f32⟩
  | 54 => ⟨S4096x1024, .f32⟩
  | 55 => ⟨S4096x1024, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x512, .f32⟩
  | 69 => ⟨S4096x512, .f32⟩
  | 70 => ⟨S4096x512, .f32⟩
  | 71 => ⟨S_, .f32⟩
  | 72 => ⟨S512, .f32⟩
  | 73 => ⟨S1x512, .f32⟩
  | 74 => ⟨S4096x512, .f32⟩
  | 75 => ⟨S4096x512, .f32⟩
  | 76 => ⟨S_, .f32⟩
  | 77 => ⟨S512, .f32⟩
  | 78 => ⟨S4096x512, .f32⟩
  | 79 => ⟨S_, .f32⟩
  | 80 => ⟨S4096, .f32⟩
  | 81 => ⟨S4096x1, .f32⟩
  | 82 => ⟨S4096x512, .f32⟩
  | 83 => ⟨S4096x512, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S512, .f32⟩
  | 98 => ⟨S1x512, .f32⟩
  | 99 => ⟨S4096x512, .f32⟩
  | 100 => ⟨S4096x512, .f32⟩
  | 101 => ⟨S_, .f32⟩
  | 102 => ⟨S512, .f32⟩
  | 103 => ⟨S4096x512, .f32⟩
  | 104 => ⟨S_, .f32⟩
  | 105 => ⟨S4096, .f32⟩
  | 106 => ⟨S4096x1, .f32⟩
  | 107 => ⟨S4096x512, .f32⟩
  | 108 => ⟨S4096x512, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S1x1024, .f32⟩
  | 121 => ⟨S1x1024, .f32⟩
  | 122 => ⟨S1024, .f32⟩
  | 123 => ⟨S1x1024, .f32⟩
  | 124 => ⟨S1x1024, .f32⟩
  | 125 => ⟨S_, .f32⟩
  | 126 => ⟨S4x1024, .f32⟩
  | 127 => ⟨S8x1024, .f32⟩
  | _ => ⟨S4096x1024, .f32⟩

abbrev hbmTy0_2 (i : Nat) : BufTy := match i % 128 with
  | 0 => ⟨S4096x1024, .bf16⟩
  | 1 => ⟨S4096x1024, .bf16⟩
  | 2 => ⟨S4096x4096, .bf16⟩
  | 3 => ⟨S4096x4096, .bf16⟩
  | 4 => ⟨S4096x1024, .bf16⟩
  | 5 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call0_cst : Ref sig .tc := ⟨.hbm, 80, rfl⟩
abbrev main_call0_v0 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_cst_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_20 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_cst_22 : Ref sig .tc := ⟨.hbm, 122, rfl⟩
abbrev main_v86 : Ref sig .tc := ⟨.hbm, 123, rfl⟩
abbrev main_v87 : Ref sig .tc := ⟨.hbm, 124, rfl⟩
abbrev main_cst_23 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_cst_25 : Ref sig .tc := ⟨.hbm, 129, rfl⟩
abbrev main_cst_26 : Ref sig .tc := ⟨.hbm, 130, rfl⟩
abbrev main_v90 : Ref sig .tc := ⟨.hbm, 131, rfl⟩
abbrev main_v91 : Ref sig .tc := ⟨.hbm, 132, rfl⟩
abbrev main_cst_27 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_28 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_29 : Ref sig .tc := ⟨.hbm, 144, rfl⟩
abbrev main_v101 : Ref sig .tc := ⟨.hbm, 145, rfl⟩
abbrev main_v102 : Ref sig .tc := ⟨.hbm, 146, rfl⟩
abbrev main_cst_30 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_31 : Ref sig .tc := ⟨.hbm, 153, rfl⟩
abbrev main_v108 : Ref sig .tc := ⟨.hbm, 154, rfl⟩
abbrev main_v109 : Ref sig .tc := ⟨.hbm, 155, rfl⟩
abbrev main_cst_32 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_33 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_34 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_35 : Ref sig .tc := ⟨.hbm, 175, rfl⟩
abbrev main_v126 : Ref sig .tc := ⟨.hbm, 176, rfl⟩
abbrev main_v127 : Ref sig .tc := ⟨.hbm, 177, rfl⟩
abbrev main_cst_36 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_37 : Ref sig .tc := ⟨.hbm, 185, rfl⟩
abbrev main_v134 : Ref sig .tc := ⟨.hbm, 186, rfl⟩
abbrev main_v135 : Ref sig .tc := ⟨.hbm, 187, rfl⟩
abbrev main_cst_38 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_39 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_40 : Ref sig .tc := ⟨.hbm, 204, rfl⟩
abbrev main_v150 : Ref sig .tc := ⟨.hbm, 205, rfl⟩
abbrev main_v151 : Ref sig .tc := ⟨.hbm, 206, rfl⟩
abbrev main_cst_41 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_42 : Ref sig .tc := ⟨.hbm, 213, rfl⟩
abbrev main_v157 : Ref sig .tc := ⟨.hbm, 214, rfl⟩
abbrev main_v158 : Ref sig .tc := ⟨.hbm, 215, rfl⟩
abbrev main_cst_43 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_44 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_45 : Ref sig .tc := ⟨.hbm, 229, rfl⟩
abbrev main_v170 : Ref sig .tc := ⟨.hbm, 230, rfl⟩
abbrev main_v171 : Ref sig .tc := ⟨.hbm, 231, rfl⟩
abbrev main_cst_46 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_47 : Ref sig .tc := ⟨.hbm, 238, rfl⟩
abbrev main_v177 : Ref sig .tc := ⟨.hbm, 239, rfl⟩
abbrev main_v178 : Ref sig .tc := ⟨.hbm, 240, rfl⟩
abbrev main_cst_48 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_49 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩

abbrev nD : Nat := 1
abbrev τ : Topo := Topo.v7x

variable {F : FTy → Type} [FloatOps F]
-- ==== Kernel2.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S4096x2048 : Shape := ⟨2, ![4096, 2048]⟩
abbrev S8x1024 : Shape := ⟨2, ![8, 1024]⟩
abbrev S512x512 : Shape := ⟨2, ![512, 512]⟩
abbrev S512x1024 : Shape := ⟨2, ![512, 1024]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x2048, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S1024x2048, .bf16⟩
  | .hbm, ⟨9, _⟩ => ⟨S1024x8x256, .bf16⟩
  | .hbm, ⟨10, _⟩ => ⟨S8x1024x256, .bf16⟩
  | .hbm, ⟨11, _⟩ => ⟨S1x1024, .f32⟩
  | .hbm, ⟨12, _⟩ => ⟨S4096x1024, .f32⟩
  | .hbm, ⟨13, _⟩ => ⟨S4096x2048, .bf16⟩
  | .hbm, ⟨14, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S8x1024x256, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S8x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x512 : Shape := ⟨2, ![4096, 512]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1024x2048, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x2048, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x2048, .bf16⟩
  | .hbm, ⟨69, _⟩ => ⟨S1x1024, .f32⟩
  | .hbm, ⟨70, _⟩ => ⟨S_, .f32⟩
  | .hbm, ⟨71, _⟩ => ⟨S7x1024, .f32⟩
  | .hbm, ⟨72, _⟩ => ⟨S8x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel3.lean ====
abbrev S4096x1024 : Shape := ⟨2, ![4096, 1024]⟩
abbrev S8x128x1024 : Shape := ⟨3, ![8, 128, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2048 : Shape := ⟨2, ![1024, 2048]⟩
abbrev S128x1024 : Shape := ⟨2, ![128, 1024]⟩
abbrev S1024x512 : Shape := ⟨2, ![1024, 512]⟩
abbrev S512x1024 : Shape := ⟨2, ![512, 1024]⟩
abbrev S512 : Shape := ⟨1, ![512]⟩
abbrev S8x128 : Shape := ⟨2, ![8, 128]⟩
abbrev S4x128 : Shape := ⟨2, ![4, 128]⟩
abbrev S1024x8x256 : Shape := ⟨3, ![1024, 8, 256]⟩
abbrev S8x1024x256 : Shape := ⟨3, ![8, 1024, 256]⟩
abbrev S1x1024 : Shape := ⟨2, ![1, 1024]⟩
abbrev S4096x512 : Shape := ⟨2, ![4096, 512]⟩
abbrev S48x128 : Shape := ⟨2, ![48, 128]⟩
abbrev S16x1024 : Shape := ⟨2, ![16, 1024]⟩
abbrev S128x512 : Shape := ⟨2, ![128, 512]⟩
abbrev S64x1024 : Shape := ⟨2, ![64, 1024]⟩
abbrev S512x512 : Shape := ⟨2, ![512, 512]⟩
abbrev S12x128 : Shape := ⟨2, ![12, 128]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 56
  | .vmem => 47
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S128x1024, .f32⟩
  | .hbm, ⟨4, _⟩ => ⟨S1024x512, .f32⟩
  | .hbm, ⟨5, _⟩ => ⟨S512x1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024, .f32⟩
  | .hbm, ⟨12, _⟩ => ⟨S1024, .f32⟩
  | .hbm, ⟨13, _⟩ => ⟨S512, .f32⟩
  | .hbm, ⟨14, _⟩ => ⟨S512, .f32⟩
  | .hbm, ⟨15, _⟩ => ⟨S1024, .f32⟩
  | .hbm, ⟨16, _⟩ => ⟨S512, .f32⟩
  | .hbm, ⟨17, _⟩ => ⟨S1024, .f32⟩
  | .hbm, ⟨18, _⟩ => ⟨S1024, .f32⟩
  | .hbm, ⟨19, _⟩ => ⟨S512, .f32⟩
  | .hbm, ⟨20, _⟩ => ⟨S512, .f32⟩
  | .hbm, ⟨21, _⟩ => ⟨S1024, .f32⟩
  | .hbm, ⟨22, _⟩ => ⟨S512, .f32⟩
  | .hbm, ⟨23, _⟩ => ⟨S8x128, .f32⟩
  | .hbm, ⟨24, _⟩ => ⟨S8x128, .f32⟩
  | .hbm, ⟨25, _⟩ => ⟨S4x128, .f32⟩
  | .hbm, ⟨26, _⟩ => ⟨S4x128, .f32⟩
  | .hbm, ⟨27, _⟩ => ⟨S8x128, .f32⟩
  | .hbm, ⟨28, _⟩ => ⟨S4x128, .f32⟩
  | .hbm, ⟨29, _⟩ => ⟨S8x128, .f32⟩
  | .hbm, ⟨30, _⟩ => ⟨S8x128, .f32⟩
  | .hbm, ⟨31, _⟩ => ⟨S4x128, .f32⟩
  | .hbm, ⟨32, _⟩ => ⟨S4x128, .f32⟩
  | .hbm, ⟨33, _⟩ => ⟨S8x128, .f32⟩
  | .hbm, ⟨34, _⟩ => ⟨S4x128, .f32⟩
  | .hbm, ⟨35, _⟩ => ⟨S8x128, .f32⟩
  | .hbm, ⟨36, _⟩ => ⟨S8x128, .f32⟩
  | .hbm, ⟨37, _⟩ => ⟨S4x128, .f32⟩
  | .hbm, ⟨38, _⟩ => ⟨S4x128, .f32⟩
  | .hbm, ⟨39, _⟩ => ⟨S8x128, .f32⟩
  | .hbm, ⟨40, _⟩ => ⟨S4x128, .f32⟩
  | .hbm, ⟨41, _⟩ => ⟨S1024x2048, .bf16⟩
  | .hbm, ⟨42, _⟩ => ⟨S1024x8x256, .bf16⟩
  | .hbm, ⟨43, _⟩ => ⟨S8x1024x256, .bf16⟩
  | .hbm, ⟨44, _⟩ => ⟨S1x1024, .f32⟩
  | .hbm, ⟨45, _⟩ => ⟨S4096x1024, .bf16⟩
  | .hbm, ⟨46, _⟩ => ⟨S4096x512, .f32⟩
  | .hbm, ⟨47, _⟩ => ⟨S4096x512, .bf16⟩
  | .hbm, ⟨48, _⟩ => ⟨S4096x512, .bf16⟩
  | .hbm, ⟨49, _⟩ => ⟨S4096x512, .bf16⟩
  | .hbm, ⟨50, _⟩ => ⟨S128x1024, .bf16⟩
  | .hbm, ⟨51, _⟩ => ⟨S1024x512, .bf16⟩
  | .hbm, ⟨52, _⟩ => ⟨S512x1024, .bf16⟩
  | .hbm, ⟨53, _⟩ => ⟨S48x128, .f32⟩
  | .hbm, ⟨54, _⟩ => ⟨S48x128, .f32⟩
  | .hbm, ⟨55, _⟩ => ⟨S48x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S16x1024, .f32⟩
  | .local _ .vmem, ⟨5, _⟩ => ⟨S16x1024, .f32⟩
  | .local _ .vmem, ⟨6, _⟩ => ⟨S128x512, .f32⟩
  | .local _ .vmem, ⟨7, _⟩ => ⟨S128x512, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S8x128, .f32⟩
  | .local _ .vmem, ⟨12, _⟩ => ⟨S4x128, .f32⟩
  | .local _ .vmem, ⟨13, _⟩ => ⟨S4x128, .f32⟩
  | .local _ .vmem, ⟨14, _⟩ => ⟨S8x128, .f32⟩
  | .local _ .vmem, ⟨15, _⟩ => ⟨S4x128, .f32⟩
  | .local _ .vmem, ⟨16, _⟩ => ⟨S8x128, .f32⟩
  | .local _ .vmem, ⟨17, _⟩ => ⟨S8x128, .f32⟩
  | .local _ .vmem, ⟨18, _⟩ => ⟨S4x128, .f32⟩
  | .local _ .vmem, ⟨19, _⟩ => ⟨S4x128, .f32⟩
  | .local _ .vmem, ⟨20, _⟩ => ⟨S8x128, .f32⟩
  | .local _ .vmem, ⟨21, _⟩ => ⟨S4x128, .f32⟩
  | .local _ .vmem, ⟨22, _⟩ => ⟨S8x128, .f32⟩
  | .local _ .vmem, ⟨23, _⟩ => ⟨S8x128, .f32⟩
  | .local _ .vmem, ⟨24, _⟩ => ⟨S4x128, .f32⟩
  | .local _ .vmem, ⟨25, _⟩ => ⟨S4x128, .f32⟩
  | .local _ .vmem, ⟨26, _⟩ => ⟨S8x128, .f32⟩
  | .local _ .vmem, ⟨27, _⟩ => ⟨S4x128, .f32⟩
  | .local _ .vmem, ⟨28, _⟩ => ⟨S512x1024, .bf16⟩
  | .local _ .vmem, ⟨29, _⟩ => ⟨S512x1024, .bf16⟩
  | .local _ .vmem, ⟨30, _⟩ => ⟨S512x512, .f32⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S16x1024, .bf16⟩
  | .local _ .vmem, ⟨39, _⟩ => ⟨S16x1024, .bf16⟩
  | .local _ .vmem, ⟨40, _⟩ => ⟨S128x512, .bf16⟩
  | .local _ .vmem, ⟨41, _⟩ => ⟨S128x512, .bf16⟩
  | .local _ .vmem, ⟨42, _⟩ => ⟨S64x1024, .bf16⟩
  | .local _ .vmem, ⟨43, _⟩ => ⟨S64x1024, .bf16⟩
  | .local _ .vmem, ⟨44, _⟩ => ⟨S48x128, .f32⟩
  | .local _ .vmem, ⟨45, _⟩ => ⟨S48x128, .f32⟩
  | .local _ .vmem, ⟨46, _⟩ => ⟨S48x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_v22_5 : Ref sig .tc := ⟨.hbm, 50, rfl⟩
abbrev main_v22_6 : Ref sig .tc := ⟨.hbm, 51, rfl⟩
abbrev main_v22_7 : Ref sig .tc := ⟨.hbm, 52, rfl⟩
abbrev main_v22_8 : Ref sig .tc := ⟨.hbm, 53, rfl⟩
abbrev main_v22_9 : Ref sig .tc := ⟨.hbm, 54, rfl⟩
abbrev main_v22_10 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_stg30_0 : Ref sig .tc := ⟨.vmem, 40, rfl⟩
abbrev cc0_stg30_1 : Ref sig .tc := ⟨.vmem, 41, rfl⟩
abbrev cc0_stg31_0 : Ref sig .tc := ⟨.vmem, 42, rfl⟩
abbrev cc0_stg31_1 : Ref sig .tc := ⟨.vmem, 43, rfl⟩
abbrev cc0_stg32_0 : Ref sig .tc := ⟨.vmem, 44, rfl⟩
abbrev cc0_stg33_0 : Ref sig .tc := ⟨.vmem, 45, rfl⟩
abbrev cc0_stg34_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem24_1 : DmaSem sig := 29
abbrev cc0_sem25_0 : DmaSem sig := 30
abbrev cc0_sem25_1 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39
abbrev cc0_sem30_0 : DmaSem sig := 40
abbrev cc0_sem30_1 : DmaSem sig := 41
abbrev cc0_sem31_0 : DmaSem sig := 42
abbrev cc0_sem31_1 : DmaSem sig := 43
abbrev cc0_sem32_0 : DmaSem sig := 44
abbrev cc0_sem33_0 : DmaSem sig := 45
abbrev cc0_sem34_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S16x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S128x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S64x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .vmem S48x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S48x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S48x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== Reference4Ideal.lean ====
abbrev S4096x1024 : Shape := ⟨2, ![4096, 1024]⟩
abbrev S1024 : Shape := ⟨1, ![1024]⟩
abbrev S1024x2048 : Shape := ⟨2, ![1024, 2048]⟩
abbrev S128x1024 : Shape := ⟨2, ![128, 1024]⟩
abbrev S1024x512 : Shape := ⟨2, ![1024, 512]⟩
abbrev S512x1024 : Shape := ⟨2, ![512, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S1536 : Shape := ⟨1, ![1536]⟩
abbrev S2048 : Shape := ⟨1, ![2048]⟩
abbrev S2560 : Shape := ⟨1, ![2560]⟩
abbrev S3072 : Shape := ⟨1, ![3072]⟩
abbrev S4608 : Shape := ⟨1, ![4608]⟩
abbrev S6144 : Shape := ⟨1, ![6144]⟩
abbrev S48x128 : Shape := ⟨2, ![48, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S128x1024, .f32⟩
  | .hbm, ⟨4, _⟩ => ⟨S1024x512, .f32⟩
  | .hbm, ⟨5, _⟩ => ⟨S512x1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024, .f32⟩
  | .hbm, ⟨12, _⟩ => ⟨S1024, .f32⟩
  | .hbm, ⟨13, _⟩ => ⟨S512, .f32⟩
  | .hbm, ⟨14, _⟩ => ⟨S512, .f32⟩
  | .hbm, ⟨15, _⟩ => ⟨S1024, .f32⟩
  | .hbm, ⟨16, _⟩ => ⟨S512, .f32⟩
  | .hbm, ⟨17, _⟩ => ⟨S1024, .f32⟩
  | .hbm, ⟨18, _⟩ => ⟨S1024, .f32⟩
  | .hbm, ⟨19, _⟩ => ⟨S512, .f32⟩
  | .hbm, ⟨20, _⟩ => ⟨S512, .f32⟩
  | .hbm, ⟨21, _⟩ => ⟨S1024, .f32⟩
  | .hbm, ⟨22, _⟩ => ⟨S512, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x2048, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .bf16⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .bf16⟩
  | .hbm, ⟨49, _⟩ => ⟨S4096x512, .bf16⟩
  | .hbm, ⟨50, _⟩ => ⟨S4096x512, .bf16⟩
  | .hbm, ⟨51, _⟩ => ⟨S128x1024, .bf16⟩
  | .hbm, ⟨52, _⟩ => ⟨S1024x512, .bf16⟩
  | .hbm, ⟨53, _⟩ => ⟨S512x1024, .bf16⟩
  | .hbm, ⟨54, _⟩ => ⟨S_, .f32⟩
  | .hbm, ⟨55, _⟩ => ⟨S1536, .f32⟩
  | .hbm, ⟨56, _⟩ => ⟨S2048, .f32⟩
  | .hbm, ⟨57, _⟩ => ⟨S2560, .f32⟩
  | .hbm, ⟨58, _⟩ => ⟨S3072, .f32⟩
  | .hbm, ⟨59, _⟩ => ⟨S4096, .f32⟩
  | .hbm, ⟨60, _⟩ => ⟨S4608, .f32⟩
  | .hbm, ⟨61, _⟩ => ⟨S6144, .f32⟩
  | .hbm, ⟨62, _⟩ => ⟨S48x128, .f32⟩
  | .hbm, ⟨63, _⟩ => ⟨S_, .f32⟩
  | .hbm, ⟨64, _⟩ => ⟨S1536, .f32⟩
  | .hbm, ⟨65, _⟩ => ⟨S2048, .f32⟩
  | .hbm, ⟨66, _⟩ => ⟨S2560, .f32⟩
  | .hbm, ⟨67, _⟩ => ⟨S3072, .f32⟩
  | .hbm, ⟨68, _⟩ => ⟨S4096, .f32⟩
  | .hbm, ⟨69, _⟩ => ⟨S4608, .f32⟩
  | .hbm, ⟨70, _⟩ => ⟨S6144, .f32⟩
  | .hbm, ⟨71, _⟩ => ⟨S48x128, .f32⟩
  | .hbm, ⟨72, _⟩ => ⟨S_, .f32⟩
  | .hbm, ⟨73, _⟩ => ⟨S1536, .f32⟩
  | .hbm, ⟨74, _⟩ => ⟨S2048, .f32⟩
  | .hbm, ⟨75, _⟩ => ⟨S2560, .f32⟩
  | .hbm, ⟨76, _⟩ => ⟨S3072, .f32⟩
  | .hbm, ⟨77, _⟩ => ⟨S4096, .f32⟩
  | .hbm, ⟨78, _⟩ => ⟨S4608, .f32⟩
  | .hbm, ⟨79, _⟩ => ⟨S6144, .f32⟩
  | .hbm, ⟨80, _⟩ => ⟨S48x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S8x512x1024 : Shape := ⟨3, ![8, 512, 1024]⟩
abbrev S8x1024x512 : Shape := ⟨3, ![8, 1024, 512]⟩
abbrev S2x512x1024 : Shape := ⟨3, ![2, 512, 1024]⟩
abbrev S1024x1024 : Shape := ⟨2, ![1024, 1024]⟩
abbrev S1024x2048 : Shape := ⟨2, ![1024, 2048]⟩
abbrev S4x1024x512 : Shape := ⟨3, ![4, 1024, 512]⟩
abbrev S7 : Shape := ⟨1, ![7]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x512x1024, .bf16⟩
  | .hbm, ⟨3, _⟩ => ⟨S8x1024x512, .bf16⟩
  | .hbm, ⟨4, _⟩ => ⟨S2x512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (d26 : Dev nD) : Fin 3 → Nat :=
  let c4_i32_19 : BitVec 32 := 4#32
  let v26 : BitVec 32 := Dev.word d26
  let c4_i32 : BitVec 32 := 4#32
  let v27 : BitVec 32 := Scalar.divsi v26 c4_i32
  let c2_i32 : BitVec 32 := 2#32
  let v28 : BitVec 32 := Scalar.remsi v27 c2_i32
  let v36 : BitVec 32 := Scalar.muli c4_i32_19 v28
  let c2_i32_20 : BitVec 32 := 2#32
  let c1_i32_18 : BitVec 32 := 1#32
  let v29 : BitVec 32 := Dev.word d26
  let c2_i32_15 : BitVec 32 := 2#32
  let v30 : BitVec 32 := Scalar.divsi v29 c2_i32_15
  let c2_i32_14 : BitVec 32 := 2#32
  let v31 : BitVec 32 := Scalar.remsi v30 c2_i32_14
  let v35 : BitVec 32 := Scalar.subi c1_i32_18 v31
  let v37 : BitVec 32 := Scalar.muli c2_i32_20 v35
  let v38 : BitVec 32 := Scalar.addi v36 v37
  let v32 : BitVec 32 := Dev.word d26
  let c1_i32_17 : BitVec 32 := 1#32
  let v33 : BitVec 32 := Scalar.divsi v32 c1_i32_17
  let c2_i32_16 : BitVec 32 := 2#32
  let v34 : BitVec 32 := Scalar.remsi v33 c2_i32_16
  let v39 : BitVec 32 := Scalar.addi v38 v34
  let c0_i32_39 : BitVec 32 := 0#32
  let c0_i32_40 : BitVec 32 := 0#32
  ![v39.toNat, 0, 0]
def k0_dev1 (d26 : Dev nD) : Nat :=
  let c0_i32_34 : BitVec 32 := 0#32
  let v26 : BitVec 32 := Dev.word d26
  let c4_i32 : BitVec 32 := 4#32
  let v27 : BitVec 32 := Scalar.divsi v26 c4_i32
  let c2_i32 : BitVec 32 := 2#32
  let v28 : BitVec 32 := Scalar.remsi v27 c2_i32
  let c4_i32_33 : BitVec 32 := 4#32
  let v54 : BitVec 32 := Scalar.muli v28 c4_i32_33
  let v55 : BitVec 32 := Scalar.addi c0_i32_34 v54
  let c1_i32_18 : BitVec 32 := 1#32
  let v29 : BitVec 32 := Dev.word d26
  let c2_i32_15 : BitVec 32 := 2#32
  let v30 : BitVec 32 := Scalar.divsi v29 c2_i32_15
  let c2_i32_14 : BitVec 32 := 2#32
  let v31 : BitVec 32 := Scalar.remsi v30 c2_i32_14
  let v35 : BitVec 32 := Scalar.subi c1_i32_18 v31
  let c2_i32_35 : BitVec 32 := 2#32
  let v56 : BitVec 32 := Scalar.muli v35 c2_i32_35
  let v57 : BitVec 32 := Scalar.addi v55 v56
  let v32 : BitVec 32 := Dev.word d26
  let c1_i32_17 : BitVec 32 := 1#32
  let v33 : BitVec 32 := Scalar.divsi v32 c1_i32_17
  let c2_i32_16 : BitVec 32 := 2#32
  let v34 : BitVec 32 := Scalar.remsi v33 c2_i32_16
  let c1_i32_36 : BitVec 32 := 1#32
  let v58 : BitVec 32 := Scalar.muli v34 c1_i32_36
  let v59 : BitVec 32 := Scalar.addi v57 v58
  v59.toNat
def k0_off2 (d26 : Dev nD) : Fin 3 → Nat :=
  let c4_i32_28 : BitVec 32 := 4#32
  let c1_i32_27 : BitVec 32 := 1#32
  let v40 : BitVec 32 := Dev.word d26
  let c4_i32_22 : BitVec 32 := 4#32
  let v41 : BitVec 32 := Scalar.divsi v40 c4_i32_22
  let c2_i32_21 : BitVec 32 := 2#32
  let v42 : BitVec 32 := Scalar.remsi v41 c2_i32_21
  let v49 : BitVec 32 := Scalar.subi c1_i32_27 v42
  let v50 : BitVec 32 := Scalar.muli c4_i32_28 v49
  let c2_i32_29 : BitVec 32 := 2#32
  let v43 : BitVec 32 := Dev.word d26
  let c2_i32_24 : BitVec 32 := 2#32
  let v44 : BitVec 32 := Scalar.divsi v43 c2_i32_24
  let c2_i32_23 : BitVec 32 := 2#32
  let v45 : BitVec 32 := Scalar.remsi v44 c2_i32_23
  let v51 : BitVec 32 := Scalar.muli c2_i32_29 v45
  let v52 : BitVec 32 := Scalar.addi v50 v51
  let v46 : BitVec 32 := Dev.word d26
  let c1_i32_26 : BitVec 32 := 1#32
  let v47 : BitVec 32 := Scalar.divsi v46 c1_i32_26
  let c2_i32_25 : BitVec 32 := 2#32
  let v48 : BitVec 32 := Scalar.remsi v47 c2_i32_25
  let v53 : BitVec 32 := Scalar.addi v52 v48
  let c0_i32_50 : BitVec 32 := 0#32
  let c0_i32_51 : BitVec 32 := 0#32
  ![v53.toNat, 0, 0]
def k0_dev2 (d26 : Dev nD) : Nat :=
  let c0_i32_45 : BitVec 32 := 0#32
  let c1_i32_27 : BitVec 32 := 1#32
  let v40 : BitVec 32 := Dev.word d26
  let c4_i32_22 : BitVec 32 := 4#32
  let v41 : BitVec 32 := Scalar.divsi v40 c4_i32_22
  let c2_i32_21 : BitVec 32 := 2#32
  let v42 : BitVec 32 := Scalar.remsi v41 c2_i32_21
  let v49 : BitVec 32 := Scalar.subi c1_i32_27 v42
  let c4_i32_44 : BitVec 32 := 4#32
  let v68 : BitVec 32 := Scalar.muli v49 c4_i32_44
  let v69 : BitVec 32 := Scalar.addi c0_i32_45 v68
  let v43 : BitVec 32 := Dev.word d26
  let c2_i32_24 : BitVec 32 := 2#32
  let v44 : BitVec 32 := Scalar.divsi v43 c2_i32_24
  let c2_i32_23 : BitVec 32 := 2#32
  let v45 : BitVec 32 := Scalar.remsi v44 c2_i32_23
  let c2_i32_46 : BitVec 32 := 2#32
  let v70 : BitVec 32 := Scalar.muli v45 c2_i32_46
  let v71 : BitVec 32 := Scalar.addi v69 v70
  let v46 : BitVec 32 := Dev.word d26
  let c1_i32_26 : BitVec 32 := 1#32
  let v47 : BitVec 32 := Scalar.divsi v46 c1_i32_26
  let c2_i32_25 : BitVec 32 := 2#32
  let v48 : BitVec 32 := Scalar.remsi v47 c2_i32_25
  let c1_i32_47 : BitVec 32 := 1#32
  let v72 : BitVec 32 := Scalar.muli v48 c1_i32_47
  let v73 : BitVec 32 := Scalar.addi v71 v72
  v73.toNat
def k0_cond4 (i : grid0.Coords) : BitVec 1 :=
  let arg0 : BitVec 32 := BitVec.ofNat 32 (i 0).val
  let c1_i32 : BitVec 32 := 1#32
  let v21 : BitVec 1 := Scalar.cmpi .eq arg0 c1_i32
  let arg1 : BitVec 32 := BitVec.ofNat 32 (i 1).val
  let c3_i32_12 : BitVec 32 := 3#32
  let v22 : BitVec 1 := Scalar.cmpi .eq arg1 c3_i32_12
  let v23 : BitVec 1 := Scalar.andi v21 v22
  let v24 : BitVec 32 := Scalar.extui v23
  let c0_i32_13 : BitVec 32 := 0#32
  let v25 : BitVec 1 := Scalar.cmpi .ne v24 c0_i32_13
  v25

def k0_off3 (d26 : Dev nD) : Fin 3 → Nat :=
  let c4_i32_19 : BitVec 32 := 4#32
  let v26 : BitVec 32 := Dev.word d26
  let c4_i32 : BitVec 32 := 4#32
  let v27 : BitVec 32 := Scalar.divsi v26 c4_i32
  let c2_i32 : BitVec 32 := 2#32
  let v28 : BitVec 32 := Scalar.remsi v27 c2_i32
  let v36 : BitVec 32 := Scalar.muli c4_i32_19 v28
  let c2_i32_20 : BitVec 32 := 2#32
  let c1_i32_18 : BitVec 32 := 1#32
  let v29 : BitVec 32 := Dev.word d26
  let c2_i32_15 : BitVec 32 := 2#32
  let v30 : BitVec 32 := Scalar.divsi v29 c2_i32_15
  let c2_i32_14 : BitVec 32 := 2#32
  let v31 : BitVec 32 := Scalar.remsi v30 c2_i32_14
  let v35 : BitVec 32 := Scalar.subi c1_i32_18 v31
  let v37 : BitVec 32 := Scalar.muli c2_i32_20 v35
  let v38 : BitVec 32 := Scalar.addi v36 v37
  let v32 : BitVec 32 := Dev.word d26
  let c1_i32_17 : BitVec 32 := 1#32
  let v33 : BitVec 32 := Scalar.divsi v32 c1_i32_17
  let c2_i32_16 : BitVec 32 := 2#32
  let v34 : BitVec 32 := Scalar.remsi v33 c2_i32_16
  let v39 : BitVec 32 := Scalar.addi v38 v34
  let c0_i32_39 : BitVec 32 := 0#32
  let c0_i32_40 : BitVec 32 := 0#32
  ![v39.toNat, 0, 0]
def k0_off4 (d26 : Dev nD) : Fin 3 → Nat :=
  let c4_i32_28 : BitVec 32 := 4#32
  let c1_i32_27 : BitVec 32 := 1#32
  let v40 : BitVec 32 := Dev.word d26
  let c4_i32_22 : BitVec 32 := 4#32
  let v41 : BitVec 32 := Scalar.divsi v40 c4_i32_22
  let c2_i32_21 : BitVec 32 := 2#32
  let v42 : BitVec 32 := Scalar.remsi v41 c2_i32_21
  let v49 : BitVec 32 := Scalar.subi c1_i32_27 v42
  let v50 : BitVec 32 := Scalar.muli c4_i32_28 v49
  let c2_i32_29 : BitVec 32 := 2#32
  let v43 : BitVec 32 := Dev.word d26
  let c2_i32_24 : BitVec 32 := 2#32
  let v44 : BitVec 32 := Scalar.divsi v43 c2_i32_24
  let c2_i32_23 : BitVec 32 := 2#32
  let v45 : BitVec 32 := Scalar.remsi v44 c2_i32_23
  let v51 : BitVec 32 := Scalar.muli c2_i32_29 v45
  let v52 : BitVec 32 := Scalar.addi v50 v51
  let v46 : BitVec 32 := Dev.word d26
  let c1_i32_26 : BitVec 32 := 1#32
  let v47 : BitVec 32 := Scalar.divsi v46 c1_i32_26
  let c2_i32_25 : BitVec 32 := 2#32
  let v48 : BitVec 32 := Scalar.remsi v47 c2_i32_25
  let v53 : BitVec 32 := Scalar.addi v52 v48
  let c0_i32_50 : BitVec 32 := 0#32
  let c0_i32_51 : BitVec 32 := 0#32
  ![v53.toNat, 0, 0]
def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S32768x1024 : Shape := ⟨2, ![32768, 1024]⟩
abbrev S32768x4096 : Shape := ⟨2, ![32768, 4096]⟩
abbrev S64x512x1024 : Shape := ⟨3, ![64, 512, 1024]⟩
abbrev S8x4096x1024 : Shape := ⟨3, ![8, 4096, 1024]⟩
abbrev S8x4096x4096 : Shape := ⟨3, ![8, 4096, 4096]⟩
abbrev S8x1024x4096 : Shape := ⟨3, ![8, 1024, 4096]⟩
abbrev S8x1024x8x512 : Shape := ⟨4, ![8, 1024, 8, 512]⟩
abbrev S8x8x1024x512 : Shape := ⟨4, ![8, 8, 1024, 512]⟩
abbrev S64x1024x512 : Shape := ⟨3, ![64, 1024, 512]⟩
abbrev S1x512x1024 : Shape := ⟨3, ![1, 512, 1024]⟩
abbrev S16x512x1024 : Shape := ⟨3, ![16, 512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x4096, .bf16⟩
  | .hbm, ⟨2, _⟩ => ⟨S64x512x1024, .bf16⟩
  | .hbm, ⟨3, _⟩ => ⟨S32768x1024, .f32⟩
  | .hbm, ⟨4, _⟩ => ⟨S8x4096x1024, .f32⟩
  | .hbm, ⟨5, _⟩ => ⟨S32768x4096, .f32⟩
  | .hbm, ⟨6, _⟩ => ⟨S8x4096x4096, .f32⟩
  | .hbm, ⟨7, _⟩ => ⟨S8x1024x4096, .f32⟩
  | .hbm, ⟨8, _⟩ => ⟨S8x1024x4096, .bf16⟩
  | .hbm, ⟨9, _⟩ => ⟨S8x1024x8x512, .bf16⟩
  | .hbm, ⟨10, _⟩ => ⟨S8x8x1024x512, .bf16⟩
  | .hbm, ⟨11, _⟩ => ⟨S64x1024x512, .bf16⟩
  | .hbm, ⟨12, _⟩ => ⟨S1x512x1024, .bf16⟩
  | .hbm, ⟨13, _⟩ => ⟨S1x512x1024, .bf16⟩
  | .hbm, ⟨14, _⟩ => ⟨S1x512x1024, .bf16⟩
  | .hbm, ⟨15, _⟩ => ⟨S1x512x1024, .bf16⟩
  | .hbm, ⟨16, _⟩ => ⟨S1x512x1024, .bf16⟩
  | .hbm, ⟨17, _⟩ => ⟨S1x512x1024, .bf16⟩
  | .hbm, ⟨18, _⟩ => ⟨S1x512x1024, .bf16⟩
  | .hbm, ⟨19, _⟩ => ⟨S1x512x1024, .bf16⟩
  | .hbm, ⟨20, _⟩ => ⟨S1x512x1024, .bf16⟩
  | .hbm, ⟨21, _⟩ => ⟨S1x512x1024, .bf16⟩
  | .hbm, ⟨22, _⟩ => ⟨S1x512x1024, .bf16⟩
  | .hbm, ⟨23, _⟩ => ⟨S1x512x1024, .bf16⟩
  | .hbm, ⟨24, _⟩ => ⟨S1x512x1024, .bf16⟩
  | .hbm, ⟨25, _⟩ => ⟨S1x512x1024, .bf16⟩
  | .hbm, ⟨26, _⟩ => ⟨S1x512x1024, .bf16⟩
  | .hbm, ⟨27, _⟩ => ⟨S1x512x1024, .bf16⟩
  | .hbm, ⟨28, _⟩ => ⟨S16x512x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== Proof.MlpRun.lean ====
/-
  The run of the MLP kernel, idealized, with what every grid point leaves written down.

  At each of the 16 grid points the body is one of two runs: at the first point it also copies the three weights into
  scratch and clears the row of sums; at the others it finds the weights and the sums as the point before left them.
  `Outs` holds what a point leaves, `outs` follows it along the grid, and the body's triple at a point (`body_holds`)
  gives the launch (`launch_run`).
-/
module

public import proofs.«01_k».proof.Proof.Gen.KernelIdeal.Frame.RunB
public import Idealize.ShloMosaic.Lib.Claim

@[expose] public section

set_option maxRecDepth 16384

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's run, at the point's buffers and blocks. -/
abbrev runFirst (c : Dev nD) (t : Fin cfg0.N) (h : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) (iblk m c 4 t) (iblk m c 5 t) (iblk m c 6 t) (iblk m c 7 t) (V m c main_v7) (V m c main_v2) (V m c main_v8)

/-- What a point leaves: the ten outputs' staging buffers and the three weights in scratch. -/
structure Outs (F : FTy → Type) [FloatOps F] where
  o8 : Vec F S256x1024 .bf16
  o9 : Vec F S256x1024 .bf16
  o10 : Vec F S256x4096 .bf16
  o11 : Vec F S256x4096 .bf16
  o12 : Vec F S256x1024 .bf16
  o13 : Vec F S256x1024 .f32
  o14 : Vec F S256x1024 .bf16
  o15 : Vec F S256x512 .f32
  o16 : Vec F S256x512 .f32
  o17 : Vec F S8x1024 .f32
  s0 : Vec F S1024x1024 .bf16
  s1 : Vec F S8x1024x512 .bf16
  s2 : Vec F S4096x1024 .bf16

/-- A later point's run, over what the point before left (`p`). -/
abbrev runLater (c : Dev nD) (t : Fin cfg0.N) (h : ¬t.val % 16 = 0) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun g => h ((hcond0_0 t).mp g)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8)

section
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : cond0_0 i)
    (x0 : Vec F S256x1024 .f32) (x1 : Vec F S256x512 .f32) (x2 : Vec F S256x512 .f32) (x3 : Vec F S256x1024 .f32) (x4 : Vec F S1x512 .f32) (x5 : Vec F S1x512 .f32) (x6 : Vec F S1x1024 .f32) (x7 : Vec F S1x1024 .f32) (fh0 : HbBuf0 (F := F) c hbM0_0) (fh1 : HbBuf0 (F := F) c hbM0_1) (fh2 : HbBuf0 (F := F) c hbM0_2)

theorem coverA10 (y : S256x4096.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.1 S256x512.size (by sl_kernel_rfl) y

theorem coverA11 (y : S256x4096.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.1 S256x512.size (by sl_kernel_rfl) y

theorem coverA17 (y : S8x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.1, y ∈ pc.1.set :=
  View.cover_of_tiledBy (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.1 ![1, 1024] (by sl_kernel_rfl) y

end

section
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : ¬cond0_0 i)
    (x0 : Vec F S256x1024 .f32) (x1 : Vec F S256x512 .f32) (x2 : Vec F S256x512 .f32) (x3 : Vec F S256x1024 .f32) (x4 : Vec F S1x512 .f32) (x5 : Vec F S1x512 .f32) (x6 : Vec F S1x1024 .f32) (x7 : Vec F S1x1024 .f32) (xo17 : Vec F S8x1024 .f32) (xs0 : Vec F S1024x1024 .bf16) (xs1 : Vec F S8x1024x512 .bf16) (xs2 : Vec F S4096x1024 .bf16) (fh0 : HbBuf0 (F := F) c hbM0_0) (fh1 : HbBuf0 (F := F) c hbM0_1) (fh2 : HbBuf0 (F := F) c hbM0_2)

theorem coverB10 (y : S256x4096.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.1 S256x512.size (by sl_kernel_rfl) y

theorem coverB11 (y : S256x4096.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.1 S256x512.size (by sl_kernel_rfl) y

end

theorem coverFirst8 (c : Dev nD) (t : Fin cfg0.N) (h : t.val % 16 = 0) (y : S256x1024.Idx) :
    ∃ pc ∈ (runFirst m c t h).1, y ∈ pc.1.set :=
  View.cover_of_tiledL (runFirst m c t h).1 S256x1024.size (by sl_kernel_rfl) y

theorem coverFirst9 (c : Dev nD) (t : Fin cfg0.N) (h : t.val % 16 = 0) (y : S256x1024.Idx) :
    ∃ pc ∈ (runFirst m c t h).2.1, y ∈ pc.1.set :=
  View.cover_of_tiledL (runFirst m c t h).2.1 S256x1024.size (by sl_kernel_rfl) y

theorem coverFirst10 (c : Dev nD) (t : Fin cfg0.N) (h : t.val % 16 = 0) (y : S256x4096.Idx) :
    ∃ pc ∈ (runFirst m c t h).2.2.1, y ∈ pc.1.set :=
  coverA10 _ _ _ _ _ _ _ _ _ _ _ _ _ _ _ _ _ _ _ _ _ _ _ _ _ _ _ _ _ _ _ _ _ _ _ _ _ _ _ _ _ _ _ _ _ _ _ _ _ _ _ _ _ _ _ _ _ _ y

theorem coverFirst11 (c : Dev nD) (t : Fin cfg0.N) (h : t.val % 16 = 0) (y : S256x4096.Idx) :
    ∃ pc ∈ (runFirst m c t h).2.2.2.1, y ∈ pc.1.set :=
  coverA11 _ _ _ _ _ _ _ _ _ _ _ _ _ _ _ _ _ _ _ _ _ _ _ _ _ _ _ _ _ _ _ _ _ _ _ _ _ _ _ _ _ _ _ _ _ _ _ _ _ _ _ _ _ _ _ _ _ _ y

theorem coverFirst12 (c : Dev nD) (t : Fin cfg0.N) (h : t.val % 16 = 0) (y : S256x1024.Idx) :
    ∃ pc ∈ (runFirst m c t h).2.2.2.2.1, y ∈ pc.1.set :=
  View.cover_of_tiledL (runFirst m c t h).2.2.2.2.1 S256x1024.size (by sl_kernel_rfl) y

theorem coverFirst13 (c : Dev nD) (t : Fin cfg0.N) (h : t.val % 16 = 0) (y : S256x1024.Idx) :
    ∃ pc ∈ (runFirst m c t h).2.2.2.2.2.1, y ∈ pc.1.set :=
  View.cover_of_tiledL (runFirst m c t h).2.2.2.2.2.1 S256x1024.size (by sl_kernel_rfl) y

theorem coverFirst14 (c : Dev nD) (t : Fin cfg0.N) (h : t.val % 16 = 0) (y : S256x1024.Idx) :
    ∃ pc ∈ (runFirst m c t h).2.2.2.2.2.2.1, y ∈ pc.1.set :=
  View.cover_of_tiledL (runFirst m c t h).2.2.2.2.2.2.1 S256x1024.size (by sl_kernel_rfl) y

theorem coverFirst15 (c : Dev nD) (t : Fin cfg0.N) (h : t.val % 16 = 0) (y : S256x512.Idx) :
    ∃ pc ∈ (runFirst m c t h).2.2.2.2.2.2.2.1, y ∈ pc.1.set :=
  View.cover_of_tiledL (runFirst m c t h).2.2.2.2.2.2.2.1 S256x512.size (by sl_kernel_rfl) y

theorem coverFirst16 (c : Dev nD) (t : Fin cfg0.N) (h : t.val % 16 = 0) (y : S256x512.Idx) :
    ∃ pc ∈ (runFirst m c t h).2.2.2.2.2.2.2.2.1, y ∈ pc.1.set :=
  View.cover_of_tiledL (runFirst m c t h).2.2.2.2.2.2.2.2.1 S256x512.size (by sl_kernel_rfl) y

theorem coverFirst17 (c : Dev nD) (t : Fin cfg0.N) (h : t.val % 16 = 0) (y : S8x1024.Idx) :
    ∃ pc ∈ (runFirst m c t h).2.2.2.2.2.2.2.2.2.1, y ∈ pc.1.set :=
  coverA17 _ _ _ _ _ _ _ _ _ _ _ _ _ _ _ _ _ _ _ _ _ _ _ _ _ _ _ _ _ _ _ _ _ _ _ _ _ _ _ _ _ _ _ _ _ _ _ _ _ _ _ _ _ _ _ _ _ _ y

theorem coverWeight0 (c : Dev nD) (t : Fin cfg0.N) (h : t.val % 16 = 0) (y : S1024x1024.Idx) :
    ∃ pc ∈ (runFirst m c t h).2.2.2.2.2.2.2.2.2.2.1, y ∈ pc.1.set :=
  View.cover_of_tiledL (runFirst m c t h).2.2.2.2.2.2.2.2.2.2.1 S1024x1024.size (by sl_kernel_rfl) y

theorem coverWeight1 (c : Dev nD) (t : Fin cfg0.N) (h : t.val % 16 = 0) (y : S8x1024x512.Idx) :
    ∃ pc ∈ (runFirst m c t h).2.2.2.2.2.2.2.2.2.2.2.1, y ∈ pc.1.set :=
  View.cover_of_tiledL (runFirst m c t h).2.2.2.2.2.2.2.2.2.2.2.1 S8x1024x512.size (by sl_kernel_rfl) y

theorem coverWeight2 (c : Dev nD) (t : Fin cfg0.N) (h : t.val % 16 = 0) (y : S4096x1024.Idx) :
    ∃ pc ∈ (runFirst m c t h).2.2.2.2.2.2.2.2.2.2.2.2.1, y ∈ pc.1.set :=
  View.cover_of_tiledL (runFirst m c t h).2.2.2.2.2.2.2.2.2.2.2.2.1 S4096x1024.size (by sl_kernel_rfl) y

theorem coverLater8 (c : Dev nD) (t : Fin cfg0.N) (h : ¬t.val % 16 = 0) (p : Outs F) (y : S256x1024.Idx) :
    ∃ pc ∈ (runLater m c t h p).1, y ∈ pc.1.set :=
  View.cover_of_tiledL (runLater m c t h p).1 S256x1024.size (by sl_kernel_rfl) y

theorem coverLater9 (c : Dev nD) (t : Fin cfg0.N) (h : ¬t.val % 16 = 0) (p : Outs F) (y : S256x1024.Idx) :
    ∃ pc ∈ (runLater m c t h p).2.1, y ∈ pc.1.set :=
  View.cover_of_tiledL (runLater m c t h p).2.1 S256x1024.size (by sl_kernel_rfl) y

theorem coverLater10 (c : Dev nD) (t : Fin cfg0.N) (h : ¬t.val % 16 = 0) (p : Outs F) (y : S256x4096.Idx) :
    ∃ pc ∈ (runLater m c t h p).2.2.1, y ∈ pc.1.set :=
  coverB10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

theorem coverLater11 (c : Dev nD) (t : Fin cfg0.N) (h : ¬t.val % 16 = 0) (p : Outs F) (y : S256x4096.Idx) :
    ∃ pc ∈ (runLater m c t h p).2.2.2.1, y ∈ pc.1.set :=
  coverB11 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

theorem coverLater12 (c : Dev nD) (t : Fin cfg0.N) (h : ¬t.val % 16 = 0) (p : Outs F) (y : S256x1024.Idx) :
    ∃ pc ∈ (runLater m c t h p).2.2.2.2.1, y ∈ pc.1.set :=
  View.cover_of_tiledL (runLater m c t h p).2.2.2.2.1 S256x1024.size (by sl_kernel_rfl) y

theorem coverLater13 (c : Dev nD) (t : Fin cfg0.N) (h : ¬t.val % 16 = 0) (p : Outs F) (y : S256x1024.Idx) :
    ∃ pc ∈ (runLater m c t h p).2.2.2.2.2.1, y ∈ pc.1.set :=
  View.cover_of_tiledL (runLater m c t h p).2.2.2.2.2.1 S256x1024.size (by sl_kernel_rfl) y

theorem coverLater14 (c : Dev nD) (t : Fin cfg0.N) (h : ¬t.val % 16 = 0) (p : Outs F) (y : S256x1024.Idx) :
    ∃ pc ∈ (runLater m c t h p).2.2.2.2.2.2.1, y ∈ pc.1.set :=
  View.cover_of_tiledL (runLater m c t h p).2.2.2.2.2.2.1 S256x1024.size (by sl_kernel_rfl) y

theorem coverLater15 (c : Dev nD) (t : Fin cfg0.N) (h : ¬t.val % 16 = 0) (p : Outs F) (y : S256x512.Idx) :
    ∃ pc ∈ (runLater m c t h p).2.2.2.2.2.2.2.1, y ∈ pc.1.set :=
  View.cover_of_tiledL (runLater m c t h p).2.2.2.2.2.2.2.1 S256x512.size (by sl_kernel_rfl) y

theorem coverLater16 (c : Dev nD) (t : Fin cfg0.N) (h : ¬t.val % 16 = 0) (p : Outs F) (y : S256x512.Idx) :
    ∃ pc ∈ (runLater m c t h p).2.2.2.2.2.2.2.2.1, y ∈ pc.1.set :=
  View.cover_of_tiledL (runLater m c t h p).2.2.2.2.2.2.2.2.1 S256x512.size (by sl_kernel_rfl) y

/-- What the first point leaves. -/
def first (c : Dev nD) (t : Fin cfg0.N) (h : t.val % 16 = 0) : Outs F where
  o8 := View.canon (runFirst m c t h).1
  o9 := View.canon (runFirst m c t h).2.1
  o10 := View.canon (runFirst m c t h).2.2.1
  o11 := View.canon (runFirst m c t h).2.2.2.1
  o12 := View.canon (runFirst m c t h).2.2.2.2.1
  o13 := View.canon (runFirst m c t h).2.2.2.2.2.1
  o14 := View.canon (runFirst m c t h).2.2.2.2.2.2.1
  o15 := View.canon (runFirst m c t h).2.2.2.2.2.2.2.1
  o16 := View.canon (runFirst m c t h).2.2.2.2.2.2.2.2.1
  o17 := View.canon (runFirst m c t h).2.2.2.2.2.2.2.2.2.1
  s0 := View.canon (runFirst m c t h).2.2.2.2.2.2.2.2.2.2.1
  s1 := View.canon (runFirst m c t h).2.2.2.2.2.2.2.2.2.2.2.1
  s2 := View.canon (runFirst m c t h).2.2.2.2.2.2.2.2.2.2.2.2.1

/-- What a later point leaves: the sums are written over what they were, the weights stay. -/
def later (c : Dev nD) (t : Fin cfg0.N) (h : ¬t.val % 16 = 0) (p : Outs F) : Outs F where
  o8 := View.canon (runLater m c t h p).1
  o9 := View.canon (runLater m c t h p).2.1
  o10 := View.canon (runLater m c t h p).2.2.1
  o11 := View.canon (runLater m c t h p).2.2.2.1
  o12 := View.canon (runLater m c t h p).2.2.2.2.1
  o13 := View.canon (runLater m c t h p).2.2.2.2.2.1
  o14 := View.canon (runLater m c t h p).2.2.2.2.2.2.1
  o15 := View.canon (runLater m c t h p).2.2.2.2.2.2.2.1
  o16 := View.canon (runLater m c t h p).2.2.2.2.2.2.2.2.1
  o17 := (ms0_17 t).view.read (Elt F) ((ms0_17 t).view.writes (Elt F) ((hs0_17 t).unread p.o17) (runLater m c t h p).2.2.2.2.2.2.2.2.2.1)
  s0 := p.s0
  s1 := p.s1
  s2 := p.s2

/-- What point `n` leaves, following the grid. -/
def outs (c : Dev nD) : (n : ℕ) → n < cfg0.N → Outs F
  | 0, hn => first m c ⟨0, hn⟩ (Nat.zero_mod _)
  | n + 1, hn => if h : (n + 1) % 16 = 0 then first m c ⟨n + 1, hn⟩ h else later m c ⟨n + 1, hn⟩ h (outs c n (Nat.lt_of_succ_lt hn))

theorem outs_first (c : Dev nD) (t : Fin cfg0.N) (h : t.val % 16 = 0) : outs m c t.val t.isLt = first m c t h := by
  obtain ⟨n, hn⟩ := t
  cases n with
  | zero => rfl
  | succ n => exact dif_pos h

theorem outs_later (c : Dev nD) (t : Fin cfg0.N) (h : ¬t.val % 16 = 0) :
    outs m c t.val t.isLt = later m c t h (outs m c (t.val - 1) (Nat.lt_of_le_of_lt (Nat.sub_le _ _) t.isLt)) := by
  obtain ⟨n, hn⟩ := t
  cases n with
  | zero => exact absurd (Nat.zero_mod _) h
  | succ n => exact dif_neg h

/-- The invariant between points: the weights in scratch as the point before left them, everything else at anything. -/
def inv (c : Dev nD) : (n : ℕ) → n ≤ cfg0.N → sProp 𝕄
  | 0, _ => Pipeline.ΦD osem0 spec0 H0 (V m) c
  | n + 1, hn => iprop(iprop(owns (c : Thread nD τ) scM0_0 fullShare ((outs m c n hn).s0) ∗ owns (c : Thread nD τ) scM0_1 fullShare ((outs m c n hn).s1) ∗ owns (c : Thread nD τ) scM0_2 fullShare ((outs m c n hn).s2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8)))

theorem inv_zero (c : Dev nD) (n : ℕ) (h : n ≤ cfg0.N) (hz : n = 0) : inv m c n h = Pipeline.ΦD osem0 spec0 H0 (V m) c := by
  subst hz; rfl

theorem inv_succ (c : Dev nD) (n : ℕ) (hn : n < cfg0.N) :
    inv m c (n + 1) hn = iprop(iprop(owns (c : Thread nD τ) scM0_0 fullShare ((outs m c n hn).s0) ∗ owns (c : Thread nD τ) scM0_1 fullShare ((outs m c n hn).s1) ∗ owns (c : Thread nD τ) scM0_2 fullShare ((outs m c n hn).s2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8))) := rfl

theorem inv_pos (c : Dev nD) (n : ℕ) (h : n ≤ cfg0.N) (hz : n ≠ 0) :
    inv m c n h = iprop(iprop(owns (c : Thread nD τ) scM0_0 fullShare ((outs m c (n - 1) (by omega)).s0) ∗ owns (c : Thread nD τ) scM0_1 fullShare ((outs m c (n - 1) (by omega)).s1) ∗ owns (c : Thread nD τ) scM0_2 fullShare ((outs m c (n - 1) (by omega)).s2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8))) := by
  cases n with
  | zero => exact absurd rfl hz
  | succ n => rfl

/-! ## The pipeline's proof data -/

/-- The pipeline: inputs at their blocks, outputs at what `outs` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).o8
    | ⟨9, _⟩ => (outs m c t.val t.isLt).o9
    | ⟨10, _⟩ => (outs m c t.val t.isLt).o10
    | ⟨11, _⟩ => (outs m c t.val t.isLt).o11
    | ⟨12, _⟩ => (outs m c t.val t.isLt).o12
    | ⟨13, _⟩ => (outs m c t.val t.isLt).o13
    | ⟨14, _⟩ => (outs m c t.val t.isLt).o14
    | ⟨15, _⟩ => (outs m c t.val t.isLt).o15
    | ⟨16, _⟩ => (outs m c t.val t.isLt).o16
    | ⟨17, _⟩ => (outs m c t.val t.isLt).o17
    | ⟨_ + 18, h⟩ => absurd h (Nat.not_lt.2 (Nat.le_add_left _ _))
  Φ t := inv m c t.val (Nat.le_of_lt_succ t.isLt)
  q _ := fullShare
  owed _ := 0

theorem arrays_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).o8 := by dsimp only [dats]
theorem after0_9 (c : Dev nD) (t : Fin cfg0.N) : (dats m 0 c).after 9 t = (outs m c t.val t.isLt).o9 := by dsimp only [dats]
theorem after0_10 (c : Dev nD) (t : Fin cfg0.N) : (dats m 0 c).after 10 t = (outs m c t.val t.isLt).o10 := by dsimp only [dats]
theorem after0_11 (c : Dev nD) (t : Fin cfg0.N) : (dats m 0 c).after 11 t = (outs m c t.val t.isLt).o11 := by dsimp only [dats]
theorem after0_12 (c : Dev nD) (t : Fin cfg0.N) : (dats m 0 c).after 12 t = (outs m c t.val t.isLt).o12 := by dsimp only [dats]
theorem after0_13 (c : Dev nD) (t : Fin cfg0.N) : (dats m 0 c).after 13 t = (outs m c t.val t.isLt).o13 := by dsimp only [dats]
theorem after0_14 (c : Dev nD) (t : Fin cfg0.N) : (dats m 0 c).after 14 t = (outs m c t.val t.isLt).o14 := by dsimp only [dats]
theorem after0_15 (c : Dev nD) (t : Fin cfg0.N) : (dats m 0 c).after 15 t = (outs m c t.val t.isLt).o15 := by dsimp only [dats]
theorem after0_16 (c : Dev nD) (t : Fin cfg0.N) : (dats m 0 c).after 16 t = (outs m c t.val t.isLt).o16 := by dsimp only [dats]
theorem after0_17 (c : Dev nD) (t : Fin cfg0.N) : (dats m 0 c).after 17 t = (outs m c t.val t.isLt).o17 := by dsimp only [dats]

theorem before0_0 (c : Dev nD) (t : Fin cfg0.N) (d) : (dats m 0 c).before 0 t d = iblk m c 0 t :=
  before0_0_of m (dats m 0 c) (arrays_eq m c 0) (after0_0 m c) t d
theorem before0_1 (c : Dev nD) (t : Fin cfg0.N) (d) : (dats m 0 c).before 1 t d = iblk m c 1 t :=
  before0_1_of m (dats m 0 c) (arrays_eq m c 1) (after0_1 m c) t d
theorem before0_2 (c : Dev nD) (t : Fin cfg0.N) (d) : (dats m 0 c).before 2 t d = iblk m c 2 t :=
  before0_2_of m (dats m 0 c) (arrays_eq m c 2) (after0_2 m c) t d
theorem before0_3 (c : Dev nD) (t : Fin cfg0.N) (d) : (dats m 0 c).before 3 t d = iblk m c 3 t :=
  before0_3_of m (dats m 0 c) (arrays_eq m c 3) (after0_3 m c) t d
theorem before0_4 (c : Dev nD) (t : Fin cfg0.N) (d) : (dats m 0 c).before 4 t d = iblk m c 4 t :=
  before0_4_of m (dats m 0 c) (arrays_eq m c 4) (after0_4 m c) t d
theorem before0_5 (c : Dev nD) (t : Fin cfg0.N) (d) : (dats m 0 c).before 5 t d = iblk m c 5 t :=
  before0_5_of m (dats m 0 c) (arrays_eq m c 5) (after0_5 m c) t d
theorem before0_6 (c : Dev nD) (t : Fin cfg0.N) (d) : (dats m 0 c).before 6 t d = iblk m c 6 t :=
  before0_6_of m (dats m 0 c) (arrays_eq m c 6) (after0_6 m c) t d
theorem before0_7 (c : Dev nD) (t : Fin cfg0.N) (d) : (dats m 0 c).before 7 t d = iblk m c 7 t :=
  before0_7_of m (dats m 0 c) (arrays_eq m c 7) (after0_7 m c) t d
theorem sums_before (c : Dev nD) (t : Fin cfg0.N) (h0 : ¬t.val % 16 = 0) (d) :
    (dats m 0 c).before 17 t d = (outs m c (t.val - 1) (Nat.lt_of_le_of_lt (Nat.sub_le _ _) t.isLt)).o17 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

/-- What the body is given at a point. -/
def before_body (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What the body gives back. -/
def after_body (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
/-- The body at a point, in either case. -/
theorem body_holds (c : Dev nD) (t : Fin cfg0.N) :
    before_body m c t ⊢ wp frame (wpE (defs₀ (F := F)) Variants.none c none) Set.univ (bodyAt0 t) (fun _ => after_body m c t) := by
  unfold before_body after_body bodyAt0
  simp only [before0_0, before0_1, before0_2, before0_3, before0_4, before0_5, before0_6, before0_7]
  rw [show (dats m 0 c).Φ t.succ = inv m c (t.val + 1) t.isLt from rfl, inv_succ,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [inv_castSucc m c t, inv_zero m c _ _ hz, PhiD0_eq]
      rw [outs_first m c t h0]
      unfold first; dsimp only
      iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runFirst m c t h0).2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%fT3, HS3⟩, Hq0, Hq1, Hq2, Hh0, Hh1, Hh2, ⟨%W', HW'⟩⟩
      isplitl [HS0 HS1 HS2 HS3 Hg Hq0 Hq1 Hq2 Hh0 Hh1 Hh2]
      · isplitl [HS0 HS1 HS2 HS3]
        · isplitl [HS0]
          · unfold owns; iexists _; isplitr
            swap; · iexact HS0
            ipureintro; exact View.read_writes_eq_canon _ _ _ (coverWeight0 m c t h0)
          isplitl [HS1]
          · unfold owns; iexists _; isplitr
            swap; · iexact HS1
            ipureintro; exact View.read_writes_eq_canon _ _ _ (coverWeight1 m c t h0)
          isplitl [HS2]
          · unfold owns; iexists _; isplitr
            swap; · iexact HS2
            ipureintro; exact View.read_writes_eq_canon _ _ _ (coverWeight2 m c t h0)
          iexists _; unfold owns; iexists _; isplitr
          swap; · iexact HS3
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_eq_canon _ _ _ (coverFirst8 m c t h0)
      isplitl [H9]
      · unfold owns; iexists _; isplitr
        swap; · iexact H9
        ipureintro; exact View.read_writes_eq_canon _ _ _ (coverFirst9 m c t h0)
      isplitl [H10]
      · unfold owns; iexists _; isplitr
        swap; · iexact H10
        ipureintro; exact View.read_writes_eq_canon _ _ _ (coverFirst10 m c t h0)
      isplitl [H11]
      · unfold owns; iexists _; isplitr
        swap; · iexact H11
        ipureintro; exact View.read_writes_eq_canon _ _ _ (coverFirst11 m c t h0)
      isplitl [H12]
      · unfold owns; iexists _; isplitr
        swap; · iexact H12
        ipureintro; exact View.read_writes_eq_canon _ _ _ (coverFirst12 m c t h0)
      isplitl [H13]
      · unfold owns; iexists _; isplitr
        swap; · iexact H13
        ipureintro; exact View.read_writes_eq_canon _ _ _ (coverFirst13 m c t h0)
      isplitl [H14]
      · unfold owns; iexists _; isplitr
        swap; · iexact H14
        ipureintro; exact View.read_writes_eq_canon _ _ _ (coverFirst14 m c t h0)
      isplitl [H15]
      · unfold owns; iexists _; isplitr
        swap; · iexact H15
        ipureintro; exact View.read_writes_eq_canon _ _ _ (coverFirst15 m c t h0)
      isplitl [H16]
      · unfold owns; iexists _; isplitr
        swap; · iexact H16
        ipureintro; exact View.read_writes_eq_canon _ _ _ (coverFirst16 m c t h0)
      unfold owns; iexists _; isplitr
      swap; · iexact H17
      ipureintro; exact View.read_writes_eq_canon _ _ _ (coverFirst17 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [inv_castSucc m c t, inv_pos m c _ _ hz]
      rw [outs_later m c t h0]
      simp only [sums_before m c t h0]
      unfold later; dsimp only
      iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runLater m c t h0 (outs m c (t.val - 1) (Nat.lt_of_le_of_lt (Nat.sub_le _ _) t.isLt))).2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, H17, HS0, HS1, HS2, ⟨%fT3, HS3⟩, Hq0, Hq1, Hq2, Hh0, Hh1, Hh2, ⟨%W', HW'⟩⟩
      isplitl [HS0 HS1 HS2 HS3 Hg Hq0 Hq1 Hq2 Hh0 Hh1 Hh2]
      · isplitl [HS0 HS1 HS2 HS3]
        · isplitl [HS0]; · iexact HS0
          isplitl [HS1]; · iexact HS1
          isplitl [HS2]; · iexact HS2
          iexists _; unfold owns; iexists _; isplitr
          swap; · iexact HS3
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_eq_canon _ _ _ (coverLater8 m c t h0 _)
      isplitl [H9]
      · unfold owns; iexists _; isplitr
        swap; · iexact H9
        ipureintro; exact View.read_writes_eq_canon _ _ _ (coverLater9 m c t h0 _)
      isplitl [H10]
      · unfold owns; iexists _; isplitr
        swap; · iexact H10
        ipureintro; exact View.read_writes_eq_canon _ _ _ (coverLater10 m c t h0 _)
      isplitl [H11]
      · unfold owns; iexists _; isplitr
        swap; · iexact H11
        ipureintro; exact View.read_writes_eq_canon _ _ _ (coverLater11 m c t h0 _)
      isplitl [H12]
      · unfold owns; iexists _; isplitr
        swap; · iexact H12
        ipureintro; exact View.read_writes_eq_canon _ _ _ (coverLater12 m c t h0 _)
      isplitl [H13]
      · unfold owns; iexists _; isplitr
        swap; · iexact H13
        ipureintro; exact View.read_writes_eq_canon _ _ _ (coverLater13 m c t h0 _)
      isplitl [H14]
      · unfold owns; iexists _; isplitr
        swap; · iexact H14
        ipureintro; exact View.read_writes_eq_canon _ _ _ (coverLater14 m c t h0 _)
      isplitl [H15]
      · unfold owns; iexists _; isplitr
        swap; · iexact H15
        ipureintro; exact View.read_writes_eq_canon _ _ _ (coverLater15 m c t h0 _)
      isplitl [H16]
      · unfold owns; iexists _; isplitr
        swap; · iexact H16
        ipureintro; exact View.read_writes_eq_canon _ _ _ (coverLater16 m c t h0 _)
      unfold owns; iexists _; isplitr
      swap; · iexact H17
      ipureintro; rfl

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_holds m c t) rfl .rfl fun _ => .rfl

theorem hin (c : Dev nD) : Pipeline.ΦD osem0 spec0 H0 (V m) c ⊢ (dats m 0 c).Φ 0 := by
  rw [show (dats m 0 c).Φ 0 = inv m c 0 (Nat.zero_le _) from rfl, inv_zero m c 0 _ rfl]
  try exact Idealize.SL.BI.Entails.refl _

theorem inv_out (c : Dev nD) (t : Fin (cfg0.N + 1)) (ht : t.val ≠ 0) : (dats m 0 c).Φ t ⊢ Pipeline.ΦD osem0 spec0 H0 (V m) c := by
  rw [show (dats m 0 c).Φ t = inv m c t.val (Nat.le_of_lt_succ t.isLt) from rfl, inv_pos m c _ _ ht, PhiD0_eq]
  iintro ⟨⟨HS0, HS1, HS2, HS3⟩, Hg, ⟨Hq0, Hq1, Hq2⟩, ⟨Hh0, Hh1, Hh2⟩⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

theorem inv_last (c : Dev nD) : (dats m 0 c).Φ (Fin.last cfg0.N) ⊢ Pipeline.ΦD osem0 spec0 H0 (V m) c :=
  inv_out m c _ (by rw [Fin.val_last]; have : cfg0.N = 16 := N_0; omega)

/-! ## The run and the frame -/

set_option backward.isDefEq.respectTransparency.types false in
/-- The launch, with every counter at zero at the end. -/
theorem launch_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := arrays_eq m)
    (hin := hin m) (hout := inv_last m)

theorem launch_run : θ_run defs (onTc (τ := τ) (main (F := F))) (s₀ m ρ) (Pipeline.FramePost cfgs (dats m) 0 (V m)) :=
  (θ_run defs _ _).mono (fun _ h => h.1) (launch_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (arrays_eq m) (launch_run m ρ)

/-- Arguments unchanged and counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (launch_quiet m ρ))

end Cert.Mlp

end
-- ==== Proof.Same.lean ====
/-
  The kernel and its idealized form have one text, so their body tables and their programs are equal; the kernel's
  frame is then the run of the idealized form read over machine floats.
-/
module

public import proofs.«01_k».proof.Defs
public import proofs.«01_k».proof.Proof.Gen.Kernel
public import proofs.«01_k».proof.Proof.MlpRun

@[expose] public section

set_option maxRecDepth 16384
set_option maxHeartbeats 4000000

namespace Cert.Same

open Idealize.ShloMosaic Idealize.SL.Sem

theorem bodies : Cert.Kernel.defs₀ (F := Bits) = Cert.KernelIdeal.defs₀ (F := Bits) := by
  funext p l a
  cases p with
  | tc =>
    match l with
    | ⟨0, _⟩ => rfl
  | scScalar _ => rfl
  | scVector _ _ => rfl

theorem tables : Cert.Kernel.defs (F := Bits) = Cert.KernelIdeal.defs (F := Bits) :=
  congrArg (Pipeline.defs Cert.KernelIdeal.pcfgs) bodies

theorem mains : Cert.Kernel.main (F := Bits) = Cert.KernelIdeal.main (F := Bits) := by
  funext c
  unfold Cert.Kernel.main Cert.KernelIdeal.main
  rfl

/-- A run of one program is a run of any program equal to it. -/
theorem run_of_eq {nD : ℕ} {τ : Topo} {sig : RefSig} {Val : EltTy → Type} {Λ : Labels} {D D' : Defs nD τ sig Val Λ}
    {M M' : Dev nD → Prog (TpuEff nD τ sig Val Λ .tc) PUnit} (hD : D = D') (hM : M = M') {s} {Q}
    (h : θ_run D' (onTc M') s Q) : θ_run D (onTc M) s Q := by
  subst hD; subst hM; exact h

theorem frame : Cert.quiescent_Kernel := fun m ρ _ =>
  run_of_eq tables mains (Cert.Mlp.frame (F := Bits) m ρ)

end Cert.Same
-- ==== Proof.Mat.lean ====
/-
  Arrays of real numbers and what each operation of the two programs does to them.

  `M2 f` is the two-axis array whose element at row `p` and column `q` is the real number `f p q`; the function is on
  natural numbers, so that a block of rows of an array is the same function read further down. Each lemma says what one
  operation makes of such arrays at the ideal instance.
-/
module

public import Idealize.ShloMosaic.Lib.MatmulPlain
public import Idealize.ShloMosaic.Lib.StackMember
public import Idealize.ShloMosaic.Lib.Pointwise.Reduce
public import Idealize.ShloMosaic.Lib.Pointwise.SelectCore
public import Idealize.ShloMosaic.Lib.Pipeline.Value
public import Idealize.ShloMosaic.Lib.ValueIdx
public import Idealize.ShloMosaic.PureOps.Ideal.Laws

@[expose] public section

noncomputable section

namespace Cert.Mat

open Idealize.ShloMosaic
open scoped BigOperators

/-- The two-axis array of the reals `f p q`. -/
def M2 {a b : ℕ} (f : ℕ → ℕ → ℝ) : (⟨2, ![a, b]⟩ : Shape).Idx → EReal := fun i => ((f (i 0).val (i 1).val : ℝ) : EReal)
/-- The one-axis array of the reals `f p`. -/
def M1 {a : ℕ} (f : ℕ → ℝ) : (⟨1, ![a]⟩ : Shape).Idx → EReal := fun i => ((f (i 0).val : ℝ) : EReal)
/-- The three-axis array of the reals `f k p q`. -/
def M3 {a b c : ℕ} (f : ℕ → ℕ → ℕ → ℝ) : (⟨3, ![a, b, c]⟩ : Shape).Idx → EReal :=
  fun i => ((f (i 0).val (i 1).val (i 2).val : ℝ) : EReal)
/-- The array of no axes holding `c`. -/
def M0 (c : ℝ) : (⟨0, ![]⟩ : Shape).Idx → EReal := fun _ => (c : EReal)

variable {a b K : ℕ} {φ ψ : FTy} (f g : ℕ → ℕ → ℝ) (u v : ℕ → ℝ)

/-- The small number added under the root. -/
def eps : ℝ := 8796093 / 2 ^ 43
theorem eps_pos : 0 < eps := by unfold eps; positivity

theorem M2_congr {f g : ℕ → ℕ → ℝ} (h : ∀ p q, p < a → q < b → f p q = g p q) : (M2 f : (⟨2, ![a, b]⟩ : Shape).Idx → EReal) = M2 g :=
  funext fun i => congrArg _ (h _ _ (ValueIdx.idx2_lt0 i) (ValueIdx.idx2_lt1 i))
theorem M1_congr {f g : ℕ → ℝ} (h : ∀ p, p < a → f p = g p) : (M1 f : (⟨1, ![a]⟩ : Shape).Idx → EReal) = M1 g :=
  funext fun i => congrArg _ (h _ (i 0).isLt)

theorem sum_coe {n : ℕ} (h : ℕ → ℝ) : (∑ k : Fin n, ((h k.val : ℝ) : EReal)) = ((∑ k ∈ Finset.range n, h k : ℝ) : EReal) := by
  rw [← Fin.sum_univ_eq_sum_range]
  induction (Finset.univ : Finset (Fin n)) using Finset.induction_on with
  | empty => simp
  | insert x s hx ih => rw [Finset.sum_insert hx, Finset.sum_insert hx, ih, EReal.coe_add]

/-! ### Rows, columns and parts -/

/-- The row `u`, repeated. -/
def row (u : ℕ → ℝ) : ℕ → ℕ → ℝ := fun _ q => u q
/-- The column `u`, repeated. -/
def col (u : ℕ → ℝ) : ℕ → ℕ → ℝ := fun p _ => u p
/-- The array from column `o` on. -/
def cols (o : ℕ) (f : ℕ → ℕ → ℝ) : ℕ → ℕ → ℝ := fun p q => f p (o + q)
/-- The array from row `o` on. -/
def rows (o : ℕ) (f : ℕ → ℕ → ℝ) : ℕ → ℕ → ℝ := fun p q => f (o + p) q
/-- One over the root of the mean square of row `p` (of `n` elements, the divisor `c`), the small number added. -/
def rs (n : ℕ) (c : ℝ) (f : ℕ → ℕ → ℝ) : ℕ → ℝ := fun p => (Real.sqrt ((∑ k ∈ Finset.range n, f p k * f p k) / c + eps))⁻¹
/-- Each row divided by its root mean square. -/
def hat (n : ℕ) (c : ℝ) (f : ℕ → ℕ → ℝ) : ℕ → ℕ → ℝ := fun p q => f p q * rs n c f p
/-- Each column times its factor. -/
def scale (f : ℕ → ℕ → ℝ) (u : ℕ → ℝ) : ℕ → ℕ → ℝ := fun p q => f p q * u q
/-- The matrix product over `K`. -/
def prod (K : ℕ) (f g : ℕ → ℕ → ℝ) : ℕ → ℕ → ℝ := fun p q => ∑ k ∈ Finset.range K, f p k * g k q
/-- The matrix product with the second factor transposed. -/
def prodT (K : ℕ) (f g : ℕ → ℕ → ℝ) : ℕ → ℕ → ℝ := fun p q => ∑ k ∈ Finset.range K, f p k * g q k
/-- The gradient of `hat` at the rows `f`, against `d`. -/
def back (n : ℕ) (c : ℝ) (f d : ℕ → ℕ → ℝ) : ℕ → ℕ → ℝ :=
  fun p q => rs n c f p * (d p q - hat n c f p q * ((∑ k ∈ Finset.range n, d p k * hat n c f p k) / c))

/-! ### Elementwise -/

theorem addf_M2 : addf (F := Ideal) (φ := φ) (M2 f : (⟨2, ![a, b]⟩ : Shape).Idx → EReal) (M2 g) = M2 fun p q => f p q + g p q :=
  funext fun i => (EReal.coe_add _ _).symm
theorem subf_M2 : subf (F := Ideal) (φ := φ) (M2 f : (⟨2, ![a, b]⟩ : Shape).Idx → EReal) (M2 g) = M2 fun p q => f p q - g p q :=
  funext fun i => (EReal.coe_sub _ _).symm
theorem mulf_M2 : mulf (F := Ideal) (φ := φ) (M2 f : (⟨2, ![a, b]⟩ : Shape).Idx → EReal) (M2 g) = M2 fun p q => f p q * g p q :=
  funext fun i => (EReal.coe_mul _ _).symm
theorem maximumf_M2 : maximumf (F := Ideal) (φ := φ) (M2 f : (⟨2, ![a, b]⟩ : Shape).Idx → EReal) (M2 g) = M2 fun p q => max (f p q) (g p q) :=
  funext fun i => (EReal.coe_strictMono.monotone.map_max).symm
theorem truncf_M2 (h : ψ.bits < φ.bits) : truncf (F := Ideal) (φ := φ) ψ (M2 f : (⟨2, ![a, b]⟩ : Shape).Idx → EReal) h = M2 f := rfl
theorem extf_M2 (h : φ.bits < ψ.bits) : extf (F := Ideal) (φ := φ) ψ (M2 f : (⟨2, ![a, b]⟩ : Shape).Idx → EReal) h = M2 f := rfl
theorem div_real {x y : ℝ} (h : y ≠ 0) : Ideal.div (x : EReal) (y : EReal) = ((x / y : ℝ) : EReal) := by
  rw [Ideal.div_coe h, ← EReal.coe_mul, mul_one_div]
theorem divf_M2 (h : ∀ p q, g p q ≠ 0) : divf (F := Ideal) (φ := φ) (M2 f : (⟨2, ![a, b]⟩ : Shape).Idx → EReal) (M2 g) = M2 fun p q => f p q / g p q :=
  funext fun i => div_real (h _ _)
theorem hostDivf_M2 (h : ∀ p q, g p q ≠ 0) : Host.divf (F := Ideal) (φ := φ) (M2 f : (⟨2, ![a, b]⟩ : Shape).Idx → EReal) (M2 g) = M2 fun p q => f p q / g p q :=
  funext fun i => div_real (h _ _)
theorem hostDivf_M1 (h : ∀ p, v p ≠ 0) : Host.divf (F := Ideal) (φ := φ) (M1 u : (⟨1, ![a]⟩ : Shape).Idx → EReal) (M1 v) = M1 fun p => u p / v p :=
  funext fun i => div_real (h _)
theorem rsqrt_real {x : ℝ} (h : 0 < x) : Ideal.rsqrt (x : EReal) = (((Real.sqrt x)⁻¹ : ℝ) : EReal) := by
  rw [Ideal.rsqrt_coe, if_neg (not_lt.2 h.le), if_neg h.ne']
theorem rsqrt_M2 (h : ∀ p q, 0 < f p q) : rsqrt (F := Ideal) (φ := φ) (M2 f : (⟨2, ![a, b]⟩ : Shape).Idx → EReal) = M2 fun p q => (Real.sqrt (f p q))⁻¹ :=
  funext fun i => rsqrt_real (h _ _)
theorem hostRsqrt_M2 (h : ∀ p q, 0 < f p q) : Host.rsqrt (F := Ideal) (φ := φ) (M2 f : (⟨2, ![a, b]⟩ : Shape).Idx → EReal) = M2 fun p q => (Real.sqrt (f p q))⁻¹ :=
  funext fun i => rsqrt_real (h _ _)
theorem mulf_M0 (c d : ℝ) : mulf (F := Ideal) (φ := φ) (M0 c) (M0 d) = M0 (c * d) :=
  funext fun i => (EReal.coe_mul _ _).symm
/-- A choice by the sign of `f` between `g` and zero. -/
theorem select_M2 (h : ℕ → ℕ → ℝ) :
    select (cmpf (F := Ideal) (φ := φ) .ogt (M2 h : (⟨2, ![a, b]⟩ : Shape).Idx → EReal) (M2 fun _ _ => 0)) (M2 f) (M2 g)
      = M2 fun p q => if 0 < h p q then f p q else g p q := by
  funext i
  show Scalar.select (Ideal.cmp .ogt ((h (i 0).val (i 1).val : ℝ) : EReal) ((0 : ℝ) : EReal)) _ _ = _
  by_cases hh : 0 < h (i 0).val (i 1).val
  · simp [Scalar.select, Ideal.cmp, M2, hh]
  · simp [Scalar.select, Ideal.cmp, M2, hh]

/-! ### Constants -/

theorem bits_0 : Ideal.ofBits .f32 0x00000000#32 = ((0 : ℝ) : EReal) := by
  simp [Ideal.ofBits, Ideal.ieee, -EReal.coe_mul]
theorem bits_512 : Ideal.ofBits .f32 0x44000000#32 = ((512 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neghalf : Ideal.ofBits .f32 0xBF000000#32 = ((-1 / 2 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_eps : Ideal.ofBits .f32 0x358637BD#32 = ((eps : ℝ) : EReal) := by
  simp [Ideal.ofBits, Ideal.ieee, -EReal.coe_mul, eps]; norm_num

section Const
variable {w : BitVec 32} {c : ℝ}

theorem broadcast_bits (h : Ideal.ofBits .f32 w = (c : EReal)) :
    (broadcast (⟨2, ![a, b]⟩ : Shape) (Scalar.ofBits (F := Ideal) .f32 w) : (⟨2, ![a, b]⟩ : Shape).Idx → EReal) = M2 fun _ _ => c :=
  funext fun i => h
theorem constant_bits (h : Ideal.ofBits .f32 w = (c : EReal)) :
    (constant (F := Ideal) (⟨2, ![a, b]⟩ : Shape) .f32 w : (⟨2, ![a, b]⟩ : Shape).Idx → EReal) = M2 fun _ _ => c :=
  funext fun i => h
theorem constant_bits0 (h : Ideal.ofBits .f32 w = (c : EReal)) :
    (constant (F := Ideal) (⟨0, ![]⟩ : Shape) .f32 w : (⟨0, ![]⟩ : Shape).Idx → EReal) = M0 c :=
  funext fun i => h
end Const

theorem bc_0 : (broadcast (⟨2, ![a, b]⟩ : Shape) (Scalar.ofBits (F := Ideal) .f32 0x00000000#32) : (⟨2, ![a, b]⟩ : Shape).Idx → EReal) = M2 fun _ _ => 0 := broadcast_bits bits_0
theorem bc_512 : (broadcast (⟨2, ![a, b]⟩ : Shape) (Scalar.ofBits (F := Ideal) .f32 0x44000000#32) : (⟨2, ![a, b]⟩ : Shape).Idx → EReal) = M2 fun _ _ => 512 := broadcast_bits bits_512
theorem bc_1024 : (broadcast (⟨2, ![a, b]⟩ : Shape) (Scalar.ofBits (F := Ideal) .f32 0x44800000#32) : (⟨2, ![a, b]⟩ : Shape).Idx → EReal) = M2 fun _ _ => 1024 := broadcast_bits bits_1024
theorem bc_half : (broadcast (⟨2, ![a, b]⟩ : Shape) (Scalar.ofBits (F := Ideal) .f32 0x3F000000#32) : (⟨2, ![a, b]⟩ : Shape).Idx → EReal) = M2 fun _ _ => 1 / 2 := broadcast_bits bits_half
theorem bc_inv1024 : (broadcast (⟨2, ![a, b]⟩ : Shape) (Scalar.ofBits (F := Ideal) .f32 0x3A800000#32) : (⟨2, ![a, b]⟩ : Shape).Idx → EReal) = M2 fun _ _ => 1 / 1024 := broadcast_bits bits_inv1024
theorem bc_2 : (broadcast (⟨2, ![a, b]⟩ : Shape) (Scalar.ofBits (F := Ideal) .f32 0x40000000#32) : (⟨2, ![a, b]⟩ : Shape).Idx → EReal) = M2 fun _ _ => 2 := broadcast_bits bits_2
theorem bc_eps : (broadcast (⟨2, ![a, b]⟩ : Shape) (Scalar.ofBits (F := Ideal) .f32 0x358637BD#32) : (⟨2, ![a, b]⟩ : Shape).Idx → EReal) = M2 fun _ _ => eps := broadcast_bits bits_eps
theorem const_0 : (constant (F := Ideal) (⟨2, ![a, b]⟩ : Shape) .f32 0x00000000#32 : (⟨2, ![a, b]⟩ : Shape).Idx → EReal) = M2 fun _ _ => 0 := constant_bits bits_0

theorem divf_512 : divf (F := Ideal) (φ := φ) (M2 f : (⟨2, ![a, b]⟩ : Shape).Idx → EReal) (M2 fun _ _ => 512) = M2 fun p q => f p q / 512 :=
  divf_M2 f _ fun _ _ => by norm_num
theorem divf_1024 : divf (F := Ideal) (φ := φ) (M2 f : (⟨2, ![a, b]⟩ : Shape).Idx → EReal) (M2 fun _ _ => 1024) = M2 fun p q => f p q / 1024 :=
  divf_M2 f _ fun _ _ => by norm_num
theorem mean_pos (n : ℕ) {c : ℝ} (hc : 0 < c) (p : ℕ) : 0 < (∑ k ∈ Finset.range n, f p k * f p k) / c + eps :=
  add_pos_of_nonneg_of_pos (div_nonneg (Finset.sum_nonneg fun _ _ => mul_self_nonneg _) hc.le) eps_pos
theorem rsqrt_512 (n : ℕ) :
    rsqrt (F := Ideal) (φ := φ) (M2 (fun p _ => (∑ k ∈ Finset.range n, f p k * f p k) / 512 + eps) : (⟨2, ![a, b]⟩ : Shape).Idx → EReal) = M2 (col (rs n 512 f)) :=
  rsqrt_M2 _ fun p _ => mean_pos f n (by norm_num) p
theorem rsqrt_1024 (n : ℕ) :
    rsqrt (F := Ideal) (φ := φ) (M2 (fun p _ => (∑ k ∈ Finset.range n, f p k * f p k) / 1024 + eps) : (⟨2, ![a, b]⟩ : Shape).Idx → EReal) = M2 (col (rs n 1024 f)) :=
  rsqrt_M2 _ fun p _ => mean_pos f n (by norm_num) p

/-! ### Shapes -/

theorem broadcastTo_row (h : (⟨2, ![1, b]⟩ : Shape).Broadcasts ⟨2, ![a, b]⟩) :
    broadcastTo (⟨2, ![a, b]⟩ : Shape) (M2 f : (⟨2, ![1, b]⟩ : Shape).Idx → EReal) h = M2 fun _ q => f 0 q := by
  funext j
  refine (broadcastTo_apply _ h j (ValueIdx.ix2 ⟨0, Nat.one_pos⟩ (j 1)) fun x => ?_).trans rfl
  match x with
  | ⟨0, _⟩ => exact (if_pos rfl).symm
  | ⟨1, _⟩ =>
    by_cases h1 : b = 1
    · subst h1
      have := ValueIdx.idx2_lt1 j
      show (j 1).val = if (1 : ℕ) = 1 then 0 else _
      rw [if_pos rfl]; omega
    · show (j 1).val = if b = 1 then 0 else (j 1).val
      rw [if_neg h1]
theorem broadcastTo_col (h : (⟨2, ![a, 1]⟩ : Shape).Broadcasts ⟨2, ![a, b]⟩) :
    broadcastTo (⟨2, ![a, b]⟩ : Shape) (M2 f : (⟨2, ![a, 1]⟩ : Shape).Idx → EReal) h = M2 fun p _ => f p 0 := by
  funext j
  refine (broadcastTo_apply _ h j (ValueIdx.ix2 (j 0) ⟨0, Nat.one_pos⟩) fun x => ?_).trans rfl
  match x with
  | ⟨1, _⟩ => exact (if_pos rfl).symm
  | ⟨0, _⟩ =>
    by_cases h1 : a = 1
    · subst h1
      have := ValueIdx.idx2_lt0 j
      show (j 0).val = if (1 : ℕ) = 1 then 0 else _
      rw [if_pos rfl]; omega
    · show (j 0).val = if a = 1 then 0 else (j 0).val
      rw [if_neg h1]
theorem shapeCast_same {s : Shape} (x : s.Idx → EReal) (h : s.ShapeCasts s) : shapeCast s x h = x := shapeCast_self x h
theorem shapeCast_M1_col (h : (⟨1, ![a]⟩ : Shape).ShapeCasts ⟨2, ![a, 1]⟩) :
    shapeCast (⟨2, ![a, 1]⟩ : Shape) (M1 u) h = M2 fun p _ => u p := by
  funext j
  refine (shapeCast_apply _ h j (ValueIdx.ix1 (j 0)) ?_).trans rfl
  have := ValueIdx.idx2_lt1 j
  rw [Shape.rowMajor_val_one, Shape.rowMajor_val_two]
  show (j 0).val = (j 0).val * 1 + (j 1).val
  omega
theorem shapeCast_M1_row (h : (⟨1, ![a]⟩ : Shape).ShapeCasts ⟨2, ![1, a]⟩) :
    shapeCast (⟨2, ![1, a]⟩ : Shape) (M1 u) h = M2 fun _ q => u q := by
  funext j
  refine (shapeCast_apply _ h j (ValueIdx.ix1 (j 1)) ?_).trans rfl
  have := ValueIdx.idx2_lt0 j
  rw [Shape.rowMajor_val_one, Shape.rowMajor_val_two]
  have h0 : (j 0).val = 0 := by omega
  show (j 1).val = (j 0).val * a + (j 1).val
  rw [h0]; omega
theorem shapeCast_M3 (F3 : ℕ → ℕ → ℕ → ℝ) (h : (⟨3, ![1, a, b]⟩ : Shape).ShapeCasts ⟨2, ![a, b]⟩) :
    shapeCast (⟨2, ![a, b]⟩ : Shape) (M3 F3 : (⟨3, ![1, a, b]⟩ : Shape).Idx → EReal) h = M2 fun p q => F3 0 p q := by
  funext j
  refine (shapeCast_dropUnit_apply ![a, b] (M3 F3) h j).trans rfl

/-- The first columns of one array and the following ones of another. -/
def beside (n : ℕ) (f g : ℕ → ℕ → ℝ) : ℕ → ℕ → ℝ := fun p q => if q < n then f p q else g p (q - n)

theorem concatenate_M2 {n n' : ℕ} (h : Shape.Concatenates [(⟨2, ![a, n]⟩ : Shape), ⟨2, ![a, n']⟩] ⟨2, ![a, b]⟩ 1) :
    concatenate (⟨2, ![a, b]⟩ : Shape) 1 [⟨⟨2, ![a, n]⟩, (M2 f : (⟨2, ![a, n]⟩ : Shape).Idx → EReal)⟩, ⟨⟨2, ![a, n']⟩, (M2 g : (⟨2, ![a, n']⟩ : Shape).Idx → EReal)⟩] h
      = M2 (beside n f g) := by
  funext j
  rw [concatenate_pair_apply]
  by_cases hlt : (j 1).val < n
  · refine (dif_pos hlt).trans ?_
    show _ = (((if _ then _ else _) : ℝ) : EReal)
    rw [if_pos hlt]; simp only [Shape.Idx.norm_def]; rfl
  · refine (dif_neg hlt).trans ?_
    show _ = (((if _ then _ else _) : ℝ) : EReal)
    rw [if_neg hlt]; simp only [Shape.Idx.norm_def]; rfl
theorem concatenate_M1 {n n' : ℕ} (h : Shape.Concatenates [(⟨1, ![n]⟩ : Shape), ⟨1, ![n']⟩] ⟨1, ![a]⟩ 0) :
    concatenate (⟨1, ![a]⟩ : Shape) 0 [⟨⟨1, ![n]⟩, (M1 u : (⟨1, ![n]⟩ : Shape).Idx → EReal)⟩, ⟨⟨1, ![n']⟩, (M1 v : (⟨1, ![n']⟩ : Shape).Idx → EReal)⟩] h
      = M1 fun q => beside n (fun _ => u) (fun _ => v) 0 q := by
  funext j
  rw [concatenate_pair_apply]
  by_cases hlt : (j 0).val < n
  · refine (dif_pos hlt).trans ?_
    show _ = (((if _ then _ else _) : ℝ) : EReal)
    rw [if_pos hlt]; simp only [Shape.Idx.norm_def]; rfl
  · refine (dif_neg hlt).trans ?_
    show _ = (((if _ then _ else _) : ℝ) : EReal)
    rw [if_neg hlt]; simp only [Shape.Idx.norm_def]; rfl

theorem slice_M2 {n o : ℕ} (h : (⟨2, ![a, n]⟩ : Shape).Slices ![0, o] ⟨2, ![a, b]⟩) :
    extractStridedSlice (⟨2, ![a, b]⟩ : Shape) ![0, o] (M2 f : (⟨2, ![a, n]⟩ : Shape).Idx → EReal) h = M2 fun p q => f p (o + q) := by
  funext j
  show ((f (0 + (j 0).val) (o + (j 1).val) : ℝ) : EReal) = _
  rw [Nat.zero_add]; rfl

/-! ### Sums and products -/

theorem rowsum_M2 (h : (⟨2, ![a, b]⟩ : Shape).Reduces [1] ⟨1, ![a]⟩) :
    FloatOps.reduceAdd (F := Ideal) (φ := φ) [1] h (M2 f : (⟨2, ![a, b]⟩ : Shape).Idx → EReal) = M1 fun p => ∑ k ∈ Finset.range b, f p k := by
  funext j
  exact (Ideal.reduceAdd_r2_a1 h _ j).trans (sum_coe (fun k => f (j 0).val k))
theorem colsum_M2 (h : (⟨2, ![a, b]⟩ : Shape).Reduces [0] ⟨1, ![b]⟩) :
    FloatOps.reduceAdd (F := Ideal) (φ := φ) [0] h (M2 f : (⟨2, ![a, b]⟩ : Shape).Idx → EReal) = M1 fun q => ∑ k ∈ Finset.range a, f k q := by
  funext j
  exact (Ideal.reduceAdd_r2_a0 h _ j).trans (sum_coe (fun k => f k (j 0).val))
theorem hostRowsum_M2 (h : (⟨2, ![a, b]⟩ : Shape).ReducesTo [1] ⟨1, ![a]⟩) (h' : 0 < (⟨0, ![]⟩ : Shape).numel) (c : ℝ) :
    Host.reduceAdd (F := Ideal) (φ := .f32) (M2 f : (⟨2, ![a, b]⟩ : Shape).Idx → EReal) (M0 c) h h'
      = M1 fun p => c + ∑ k ∈ Finset.range b, f p k := by
  funext j
  refine (Ideal.hostReduceAdd_r2_a1 h _ _ j).trans ?_
  exact (congrArg (((c : ℝ) : EReal) + ·) (sum_coe (fun k => f (j 0).val k))).trans (EReal.coe_add _ _).symm
theorem hostColsum_M2 (h : (⟨2, ![a, b]⟩ : Shape).ReducesTo [0] ⟨1, ![b]⟩) (h' : 0 < (⟨0, ![]⟩ : Shape).numel) (c : ℝ) :
    Host.reduceAdd (F := Ideal) (φ := .f32) (M2 f : (⟨2, ![a, b]⟩ : Shape).Idx → EReal) (M0 c) h h'
      = M1 fun q => c + ∑ k ∈ Finset.range a, f k q := by
  funext j
  refine (Ideal.hostReduceAdd_r2_a0 h _ _ j).trans ?_
  exact (congrArg (((c : ℝ) : EReal) + ·) (sum_coe (fun k => f k (j 0).val))).trans (EReal.coe_add _ _).symm
theorem hostSum_M1 (h : (⟨1, ![a]⟩ : Shape).ReducesTo [0] ⟨0, ![]⟩) (h' : 0 < (⟨0, ![]⟩ : Shape).numel) (c : ℝ) :
    Host.reduceAdd (F := Ideal) (φ := .f32) (M1 u : (⟨1, ![a]⟩ : Shape).Idx → EReal) (M0 c) h h'
      = M0 (c + ∑ k ∈ Finset.range a, u k) := by
  funext j
  refine (Ideal.hostReduceAdd_r1_a0 h _ _ j).trans ?_
  exact (congrArg (((c : ℝ) : EReal) + ·) (sum_coe u)).trans (EReal.coe_add _ _).symm

theorem matmul_M2 (prec : Option ContractPrecision) :
    matmul (F := Ideal) (φ₁ := φ) (φ₂ := ψ) (DotDims.plain a K b) prec (M2 f) (M2 g) (M2 fun _ _ => 0)
      = M2 fun p q => ∑ k ∈ Finset.range K, f p k * g k q := by
  funext j
  rw [ValueIdx.eq_ix2 j]
  refine (Ideal.matmul_plain_apply prec (M2 f) (M2 g) (M2 fun _ _ => 0) (j 0) (j 1)).trans ?_
  show ((0 : ℝ) : EReal) + _ = _
  rw [EReal.coe_zero, zero_add]
  refine Eq.trans (Finset.sum_congr rfl fun k _ => (EReal.coe_mul _ _).symm) (sum_coe fun k => f (j 0).val k * g k (j 1).val)
theorem matmulT_M2 (prec : Option ContractPrecision) :
    matmul (F := Ideal) (φ₁ := φ) (φ₂ := ψ) (DotDims.transposedRhs a K b) prec (M2 f) (M2 g) (M2 fun _ _ => 0)
      = M2 fun p q => ∑ k ∈ Finset.range K, f p k * g q k := by
  funext j
  rw [ValueIdx.eq_ix2 j]
  refine (Ideal.matmul_transposedRhs_apply prec (M2 f) (M2 g) (M2 fun _ _ => 0) (j 0) (j 1)).trans ?_
  show ((0 : ℝ) : EReal) + _ = _
  rw [EReal.coe_zero, zero_add]
  refine Eq.trans (Finset.sum_congr rfl fun k _ => (EReal.coe_mul _ _).symm) (sum_coe fun k => f (j 0).val k * g (j 1).val k)

theorem bind_scalar {t : Shape} (c : ℝ) (dims : Fin 0 → Fin 2) (h : (⟨0, ![]⟩ : Shape).BroadcastsInDim ⟨2, ![a, b]⟩ dims) :
    broadcastInDim (⟨2, ![a, b]⟩ : Shape) dims h (M0 c) = M2 fun _ _ => c := rfl
theorem bind_scalar1 (c : ℝ) (dims : Fin 0 → Fin 1) (h : (⟨0, ![]⟩ : Shape).BroadcastsInDim ⟨1, ![a]⟩ dims) :
    broadcastInDim (⟨1, ![a]⟩ : Shape) dims h (M0 c) = M1 fun _ => c := rfl
theorem bind_col (h : (⟨1, ![a]⟩ : Shape).BroadcastsInDim ⟨2, ![a, b]⟩ ![0]) :
    broadcastInDim (⟨2, ![a, b]⟩ : Shape) ![0] h (M1 u) = M2 fun p _ => u p := by
  funext j
  refine (broadcastInDim_apply _ h _ j (ValueIdx.ix1 (j 0)) fun x => ?_).trans rfl
  match x with
  | ⟨0, _⟩ =>
    show (j 0).val = if a = 1 then 0 else (j 0).val
    have := ValueIdx.idx2_lt0 j
    split <;> omega
theorem bind_row (h : (⟨1, ![b]⟩ : Shape).BroadcastsInDim ⟨2, ![a, b]⟩ ![1]) :
    broadcastInDim (⟨2, ![a, b]⟩ : Shape) ![1] h (M1 u) = M2 fun _ q => u q := by
  funext j
  refine (broadcastInDim_apply _ h _ j (ValueIdx.ix1 (j 1)) fun x => ?_).trans rfl
  match x with
  | ⟨0, _⟩ =>
    show (j 1).val = if b = 1 then 0 else (j 1).val
    have := ValueIdx.idx2_lt1 j
    split <;> omega
theorem bind_col2 (h : (⟨2, ![a, 1]⟩ : Shape).BroadcastsInDim ⟨2, ![a, b]⟩ ![0, 1]) :
    broadcastInDim (⟨2, ![a, b]⟩ : Shape) ![0, 1] h (M2 f : (⟨2, ![a, 1]⟩ : Shape).Idx → EReal) = M2 fun p _ => f p 0 := by
  funext j
  refine (broadcastInDim_apply _ h _ j (ValueIdx.ix2 (j 0) ⟨0, Nat.one_pos⟩) fun x => ?_).trans rfl
  match x with
  | ⟨0, _⟩ =>
    show (j 0).val = if a = 1 then 0 else (j 0).val
    have := ValueIdx.idx2_lt0 j
    split <;> omega
  | ⟨1, _⟩ => exact (if_pos rfl).symm
theorem bind_row2 (h : (⟨2, ![1, b]⟩ : Shape).BroadcastsInDim ⟨2, ![a, b]⟩ ![0, 1]) :
    broadcastInDim (⟨2, ![a, b]⟩ : Shape) ![0, 1] h (M2 f : (⟨2, ![1, b]⟩ : Shape).Idx → EReal) = M2 fun _ q => f 0 q := by
  funext j
  refine (broadcastInDim_apply _ h _ j (ValueIdx.ix2 ⟨0, Nat.one_pos⟩ (j 1)) fun x => ?_).trans rfl
  match x with
  | ⟨0, _⟩ => exact (if_pos rfl).symm
  | ⟨1, _⟩ =>
    show (j 1).val = if b = 1 then 0 else (j 1).val
    have := ValueIdx.idx2_lt1 j
    split <;> omega

theorem dot_M2 (prec : Option ContractPrecision) (sched : HostSchedule) :
    FloatOps.dotGeneral (F := Ideal) (φ₁ := φ) (φ₂ := ψ) (DotDims.plain a K b) prec sched (M2 f) (M2 g)
      = M2 fun p q => ∑ k ∈ Finset.range K, f p k * g k q := by
  funext j
  refine Eq.trans ?_ (congrFun (matmul_M2 (φ := φ) (ψ := ψ) f g prec) j)
  refine (Ideal.dotGeneral_apply (φ₁ := φ) (φ₂ := ψ) (DotDims.plain a K b) prec sched (M2 f) (M2 g) j).trans ?_
  refine Eq.trans ?_ (Ideal.matmul_apply (φ₁ := φ) (φ₂ := ψ) _ prec (M2 f) (M2 g) (M2 fun _ _ => 0) j).symm
  show _ = ((0 : ℝ) : EReal) + _
  rw [EReal.coe_zero, zero_add]
theorem dotT_M2 (prec : Option ContractPrecision) (sched : HostSchedule) :
    FloatOps.dotGeneral (F := Ideal) (φ₁ := φ) (φ₂ := ψ) (DotDims.transposedRhs a K b) prec sched (M2 f) (M2 g)
      = M2 fun p q => ∑ k ∈ Finset.range K, f p k * g q k := by
  funext j
  refine Eq.trans ?_ (congrFun (matmulT_M2 (φ := φ) (ψ := ψ) f g prec) j)
  refine (Ideal.dotGeneral_apply (φ₁ := φ) (φ₂ := ψ) (DotDims.transposedRhs a K b) prec sched (M2 f) (M2 g) j).trans ?_
  refine Eq.trans ?_ (Ideal.matmul_apply (φ₁ := φ) (φ₂ := ψ) _ prec (M2 f) (M2 g) (M2 fun _ _ => 0) j).symm
  show _ = ((0 : ℝ) : EReal) + _
  rw [EReal.coe_zero, zero_add]

end Cert.Mat
-- ==== Proof.Spec.lean ====
/-
  The mathematics of the call: the two branches normalised and joined, the output product, the norm, the squared-relu
  MLP, the final norm and the loss, and the gradient back through all of them, as functions of real matrices.

  Every stage below is row by row, so a block of rows of the data has the same block of rows of each stage.
-/
module

public import proofs.«01_k».proof.Proof.Mat

@[expose] public section

noncomputable section

namespace Cert.Mat

open scoped BigOperators

/-- The arguments: the block's input, the two branches, the target, the four gains and the three weights. -/
structure Data where
  x : ℕ → ℕ → ℝ
  yp : ℕ → ℕ → ℝ
  ya : ℕ → ℕ → ℝ
  t : ℕ → ℕ → ℝ
  gp : ℕ → ℝ
  ga : ℕ → ℝ
  g2 : ℕ → ℝ
  gf : ℕ → ℝ
  wo : ℕ → ℕ → ℝ
  wu : ℕ → ℕ → ℝ
  wd : ℕ → ℕ → ℝ

namespace Data
variable (D : Data)

/-- The data from row `n` on. -/
def shift (n : ℕ) : Data := { D with x := rows n D.x, yp := rows n D.yp, ya := rows n D.ya, t := rows n D.t }

/-- The two branches, normalised and scaled, side by side. -/
def mixed : ℕ → ℕ → ℝ := beside 512 (scale (hat 512 512 D.yp) D.gp) (scale (hat 512 512 D.ya) D.ga)
/-- The input and the product of the joined branches. -/
def res : ℕ → ℕ → ℝ := fun p q => D.x p q + prod 1024 D.mixed D.wo p q
/-- The second norm's output. -/
def hn2 : ℕ → ℕ → ℝ := scale (hat 1024 1024 D.res) D.g2
def up : ℕ → ℕ → ℝ := prod 1024 D.hn2 D.wu
def relu : ℕ → ℕ → ℝ := fun p q => max (D.up p q) 0
def act : ℕ → ℕ → ℝ := fun p q => D.relu p q * D.relu p q
/-- The MLP's output added to its input, the first `n` of the hidden columns taken. -/
def part (n : ℕ) : ℕ → ℕ → ℝ := fun p q => D.res p q + prod n D.act D.wd p q
/-- The MLP's output added to its input. -/
def hid : ℕ → ℕ → ℝ := D.part 4096
def diff : ℕ → ℕ → ℝ := fun p q => scale (hat 1024 1024 D.hid) D.gf p q - D.t p q
/-- A row's part of the loss. -/
def loss : ℕ → ℝ := fun p => 1 / 2 * ((∑ k ∈ Finset.range 1024, D.diff p k * D.diff p k) / 1024)
def dy : ℕ → ℕ → ℝ := fun p q => D.diff p q * (1 / 1024)
/-- A row's part of the final gain's gradient. -/
def dgf : ℕ → ℕ → ℝ := fun p q => D.dy p q * hat 1024 1024 D.hid p q
def dh2 : ℕ → ℕ → ℝ := back 1024 1024 D.hid (scale D.dy D.gf)
def dup : ℕ → ℕ → ℝ := fun p q => prodT 1024 D.dh2 D.wd p q * (2 * D.relu p q)
/-- The gradient of the second norm's output, the first `n` of the hidden columns taken. -/
def dpart (n : ℕ) : ℕ → ℕ → ℝ := prodT n D.dup D.wu
def dhn2 : ℕ → ℕ → ℝ := D.dpart 4096
/-- A row's part of the second gain's gradient. -/
def dg2 : ℕ → ℕ → ℝ := fun p q => D.dhn2 p q * hat 1024 1024 D.res p q
def dx : ℕ → ℕ → ℝ := fun p q => D.dh2 p q + back 1024 1024 D.res (scale D.dhn2 D.g2) p q
def dmix : ℕ → ℕ → ℝ := prodT 1024 D.dx D.wo
def dgp : ℕ → ℕ → ℝ := fun p q => cols 0 D.dmix p q * hat 512 512 D.yp p q
def dga : ℕ → ℕ → ℝ := fun p q => cols 512 D.dmix p q * hat 512 512 D.ya p q
def dyp : ℕ → ℕ → ℝ := back 512 512 D.yp (scale (cols 0 D.dmix) D.gp)
def dya : ℕ → ℕ → ℝ := back 512 512 D.ya (scale (cols 512 D.dmix) D.ga)

/-- The sum of the first `n` rows of `f`. -/
def total (n : ℕ) (f : ℕ → ℕ → ℝ) : ℕ → ℝ := fun q => ∑ k ∈ Finset.range n, f k q

/-- The row of sums after `n` rows: the three gains' gradients, the loss along a row, and four rows of zeros. -/
def sums (n : ℕ) : ℕ → ℕ → ℝ := fun p q =>
  if p = 0 then total n D.dgf q else if p = 1 then total n D.dg2 q
  else if p = 2 then beside 512 (row (total n D.dgp)) (row (total n D.dga)) 0 q
  else if p = 3 then ∑ k ∈ Finset.range n, D.loss k else 0

theorem part_step (n : ℕ) (p q : ℕ) :
    D.part n p q + prod 512 (cols n D.act) (rows n D.wd) p q = D.part (n + 512) p q := by
  simp only [part, prod, cols, rows, Finset.sum_range_add, add_assoc]
theorem dpart_step (n : ℕ) (p q : ℕ) :
    D.dpart n p q + prodT 512 (cols n D.dup) (cols n D.wu) p q = D.dpart (n + 512) p q := by
  simp only [dpart, prodT, cols, Finset.sum_range_add]
theorem part_zero : D.part 0 = D.res := by
  funext p q; simp [part, prod]
theorem dpart_zero (p q : ℕ) : D.dpart 0 p q = 0 := by simp [dpart, prodT]

end Data

end Cert.Mat
-- ==== Proof.Stage.lean ====
/-
  What each value the kernel's body computes is, over arrays of reals: one lemma for one value, at the data of the block.
-/
module

public import proofs.«01_k».proof.Proof.Spec
public import proofs.«01_k».proof.Proof.Gen.KernelIdeal.Skeleton

@[expose] public section

noncomputable section

namespace Cert.Mat

open Cert.KernelIdeal Cert.KernelIdeal.Gen
open Idealize.ShloMosaic
open scoped BigOperators

/-- A slab of a weight held in parts: the columns from `o` on. -/
def slab (o : ℕ) (f : ℕ → ℕ → ℝ) : ℕ → ℕ → ℕ → ℝ := fun _ p q => f p (o + q)

theorem kdot0 : dot_S256x1024_S1024x1024_S256x1024_1_0_0_1_n_n = DotDims.plain 256 1024 1024 := rfl
theorem kdot1 : dot_S256x1024_S1024x1024_S256x1024_1_1_0_0_n_n = DotDims.transposedRhs 256 1024 1024 := rfl
theorem kdot2 : dot_S256x1024_S1024x512_S256x512_1_0_0_1_n_n = DotDims.plain 256 1024 512 := rfl
theorem kdot3 : dot_S256x1024_S512x1024_S256x512_1_1_0_0_n_n = DotDims.transposedRhs 256 1024 512 := rfl
theorem kdot4 : dot_S256x512_S1024x512_S256x1024_1_1_0_0_n_n = DotDims.transposedRhs 256 512 1024 := rfl
theorem kdot5 : dot_S256x512_S512x1024_S256x1024_1_0_0_1_n_n = DotDims.plain 256 512 1024 := rfl

/-- The operations on arrays of real values, together. -/
def ops := And.intro @kdot0 <| And.intro @kdot1 <| And.intro @kdot2 <| And.intro @kdot3 <| And.intro @kdot4 <| And.intro @kdot5 <| And.intro @addf_M2 <| And.intro @subf_M2 <| And.intro @mulf_M2 <| And.intro @maximumf_M2 <| And.intro @divf_512 <| And.intro @divf_1024 <| And.intro @rsqrt_512 <| And.intro @rsqrt_1024 <| And.intro @bc_0 <| And.intro @bc_512 <| And.intro @bc_1024 <| And.intro @bc_half <| And.intro @bc_inv1024 <| And.intro @bc_2 <| And.intro @bc_eps <| And.intro @const_0 <| And.intro @broadcastTo_row <| And.intro @broadcastTo_col <| And.intro @shapeCast_M1_col <| And.intro @shapeCast_M1_row @shapeCast_M3

variable (D : Data) (o : ℕ) (u : ℕ → ℝ) (f : ℕ → ℕ → ℝ)

theorem st1 : k0_pay1 (F := Ideal)  = (M2 fun _ _ => 0) := by
  unfold k0_pay1
  simp only [ops, truncf_M2, concatenate_M2, slice_M2, shapeCast_same, multiReduction, matmul_M2, matmulT_M2]
  first | done | rfl
theorem st2 : k0_pay2 (F := Ideal) (M2 (row u)) = (M2 (row u)) := by
  unfold k0_pay2
  simp only [ops, truncf_M2, concatenate_M2, slice_M2, shapeCast_same, multiReduction, matmul_M2, matmulT_M2]
  first | done | rfl
theorem st3 : k0_pay3 (F := Ideal) (M2 (row u)) = (M2 (row u)) := by
  unfold k0_pay3
  simp only [ops, truncf_M2, concatenate_M2, slice_M2, shapeCast_same, multiReduction, matmul_M2, matmulT_M2]
  first | done | rfl
theorem st4 : k0_pay4 (F := Ideal) (M2 (row u)) = (M2 (row u)) := by
  unfold k0_pay4
  simp only [ops, truncf_M2, concatenate_M2, slice_M2, shapeCast_same, multiReduction, matmul_M2, matmulT_M2]
  first | done | rfl
theorem st5 : k0_pay5 (F := Ideal) (M2 (row u)) = (M2 (row u)) := by
  unfold k0_pay5
  simp only [ops, truncf_M2, concatenate_M2, slice_M2, shapeCast_same, multiReduction, matmul_M2, matmulT_M2]
  first | done | rfl
theorem st6 : k0_pay6 (F := Ideal) (M2 D.yp) = (M2 (col (rs 512 512 D.yp))) := by
  unfold k0_pay6
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl
theorem st7 : k0_pay7 (F := Ideal) (M2 D.ya) = (M2 (col (rs 512 512 D.ya))) := by
  unfold k0_pay7
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl
theorem st8 : k0_pay8 (F := Ideal) (M2 D.yp) = (M2 (hat 512 512 D.yp)) := by
  unfold k0_pay8
  simp only [ops, truncf_M2, concatenate_M2, slice_M2, shapeCast_same, multiReduction, matmul_M2, matmulT_M2, st6]
  first | done | rfl
theorem st9 : k0_pay9 (F := Ideal) (M2 D.ya) = (M2 (hat 512 512 D.ya)) := by
  unfold k0_pay9
  simp only [ops, truncf_M2, concatenate_M2, slice_M2, shapeCast_same, multiReduction, matmul_M2, matmulT_M2, st7]
  first | done | rfl
theorem st10 : k0_pay10 (F := Ideal) (M2 (row D.gp)) (M2 D.yp) = (M2 (scale (hat 512 512 D.yp) D.gp)) := by
  unfold k0_pay10
  simp only [ops, truncf_M2, concatenate_M2, slice_M2, shapeCast_same, multiReduction, matmul_M2, matmulT_M2, st2, st8]
  first | done | rfl
theorem st11 : k0_pay11 (F := Ideal) (M2 (row D.ga)) (M2 D.ya) = (M2 (scale (hat 512 512 D.ya) D.ga)) := by
  unfold k0_pay11
  simp only [ops, truncf_M2, concatenate_M2, slice_M2, shapeCast_same, multiReduction, matmul_M2, matmulT_M2, st3, st9]
  first | done | rfl
theorem st12 : k0_pay12 (F := Ideal) (M2 (scale (hat 512 512 D.yp) D.gp)) (M2 (scale (hat 512 512 D.ya) D.ga)) = (M2 D.mixed) := by
  unfold k0_pay12
  simp only [ops, truncf_M2, concatenate_M2, slice_M2, shapeCast_same, multiReduction, matmul_M2, matmulT_M2]
  first | done | rfl
theorem st13 : k0_pay13 (F := Ideal) (M2 (scale (hat 512 512 D.yp) D.gp)) (M2 (scale (hat 512 512 D.ya) D.ga)) (M2 D.x) (M2 D.wo) = (M2 D.res) := by
  unfold k0_pay13
  simp only [ops, truncf_M2, concatenate_M2, slice_M2, shapeCast_same, multiReduction, matmul_M2, matmulT_M2, st12]
  first | done | rfl
theorem st14 : k0_pay14 (F := Ideal) (M2 (scale (hat 512 512 D.yp) D.gp)) (M2 (scale (hat 512 512 D.ya) D.ga)) (M2 D.x) (M2 D.wo) = (M2 (col (rs 1024 1024 D.res))) := by
  unfold k0_pay14
  simp only [ops, truncf_M2, concatenate_M2, slice_M2, shapeCast_same, multiReduction, matmul_M2, matmulT_M2, st13]
  first | rw [rowsum_M2] | rw [colsum_M2]
  try simp only [ops, truncf_M2, concatenate_M2, slice_M2, shapeCast_same, multiReduction, matmul_M2, matmulT_M2, st13]
  first | done | rfl
theorem st15 : k0_pay15 (F := Ideal) (M2 (scale (hat 512 512 D.yp) D.gp)) (M2 (scale (hat 512 512 D.ya) D.ga)) (M2 D.x) (M2 D.wo) = (M2 (hat 1024 1024 D.res)) := by
  unfold k0_pay15
  simp only [ops, truncf_M2, concatenate_M2, slice_M2, shapeCast_same, multiReduction, matmul_M2, matmulT_M2, st13, st14]
  first | done | rfl
theorem st16 : k0_pay16 (F := Ideal) (M2 (row D.g2)) (M2 (scale (hat 512 512 D.yp) D.gp)) (M2 (scale (hat 512 512 D.ya) D.ga)) (M2 D.x) (M2 D.wo) = (M2 D.hn2) := by
  unfold k0_pay16
  simp only [ops, truncf_M2, concatenate_M2, slice_M2, shapeCast_same, multiReduction, matmul_M2, matmulT_M2, st15]
  first | done | rfl
theorem st17 : k0_pay17 (F := Ideal) (M2 (row D.g2)) (M2 (scale (hat 512 512 D.yp) D.gp)) (M2 (scale (hat 512 512 D.ya) D.ga)) (M2 D.x) (M2 D.wo) (M3 (slab o D.wu)) = (M2 (cols o D.up)) := by
  unfold k0_pay17
  simp only [ops, truncf_M2, concatenate_M2, slice_M2, shapeCast_same, multiReduction, matmul_M2, matmulT_M2, st16]
  first | done | rfl
theorem st18 : k0_pay18 (F := Ideal) (M2 (row D.g2)) (M2 (scale (hat 512 512 D.yp) D.gp)) (M2 (scale (hat 512 512 D.ya) D.ga)) (M2 D.x) (M2 D.wo) (M3 (slab o D.wu)) = (M2 (cols o D.up)) := by
  unfold k0_pay18
  simp only [ops, truncf_M2, concatenate_M2, slice_M2, shapeCast_same, multiReduction, matmul_M2, matmulT_M2, st16]
  first | done | rfl
theorem st19 : k0_pay19 (F := Ideal) (M2 (row D.g2)) (M2 (scale (hat 512 512 D.yp) D.gp)) (M2 (scale (hat 512 512 D.ya) D.ga)) (M2 D.x) (M2 D.wo) (M3 (slab o D.wu)) = (M2 (cols o D.up)) := by
  unfold k0_pay19
  simp only [ops, truncf_M2, concatenate_M2, slice_M2, shapeCast_same, multiReduction, matmul_M2, matmulT_M2, st17]
  first | done | rfl
theorem st20 : k0_pay20 (F := Ideal) (M2 (row D.g2)) (M2 (scale (hat 512 512 D.yp) D.gp)) (M2 (scale (hat 512 512 D.ya) D.ga)) (M2 D.x) (M2 D.wo) (M3 (slab o D.wu)) = (M2 (cols o D.act)) := by
  unfold k0_pay20
  simp only [ops, truncf_M2, concatenate_M2, slice_M2, shapeCast_same, multiReduction, matmul_M2, matmulT_M2, st17]
  first | done | rfl
theorem st21 : k0_pay21 (F := Ideal) (M2 D.hn2) (M3 (slab o D.wu)) = (M2 (cols o D.up)) := by
  unfold k0_pay21
  simp only [ops, truncf_M2, concatenate_M2, slice_M2, shapeCast_same, multiReduction, matmul_M2, matmulT_M2]
  first | done | rfl
theorem st22 : k0_pay22 (F := Ideal) (M2 (cols o D.up)) = (M2 (cols o D.up)) := by
  unfold k0_pay22
  simp only [ops, truncf_M2, concatenate_M2, slice_M2, shapeCast_same, multiReduction, matmul_M2, matmulT_M2]
  first | done | rfl
theorem st23 : k0_pay23 (F := Ideal) (M2 (cols o D.up)) = (M2 (cols o D.act)) := by
  unfold k0_pay23
  simp only [ops, truncf_M2, concatenate_M2, slice_M2, shapeCast_same, multiReduction, matmul_M2, matmulT_M2]
  first | done | rfl
theorem st24 : k0_pay24 (F := Ideal) (M2 D.res) (M2 (cols 512 D.up)) (M2 (cols 0 D.act)) (M2 (rows 0 D.wd)) (M2 (rows 512 D.wd)) = (M2 (D.part 1024)) := by
  unfold k0_pay24
  simp only [ops, truncf_M2, concatenate_M2, slice_M2, shapeCast_same, multiReduction, matmul_M2, matmulT_M2, st23]
  refine M2_congr fun p q _ _ => ?_
  exact (congrArg (· + prod 512 (cols 512 D.act) (rows 512 D.wd) p q) ((congrFun (congrFun D.part_zero p) q ▸ D.part_step 0 p q))).trans (D.part_step 512 p q)
theorem st25 : k0_pay25 (F := Ideal) (M2 D.hn2) (M3 (slab o D.wu)) = (M2 (cols o D.up)) := by
  unfold k0_pay25
  simp only [ops, truncf_M2, concatenate_M2, slice_M2, shapeCast_same, multiReduction, matmul_M2, matmulT_M2]
  first | done | rfl
theorem st26 : k0_pay26 (F := Ideal) (M2 D.hn2) (M3 (slab o D.wu)) = (M2 (cols o D.up)) := by
  unfold k0_pay26
  simp only [ops, truncf_M2, concatenate_M2, slice_M2, shapeCast_same, multiReduction, matmul_M2, matmulT_M2, st21]
  first | done | rfl
theorem st27 : k0_pay27 (F := Ideal) (M2 D.hn2) (M3 (slab o D.wu)) = (M2 (cols o D.act)) := by
  unfold k0_pay27
  simp only [ops, truncf_M2, concatenate_M2, slice_M2, shapeCast_same, multiReduction, matmul_M2, matmulT_M2, st21]
  first | done | rfl
theorem st28 : k0_pay28 (F := Ideal) (M2 D.hn2) (M3 (slab o D.wu)) = (M2 (cols o D.up)) := by
  unfold k0_pay28
  simp only [ops, truncf_M2, concatenate_M2, slice_M2, shapeCast_same, multiReduction, matmul_M2, matmulT_M2]
  first | done | rfl
theorem st29 : k0_pay29 (F := Ideal) (M2 (cols o D.up)) = (M2 (cols o D.up)) := by
  unfold k0_pay29
  simp only [ops, truncf_M2, concatenate_M2, slice_M2, shapeCast_same, multiReduction, matmul_M2, matmulT_M2]
  first | done | rfl
theorem st30 : k0_pay30 (F := Ideal) (M2 (cols o D.up)) = (M2 (cols o D.act)) := by
  unfold k0_pay30
  simp only [ops, truncf_M2, concatenate_M2, slice_M2, shapeCast_same, multiReduction, matmul_M2, matmulT_M2]
  first | done | rfl
theorem st31 : k0_pay31 (F := Ideal) (M2 (D.part 1024)) (M2 (cols 1536 D.up)) (M2 (cols 1024 D.act)) (M2 (rows 1024 D.wd)) (M2 (rows 1536 D.wd)) = (M2 (D.part 2048)) := by
  unfold k0_pay31
  simp only [ops, truncf_M2, concatenate_M2, slice_M2, shapeCast_same, multiReduction, matmul_M2, matmulT_M2, st30]
  refine M2_congr fun p q _ _ => ?_
  exact (congrArg (· + prod 512 (cols 1536 D.act) (rows 1536 D.wd) p q) (D.part_step 1024 p q)).trans (D.part_step 1536 p q)
theorem st32 : k0_pay32 (F := Ideal) (M2 D.hn2) (M3 (slab o D.wu)) = (M2 (cols o D.up)) := by
  unfold k0_pay32
  simp only [ops, truncf_M2, concatenate_M2, slice_M2, shapeCast_same, multiReduction, matmul_M2, matmulT_M2]
  first | done | rfl
theorem st33 : k0_pay33 (F := Ideal) (M2 D.hn2) (M3 (slab o D.wu)) = (M2 (cols o D.up)) := by
  unfold k0_pay33
  simp only [ops, truncf_M2, concatenate_M2, slice_M2, shapeCast_same, multiReduction, matmul_M2, matmulT_M2, st28]
  first | done | rfl
theorem st34 : k0_pay34 (F := Ideal) (M2 D.hn2) (M3 (slab o D.wu)) = (M2 (cols o D.act)) := by
  unfold k0_pay34
  simp only [ops, truncf_M2, concatenate_M2, slice_M2, shapeCast_same, multiReduction, matmul_M2, matmulT_M2, st28]
  first | done | rfl
theorem st35 : k0_pay35 (F := Ideal) (M2 D.hn2) (M3 (slab o D.wu)) = (M2 (cols o D.up)) := by
  unfold k0_pay35
  simp only [ops, truncf_M2, concatenate_M2, slice_M2, shapeCast_same, multiReduction, matmul_M2, matmulT_M2]
  first | done | rfl
theorem st36 : k0_pay36 (F := Ideal) (M2 (cols o D.up)) = (M2 (cols o D.up)) := by
  unfold k0_pay36
  simp only [ops, truncf_M2, concatenate_M2, slice_M2, shapeCast_same, multiReduction, matmul_M2, matmulT_M2]
  first | done | rfl
theorem st37 : k0_pay37 (F := Ideal) (M2 (cols o D.up)) = (M2 (cols o D.act)) := by
  unfold k0_pay37
  simp only [ops, truncf_M2, concatenate_M2, slice_M2, shapeCast_same, multiReduction, matmul_M2, matmulT_M2]
  first | done | rfl
theorem st38 : k0_pay38 (F := Ideal) (M2 D.hn2) (M3 (slab o D.wu)) = (M2 (cols o D.up)) := by
  unfold k0_pay38
  simp only [ops, truncf_M2, concatenate_M2, slice_M2, shapeCast_same, multiReduction, matmul_M2, matmulT_M2]
  first | done | rfl
theorem st39 : k0_pay39 (F := Ideal) (M2 D.hn2) (M3 (slab o D.wu)) = (M2 (cols o D.up)) := by
  unfold k0_pay39
  simp only [ops, truncf_M2, concatenate_M2, slice_M2, shapeCast_same, multiReduction, matmul_M2, matmulT_M2, st35]
  first | done | rfl
theorem st40 : k0_pay40 (F := Ideal) (M2 D.hn2) (M3 (slab o D.wu)) = (M2 (cols o D.act)) := by
  unfold k0_pay40
  simp only [ops, truncf_M2, concatenate_M2, slice_M2, shapeCast_same, multiReduction, matmul_M2, matmulT_M2, st35]
  first | done | rfl
theorem st41 : k0_pay41 (F := Ideal) (M2 D.hn2) (M2 (D.part 2048)) (M2 (cols 2560 D.up)) (M2 (cols 2048 D.act)) (M2 (rows 2048 D.wd)) (M2 fun _ _ => 0) (M3 (slab 3072 D.wu)) (M2 (rows 2560 D.wd)) (M2 (rows 3072 D.wd)) = (M2 (D.part 3584)) := by
  unfold k0_pay41
  simp only [ops, truncf_M2, concatenate_M2, slice_M2, shapeCast_same, multiReduction, matmul_M2, matmulT_M2, st37, st40]
  refine M2_congr fun p q _ _ => ?_
  exact (congrArg (· + prod 512 (cols 3072 D.act) (rows 3072 D.wd) p q) ((congrArg (· + prod 512 (cols 2560 D.act) (rows 2560 D.wd) p q) (D.part_step 2048 p q)).trans (D.part_step 2560 p q))).trans (D.part_step 3072 p q)
theorem st42 : k0_pay42 (F := Ideal) (M2 (cols o D.up)) = (M2 (cols o D.up)) := by
  unfold k0_pay42
  simp only [ops, truncf_M2, concatenate_M2, slice_M2, shapeCast_same, multiReduction, matmul_M2, matmulT_M2]
  first | done | rfl
theorem st43 : k0_pay43 (F := Ideal) (M2 (cols o D.up)) = (M2 (cols o D.act)) := by
  unfold k0_pay43
  simp only [ops, truncf_M2, concatenate_M2, slice_M2, shapeCast_same, multiReduction, matmul_M2, matmulT_M2]
  first | done | rfl
theorem st44 : k0_pay44 (F := Ideal) (M2 (cols 3584 D.up)) (M2 (D.part 3584)) (M2 (rows 3584 D.wd)) = (M2 D.hid) := by
  unfold k0_pay44
  simp only [ops, truncf_M2, concatenate_M2, slice_M2, shapeCast_same, multiReduction, matmul_M2, matmulT_M2, st43]
  refine M2_congr fun p q _ _ => ?_
  exact D.part_step 3584 p q
theorem st45 : k0_pay45 (F := Ideal) (M2 (cols 3584 D.up)) (M2 (D.part 3584)) (M2 (rows 3584 D.wd)) = (M2 (col (rs 1024 1024 D.hid))) := by
  unfold k0_pay45
  simp only [ops, truncf_M2, concatenate_M2, slice_M2, shapeCast_same, multiReduction, matmul_M2, matmulT_M2, st44]
  first | rw [rowsum_M2] | rw [colsum_M2]
  try simp only [ops, truncf_M2, concatenate_M2, slice_M2, shapeCast_same, multiReduction, matmul_M2, matmulT_M2, st44]
  first | done | rfl
theorem st46 : k0_pay46 (F := Ideal) (M2 (cols 3584 D.up)) (M2 (D.part 3584)) (M2 (rows 3584 D.wd)) = (M2 (hat 1024 1024 D.hid)) := by
  unfold k0_pay46
  simp only [ops, truncf_M2, concatenate_M2, slice_M2, shapeCast_same, multiReduction, matmul_M2, matmulT_M2, st44, st45]
  first | done | rfl
theorem st47 : k0_pay47 (F := Ideal) (M2 (row D.gf)) (M2 (cols 3584 D.up)) (M2 (D.part 3584)) (M2 (rows 3584 D.wd)) (M2 D.t) = (M2 D.diff) := by
  unfold k0_pay47
  simp only [ops, truncf_M2, concatenate_M2, slice_M2, shapeCast_same, multiReduction, matmul_M2, matmulT_M2, st46]
  first | done | rfl
theorem st48 : k0_pay48 (F := Ideal) (M2 (row D.gf)) (M2 (cols 3584 D.up)) (M2 (D.part 3584)) (M2 (rows 3584 D.wd)) (M2 D.t) = (M2 (col D.loss)) := by
  unfold k0_pay48
  simp only [ops, truncf_M2, concatenate_M2, slice_M2, shapeCast_same, multiReduction, matmul_M2, matmulT_M2, st47]
  first | rw [rowsum_M2] | rw [colsum_M2]
  try simp only [ops, truncf_M2, concatenate_M2, slice_M2, shapeCast_same, multiReduction, matmul_M2, matmulT_M2, st47]
  first | done | rfl
theorem st49 : k0_pay49 (F := Ideal) (M2 (row D.gf)) (M2 (cols 3584 D.up)) (M2 (D.part 3584)) (M2 (rows 3584 D.wd)) (M2 D.t) = (M2 D.dy) := by
  unfold k0_pay49
  simp only [ops, truncf_M2, concatenate_M2, slice_M2, shapeCast_same, multiReduction, matmul_M2, matmulT_M2, st47]
  first | done | rfl
theorem st50 : k0_pay50 (F := Ideal) (M2 (row D.gf)) (M2 (cols 3584 D.up)) (M2 (D.part 3584)) (M2 (rows 3584 D.wd)) (M2 D.t) = (M2 (row (Data.total 256 D.dgf))) := by
  unfold k0_pay50
  simp only [ops, truncf_M2, concatenate_M2, slice_M2, shapeCast_same, multiReduction, matmul_M2, matmulT_M2, st46, st49]
  first | rw [rowsum_M2] | rw [colsum_M2]
  try simp only [ops, truncf_M2, concatenate_M2, slice_M2, shapeCast_same, multiReduction, matmul_M2, matmulT_M2, st46, st49]
  first | done | rfl
theorem st51 : k0_pay51 (F := Ideal) (M2 (row D.gf)) (M2 (cols 3584 D.up)) (M2 (D.part 3584)) (M2 (rows 3584 D.wd)) (M2 D.t) = (M2 (scale D.dy D.gf)) := by
  unfold k0_pay51
  simp only [ops, truncf_M2, concatenate_M2, slice_M2, shapeCast_same, multiReduction, matmul_M2, matmulT_M2, st49]
  first | done | rfl
theorem st52 : k0_pay52 (F := Ideal) (M2 (row D.gf)) (M2 (cols 3584 D.up)) (M2 (D.part 3584)) (M2 (rows 3584 D.wd)) (M2 D.t) = (M1 fun p => ∑ k ∈ Finset.range 1024, scale D.dy D.gf p k * hat 1024 1024 D.hid p k) := by
  unfold k0_pay52
  simp only [ops, truncf_M2, concatenate_M2, slice_M2, shapeCast_same, multiReduction, matmul_M2, matmulT_M2, st46, st51]
  first | rw [rowsum_M2] | rw [colsum_M2]
  try simp only [ops, truncf_M2, concatenate_M2, slice_M2, shapeCast_same, multiReduction, matmul_M2, matmulT_M2, st46, st51]
  first | done | rfl
theorem st53 : k0_pay53 (F := Ideal) (M2 (col (rs 1024 1024 D.hid))) (M2 (hat 1024 1024 D.hid)) (M2 (scale D.dy D.gf)) (M1 fun p => ∑ k ∈ Finset.range 1024, scale D.dy D.gf p k * hat 1024 1024 D.hid p k) = (M2 D.dh2) := by
  unfold k0_pay53
  simp only [ops, truncf_M2, concatenate_M2, slice_M2, shapeCast_same, multiReduction, matmul_M2, matmulT_M2]
  first | done | rfl
theorem st54 : k0_pay54 (F := Ideal) (M2 (col (rs 1024 1024 D.hid))) (M2 (hat 1024 1024 D.hid)) (M2 (scale D.dy D.gf)) (M1 fun p => ∑ k ∈ Finset.range 1024, scale D.dy D.gf p k * hat 1024 1024 D.hid p k) = (M2 D.dh2) := by
  unfold k0_pay54
  simp only [ops, truncf_M2, concatenate_M2, slice_M2, shapeCast_same, multiReduction, matmul_M2, matmulT_M2, st53]
  first | done | rfl
theorem st55 : k0_pay55 (F := Ideal) (M2 (col (rs 1024 1024 D.hid))) (M2 (hat 1024 1024 D.hid)) (M2 (scale D.dy D.gf)) (M1 fun p => ∑ k ∈ Finset.range 1024, scale D.dy D.gf p k * hat 1024 1024 D.hid p k) (M2 (rows o D.wd)) = (M2 (cols o (prodT 1024 D.dh2 D.wd))) := by
  unfold k0_pay55
  simp only [ops, truncf_M2, concatenate_M2, slice_M2, shapeCast_same, multiReduction, matmul_M2, matmulT_M2, st54]
  first | done | rfl
theorem st56 : k0_pay56 (F := Ideal) (M2 (col (rs 1024 1024 D.hid))) (M2 (hat 1024 1024 D.hid)) (M2 (scale D.dy D.gf)) (M1 fun p => ∑ k ∈ Finset.range 1024, scale D.dy D.gf p k * hat 1024 1024 D.hid p k) (M2 (rows o D.wd)) (M2 (cols o D.up)) = (M2 (cols o D.dup)) := by
  unfold k0_pay56
  simp only [ops, truncf_M2, concatenate_M2, slice_M2, shapeCast_same, multiReduction, matmul_M2, matmulT_M2, st54]
  first | done | rfl
theorem st57 : k0_pay57 (F := Ideal) (M2 (col (rs 1024 1024 D.hid))) (M2 (hat 1024 1024 D.hid)) (M2 (scale D.dy D.gf)) (M1 fun p => ∑ k ∈ Finset.range 1024, scale D.dy D.gf p k * hat 1024 1024 D.hid p k) (M2 (rows 0 D.wd)) (M2 (cols 0 D.up)) (M3 (slab 0 D.wu)) = (M2 (D.dpart 512)) := by
  unfold k0_pay57
  simp only [ops, truncf_M2, concatenate_M2, slice_M2, shapeCast_same, multiReduction, matmul_M2, matmulT_M2, st56]
  refine M2_congr fun p q _ _ => ?_
  exact (congrArg (· + prodT 512 (cols 0 D.dup) (cols 0 D.wu) p q) (D.dpart_zero p q).symm).trans (D.dpart_step 0 p q)
theorem st58 : k0_pay58 (F := Ideal) (M2 (col (rs 1024 1024 D.hid))) (M2 (hat 1024 1024 D.hid)) (M2 (scale D.dy D.gf)) (M1 fun p => ∑ k ∈ Finset.range 1024, scale D.dy D.gf p k * hat 1024 1024 D.hid p k) (M2 (rows o D.wd)) = (M2 (cols o (prodT 1024 D.dh2 D.wd))) := by
  unfold k0_pay58
  simp only [ops, truncf_M2, concatenate_M2, slice_M2, shapeCast_same, multiReduction, matmul_M2, matmulT_M2, st54]
  first | done | rfl
theorem st59 : k0_pay59 (F := Ideal) (M2 (cols o D.up)) = (M2 (cols o D.relu)) := by
  unfold k0_pay59
  simp only [ops, truncf_M2, concatenate_M2, slice_M2, shapeCast_same, multiReduction, matmul_M2, matmulT_M2]
  first | done | rfl
theorem st60 : k0_pay60 (F := Ideal) (M2 (cols o (prodT 1024 D.dh2 D.wd))) (M2 (cols o D.relu)) = (M2 (cols o D.dup)) := by
  unfold k0_pay60
  simp only [ops, truncf_M2, concatenate_M2, slice_M2, shapeCast_same, multiReduction, matmul_M2, matmulT_M2]
  first | done | rfl
theorem st61 : k0_pay61 (F := Ideal) (M2 (cols o (prodT 1024 D.dh2 D.wd))) (M2 (cols o D.up)) = (M2 (cols o D.dup)) := by
  unfold k0_pay61
  simp only [ops, truncf_M2, concatenate_M2, slice_M2, shapeCast_same, multiReduction, matmul_M2, matmulT_M2]
  first | done | rfl
theorem st62 : k0_pay62 (F := Ideal) (M2 (cols 512 (prodT 1024 D.dh2 D.wd))) (M2 (D.dpart 512)) (M2 (cols 1024 (prodT 1024 D.dh2 D.wd))) (M2 (cols 512 D.relu)) (M3 (slab 512 D.wu)) (M2 (cols 1024 D.up)) (M3 (slab 1024 D.wu)) = (M2 (D.dpart 1536)) := by
  unfold k0_pay62
  simp only [ops, truncf_M2, concatenate_M2, slice_M2, shapeCast_same, multiReduction, matmul_M2, matmulT_M2, st60, st61]
  refine M2_congr fun p q _ _ => ?_
  exact (congrArg (· + prodT 512 (cols 1024 D.dup) (cols 1024 D.wu) p q) (D.dpart_step 512 p q)).trans (D.dpart_step 1024 p q)
theorem st63 : k0_pay63 (F := Ideal) (M2 D.dh2) (M2 (rows o D.wd)) = (M2 (cols o (prodT 1024 D.dh2 D.wd))) := by
  unfold k0_pay63
  simp only [ops, truncf_M2, concatenate_M2, slice_M2, shapeCast_same, multiReduction, matmul_M2, matmulT_M2]
  first | done | rfl
theorem st64 : k0_pay64 (F := Ideal) (M2 D.dh2) (M2 (rows o D.wd)) (M2 (cols o D.up)) = (M2 (cols o D.dup)) := by
  unfold k0_pay64
  simp only [ops, truncf_M2, concatenate_M2, slice_M2, shapeCast_same, multiReduction, matmul_M2, matmulT_M2]
  first | done | rfl
theorem st65 : k0_pay65 (F := Ideal) (M2 (cols o D.dup)) = (M2 (cols o D.dup)) := by
  unfold k0_pay65
  simp only [ops, truncf_M2, concatenate_M2, slice_M2, shapeCast_same, multiReduction, matmul_M2, matmulT_M2]
  first | done | rfl
theorem st66 : k0_pay66 (F := Ideal) (M2 (cols o (prodT 1024 D.dh2 D.wd))) (M2 (cols o D.up)) = (M2 (cols o D.dup)) := by
  unfold k0_pay66
  simp only [ops, truncf_M2, concatenate_M2, slice_M2, shapeCast_same, multiReduction, matmul_M2, matmulT_M2]
  first | done | rfl
theorem st67 : k0_pay67 (F := Ideal) (M2 (D.dpart 1536)) (M2 (cols 2048 (prodT 1024 D.dh2 D.wd))) (M2 (cols 1536 D.dup)) (M3 (slab 1536 D.wu)) (M2 (cols 2048 D.up)) (M3 (slab 2048 D.wu)) = (M2 (D.dpart 2560)) := by
  unfold k0_pay67
  simp only [ops, truncf_M2, concatenate_M2, slice_M2, shapeCast_same, multiReduction, matmul_M2, matmulT_M2, st65, st66]
  refine M2_congr fun p q _ _ => ?_
  exact (congrArg (· + prodT 512 (cols 2048 D.dup) (cols 2048 D.wu) p q) (D.dpart_step 1536 p q)).trans (D.dpart_step 2048 p q)
theorem st68 : k0_pay68 (F := Ideal) (M2 D.dh2) (M2 (rows o D.wd)) = (M2 (cols o (prodT 1024 D.dh2 D.wd))) := by
  unfold k0_pay68
  simp only [ops, truncf_M2, concatenate_M2, slice_M2, shapeCast_same, multiReduction, matmul_M2, matmulT_M2]
  first | done | rfl
theorem st69 : k0_pay69 (F := Ideal) (M2 D.dh2) (M2 (rows o D.wd)) (M2 (cols o D.up)) = (M2 (cols o D.dup)) := by
  unfold k0_pay69
  simp only [ops, truncf_M2, concatenate_M2, slice_M2, shapeCast_same, multiReduction, matmul_M2, matmulT_M2]
  first | done | rfl
theorem st70 : k0_pay70 (F := Ideal) (M2 (cols o (prodT 1024 D.dh2 D.wd))) (M2 (cols o D.up)) = (M2 (cols o D.dup)) := by
  unfold k0_pay70
  simp only [ops, truncf_M2, concatenate_M2, slice_M2, shapeCast_same, multiReduction, matmul_M2, matmulT_M2]
  first | done | rfl
theorem st71 : k0_pay71 (F := Ideal) (M2 D.dh2) (M2 (rows o D.wd)) (M2 (cols o D.up)) = (M2 (cols o D.dup)) := by
  unfold k0_pay71
  simp only [ops, truncf_M2, concatenate_M2, slice_M2, shapeCast_same, multiReduction, matmul_M2, matmulT_M2]
  first | done | rfl
theorem st72 : k0_pay72 (F := Ideal) (M2 D.dh2) (M2 (D.dpart 2560)) (M2 (cols 3072 (prodT 1024 D.dh2 D.wd))) (M2 (cols 2560 D.dup)) (M3 (slab 2560 D.wu)) (M2 (rows 3584 D.wd)) (M2 (cols 3072 D.up)) (M3 (slab 3072 D.wu)) (M2 (cols 3584 D.up)) (M3 (slab 3584 D.wu)) = (M2 D.dhn2) := by
  unfold k0_pay72
  simp only [ops, truncf_M2, concatenate_M2, slice_M2, shapeCast_same, multiReduction, matmul_M2, matmulT_M2, st70, st71]
  refine M2_congr fun p q _ _ => ?_
  exact (congrArg (· + prodT 512 (cols 3584 D.dup) (cols 3584 D.wu) p q) ((congrArg (· + prodT 512 (cols 3072 D.dup) (cols 3072 D.wu) p q) (D.dpart_step 2560 p q)).trans (D.dpart_step 3072 p q))).trans (D.dpart_step 3584 p q)
theorem st73 : k0_pay73 (F := Ideal) (M2 (hat 1024 1024 D.res)) (M2 D.dhn2) = (M2 (row (Data.total 256 D.dg2))) := by
  unfold k0_pay73
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl
theorem st74 : k0_pay74 (F := Ideal) (M2 (row D.g2)) (M2 (col (rs 1024 1024 D.res))) (M2 (hat 1024 1024 D.res)) (M2 D.dh2) (M2 D.dhn2) = (M2 D.dx) := by
  unfold k0_pay74
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl
theorem st75 : k0_pay75 (F := Ideal) (M2 (row D.g2)) (M2 (col (rs 1024 1024 D.res))) (M2 (hat 1024 1024 D.res)) (M2 D.dh2) (M2 D.dhn2) = (M2 D.dx) := by
  unfold k0_pay75
  simp only [ops, truncf_M2, concatenate_M2, slice_M2, shapeCast_same, multiReduction, matmul_M2, matmulT_M2, st74]
  first | done | rfl
theorem st76 : k0_pay76 (F := Ideal) (M2 (row D.g2)) (M2 (col (rs 1024 1024 D.res))) (M2 (hat 1024 1024 D.res)) (M2 D.dh2) (M2 D.dhn2) (M2 D.wo) = (M2 D.dmix) := by
  unfold k0_pay76
  simp only [ops, truncf_M2, concatenate_M2, slice_M2, shapeCast_same, multiReduction, matmul_M2, matmulT_M2, st75]
  first | done | rfl
theorem st77 : k0_pay77 (F := Ideal) (M2 (row D.g2)) (M2 (col (rs 1024 1024 D.res))) (M2 (hat 1024 1024 D.res)) (M2 D.dh2) (M2 D.dhn2) (M2 D.wo) = (M2 (cols 0 D.dmix)) := by
  unfold k0_pay77
  simp only [ops, truncf_M2, concatenate_M2, slice_M2, shapeCast_same, multiReduction, matmul_M2, matmulT_M2, st76]
  first | done | rfl
theorem st78 : k0_pay78 (F := Ideal) (M2 (row D.g2)) (M2 (hat 512 512 D.yp)) (M2 (col (rs 1024 1024 D.res))) (M2 (hat 1024 1024 D.res)) (M2 D.dh2) (M2 D.dhn2) (M2 D.wo) = (M2 (row (Data.total 256 D.dgp))) := by
  unfold k0_pay78
  simp only [ops, truncf_M2, concatenate_M2, slice_M2, shapeCast_same, multiReduction, matmul_M2, matmulT_M2, st77]
  first | rw [rowsum_M2] | rw [colsum_M2]
  try simp only [ops, truncf_M2, concatenate_M2, slice_M2, shapeCast_same, multiReduction, matmul_M2, matmulT_M2, st77]
  first | done | rfl
theorem st79 : k0_pay79 (F := Ideal) (M2 (row D.gp)) (M2 (row D.g2)) (M2 (col (rs 512 512 D.yp))) (M2 (hat 512 512 D.yp)) (M2 (col (rs 1024 1024 D.res))) (M2 (hat 1024 1024 D.res)) (M2 D.dh2) (M2 D.dhn2) (M2 D.wo) = (M2 D.dyp) := by
  unfold k0_pay79
  simp only [ops, truncf_M2, concatenate_M2, slice_M2, shapeCast_same, multiReduction, matmul_M2, matmulT_M2, st77]
  first | rw [rowsum_M2] | rw [colsum_M2]
  try simp only [ops, truncf_M2, concatenate_M2, slice_M2, shapeCast_same, multiReduction, matmul_M2, matmulT_M2, st77]
  first | done | rfl
theorem st80 : k0_pay80 (F := Ideal) (M2 (row D.g2)) (M2 (col (rs 1024 1024 D.res))) (M2 (hat 1024 1024 D.res)) (M2 D.dh2) (M2 D.dhn2) (M2 D.wo) = (M2 (cols 512 D.dmix)) := by
  unfold k0_pay80
  simp only [ops, truncf_M2, concatenate_M2, slice_M2, shapeCast_same, multiReduction, matmul_M2, matmulT_M2, st76]
  first | done | rfl
theorem st81 : k0_pay81 (F := Ideal) (M2 (row D.g2)) (M2 (hat 512 512 D.ya)) (M2 (col (rs 1024 1024 D.res))) (M2 (hat 1024 1024 D.res)) (M2 D.dh2) (M2 D.dhn2) (M2 D.wo) = (M2 (row (Data.total 256 D.dga))) := by
  unfold k0_pay81
  simp only [ops, truncf_M2, concatenate_M2, slice_M2, shapeCast_same, multiReduction, matmul_M2, matmulT_M2, st80]
  first | rw [rowsum_M2] | rw [colsum_M2]
  try simp only [ops, truncf_M2, concatenate_M2, slice_M2, shapeCast_same, multiReduction, matmul_M2, matmulT_M2, st80]
  first | done | rfl
theorem st82 : k0_pay82 (F := Ideal) (M2 (row D.ga)) (M2 (row D.g2)) (M2 (col (rs 1024 1024 D.res))) (M2 (hat 1024 1024 D.res)) (M2 D.dh2) (M2 D.dhn2) (M2 D.wo) = (M2 (scale (cols 512 D.dmix) D.ga)) := by
  unfold k0_pay82
  simp only [ops, truncf_M2, concatenate_M2, slice_M2, shapeCast_same, multiReduction, matmul_M2, matmulT_M2, st80]
  first | done | rfl
theorem st83 : k0_pay83 (F := Ideal) (M2 (row D.ga)) (M2 (row D.g2)) (M2 (hat 512 512 D.ya)) (M2 (col (rs 1024 1024 D.res))) (M2 (hat 1024 1024 D.res)) (M2 D.dh2) (M2 D.dhn2) (M2 D.wo) = (M2 fun p q => scale (cols 512 D.dmix) D.ga p q * hat 512 512 D.ya p q) := by
  unfold k0_pay83
  simp only [ops, truncf_M2, concatenate_M2, slice_M2, shapeCast_same, multiReduction, matmul_M2, matmulT_M2, st82]
  first | done | rfl
theorem st84 : k0_pay84 (F := Ideal) (M2 (col (rs 512 512 D.ya))) (M2 (hat 512 512 D.ya)) (M2 (scale (cols 512 D.dmix) D.ga)) (M2 fun p q => scale (cols 512 D.dmix) D.ga p q * hat 512 512 D.ya p q) = (M2 D.dya) := by
  unfold k0_pay84
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl
theorem st85 : k0_pay85 (F := Ideal) (M2 (row u)) (M2 f) = (M2 fun p q => f p q + u q) := by
  unfold k0_pay85
  simp only [ops, truncf_M2, concatenate_M2, slice_M2, shapeCast_same, multiReduction, matmul_M2, matmulT_M2]
  first | done | rfl
theorem st86 : k0_pay86 (F := Ideal) (M2 (row u)) (M2 f) = (M2 fun p q => f p q + u q) := by
  unfold k0_pay86
  simp only [ops, truncf_M2, concatenate_M2, slice_M2, shapeCast_same, multiReduction, matmul_M2, matmulT_M2]
  first | done | rfl
theorem st87 : k0_pay87 (F := Ideal) (M2 (row (Data.total 256 D.dgp))) (M2 (row (Data.total 256 D.dga))) (M2 f) = (M2 fun p q => f p q + beside 512 (row (Data.total 256 D.dgp)) (row (Data.total 256 D.dga)) p q) := by
  unfold k0_pay87
  simp only [ops, truncf_M2, concatenate_M2, slice_M2, shapeCast_same, multiReduction, matmul_M2, matmulT_M2]
  first | done | rfl
theorem st88 : k0_pay88 (F := Ideal) (M2 (col D.loss)) (M2 f) = (M2 fun p q => f p q + ∑ k ∈ Finset.range 256, D.loss k) := by
  unfold k0_pay88
  simp only [ops, truncf_M2, concatenate_M2, slice_M2, shapeCast_same, multiReduction, matmul_M2, matmulT_M2]
  first | rw [rowsum_M2] | rw [colsum_M2]
  try simp only [ops, truncf_M2, concatenate_M2, slice_M2, shapeCast_same, multiReduction, matmul_M2, matmulT_M2]
  first | done | rfl

end Cert.Mat
-- ==== Proof.Loads.lean ====
/-
  What a load of a part of a weight, or of 512 columns of a buffer just stored, reads.
-/
module

public import proofs.«01_k».proof.Proof.Gen.KernelIdeal.Frame.Runs
public import proofs.«01_k».proof.Proof.Stage
public import Idealize.ShloMosaic.Lib.Pipeline.ReadBack
public import Idealize.ShloMosaic.Lib.Pipeline.ValueKit

@[expose] public section

-- membership in a rectangle of production extents (`View.cover_of_tiled`): the elaborator's structural look
-- recurses once per coordinate of the long axes
set_option maxRecDepth 16384

noncomputable section

namespace Cert.Mlp
open Cert.Mat
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The first weight of the MLP as eight blocks of 512 of its columns. -/
def slabs (f : ℕ → ℕ → ℝ) : ℕ → ℕ → ℕ → ℝ := fun k p q => f p (512 * k + q)

theorem ld_slab (f : ℕ → ℕ → ℝ) (k : ℕ) (inb) :
    View.ld (e' := .bf16) (Val := Elt Ideal) (M3 (slabs f) : S8x1024x512.Idx → EReal) (Rect.unit (s := S8x1024x512) ![k, 0, 0] ![1, 1024, 512] inb)
      = (M3 (slab (512 * k) f) : S1x1024x512.Idx → EReal) := by
  funext i
  have l0 : (i 0).val < 1 := (i 0).isLt
  have e0 : (i 0).val = 0 := by omega
  have h0 : ((Rect.unit (s := S8x1024x512) ![k, 0, 0] ![1, 1024, 512] inb).idx i 0).val = k + (i 0).val := Rect.idx_unit_val _ _ inb i 0
  have h1 : ((Rect.unit (s := S8x1024x512) ![k, 0, 0] ![1, 1024, 512] inb).idx i 1).val = 0 + (i 1).val := Rect.idx_unit_val _ _ inb i 1
  have h2 : ((Rect.unit (s := S8x1024x512) ![k, 0, 0] ![1, 1024, 512] inb).idx i 2).val = 0 + (i 2).val := Rect.idx_unit_val _ _ inb i 2
  show ((f ((Rect.unit (s := S8x1024x512) ![k, 0, 0] ![1, 1024, 512] inb).idx i 1).val (512 * ((Rect.unit (s := S8x1024x512) ![k, 0, 0] ![1, 1024, 512] inb).idx i 0).val + ((Rect.unit (s := S8x1024x512) ![k, 0, 0] ![1, 1024, 512] inb).idx i 2).val) : ℝ) : EReal)
    = ((f (i 1).val (512 * k + (i 2).val) : ℝ) : EReal)
  rw [h0, h1, h2, e0, Nat.zero_add, Nat.zero_add, Nat.add_zero]
theorem ld_slab0 (f : ℕ → ℕ → ℝ) (inb) :
    View.ld (e' := .bf16) (Val := Elt Ideal) (M3 (slabs f) : S8x1024x512.Idx → EReal) (Rect.unit (s := S8x1024x512) ![0, 0, 0] ![1, 1024, 512] inb)
      = (M3 (slab 0 f) : S1x1024x512.Idx → EReal) := ld_slab f 0 inb
theorem ld_slab1 (f : ℕ → ℕ → ℝ) (inb) :
    View.ld (e' := .bf16) (Val := Elt Ideal) (M3 (slabs f) : S8x1024x512.Idx → EReal) (Rect.unit (s := S8x1024x512) ![1, 0, 0] ![1, 1024, 512] inb)
      = (M3 (slab 512 f) : S1x1024x512.Idx → EReal) := ld_slab f 1 inb
theorem ld_slab2 (f : ℕ → ℕ → ℝ) (inb) :
    View.ld (e' := .bf16) (Val := Elt Ideal) (M3 (slabs f) : S8x1024x512.Idx → EReal) (Rect.unit (s := S8x1024x512) ![2, 0, 0] ![1, 1024, 512] inb)
      = (M3 (slab 1024 f) : S1x1024x512.Idx → EReal) := ld_slab f 2 inb
theorem ld_slab3 (f : ℕ → ℕ → ℝ) (inb) :
    View.ld (e' := .bf16) (Val := Elt Ideal) (M3 (slabs f) : S8x1024x512.Idx → EReal) (Rect.unit (s := S8x1024x512) ![3, 0, 0] ![1, 1024, 512] inb)
      = (M3 (slab 1536 f) : S1x1024x512.Idx → EReal) := ld_slab f 3 inb
theorem ld_slab4 (f : ℕ → ℕ → ℝ) (inb) :
    View.ld (e' := .bf16) (Val := Elt Ideal) (M3 (slabs f) : S8x1024x512.Idx → EReal) (Rect.unit (s := S8x1024x512) ![4, 0, 0] ![1, 1024, 512] inb)
      = (M3 (slab 2048 f) : S1x1024x512.Idx → EReal) := ld_slab f 4 inb
theorem ld_slab5 (f : ℕ → ℕ → ℝ) (inb) :
    View.ld (e' := .bf16) (Val := Elt Ideal) (M3 (slabs f) : S8x1024x512.Idx → EReal) (Rect.unit (s := S8x1024x512) ![5, 0, 0] ![1, 1024, 512] inb)
      = (M3 (slab 2560 f) : S1x1024x512.Idx → EReal) := ld_slab f 5 inb
theorem ld_slab6 (f : ℕ → ℕ → ℝ) (inb) :
    View.ld (e' := .bf16) (Val := Elt Ideal) (M3 (slabs f) : S8x1024x512.Idx → EReal) (Rect.unit (s := S8x1024x512) ![6, 0, 0] ![1, 1024, 512] inb)
      = (M3 (slab 3072 f) : S1x1024x512.Idx → EReal) := ld_slab f 6 inb
theorem ld_slab7 (f : ℕ → ℕ → ℝ) (inb) :
    View.ld (e' := .bf16) (Val := Elt Ideal) (M3 (slabs f) : S8x1024x512.Idx → EReal) (Rect.unit (s := S8x1024x512) ![7, 0, 0] ![1, 1024, 512] inb)
      = (M3 (slab 3584 f) : S1x1024x512.Idx → EReal) := ld_slab f 7 inb

theorem ld_rows (f : ℕ → ℕ → ℝ) (o : ℕ) (inb) :
    View.ld (e' := .bf16) (Val := Elt Ideal) (M2 f : S4096x1024.Idx → EReal) (Rect.unit (s := S4096x1024) ![o, 0] ![512, 1024] inb)
      = (M2 (rows o f) : S512x1024.Idx → EReal) := by
  funext i
  have h0 : ((Rect.unit (s := S4096x1024) ![o, 0] ![512, 1024] inb).idx i 0).val = o + (i 0).val := Rect.idx_unit_val _ _ inb i 0
  have h1 : ((Rect.unit (s := S4096x1024) ![o, 0] ![512, 1024] inb).idx i 1).val = 0 + (i 1).val := Rect.idx_unit_val _ _ inb i 1
  show ((f ((Rect.unit (s := S4096x1024) ![o, 0] ![512, 1024] inb).idx i 0).val ((Rect.unit (s := S4096x1024) ![o, 0] ![512, 1024] inb).idx i 1).val : ℝ) : EReal) = ((f (o + (i 0).val) (i 1).val : ℝ) : EReal)
  rw [h0, h1, Nat.zero_add]

/-- A load of a buffer one copy filled reads what was copied. -/
theorem readCov_whole {sig : RefSig} {κ : Kind} {sp : Space} {S : Shape} {e : EltTy} (v : View sig κ sp S e) (w : S.Idx → Elt Ideal e) (r : Rect S) :
    v.readCov (Val := Elt Ideal) [⟨Rect.whole S, w⟩] r.toLoadRect = View.ld w r :=
  View.readCov_fill v (off := fun _ => 0) _ w [] r fun _ => rfl

/-- A load of 512 columns passes by a store of 512 other columns. -/
theorem readCov_apart {sig : RefSig} {κ : Kind} {sp : Space} (v : View sig κ sp S256x4096 .f32) (o o' : ℕ) (inb inb') (w)
    (L : List (View.Piece (Elt Ideal) S256x4096 .f32)) (h : o + 512 ≤ o' ∨ o' + 512 ≤ o) :
    v.readCov (Val := Elt Ideal) (⟨Rect.unit (s := S256x4096) ![0, o] ![256, 512] inb, w⟩ :: L) (Rect.unit (s := S256x4096) ![0, o'] ![256, 512] inb').toLoadRect
      = v.readCov L (Rect.unit (s := S256x4096) ![0, o'] ![256, 512] inb').toLoadRect := by
  rw [View.readCov_eq_canon', View.readCov_eq_canon']
  funext j
  refine View.canon_cons_of_not_mem _ _ ?_
  intro hm
  rw [Rect.mem_set_unit] at hm
  have h1 := hm 1
  have h2 : ((Rect.unit (s := S256x4096) ![0, o'] ![256, 512] inb').toLoadRect.idx j 1).val = (![0, o'] : Fin 2 → ℕ) 1 + (j 1).val :=
    Rect.idx_unit_val _ _ inb' j 1
  have h3 := (j 1).isLt
  rw [h2] at h1
  simp at h1 h3
  omega

/-- 512 columns of an array, stored. -/
theorem piece_cols (f : ℕ → ℕ → ℝ) (o : ℕ) (inb) (x : (Rect.unit (s := S256x4096) ![0, o] ![256, 512] inb).shape.Idx) :
    (M2 (cols o f) : S256x512.Idx → EReal) x = (M2 f : S256x4096.Idx → EReal) ((Rect.unit (s := S256x4096) ![0, o] ![256, 512] inb).emb x) := by
  have h0 : ((Rect.unit (s := S256x4096) ![0, o] ![256, 512] inb).emb x 0).val = 0 + (x 0).val := Rect.idx_unit_val _ _ inb x 0
  have h1 : ((Rect.unit (s := S256x4096) ![0, o] ![256, 512] inb).emb x 1).val = o + (x 1).val := Rect.idx_unit_val _ _ inb x 1
  show ((f (x 0).val (o + (x 1).val) : ℝ) : EReal) = ((f ((Rect.unit (s := S256x4096) ![0, o] ![256, 512] inb).emb x 0).val ((Rect.unit (s := S256x4096) ![0, o] ![256, 512] inb).emb x 1).val : ℝ) : EReal)
  rw [h0, h1, Nat.zero_add]

theorem ld_row8 (f : ℕ → ℕ → ℝ) (o : ℕ) (inb) :
    View.ld (e' := .f32) (Val := Elt Ideal) (M2 f : S8x1024.Idx → EReal) (Rect.unit (s := S8x1024) ![o, 0] ![1, 1024] inb)
      = (M2 (rows o f) : S1x1024.Idx → EReal) := by
  funext i
  have h0 : ((Rect.unit (s := S8x1024) ![o, 0] ![1, 1024] inb).idx i 0).val = o + (i 0).val := Rect.idx_unit_val _ _ inb i 0
  have h1 : ((Rect.unit (s := S8x1024) ![o, 0] ![1, 1024] inb).idx i 1).val = 0 + (i 1).val := Rect.idx_unit_val _ _ inb i 1
  show ((f ((Rect.unit (s := S8x1024) ![o, 0] ![1, 1024] inb).idx i 0).val ((Rect.unit (s := S8x1024) ![o, 0] ![1, 1024] inb).idx i 1).val : ℝ) : EReal) = ((f (o + (i 0).val) (i 1).val : ℝ) : EReal)
  rw [h0, h1, Nat.zero_add]

/-- A load of one row passes by a store of another row. -/
theorem readCov_apart8 {sig : RefSig} {κ : Kind} {sp : Space} (v : View sig κ sp S8x1024 .f32) (o o' : ℕ) (inb inb') (w)
    (L : List (View.Piece (Elt Ideal) S8x1024 .f32)) (h : o + 1 ≤ o' ∨ o' + 1 ≤ o) :
    v.readCov (Val := Elt Ideal) (⟨Rect.unit (s := S8x1024) ![o, 0] ![1, 1024] inb, w⟩ :: L) (Rect.unit (s := S8x1024) ![o', 0] ![1, 1024] inb').toLoadRect
      = v.readCov L (Rect.unit (s := S8x1024) ![o', 0] ![1, 1024] inb').toLoadRect := by
  rw [View.readCov_eq_canon', View.readCov_eq_canon']
  funext j
  refine View.canon_cons_of_not_mem _ _ ?_
  intro hm
  rw [Rect.mem_set_unit] at hm
  have h1 : o ≤ ((Rect.unit (s := S8x1024) ![o', 0] ![1, 1024] inb').toLoadRect.idx j 0).val ∧ ((Rect.unit (s := S8x1024) ![o', 0] ![1, 1024] inb').toLoadRect.idx j 0).val < o + 1 := hm 0
  have h2 : ((Rect.unit (s := S8x1024) ![o', 0] ![1, 1024] inb').toLoadRect.idx j 0).val = o' + (j 0).val := Rect.idx_unit_val _ _ inb' j 0
  have h3 : (j 0).val < 1 := (j 0).isLt
  rw [h2] at h1
  omega

/-- One row put in place of row `o`. -/
theorem overlay_row (w g : ℕ → ℕ → ℝ) (o : ℕ) (inb) :
    (Rect.unit (s := S8x1024) ![o, 0] ![1, 1024] inb).overlay (M2 w : S8x1024.Idx → EReal) (M2 g : S1x1024.Idx → EReal)
      = (M2 (fun p q => if p = o then g 0 q else w p q) : S8x1024.Idx → EReal) := by
  funext y
  by_cases hm : y ∈ (Rect.unit (s := S8x1024) ![o, 0] ![1, 1024] inb).set
  · obtain ⟨x, rfl⟩ := (Rect.unit (s := S8x1024) ![o, 0] ![1, 1024] inb).exists_idx_of_mem hm
    refine ((Rect.unit (s := S8x1024) ![o, 0] ![1, 1024] inb).overlay_emb _ _ x).trans ?_
    have h0 : ((Rect.unit (s := S8x1024) ![o, 0] ![1, 1024] inb).idx x 0).val = o + (x 0).val := Rect.idx_unit_val _ _ inb x 0
    have h1 : ((Rect.unit (s := S8x1024) ![o, 0] ![1, 1024] inb).idx x 1).val = 0 + (x 1).val := Rect.idx_unit_val _ _ inb x 1
    have h3 : (x 0).val < 1 := (x 0).isLt
    have h4 : (x 0).val = 0 := by omega
    show ((g (x 0).val (x 1).val : ℝ) : EReal) = (((if ((Rect.unit (s := S8x1024) ![o, 0] ![1, 1024] inb).idx x 0).val = o then g 0 ((Rect.unit (s := S8x1024) ![o, 0] ![1, 1024] inb).idx x 1).val else _ : ℝ)) : EReal)
    rw [h0, h1, h4, Nat.zero_add, Nat.add_zero, if_pos rfl]
  · rw [(Rect.unit (s := S8x1024) ![o, 0] ![1, 1024] inb).overlay_of_not_mem _ _ hm]
    have hne : (y 0).val ≠ o := by
      intro h
      refine hm (Rect.mem_set_unit.mpr fun a => ?_)
      have hy : (y 1).val < 1024 := (y 1).isLt
      fin_cases a
      · exact ⟨h.ge, by show (y 0).val < o + 1; omega⟩
      · exact ⟨Nat.zero_le _, by show (y 1).val < 0 + 1024; omega⟩
    show ((w (y 0).val (y 1).val : ℝ) : EReal) = (((if (y 0).val = o then _ else w (y 0).val (y 1).val : ℝ)) : EReal)
    rw [if_neg hne]

theorem readCov_zero {sig : RefSig} {κ : Kind} {sp : Space} {S : Shape} {e : EltTy} (v : View sig κ sp S e) {off : Fin S.rank → ℕ} (h : off = fun _ => 0)
    (inb : ∀ a, off a + S.size a ≤ S.size a) (w : S.Idx → Elt Ideal e) (r : Rect S) :
    v.readCov (Val := Elt Ideal) [⟨Rect.unit off S.size inb, w⟩] r.toLoadRect = View.ld w r :=
  View.readCov_fill v _ w [] r fun a => by rw [h]

/-- A store over earlier ones leaves what they left, its own rectangle replaced. -/
theorem read_writes_over {sig : RefSig} {κ : Kind} {sp : Space} {S : Shape} {e : EltTy} (v : View sig κ sp S e) (f) (r : Rect S) (w : r.shape.Idx → Elt Ideal e)
    (L : List (View.Piece (Elt Ideal) S e)) :
    v.read (Elt Ideal) (v.writes (Elt Ideal) f (⟨r, w⟩ :: L)) = r.overlay (v.read (Elt Ideal) (v.writes (Elt Ideal) f L)) w := by
  funext y
  by_cases hm : y ∈ r.set
  · obtain ⟨x, rfl⟩ := r.exists_idx_of_mem hm
    exact (View.read_writes_cons_emb v f r w L x).trans (r.overlay_emb _ _ x).symm
  · rw [r.overlay_of_not_mem _ _ hm, View.writes_cons]
    exact View.read_slice_write_of_not_mem r _ _ _ (by rwa [Rect.map_emb_univ])

theorem sums_rows (D : Data) (w : ℕ → ℕ → ℝ) : (M2 (fun p q =>
      if p = 3 then rows 3 w 0 q + ∑ k ∈ Finset.range 256, D.loss k
      else if p = 2 then rows 2 w 0 q + beside 512 (row (Data.total 256 D.dgp)) (row (Data.total 256 D.dga)) 0 q
      else if p = 1 then rows 1 w 0 q + Data.total 256 D.dg2 q
      else if p = 0 then rows 0 w 0 q + Data.total 256 D.dgf q
      else w p q) : S8x1024.Idx → EReal) = M2 fun p q => w p q + D.sums 256 p q := by
  refine M2_congr fun p q _ _ => ?_
  unfold Data.sums rows
  by_cases h3 : p = 3
  · subst h3; simp
  by_cases h2 : p = 2
  · subst h2; simp
  by_cases h1 : p = 1
  · subst h1; simp
  by_cases h0 : p = 0
  · subst h0; simp
  simp [h0, h1, h2, h3]

end Cert.Mlp
-- ==== Proof.BlockA.lean ====
/-
  What one grid point leaves in each output's buffer, as the stages of the mathematics: at point zero, which first copies
  the three weights into scratch, and at a later point, which finds them there.
-/
module

public import proofs.«01_k».proof.Proof.Gen.KernelIdeal.Frame.RunB
public import proofs.«01_k».proof.Proof.Loads
public import Idealize.ShloMosaic.Lib.Pipeline.ReadBack
public import Idealize.ShloMosaic.Lib.Pipeline.ValueKit

@[expose] public section

-- membership in a rectangle of production extents (`View.cover_of_tiled`): the elaborator's structural look
-- recurses once per coordinate of the long axes
set_option maxRecDepth 16384

noncomputable section

namespace Cert.Mlp
open Cert.Mat
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (D : Data)

theorem s0_A  (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (fh0 : HbBuf0 (F := Ideal) c hbM0_0) (fh1 : HbBuf0 (F := Ideal) c hbM0_1) (fh2 : HbBuf0 (F := Ideal) c hbM0_2)
    (h0 : ReadAs.same.apply (View.read (Elt Ideal) (Memref.whole main_v7).view fh0) = M2 D.wo) :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.2.1 = (M2 D.wo : S1024x1024.Idx → EReal) :=
  (View.canon_unit_zero (off := fun _ => 0) rfl _ _).trans h0

theorem s1_A  (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (fh0 : HbBuf0 (F := Ideal) c hbM0_0) (fh1 : HbBuf0 (F := Ideal) c hbM0_1) (fh2 : HbBuf0 (F := Ideal) c hbM0_2)
    (h1 : ReadAs.same.apply (View.read (Elt Ideal) (Memref.whole main_v2).view fh1) = M3 (slabs D.wu)) :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.2.2.1 = (M3 (slabs D.wu) : S8x1024x512.Idx → EReal) :=
  (View.canon_unit_zero (off := fun _ => 0) rfl _ _).trans h1

theorem s2_A  (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (fh0 : HbBuf0 (F := Ideal) c hbM0_0) (fh1 : HbBuf0 (F := Ideal) c hbM0_1) (fh2 : HbBuf0 (F := Ideal) c hbM0_2)
    (h2 : ReadAs.same.apply (View.read (Elt Ideal) (Memref.whole main_v8).view fh2) = M2 D.wd) :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.2.2.2.1 = (M2 D.wd : S4096x1024.Idx → EReal) :=
  (View.canon_unit_zero (off := fun _ => 0) rfl _ _).trans h2

section
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (fh0 : HbBuf0 (F := Ideal) c hbM0_0) (fh1 : HbBuf0 (F := Ideal) c hbM0_1) (fh2 : HbBuf0 (F := Ideal) c hbM0_2)
    (h0 : ReadAs.same.apply (View.read (Elt Ideal) (Memref.whole main_v7).view fh0) = M2 D.wo)
    (h1 : ReadAs.same.apply (View.read (Elt Ideal) (Memref.whole main_v2).view fh1) = M3 (slabs D.wu))
    (h2 : ReadAs.same.apply (View.read (Elt Ideal) (Memref.whole main_v8).view fh2) = M2 D.wd)
    (ex0 : x0 = (M2 D.x : S256x1024.Idx → EReal)) (ex1 : x1 = (M2 D.yp : S256x512.Idx → EReal)) (ex2 : x2 = (M2 D.ya : S256x512.Idx → EReal)) (ex3 : x3 = (M2 D.t : S256x1024.Idx → EReal)) (ex4 : x4 = (M2 (row D.gp) : S1x512.Idx → EReal)) (ex5 : x5 = (M2 (row D.ga) : S1x512.Idx → EReal)) (ex6 : x6 = (M2 (row D.g2) : S1x1024.Idx → EReal)) (ex7 : x7 = (M2 (row D.gf) : S1x1024.Idx → EReal))
include c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2 h0 h1 h2 ex0 ex1 ex2 ex3 ex4 ex5 ex6 ex7

theorem o8_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).1 = (M2 D.mixed : S256x1024.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o9_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.1 = (M2 D.hn2 : S256x1024.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o10_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.1 = (M2 D.act : S256x4096.Idx → EReal) := by
  subst ex0
  subst ex1
  subst ex2
  subst ex3
  subst ex4
  subst ex5
  subst ex6
  subst ex7
  unfold kernelRun0_A; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  funext y
  refine View.canon_apply_of_pieces _ _ ?_ y ?_
  · exact View.PiecesOf.mem ⟨piece_cols _ _ inb_S256x4096_S256x512_0_3584, piece_cols _ _ inb_S256x4096_S256x512_0_3072, piece_cols _ _ inb_S256x4096_S256x512_0_2560, piece_cols _ _ inb_S256x4096_S256x512_0_2048, piece_cols _ _ inb_S256x4096_S256x512_0_1536, piece_cols _ _ inb_S256x4096_S256x512_0_1024, piece_cols _ _ inb_S256x4096_S256x512_0_512, piece_cols _ _ inb_S256x4096_S256x512_0_0, trivial⟩
  · exact View.cover_of_tiledL (s := S256x4096) _ S256x512.size (by sl_kernel_rfl) y

theorem o11_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.1 = (M2 D.dup : S256x4096.Idx → EReal) := by
  subst ex0
  subst ex1
  subst ex2
  subst ex3
  subst ex4
  subst ex5
  subst ex6
  subst ex7
  unfold kernelRun0_A; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  funext y
  refine View.canon_apply_of_pieces _ _ ?_ y ?_
  · exact View.PiecesOf.mem ⟨piece_cols _ _ inb_S256x4096_S256x512_0_3584, piece_cols _ _ inb_S256x4096_S256x512_0_3072, piece_cols _ _ inb_S256x4096_S256x512_0_2560, piece_cols _ _ inb_S256x4096_S256x512_0_2048, piece_cols _ _ inb_S256x4096_S256x512_0_1536, piece_cols _ _ inb_S256x4096_S256x512_0_1024, piece_cols _ _ inb_S256x4096_S256x512_0_512, piece_cols _ _ inb_S256x4096_S256x512_0_0, trivial⟩
  · exact View.cover_of_tiledL (s := S256x4096) _ S256x512.size (by sl_kernel_rfl) y

theorem o12_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.1 = (M2 D.dh2 : S256x1024.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o13_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.1 = (M2 D.dx : S256x1024.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o14_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.1 = (M2 D.dx : S256x1024.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o15_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.1 = (M2 D.dyp : S256x512.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o16_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.1 = (M2 D.dya : S256x512.Idx → EReal) := by
  subst ex0
  subst ex1
  subst ex2
  subst ex3
  subst ex4
  subst ex5
  subst ex6
  subst ex7
  unfold kernelRun0_A; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o17_A :
    View.canon (kernelRun0_A (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 fh0 fh1 fh2).2.2.2.2.2.2.2.2.2.1 = (M2 fun p q => 0 + D.sums 256 p q : S8x1024.Idx → EReal) := by
  subst ex0
  subst ex1
  subst ex2
  subst ex3
  subst ex4
  subst ex5
  subst ex6
  subst ex7
  unfold kernelRun0_A; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, h0, h1, h2, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, ld_row8, readCov_apart8, readCov_zero (S := S8x1024) (h := hz), View.canon_unit_zero (S := S8x1024) hz, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  simp only [View.canon_cons, View.canon_unit_zero (S := S8x1024) hz, read_writes_over, View.writes_nil, harg21.read_unread, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88, overlay_row]
  exact sums_rows D _

end

end Cert.Mlp
-- ==== Proof.BlockB.lean ====
/-
  What one grid point leaves in each output's buffer, as the stages of the mathematics: at point zero, which first copies
  the three weights into scratch, and at a later point, which finds them there.
-/
module

public import proofs.«01_k».proof.Proof.Gen.KernelIdeal.Frame.RunB
public import proofs.«01_k».proof.Proof.Loads
public import Idealize.ShloMosaic.Lib.Pipeline.ReadBack
public import Idealize.ShloMosaic.Lib.Pipeline.ValueKit

@[expose] public section

-- membership in a rectangle of production extents (`View.cover_of_tiled`): the elaborator's structural look
-- recurses once per coordinate of the long axes
set_option maxRecDepth 16384

noncomputable section

namespace Cert.Mlp
open Cert.Mat
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (D : Data)

section
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : ¬cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (xo17 : Vec Ideal S8x1024 .f32) (xs0 : Vec Ideal S1024x1024 .bf16) (xs1 : Vec Ideal S8x1024x512 .bf16) (xs2 : Vec Ideal S4096x1024 .bf16) (fh0 : HbBuf0 (F := Ideal) c hbM0_0) (fh1 : HbBuf0 (F := Ideal) c hbM0_1) (fh2 : HbBuf0 (F := Ideal) c hbM0_2)
    (ex0 : x0 = (M2 D.x : S256x1024.Idx → EReal)) (ex1 : x1 = (M2 D.yp : S256x512.Idx → EReal)) (ex2 : x2 = (M2 D.ya : S256x512.Idx → EReal)) (ex3 : x3 = (M2 D.t : S256x1024.Idx → EReal)) (ex4 : x4 = (M2 (row D.gp) : S1x512.Idx → EReal)) (ex5 : x5 = (M2 (row D.ga) : S1x512.Idx → EReal)) (ex6 : x6 = (M2 (row D.g2) : S1x1024.Idx → EReal)) (ex7 : x7 = (M2 (row D.gf) : S1x1024.Idx → EReal)) (exs0 : xs0 = (M2 D.wo : S1024x1024.Idx → EReal)) (exs1 : xs1 = (M3 (slabs D.wu) : S8x1024x512.Idx → EReal)) (exs2 : xs2 = (M2 D.wd : S4096x1024.Idx → EReal))
include c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2 ex0 ex1 ex2 ex3 ex4 ex5 ex6 ex7 exs0 exs1 exs2

theorem o8_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).1 = (M2 D.mixed : S256x1024.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o9_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.1 = (M2 D.hn2 : S256x1024.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o10_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.1 = (M2 D.act : S256x4096.Idx → EReal) := by
  subst ex0
  subst ex1
  subst ex2
  subst ex3
  subst ex4
  subst ex5
  subst ex6
  subst ex7
  subst exs0
  subst exs1
  subst exs2
  unfold kernelRun0_B; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  funext y
  refine View.canon_apply_of_pieces _ _ ?_ y ?_
  · exact View.PiecesOf.mem ⟨piece_cols _ _ inb_S256x4096_S256x512_0_3584, piece_cols _ _ inb_S256x4096_S256x512_0_3072, piece_cols _ _ inb_S256x4096_S256x512_0_2560, piece_cols _ _ inb_S256x4096_S256x512_0_2048, piece_cols _ _ inb_S256x4096_S256x512_0_1536, piece_cols _ _ inb_S256x4096_S256x512_0_1024, piece_cols _ _ inb_S256x4096_S256x512_0_512, piece_cols _ _ inb_S256x4096_S256x512_0_0, trivial⟩
  · exact View.cover_of_tiledL (s := S256x4096) _ S256x512.size (by sl_kernel_rfl) y

theorem o11_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.1 = (M2 D.dup : S256x4096.Idx → EReal) := by
  subst ex0
  subst ex1
  subst ex2
  subst ex3
  subst ex4
  subst ex5
  subst ex6
  subst ex7
  subst exs0
  subst exs1
  subst exs2
  unfold kernelRun0_B; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  funext y
  refine View.canon_apply_of_pieces _ _ ?_ y ?_
  · exact View.PiecesOf.mem ⟨piece_cols _ _ inb_S256x4096_S256x512_0_3584, piece_cols _ _ inb_S256x4096_S256x512_0_3072, piece_cols _ _ inb_S256x4096_S256x512_0_2560, piece_cols _ _ inb_S256x4096_S256x512_0_2048, piece_cols _ _ inb_S256x4096_S256x512_0_1536, piece_cols _ _ inb_S256x4096_S256x512_0_1024, piece_cols _ _ inb_S256x4096_S256x512_0_512, piece_cols _ _ inb_S256x4096_S256x512_0_0, trivial⟩
  · exact View.cover_of_tiledL (s := S256x4096) _ S256x512.size (by sl_kernel_rfl) y

theorem o12_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.1 = (M2 D.dh2 : S256x1024.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o13_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.2.1 = (M2 D.dx : S256x1024.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o14_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.2.2.1 = (M2 D.dx : S256x1024.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o15_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.2.2.2.1 = (M2 D.dyp : S256x512.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

theorem o16_B :
    View.canon (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.2.2.2.2.1 = (M2 D.dya : S256x512.Idx → EReal) := by
  subst ex0
  subst ex1
  subst ex2
  subst ex3
  subst ex4
  subst ex5
  subst ex6
  subst ex7
  subst exs0
  subst exs1
  subst exs2
  unfold kernelRun0_B; dsimp only; rw [View.canon_unit_zero hz]
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]

end

theorem o17_B  (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg12 : Memref sig .tc .vmem S256x1024 .bf16) (harg12 : arg12.IsWhole) (arg13 : Memref sig .tc .vmem S256x1024 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x512 .f32) (harg19 : arg19.IsWhole) (arg20 : Memref sig .tc .vmem S256x512 .f32) (harg20 : arg20.IsWhole) (arg21 : Memref sig .tc .vmem S8x1024 .f32) (harg21 : arg21.IsWhole) (arg22 : Memref sig .tc .vmem S1024x1024 .bf16) (harg22 : arg22.IsWhole) (arg23 : Memref sig .tc .vmem S8x1024x512 .bf16) (harg23 : arg23.IsWhole) (arg24 : Memref sig .tc .vmem S4096x1024 .bf16) (harg24 : arg24.IsWhole) (arg25 : Memref sig .tc .vmem S256x4096 .f32) (harg25 : arg25.IsWhole) (hc0 : ¬cond0_0 i)
    (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (xo17 : Vec Ideal S8x1024 .f32) (w : ℕ → ℕ → ℝ) (exo : xo17 = (M2 w : S8x1024.Idx → EReal)) (xs0 : Vec Ideal S1024x1024 .bf16) (xs1 : Vec Ideal S8x1024x512 .bf16) (xs2 : Vec Ideal S4096x1024 .bf16) (fh0 : HbBuf0 (F := Ideal) c hbM0_0) (fh1 : HbBuf0 (F := Ideal) c hbM0_1) (fh2 : HbBuf0 (F := Ideal) c hbM0_2)
    (ex0 : x0 = (M2 D.x : S256x1024.Idx → EReal)) (ex1 : x1 = (M2 D.yp : S256x512.Idx → EReal)) (ex2 : x2 = (M2 D.ya : S256x512.Idx → EReal)) (ex3 : x3 = (M2 D.t : S256x1024.Idx → EReal)) (ex4 : x4 = (M2 (row D.gp) : S1x512.Idx → EReal)) (ex5 : x5 = (M2 (row D.ga) : S1x512.Idx → EReal)) (ex6 : x6 = (M2 (row D.g2) : S1x1024.Idx → EReal)) (ex7 : x7 = (M2 (row D.gf) : S1x1024.Idx → EReal)) (exs0 : xs0 = (M2 D.wo : S1024x1024.Idx → EReal)) (exs1 : xs1 = (M3 (slabs D.wu) : S8x1024x512.Idx → EReal)) (exs2 : xs2 = (M2 D.wd : S4096x1024.Idx → EReal)) :
    arg21.view.read (Elt Ideal) (arg21.view.writes (Elt Ideal) (harg21.unread xo17) (kernelRun0_B (F := Ideal) c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 xo17 xs0 xs1 xs2 fh0 fh1 fh2).2.2.2.2.2.2.2.2.2.1) = (M2 fun p q => w p q + D.sums 256 p q : S8x1024.Idx → EReal) := by
  subst exo
  subst ex0
  subst ex1
  subst ex2
  subst ex3
  subst ex4
  subst ex5
  subst ex6
  subst ex7
  subst exs0
  subst exs1
  subst exs2
  unfold kernelRun0_B; dsimp only
  sl_unfold_words
  simp only [View.readAt_eq_ld, harg1.read_unread, harg2.read_unread, harg3.read_unread, harg4.read_unread, harg5.read_unread, harg6.read_unread, harg7.read_unread, harg8.read_unread, harg21.read_unread, harg22.read_unread, harg23.read_unread, harg24.read_unread, View.ld_unit_zero (S := S256x1024) hz, View.ld_unit_zero (S := S256x512) hz, View.ld_unit_zero (S := S1x512) hz, View.ld_unit_zero (S := S1x1024) hz, View.ld_unit_zero (S := S1024x1024) hz, ld_slab0, ld_slab1, ld_slab2, ld_slab3, ld_slab4, ld_slab5, ld_slab6, ld_slab7, ld_rows, const_0, readCov_whole, View.readCov_cons_toLoadRect, readCov_apart, Nat.reduceAdd, Nat.reduceMul, Nat.reduceLeDiff, _root_.true_or, _root_.or_true, _root_.or_false, _root_.false_or, ld_row8, readCov_apart8, readCov_zero (S := S8x1024) (h := hz), View.canon_unit_zero (S := S8x1024) hz, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88]
  simp only [View.canon_cons, View.canon_unit_zero (S := S8x1024) hz, read_writes_over, View.writes_nil, harg21.read_unread, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65, st66, st67, st68, st69, st70, st71, st72, st73, st74, st75, st76, st77, st78, st79, st80, st81, st82, st83, st84, st85, st86, st87, st88, overlay_row]
  exact sums_rows D _

end Cert.Mlp
-- ==== Proof.Host.lean ====
/-
  What the call finds at launch when the arguments are arrays of real numbers: the gains as rows, the weights as they
  are, the first weight of the MLP cut into eight blocks of columns.
-/
module

public import proofs.«01_k».proof.Proof.Loads
public import Idealize.ShloMosaic.Lib.StableHlo.RunRead

@[expose] public section

set_option maxRecDepth 16384

noncomputable section

namespace Cert.Mlp
open Cert.Mat
open Cert.KernelIdeal Cert.KernelIdeal.Gen
open Idealize.ShloMosaic Idealize.ShloMosaic.TcCoe Idealize.ShloMosaic.Tactic

/-- The arguments at launch, on one device, are the data. -/
structure Args (m : (ℓ : Loc nD τ sig) → Buf (Elt Ideal) ℓ) (c : Dev nD) (D : Data) : Prop where
  x : m ((c : Thread nD τ).loc main_arg0) = (M2 D.x : S4096x1024.Idx → EReal)
  yp : m ((c : Thread nD τ).loc main_arg1) = (M2 D.yp : S4096x512.Idx → EReal)
  ya : m ((c : Thread nD τ).loc main_arg2) = (M2 D.ya : S4096x512.Idx → EReal)
  t : m ((c : Thread nD τ).loc main_arg3) = (M2 D.t : S4096x1024.Idx → EReal)
  gp : m ((c : Thread nD τ).loc main_arg4) = (M1 D.gp : S512.Idx → EReal)
  ga : m ((c : Thread nD τ).loc main_arg5) = (M1 D.ga : S512.Idx → EReal)
  wo : m ((c : Thread nD τ).loc main_arg6) = (M2 D.wo : S1024x1024.Idx → EReal)
  g2 : m ((c : Thread nD τ).loc main_arg7) = (M1 D.g2 : S1024.Idx → EReal)
  wu : m ((c : Thread nD τ).loc main_arg8) = (M2 D.wu : S1024x4096.Idx → EReal)
  wd : m ((c : Thread nD τ).loc main_arg9) = (M2 D.wd : S4096x1024.Idx → EReal)
  gf : m ((c : Thread nD τ).loc main_arg10) = (M1 D.gf : S1024.Idx → EReal)

section
variable (m : (ℓ : Loc nD τ sig) → Buf (Elt Ideal) ℓ) (c : Dev nD) {D : Data}

theorem V_v7 (h : Args m c D) : V m c main_v7 = (M2 D.wo : S1024x1024.Idx → EReal) := by
  have e : V m c main_v7 = (truncf .bf16 (m ((c : Thread nD τ).loc main_arg6) : FVec Ideal S1024x1024 .f32) bitsLt_bf16_f32 : FVec Ideal S1024x1024 .bf16) := by
    show StableHlo.after hostOps0 (fun b => m (c, b)) (Proc.devRef .tc main_v7) = _
    after_reads_simp
  rw [e, h.wo]; rfl
theorem V_v8 (h : Args m c D) : V m c main_v8 = (M2 D.wd : S4096x1024.Idx → EReal) := by
  have e : V m c main_v8 = (truncf .bf16 (m ((c : Thread nD τ).loc main_arg9) : FVec Ideal S4096x1024 .f32) bitsLt_bf16_f32 : FVec Ideal S4096x1024 .bf16) := by
    show StableHlo.after hostOps0 (fun b => m (c, b)) (Proc.devRef .tc main_v8) = _
    after_reads_simp
  rw [e, h.wd]; rfl
theorem V_v3 (h : Args m c D) : V m c main_v3 = (M2 (row D.gp) : S1x512.Idx → EReal) := by
  have e : V m c main_v3 = (shapeCast S1x512 (m ((c : Thread nD τ).loc main_arg4) : S512.Idx → EReal) shapeCasts_S512_S1x512 : S1x512.Idx → EReal) := by
    show StableHlo.after hostOps0 (fun b => m (c, b)) (Proc.devRef .tc main_v3) = _
    after_reads_simp; rfl
  rw [e, h.gp]; exact shapeCast_M1_row _ _
theorem V_v4 (h : Args m c D) : V m c main_v4 = (M2 (row D.ga) : S1x512.Idx → EReal) := by
  have e : V m c main_v4 = (shapeCast S1x512 (m ((c : Thread nD τ).loc main_arg5) : S512.Idx → EReal) shapeCasts_S512_S1x512 : S1x512.Idx → EReal) := by
    show StableHlo.after hostOps0 (fun b => m (c, b)) (Proc.devRef .tc main_v4) = _
    after_reads_simp; rfl
  rw [e, h.ga]; exact shapeCast_M1_row _ _
theorem V_v5 (h : Args m c D) : V m c main_v5 = (M2 (row D.g2) : S1x1024.Idx → EReal) := by
  have e : V m c main_v5 = (shapeCast S1x1024 (m ((c : Thread nD τ).loc main_arg7) : S1024.Idx → EReal) shapeCasts_S1024_S1x1024 : S1x1024.Idx → EReal) := by
    show StableHlo.after hostOps0 (fun b => m (c, b)) (Proc.devRef .tc main_v5) = _
    after_reads_simp; rfl
  rw [e, h.g2]; exact shapeCast_M1_row _ _
theorem V_v6 (h : Args m c D) : V m c main_v6 = (M2 (row D.gf) : S1x1024.Idx → EReal) := by
  have e : V m c main_v6 = (shapeCast S1x1024 (m ((c : Thread nD τ).loc main_arg10) : S1024.Idx → EReal) shapeCasts_S1024_S1x1024 : S1x1024.Idx → EReal) := by
    show StableHlo.after hostOps0 (fun b => m (c, b)) (Proc.devRef .tc main_v6) = _
    after_reads_simp; rfl
  rw [e, h.gf]; exact shapeCast_M1_row _ _
theorem V_v2 (h : Args m c D) : V m c main_v2 = (M3 (slabs D.wu) : S8x1024x512.Idx → EReal) := by
  have e : V m c main_v2 = (transpose S8x1024x512 [1, 0, 2] (shapeCast S1024x8x512 (truncf .bf16 (m ((c : Thread nD τ).loc main_arg8) : FVec Ideal S1024x4096 .f32) bitsLt_bf16_f32 : FVec Ideal S1024x4096 .bf16) shapeCasts_S1024x4096_S1024x8x512 : S1024x8x512.Idx → EReal) transposes_S1024x8x512_S8x1024x512_1_0_2 : S8x1024x512.Idx → EReal) := by
    show StableHlo.after hostOps0 (fun b => m (c, b)) (Proc.devRef .tc main_v2) = _
    after_reads_simp; rfl
  rw [e, h.wu]
  funext i
  have hi0 : (i 0).val < 8 := (i 0).isLt
  have hi1 : (i 1).val < 1024 := (i 1).isLt
  have hi2 : (i 2).val < 512 := (i 2).isLt
  have hk : 512 * (i 0).val + (i 2).val < 4096 := by omega
  refine (transpose_apply _ _ _ i (ValueIdx.ix3 (⟨(i 1).val, hi1⟩ : Fin 1024) (⟨(i 0).val, hi0⟩ : Fin 8) (⟨(i 2).val, hi2⟩ : Fin 512)) ?_).trans ?_
  · intro b; match b with
    | 0 => rfl
    | 1 => rfl
    | 2 => rfl
  refine (shapeCast_apply _ _ _ (ValueIdx.ix2 (⟨(i 1).val, hi1⟩ : Fin 1024) (⟨512 * (i 0).val + (i 2).val, hk⟩ : Fin 4096)) ?_).trans rfl
  rw [Shape.rowMajor_val_two, Shape.rowMajor_val_three]
  show (i 1).val * 4096 + (512 * (i 0).val + (i 2).val) = ((i 1).val * 8 + (i 0).val) * 512 + (i 2).val
  omega
end

theorem blk0 (t : Fin cfg0.N) (f : ℕ → ℕ → ℝ) :
    ((cfg0.win 0).blk t).view.read (Elt Ideal) (M2 f : S4096x1024.Idx → EReal) = (M2 (rows (256 * t.val) f) : S256x1024.Idx → EReal) := by
  have i0 : win0_0.index t 0 = t.val := (by decide +kernel : ∀ t : Fin grid0.N, win0_0.index t 0 = t.val) t
  have i1 : win0_0.index t 1 = 0 := (by decide +kernel : ∀ t : Fin grid0.N, win0_0.index t 1 = 0) t
  funext i
  show ((f (win0_0.index t 0 * 256 + 1 * (i 0).val) (win0_0.index t 1 * 1024 + 1 * (i 1).val) : ℝ) : EReal) = ((f (256 * t.val + (i 0).val) (i 1).val : ℝ) : EReal)
  rw [i0, i1]; congr 2 <;> ring
theorem blk1 (t : Fin cfg0.N) (f : ℕ → ℕ → ℝ) :
    ((cfg0.win 1).blk t).view.read (Elt Ideal) (M2 f : S4096x512.Idx → EReal) = (M2 (rows (256 * t.val) f) : S256x512.Idx → EReal) := by
  have i0 : win0_1.index t 0 = t.val := (by decide +kernel : ∀ t : Fin grid0.N, win0_1.index t 0 = t.val) t
  have i1 : win0_1.index t 1 = 0 := (by decide +kernel : ∀ t : Fin grid0.N, win0_1.index t 1 = 0) t
  funext i
  show ((f (win0_1.index t 0 * 256 + 1 * (i 0).val) (win0_1.index t 1 * 512 + 1 * (i 1).val) : ℝ) : EReal) = ((f (256 * t.val + (i 0).val) (i 1).val : ℝ) : EReal)
  rw [i0, i1]; congr 2 <;> ring
theorem blk2 (t : Fin cfg0.N) (f : ℕ → ℕ → ℝ) :
    ((cfg0.win 2).blk t).view.read (Elt Ideal) (M2 f : S4096x512.Idx → EReal) = (M2 (rows (256 * t.val) f) : S256x512.Idx → EReal) := by
  have i0 : win0_2.index t 0 = t.val := (by decide +kernel : ∀ t : Fin grid0.N, win0_2.index t 0 = t.val) t
  have i1 : win0_2.index t 1 = 0 := (by decide +kernel : ∀ t : Fin grid0.N, win0_2.index t 1 = 0) t
  funext i
  show ((f (win0_2.index t 0 * 256 + 1 * (i 0).val) (win0_2.index t 1 * 512 + 1 * (i 1).val) : ℝ) : EReal) = ((f (256 * t.val + (i 0).val) (i 1).val : ℝ) : EReal)
  rw [i0, i1]; congr 2 <;> ring
theorem blk3 (t : Fin cfg0.N) (f : ℕ → ℕ → ℝ) :
    ((cfg0.win 3).blk t).view.read (Elt Ideal) (M2 f : S4096x1024.Idx → EReal) = (M2 (rows (256 * t.val) f) : S256x1024.Idx → EReal) := by
  have i0 : win0_3.index t 0 = t.val := (by decide +kernel : ∀ t : Fin grid0.N, win0_3.index t 0 = t.val) t
  have i1 : win0_3.index t 1 = 0 := (by decide +kernel : ∀ t : Fin grid0.N, win0_3.index t 1 = 0) t
  funext i
  show ((f (win0_3.index t 0 * 256 + 1 * (i 0).val) (win0_3.index t 1 * 1024 + 1 * (i 1).val) : ℝ) : EReal) = ((f (256 * t.val + (i 0).val) (i 1).val : ℝ) : EReal)
  rw [i0, i1]; congr 2 <;> ring
theorem blk4 (t : Fin cfg0.N) (f : ℕ → ℕ → ℝ) :
    ((cfg0.win 4).blk t).view.read (Elt Ideal) (M2 f : S1x512.Idx → EReal) = (M2 f : S1x512.Idx → EReal) := by
  have i0 : win0_4.index t 0 = 0 := (by decide +kernel : ∀ t : Fin grid0.N, win0_4.index t 0 = 0) t
  have i1 : win0_4.index t 1 = 0 := (by decide +kernel : ∀ t : Fin grid0.N, win0_4.index t 1 = 0) t
  funext i
  show ((f (win0_4.index t 0 * 1 + 1 * (i 0).val) (win0_4.index t 1 * 512 + 1 * (i 1).val) : ℝ) : EReal) = ((f (i 0).val (i 1).val : ℝ) : EReal)
  rw [i0, i1]; congr 2 <;> ring
theorem blk5 (t : Fin cfg0.N) (f : ℕ → ℕ → ℝ) :
    ((cfg0.win 5).blk t).view.read (Elt Ideal) (M2 f : S1x512.Idx → EReal) = (M2 f : S1x512.Idx → EReal) := by
  have i0 : win0_5.index t 0 = 0 := (by decide +kernel : ∀ t : Fin grid0.N, win0_5.index t 0 = 0) t
  have i1 : win0_5.index t 1 = 0 := (by decide +kernel : ∀ t : Fin grid0.N, win0_5.index t 1 = 0) t
  funext i
  show ((f (win0_5.index t 0 * 1 + 1 * (i 0).val) (win0_5.index t 1 * 512 + 1 * (i 1).val) : ℝ) : EReal) = ((f (i 0).val (i 1).val : ℝ) : EReal)
  rw [i0, i1]; congr 2 <;> ring
theorem blk6 (t : Fin cfg0.N) (f : ℕ → ℕ → ℝ) :
    ((cfg0.win 6).blk t).view.read (Elt Ideal) (M2 f : S1x1024.Idx → EReal) = (M2 f : S1x1024.Idx → EReal) := by
  have i0 : win0_6.index t 0 = 0 := (by decide +kernel : ∀ t : Fin grid0.N, win0_6.index t 0 = 0) t
  have i1 : win0_6.index t 1 = 0 := (by decide +kernel : ∀ t : Fin grid0.N, win0_6.index t 1 = 0) t
  funext i
  show ((f (win0_6.index t 0 * 1 + 1 * (i 0).val) (win0_6.index t 1 * 1024 + 1 * (i 1).val) : ℝ) : EReal) = ((f (i 0).val (i 1).val : ℝ) : EReal)
  rw [i0, i1]; congr 2 <;> ring
theorem blk7 (t : Fin cfg0.N) (f : ℕ → ℕ → ℝ) :
    ((cfg0.win 7).blk t).view.read (Elt Ideal) (M2 f : S1x1024.Idx → EReal) = (M2 f : S1x1024.Idx → EReal) := by
  have i0 : win0_7.index t 0 = 0 := (by decide +kernel : ∀ t : Fin grid0.N, win0_7.index t 0 = 0) t
  have i1 : win0_7.index t 1 = 0 := (by decide +kernel : ∀ t : Fin grid0.N, win0_7.index t 1 = 0) t
  funext i
  show ((f (win0_7.index t 0 * 1 + 1 * (i 0).val) (win0_7.index t 1 * 1024 + 1 * (i 1).val) : ℝ) : EReal) = ((f (i 0).val (i 1).val : ℝ) : EReal)
  rw [i0, i1]; congr 2 <;> ring
theorem blk8 (t : Fin cfg0.N) (f : ℕ → ℕ → ℝ) :
    ((cfg0.win 8).blk t).view.read (Elt Ideal) (M2 f : S4096x1024.Idx → EReal) = (M2 (rows (256 * t.val) f) : S256x1024.Idx → EReal) := by
  have i0 : win0_8.index t 0 = t.val := (by decide +kernel : ∀ t : Fin grid0.N, win0_8.index t 0 = t.val) t
  have i1 : win0_8.index t 1 = 0 := (by decide +kernel : ∀ t : Fin grid0.N, win0_8.index t 1 = 0) t
  funext i
  show ((f (win0_8.index t 0 * 256 + 1 * (i 0).val) (win0_8.index t 1 * 1024 + 1 * (i 1).val) : ℝ) : EReal) = ((f (256 * t.val + (i 0).val) (i 1).val : ℝ) : EReal)
  rw [i0, i1]; congr 2 <;> ring
theorem blk9 (t : Fin cfg0.N) (f : ℕ → ℕ → ℝ) :
    ((cfg0.win 9).blk t).view.read (Elt Ideal) (M2 f : S4096x1024.Idx → EReal) = (M2 (rows (256 * t.val) f) : S256x1024.Idx → EReal) := by
  have i0 : win0_9.index t 0 = t.val := (by decide +kernel : ∀ t : Fin grid0.N, win0_9.index t 0 = t.val) t
  have i1 : win0_9.index t 1 = 0 := (by decide +kernel : ∀ t : Fin grid0.N, win0_9.index t 1 = 0) t
  funext i
  show ((f (win0_9.index t 0 * 256 + 1 * (i 0).val) (win0_9.index t 1 * 1024 + 1 * (i 1).val) : ℝ) : EReal) = ((f (256 * t.val + (i 0).val) (i 1).val : ℝ) : EReal)
  rw [i0, i1]; congr 2 <;> ring
theorem blk10 (t : Fin cfg0.N) (f : ℕ → ℕ → ℝ) :
    ((cfg0.win 10).blk t).view.read (Elt Ideal) (M2 f : S4096x4096.Idx → EReal) = (M2 (rows (256 * t.val) f) : S256x4096.Idx → EReal) := by
  have i0 : win0_10.index t 0 = t.val := (by decide +kernel : ∀ t : Fin grid0.N, win0_10.index t 0 = t.val) t
  have i1 : win0_10.index t 1 = 0 := (by decide +kernel : ∀ t : Fin grid0.N, win0_10.index t 1 = 0) t
  funext i
  show ((f (win0_10.index t 0 * 256 + 1 * (i 0).val) (win0_10.index t 1 * 4096 + 1 * (i 1).val) : ℝ) : EReal) = ((f (256 * t.val + (i 0).val) (i 1).val : ℝ) : EReal)
  rw [i0, i1]; congr 2 <;> ring
theorem blk11 (t : Fin cfg0.N) (f : ℕ → ℕ → ℝ) :
    ((cfg0.win 11).blk t).view.read (Elt Ideal) (M2 f : S4096x4096.Idx → EReal) = (M2 (rows (256 * t.val) f) : S256x4096.Idx → EReal) := by
  have i0 : win0_11.index t 0 = t.val := (by decide +kernel : ∀ t : Fin grid0.N, win0_11.index t 0 = t.val) t
  have i1 : win0_11.index t 1 = 0 := (by decide +kernel : ∀ t : Fin grid0.N, win0_11.index t 1 = 0) t
  funext i
  show ((f (win0_11.index t 0 * 256 + 1 * (i 0).val) (win0_11.index t 1 * 4096 + 1 * (i 1).val) : ℝ) : EReal) = ((f (256 * t.val + (i 0).val) (i 1).val : ℝ) : EReal)
  rw [i0, i1]; congr 2 <;> ring
theorem blk12 (t : Fin cfg0.N) (f : ℕ → ℕ → ℝ) :
    ((cfg0.win 12).blk t).view.read (Elt Ideal) (M2 f : S4096x1024.Idx → EReal) = (M2 (rows (256 * t.val) f) : S256x1024.Idx → EReal) := by
  have i0 : win0_12.index t 0 = t.val := (by decide +kernel : ∀ t : Fin grid0.N, win0_12.index t 0 = t.val) t
  have i1 : win0_12.index t 1 = 0 := (by decide +kernel : ∀ t : Fin grid0.N, win0_12.index t 1 = 0) t
  funext i
  show ((f (win0_12.index t 0 * 256 + 1 * (i 0).val) (win0_12.index t 1 * 1024 + 1 * (i 1).val) : ℝ) : EReal) = ((f (256 * t.val + (i 0).val) (i 1).val : ℝ) : EReal)
  rw [i0, i1]; congr 2 <;> ring
theorem blk13 (t : Fin cfg0.N) (f : ℕ → ℕ → ℝ) :
    ((cfg0.win 13).blk t).view.read (Elt Ideal) (M2 f : S4096x1024.Idx → EReal) = (M2 (rows (256 * t.val) f) : S256x1024.Idx → EReal) := by
  have i0 : win0_13.index t 0 = t.val := (by decide +kernel : ∀ t : Fin grid0.N, win0_13.index t 0 = t.val) t
  have i1 : win0_13.index t 1 = 0 := (by decide +kernel : ∀ t : Fin grid0.N, win0_13.index t 1 = 0) t
  funext i
  show ((f (win0_13.index t 0 * 256 + 1 * (i 0).val) (win0_13.index t 1 * 1024 + 1 * (i 1).val) : ℝ) : EReal) = ((f (256 * t.val + (i 0).val) (i 1).val : ℝ) : EReal)
  rw [i0, i1]; congr 2 <;> ring
theorem blk14 (t : Fin cfg0.N) (f : ℕ → ℕ → ℝ) :
    ((cfg0.win 14).blk t).view.read (Elt Ideal) (M2 f : S4096x1024.Idx → EReal) = (M2 (rows (256 * t.val) f) : S256x1024.Idx → EReal) := by
  have i0 : win0_14.index t 0 = t.val := (by decide +kernel : ∀ t : Fin grid0.N, win0_14.index t 0 = t.val) t
  have i1 : win0_14.index t 1 = 0 := (by decide +kernel : ∀ t : Fin grid0.N, win0_14.index t 1 = 0) t
  funext i
  show ((f (win0_14.index t 0 * 256 + 1 * (i 0).val) (win0_14.index t 1 * 1024 + 1 * (i 1).val) : ℝ) : EReal) = ((f (256 * t.val + (i 0).val) (i 1).val : ℝ) : EReal)
  rw [i0, i1]; congr 2 <;> ring
theorem blk15 (t : Fin cfg0.N) (f : ℕ → ℕ → ℝ) :
    ((cfg0.win 15).blk t).view.read (Elt Ideal) (M2 f : S4096x512.Idx → EReal) = (M2 (rows (256 * t.val) f) : S256x512.Idx → EReal) := by
  have i0 : win0_15.index t 0 = t.val := (by decide +kernel : ∀ t : Fin grid0.N, win0_15.index t 0 = t.val) t
  have i1 : win0_15.index t 1 = 0 := (by decide +kernel : ∀ t : Fin grid0.N, win0_15.index t 1 = 0) t
  funext i
  show ((f (win0_15.index t 0 * 256 + 1 * (i 0).val) (win0_15.index t 1 * 512 + 1 * (i 1).val) : ℝ) : EReal) = ((f (256 * t.val + (i 0).val) (i 1).val : ℝ) : EReal)
  rw [i0, i1]; congr 2 <;> ring
theorem blk16 (t : Fin cfg0.N) (f : ℕ → ℕ → ℝ) :
    ((cfg0.win 16).blk t).view.read (Elt Ideal) (M2 f : S4096x512.Idx → EReal) = (M2 (rows (256 * t.val) f) : S256x512.Idx → EReal) := by
  have i0 : win0_16.index t 0 = t.val := (by decide +kernel : ∀ t : Fin grid0.N, win0_16.index t 0 = t.val) t
  have i1 : win0_16.index t 1 = 0 := (by decide +kernel : ∀ t : Fin grid0.N, win0_16.index t 1 = 0) t
  funext i
  show ((f (win0_16.index t 0 * 256 + 1 * (i 0).val) (win0_16.index t 1 * 512 + 1 * (i 1).val) : ℝ) : EReal) = ((f (256 * t.val + (i 0).val) (i 1).val : ℝ) : EReal)
  rw [i0, i1]; congr 2 <;> ring
theorem blk17 (t : Fin cfg0.N) (f : ℕ → ℕ → ℝ) :
    ((cfg0.win 17).blk t).view.read (Elt Ideal) (M2 f : S8x1024.Idx → EReal) = (M2 f : S8x1024.Idx → EReal) := by
  have i0 : win0_17.index t 0 = 0 := (by decide +kernel : ∀ t : Fin grid0.N, win0_17.index t 0 = 0) t
  have i1 : win0_17.index t 1 = 0 := (by decide +kernel : ∀ t : Fin grid0.N, win0_17.index t 1 = 0) t
  funext i
  show ((f (win0_17.index t 0 * 8 + 1 * (i 0).val) (win0_17.index t 1 * 1024 + 1 * (i 1).val) : ℝ) : EReal) = ((f (i 0).val (i 1).val : ℝ) : EReal)
  rw [i0, i1]; congr 2 <;> ring

section
variable (m : (ℓ : Loc nD τ sig) → Buf (Elt Ideal) ℓ) (c : Dev nD) {D : Data} (t : Fin cfg0.N)

theorem iblk_0 (h : Args m c D) : iblk m c 0 t = (M2 (D.shift (256 * t.val)).x : S256x1024.Idx → EReal) := by
  have e : V m c (Pipeline.arrRef spec0 0) = (M2 D.x : S4096x1024.Idx → EReal) := (V_main_arg0 m c).trans h.x
  show ((cfg0.win 0).blk t).view.read (Elt Ideal) (V m c (Pipeline.arrRef spec0 0)) = _
  rw [e]; exact blk0 t _
theorem iblk_1 (h : Args m c D) : iblk m c 1 t = (M2 (D.shift (256 * t.val)).yp : S256x512.Idx → EReal) := by
  have e : V m c (Pipeline.arrRef spec0 1) = (M2 D.yp : S4096x512.Idx → EReal) := (V_main_arg1 m c).trans h.yp
  show ((cfg0.win 1).blk t).view.read (Elt Ideal) (V m c (Pipeline.arrRef spec0 1)) = _
  rw [e]; exact blk1 t _
theorem iblk_2 (h : Args m c D) : iblk m c 2 t = (M2 (D.shift (256 * t.val)).ya : S256x512.Idx → EReal) := by
  have e : V m c (Pipeline.arrRef spec0 2) = (M2 D.ya : S4096x512.Idx → EReal) := (V_main_arg2 m c).trans h.ya
  show ((cfg0.win 2).blk t).view.read (Elt Ideal) (V m c (Pipeline.arrRef spec0 2)) = _
  rw [e]; exact blk2 t _
theorem iblk_3 (h : Args m c D) : iblk m c 3 t = (M2 (D.shift (256 * t.val)).t : S256x1024.Idx → EReal) := by
  have e : V m c (Pipeline.arrRef spec0 3) = (M2 D.t : S4096x1024.Idx → EReal) := (V_main_arg3 m c).trans h.t
  show ((cfg0.win 3).blk t).view.read (Elt Ideal) (V m c (Pipeline.arrRef spec0 3)) = _
  rw [e]; exact blk3 t _
theorem iblk_4 (h : Args m c D) : iblk m c 4 t = (M2 (row D.gp) : S1x512.Idx → EReal) := by
  have e : V m c (Pipeline.arrRef spec0 4) = (M2 (row D.gp) : S1x512.Idx → EReal) := V_v3 m c h
  show ((cfg0.win 4).blk t).view.read (Elt Ideal) (V m c (Pipeline.arrRef spec0 4)) = _
  rw [e]; exact blk4 t _
theorem iblk_5 (h : Args m c D) : iblk m c 5 t = (M2 (row D.ga) : S1x512.Idx → EReal) := by
  have e : V m c (Pipeline.arrRef spec0 5) = (M2 (row D.ga) : S1x512.Idx → EReal) := V_v4 m c h
  show ((cfg0.win 5).blk t).view.read (Elt Ideal) (V m c (Pipeline.arrRef spec0 5)) = _
  rw [e]; exact blk5 t _
theorem iblk_6 (h : Args m c D) : iblk m c 6 t = (M2 (row D.g2) : S1x1024.Idx → EReal) := by
  have e : V m c (Pipeline.arrRef spec0 6) = (M2 (row D.g2) : S1x1024.Idx → EReal) := V_v5 m c h
  show ((cfg0.win 6).blk t).view.read (Elt Ideal) (V m c (Pipeline.arrRef spec0 6)) = _
  rw [e]; exact blk6 t _
theorem iblk_7 (h : Args m c D) : iblk m c 7 t = (M2 (row D.gf) : S1x1024.Idx → EReal) := by
  have e : V m c (Pipeline.arrRef spec0 7) = (M2 (row D.gf) : S1x1024.Idx → EReal) := V_v6 m c h
  show ((cfg0.win 7).blk t).view.read (Elt Ideal) (V m c (Pipeline.arrRef spec0 7)) = _
  rw [e]; exact blk7 t _
end

end Cert.Mlp

end
-- ==== Proof.MlpValue.lean ====
/-
  What the call leaves: at every point its rows of the ten results, and after the run the whole results.
-/
module

public import proofs.«01_k».proof.Proof.MlpRun
public import proofs.«01_k».proof.Proof.BlockA
public import proofs.«01_k».proof.Proof.BlockB
public import proofs.«01_k».proof.Proof.Host

@[expose] public section

set_option maxRecDepth 16384

noncomputable section

namespace Cert.Mlp
open Cert.Mat Cert.Mat.Data
open Cert.KernelIdeal Cert.KernelIdeal.Gen
open Idealize.ShloMosaic Idealize.ShloMosaic.TcCoe Idealize.ShloMosaic.Tactic

theorem total_step (n : ℕ) (f : ℕ → ℕ → ℝ) (q : ℕ) : total n f q + total 256 (rows n f) q = total (n + 256) f q :=
  (Finset.sum_range_add (fun k => f k q) n 256).symm

theorem shift_dgf (D : Data) (n : ℕ) : (D.shift n).dgf = rows n D.dgf := rfl
theorem shift_dg2 (D : Data) (n : ℕ) : (D.shift n).dg2 = rows n D.dg2 := rfl
theorem shift_dgp (D : Data) (n : ℕ) : (D.shift n).dgp = rows n D.dgp := rfl
theorem shift_dga (D : Data) (n : ℕ) : (D.shift n).dga = rows n D.dga := rfl
theorem shift_loss (D : Data) (n k : ℕ) : (D.shift n).loss k = D.loss (n + k) := rfl
theorem beside_row (u v : ℕ → ℝ) (q : ℕ) : beside 512 (row u) (row v) 0 q = if q < 512 then u q else v (q - 512) := rfl

/-- The sums after `n` rows and those of the next 256 are the sums after `n + 256`. -/
theorem sums_step (D : Data) (n p q : ℕ) : D.sums n p q + (D.shift n).sums 256 p q = D.sums (n + 256) p q := by
  unfold sums
  rw [shift_dgf, shift_dg2, shift_dgp, shift_dga]
  simp only [shift_loss, beside_row]
  by_cases h0 : p = 0
  · rw [if_pos h0, if_pos h0, if_pos h0, total_step]
  rw [if_neg h0, if_neg h0, if_neg h0]
  by_cases h1 : p = 1
  · rw [if_pos h1, if_pos h1, if_pos h1, total_step]
  rw [if_neg h1, if_neg h1, if_neg h1]
  by_cases h2 : p = 2
  · rw [if_pos h2, if_pos h2, if_pos h2]
    by_cases hq : q < 512
    · rw [if_pos hq, if_pos hq, if_pos hq, total_step]
    · rw [if_neg hq, if_neg hq, if_neg hq, total_step]
  rw [if_neg h2, if_neg h2, if_neg h2]
  by_cases h3 : p = 3
  · rw [if_pos h3, if_pos h3, if_pos h3, Finset.sum_range_add]
  rw [if_neg h3, if_neg h3, if_neg h3, add_zero]

theorem sums_zero (D : Data) (p q : ℕ) : D.sums 0 p q = 0 := by
  unfold sums beside row total
  simp only [Finset.sum_range_zero, ite_self]

/-- A point's leavings are its rows of the results, the sums of the rows so far, and the weights. -/
structure Leaves (D : Data) (n : ℕ) (o : Outs Ideal) : Prop where
  o8 : o.o8 = (M2 (D.shift (256 * n)).mixed : S256x1024.Idx → EReal)
  o9 : o.o9 = (M2 (D.shift (256 * n)).hn2 : S256x1024.Idx → EReal)
  o10 : o.o10 = (M2 (D.shift (256 * n)).act : S256x4096.Idx → EReal)
  o11 : o.o11 = (M2 (D.shift (256 * n)).dup : S256x4096.Idx → EReal)
  o12 : o.o12 = (M2 (D.shift (256 * n)).dh2 : S256x1024.Idx → EReal)
  o13 : o.o13 = (M2 (D.shift (256 * n)).dx : S256x1024.Idx → EReal)
  o14 : o.o14 = (M2 (D.shift (256 * n)).dx : S256x1024.Idx → EReal)
  o15 : o.o15 = (M2 (D.shift (256 * n)).dyp : S256x512.Idx → EReal)
  o16 : o.o16 = (M2 (D.shift (256 * n)).dya : S256x512.Idx → EReal)
  o17 : o.o17 = (M2 (D.sums (256 * (n + 1))) : S8x1024.Idx → EReal)
  s0 : o.s0 = (M2 D.wo : S1024x1024.Idx → EReal)
  s1 : o.s1 = (M3 (slabs D.wu) : S8x1024x512.Idx → EReal)
  s2 : o.s2 = (M2 D.wd : S4096x1024.Idx → EReal)

section
variable (m : (ℓ : Loc nD τ sig) → Buf (Elt Ideal) ℓ) (c : Dev nD) {D : Data}

theorem piece8_first (h : Args m c D) (t : Fin cfg0.N) (h0 : t.val % 16 = 0) : View.canon (runFirst m c t h0).1 = (M2 (D.shift (256 * t.val)).mixed : S256x1024.Idx → EReal) :=
  o8_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o8 (h : Args m c D) (t : Fin cfg0.N) (h0 : t.val % 16 = 0) : (first m c t h0).o8 = (M2 (D.shift (256 * t.val)).mixed : S256x1024.Idx → EReal) := by
  rw [first]; dsimp only; rw [piece8_first m c h t h0]
theorem piece9_first (h : Args m c D) (t : Fin cfg0.N) (h0 : t.val % 16 = 0) : View.canon (runFirst m c t h0).2.1 = (M2 (D.shift (256 * t.val)).hn2 : S256x1024.Idx → EReal) :=
  o9_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o9 (h : Args m c D) (t : Fin cfg0.N) (h0 : t.val % 16 = 0) : (first m c t h0).o9 = (M2 (D.shift (256 * t.val)).hn2 : S256x1024.Idx → EReal) := by
  rw [first]; dsimp only; rw [piece9_first m c h t h0]
theorem piece10_first (h : Args m c D) (t : Fin cfg0.N) (h0 : t.val % 16 = 0) : View.canon (runFirst m c t h0).2.2.1 = (M2 (D.shift (256 * t.val)).act : S256x4096.Idx → EReal) :=
  o10_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o10 (h : Args m c D) (t : Fin cfg0.N) (h0 : t.val % 16 = 0) : (first m c t h0).o10 = (M2 (D.shift (256 * t.val)).act : S256x4096.Idx → EReal) := by
  rw [first]; dsimp only; rw [piece10_first m c h t h0]
theorem piece11_first (h : Args m c D) (t : Fin cfg0.N) (h0 : t.val % 16 = 0) : View.canon (runFirst m c t h0).2.2.2.1 = (M2 (D.shift (256 * t.val)).dup : S256x4096.Idx → EReal) :=
  o11_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o11 (h : Args m c D) (t : Fin cfg0.N) (h0 : t.val % 16 = 0) : (first m c t h0).o11 = (M2 (D.shift (256 * t.val)).dup : S256x4096.Idx → EReal) := by
  rw [first]; dsimp only; rw [piece11_first m c h t h0]
theorem piece12_first (h : Args m c D) (t : Fin cfg0.N) (h0 : t.val % 16 = 0) : View.canon (runFirst m c t h0).2.2.2.2.1 = (M2 (D.shift (256 * t.val)).dh2 : S256x1024.Idx → EReal) :=
  o12_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o12 (h : Args m c D) (t : Fin cfg0.N) (h0 : t.val % 16 = 0) : (first m c t h0).o12 = (M2 (D.shift (256 * t.val)).dh2 : S256x1024.Idx → EReal) := by
  rw [first]; dsimp only; rw [piece12_first m c h t h0]
theorem piece13_first (h : Args m c D) (t : Fin cfg0.N) (h0 : t.val % 16 = 0) : View.canon (runFirst m c t h0).2.2.2.2.2.1 = (M2 (D.shift (256 * t.val)).dx : S256x1024.Idx → EReal) :=
  o13_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o13 (h : Args m c D) (t : Fin cfg0.N) (h0 : t.val % 16 = 0) : (first m c t h0).o13 = (M2 (D.shift (256 * t.val)).dx : S256x1024.Idx → EReal) := by
  rw [first]; dsimp only; rw [piece13_first m c h t h0]
theorem piece14_first (h : Args m c D) (t : Fin cfg0.N) (h0 : t.val % 16 = 0) : View.canon (runFirst m c t h0).2.2.2.2.2.2.1 = (M2 (D.shift (256 * t.val)).dx : S256x1024.Idx → EReal) :=
  o14_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o14 (h : Args m c D) (t : Fin cfg0.N) (h0 : t.val % 16 = 0) : (first m c t h0).o14 = (M2 (D.shift (256 * t.val)).dx : S256x1024.Idx → EReal) := by
  rw [first]; dsimp only; rw [piece14_first m c h t h0]
theorem piece15_first (h : Args m c D) (t : Fin cfg0.N) (h0 : t.val % 16 = 0) : View.canon (runFirst m c t h0).2.2.2.2.2.2.2.1 = (M2 (D.shift (256 * t.val)).dyp : S256x512.Idx → EReal) :=
  o15_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o15 (h : Args m c D) (t : Fin cfg0.N) (h0 : t.val % 16 = 0) : (first m c t h0).o15 = (M2 (D.shift (256 * t.val)).dyp : S256x512.Idx → EReal) := by
  rw [first]; dsimp only; rw [piece15_first m c h t h0]
theorem piece16_first (h : Args m c D) (t : Fin cfg0.N) (h0 : t.val % 16 = 0) : View.canon (runFirst m c t h0).2.2.2.2.2.2.2.2.1 = (M2 (D.shift (256 * t.val)).dya : S256x512.Idx → EReal) :=
  o16_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)
theorem first_o16 (h : Args m c D) (t : Fin cfg0.N) (h0 : t.val % 16 = 0) : (first m c t h0).o16 = (M2 (D.shift (256 * t.val)).dya : S256x512.Idx → EReal) := by
  rw [first]; dsimp only; rw [piece16_first m c h t h0]
theorem piece17_first (h : Args m c D) (t : Fin cfg0.N) (h0 : t.val % 16 = 0) : View.canon (runFirst m c t h0).2.2.2.2.2.2.2.2.2.1 = (M2 (D.sums (256 * (t.val + 1))) : S8x1024.Idx → EReal) := by
    have hN : t.val < 16 := t.isLt
    have h1 : t.val = 0 := by omega
    refine (o17_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h) (V_v2 (D := D) m c h) (V_v8 (D := D) m c h) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h)).trans ?_
    refine M2_congr fun p q _ _ => ?_
    rw [h1]
    have e := sums_step D 0 p q
    rw [sums_zero] at e
    exact e
theorem first_o17 (h : Args m c D) (t : Fin cfg0.N) (h0 : t.val % 16 = 0) : (first m c t h0).o17 = (M2 (D.sums (256 * (t.val + 1))) : S8x1024.Idx → EReal) := by
  rw [first]; dsimp only; rw [piece17_first m c h t h0]
theorem piece18_first (h : Args m c D) (t : Fin cfg0.N) (h0 : t.val % 16 = 0) : View.canon (runFirst m c t h0).2.2.2.2.2.2.2.2.2.2.1 = (M2 D.wo : S1024x1024.Idx → EReal) :=
  s0_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v7 (D := D) m c h)
theorem first_s0 (h : Args m c D) (t : Fin cfg0.N) (h0 : t.val % 16 = 0) : (first m c t h0).s0 = (M2 D.wo : S1024x1024.Idx → EReal) := by
  rw [first]; dsimp only; rw [piece18_first m c h t h0]
theorem piece19_first (h : Args m c D) (t : Fin cfg0.N) (h0 : t.val % 16 = 0) : View.canon (runFirst m c t h0).2.2.2.2.2.2.2.2.2.2.2.1 = (M3 (slabs D.wu) : S8x1024x512.Idx → EReal) :=
  s1_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v2 (D := D) m c h)
theorem first_s1 (h : Args m c D) (t : Fin cfg0.N) (h0 : t.val % 16 = 0) : (first m c t h0).s1 = (M3 (slabs D.wu) : S8x1024x512.Idx → EReal) := by
  rw [first]; dsimp only; rw [piece19_first m c h t h0]
theorem piece20_first (h : Args m c D) (t : Fin cfg0.N) (h0 : t.val % 16 = 0) : View.canon (runFirst m c t h0).2.2.2.2.2.2.2.2.2.2.2.2.1 = (M2 D.wd : S4096x1024.Idx → EReal) :=
  s2_A (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8) (V_v8 (D := D) m c h)
theorem first_s2 (h : Args m c D) (t : Fin cfg0.N) (h0 : t.val % 16 = 0) : (first m c t h0).s2 = (M2 D.wd : S4096x1024.Idx → EReal) := by
  rw [first]; dsimp only; rw [piece20_first m c h t h0]
theorem first_leaves (h : Args m c D) (t : Fin cfg0.N) (h0 : t.val % 16 = 0) : Leaves D t.val (first m c t h0) :=
  ⟨first_o8 m c h t h0, first_o9 m c h t h0, first_o10 m c h t h0, first_o11 m c h t h0, first_o12 m c h t h0, first_o13 m c h t h0, first_o14 m c h t h0, first_o15 m c h t h0, first_o16 m c h t h0, first_o17 m c h t h0, first_s0 m c h t h0, first_s1 m c h t h0, first_s2 m c h t h0⟩

theorem piece8_later (h : Args m c D) (t : Fin cfg0.N) (h0 : ¬t.val % 16 = 0) (p : Outs Ideal) (hp : Leaves D (t.val - 1) p) : View.canon (runLater m c t h0 p).1 = (M2 (D.shift (256 * t.val)).mixed : S256x1024.Idx → EReal) :=
  o8_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o8 (h : Args m c D) (t : Fin cfg0.N) (h0 : ¬t.val % 16 = 0) (p : Outs Ideal) (hp : Leaves D (t.val - 1) p) : (later m c t h0 p).o8 = (M2 (D.shift (256 * t.val)).mixed : S256x1024.Idx → EReal) := by
  rw [later]; dsimp only; rw [piece8_later m c h t h0 p hp]
theorem piece9_later (h : Args m c D) (t : Fin cfg0.N) (h0 : ¬t.val % 16 = 0) (p : Outs Ideal) (hp : Leaves D (t.val - 1) p) : View.canon (runLater m c t h0 p).2.1 = (M2 (D.shift (256 * t.val)).hn2 : S256x1024.Idx → EReal) :=
  o9_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o9 (h : Args m c D) (t : Fin cfg0.N) (h0 : ¬t.val % 16 = 0) (p : Outs Ideal) (hp : Leaves D (t.val - 1) p) : (later m c t h0 p).o9 = (M2 (D.shift (256 * t.val)).hn2 : S256x1024.Idx → EReal) := by
  rw [later]; dsimp only; rw [piece9_later m c h t h0 p hp]
theorem piece10_later (h : Args m c D) (t : Fin cfg0.N) (h0 : ¬t.val % 16 = 0) (p : Outs Ideal) (hp : Leaves D (t.val - 1) p) : View.canon (runLater m c t h0 p).2.2.1 = (M2 (D.shift (256 * t.val)).act : S256x4096.Idx → EReal) :=
  o10_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o10 (h : Args m c D) (t : Fin cfg0.N) (h0 : ¬t.val % 16 = 0) (p : Outs Ideal) (hp : Leaves D (t.val - 1) p) : (later m c t h0 p).o10 = (M2 (D.shift (256 * t.val)).act : S256x4096.Idx → EReal) := by
  rw [later]; dsimp only; rw [piece10_later m c h t h0 p hp]
theorem piece11_later (h : Args m c D) (t : Fin cfg0.N) (h0 : ¬t.val % 16 = 0) (p : Outs Ideal) (hp : Leaves D (t.val - 1) p) : View.canon (runLater m c t h0 p).2.2.2.1 = (M2 (D.shift (256 * t.val)).dup : S256x4096.Idx → EReal) :=
  o11_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o11 (h : Args m c D) (t : Fin cfg0.N) (h0 : ¬t.val % 16 = 0) (p : Outs Ideal) (hp : Leaves D (t.val - 1) p) : (later m c t h0 p).o11 = (M2 (D.shift (256 * t.val)).dup : S256x4096.Idx → EReal) := by
  rw [later]; dsimp only; rw [piece11_later m c h t h0 p hp]
theorem piece12_later (h : Args m c D) (t : Fin cfg0.N) (h0 : ¬t.val % 16 = 0) (p : Outs Ideal) (hp : Leaves D (t.val - 1) p) : View.canon (runLater m c t h0 p).2.2.2.2.1 = (M2 (D.shift (256 * t.val)).dh2 : S256x1024.Idx → EReal) :=
  o12_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o12 (h : Args m c D) (t : Fin cfg0.N) (h0 : ¬t.val % 16 = 0) (p : Outs Ideal) (hp : Leaves D (t.val - 1) p) : (later m c t h0 p).o12 = (M2 (D.shift (256 * t.val)).dh2 : S256x1024.Idx → EReal) := by
  rw [later]; dsimp only; rw [piece12_later m c h t h0 p hp]
theorem piece13_later (h : Args m c D) (t : Fin cfg0.N) (h0 : ¬t.val % 16 = 0) (p : Outs Ideal) (hp : Leaves D (t.val - 1) p) : View.canon (runLater m c t h0 p).2.2.2.2.2.1 = (M2 (D.shift (256 * t.val)).dx : S256x1024.Idx → EReal) :=
  o13_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o13 (h : Args m c D) (t : Fin cfg0.N) (h0 : ¬t.val % 16 = 0) (p : Outs Ideal) (hp : Leaves D (t.val - 1) p) : (later m c t h0 p).o13 = (M2 (D.shift (256 * t.val)).dx : S256x1024.Idx → EReal) := by
  rw [later]; dsimp only; rw [piece13_later m c h t h0 p hp]
theorem piece14_later (h : Args m c D) (t : Fin cfg0.N) (h0 : ¬t.val % 16 = 0) (p : Outs Ideal) (hp : Leaves D (t.val - 1) p) : View.canon (runLater m c t h0 p).2.2.2.2.2.2.1 = (M2 (D.shift (256 * t.val)).dx : S256x1024.Idx → EReal) :=
  o14_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o14 (h : Args m c D) (t : Fin cfg0.N) (h0 : ¬t.val % 16 = 0) (p : Outs Ideal) (hp : Leaves D (t.val - 1) p) : (later m c t h0 p).o14 = (M2 (D.shift (256 * t.val)).dx : S256x1024.Idx → EReal) := by
  rw [later]; dsimp only; rw [piece14_later m c h t h0 p hp]
theorem piece15_later (h : Args m c D) (t : Fin cfg0.N) (h0 : ¬t.val % 16 = 0) (p : Outs Ideal) (hp : Leaves D (t.val - 1) p) : View.canon (runLater m c t h0 p).2.2.2.2.2.2.2.1 = (M2 (D.shift (256 * t.val)).dyp : S256x512.Idx → EReal) :=
  o15_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o15 (h : Args m c D) (t : Fin cfg0.N) (h0 : ¬t.val % 16 = 0) (p : Outs Ideal) (hp : Leaves D (t.val - 1) p) : (later m c t h0 p).o15 = (M2 (D.shift (256 * t.val)).dyp : S256x512.Idx → EReal) := by
  rw [later]; dsimp only; rw [piece15_later m c h t h0 p hp]
theorem piece16_later (h : Args m c D) (t : Fin cfg0.N) (h0 : ¬t.val % 16 = 0) (p : Outs Ideal) (hp : Leaves D (t.val - 1) p) : View.canon (runLater m c t h0 p).2.2.2.2.2.2.2.2.1 = (M2 (D.shift (256 * t.val)).dya : S256x512.Idx → EReal) :=
  o16_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2
theorem later_o16 (h : Args m c D) (t : Fin cfg0.N) (h0 : ¬t.val % 16 = 0) (p : Outs Ideal) (hp : Leaves D (t.val - 1) p) : (later m c t h0 p).o16 = (M2 (D.shift (256 * t.val)).dya : S256x512.Idx → EReal) := by
  rw [later]; dsimp only; rw [piece16_later m c h t h0 p hp]
theorem piece17_later (h : Args m c D) (t : Fin cfg0.N) (h0 : ¬t.val % 16 = 0) (p : Outs Ideal) (hp : Leaves D (t.val - 1) p) : (ms0_17 t).view.read (Elt Ideal) ((ms0_17 t).view.writes (Elt Ideal) ((hs0_17 t).unread p.o17) (runLater m c t h0 p).2.2.2.2.2.2.2.2.2.1) = (M2 (D.sums (256 * (t.val + 1))) : S8x1024.Idx → EReal) := by
    have h1 : t.val - 1 + 1 = t.val := by omega
    have e := hp.o17
    rw [h1] at e
    refine (o17_B (D.shift (256 * t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun hc => h0 ((hcond0_0 t).mp hc)) (iblk m c 0 t) (iblk m c 1 t) (iblk m c 2 t) (iblk m c 3 t) (iblk m c 4 t) (iblk m c 5 t) (iblk m c 6 t) (iblk m c 7 t) p.o17 (D.sums (256 * t.val)) e p.s0 p.s1 p.s2 (V m c main_v7) (V m c main_v2) (V m c main_v8) (iblk_0 (D := D) m c t h) (iblk_1 (D := D) m c t h) (iblk_2 (D := D) m c t h) (iblk_3 (D := D) m c t h) (iblk_4 (D := D) m c t h) (iblk_5 (D := D) m c t h) (iblk_6 (D := D) m c t h) (iblk_7 (D := D) m c t h) hp.s0 hp.s1 hp.s2).trans ?_
    refine M2_congr fun p q _ _ => ?_
    exact sums_step D (256 * t.val) p q
theorem later_o17 (h : Args m c D) (t : Fin cfg0.N) (h0 : ¬t.val % 16 = 0) (p : Outs Ideal) (hp : Leaves D (t.val - 1) p) : (later m c t h0 p).o17 = (M2 (D.sums (256 * (t.val + 1))) : S8x1024.Idx → EReal) := by
  rw [later]; dsimp only; rw [piece17_later m c h t h0 p hp]
theorem later_s0 (h : Args m c D) (t : Fin cfg0.N) (h0 : ¬t.val % 16 = 0) (p : Outs Ideal) (hp : Leaves D (t.val - 1) p) : (later m c t h0 p).s0 = (M2 D.wo : S1024x1024.Idx → EReal) := by
  rw [later]; dsimp only; rw [hp.s0]
theorem later_s1 (h : Args m c D) (t : Fin cfg0.N) (h0 : ¬t.val % 16 = 0) (p : Outs Ideal) (hp : Leaves D (t.val - 1) p) : (later m c t h0 p).s1 = (M3 (slabs D.wu) : S8x1024x512.Idx → EReal) := by
  rw [later]; dsimp only; rw [hp.s1]
theorem later_s2 (h : Args m c D) (t : Fin cfg0.N) (h0 : ¬t.val % 16 = 0) (p : Outs Ideal) (hp : Leaves D (t.val - 1) p) : (later m c t h0 p).s2 = (M2 D.wd : S4096x1024.Idx → EReal) := by
  rw [later]; dsimp only; rw [hp.s2]
theorem later_leaves (h : Args m c D) (t : Fin cfg0.N) (h0 : ¬t.val % 16 = 0) (p : Outs Ideal) (hp : Leaves D (t.val - 1) p) : Leaves D t.val (later m c t h0 p) :=
  ⟨later_o8 m c h t h0 p hp, later_o9 m c h t h0 p hp, later_o10 m c h t h0 p hp, later_o11 m c h t h0 p hp, later_o12 m c h t h0 p hp, later_o13 m c h t h0 p hp, later_o14 m c h t h0 p hp, later_o15 m c h t h0 p hp, later_o16 m c h t h0 p hp, later_o17 m c h t h0 p hp, later_s0 m c h t h0 p hp, later_s1 m c h t h0 p hp, later_s2 m c h t h0 p hp⟩

theorem leaves (h : Args m c D) : ∀ (n : ℕ) (hn : n < cfg0.N), Leaves D n (outs m c n hn)
  | 0, hn => first_leaves m c h ⟨0, hn⟩ (Nat.zero_mod _)
  | n + 1, hn => by
    by_cases h0 : (n + 1) % 16 = 0
    · rw [outs_first m c ⟨n + 1, hn⟩ h0]; exact first_leaves m c h ⟨n + 1, hn⟩ h0
    · rw [outs_later m c ⟨n + 1, hn⟩ h0]; exact later_leaves m c h ⟨n + 1, hn⟩ h0 _ (leaves h n (Nat.lt_of_succ_lt hn))

theorem final_8 (h : Args m c D) : (dats m 0 c).arrAt 8 cfg0.N = (M2 D.mixed : S4096x1024.Idx → EReal) := by
  refine (dats m 0 c).arrAt_eq_of_cover 8 (M2 D.mixed : S4096x1024.Idx → EReal) (fun t _ => ?_) fun i => ?_
  · show (cfg0.win 8).cut (grid0.coords t) ((dats m 0 c).after 8 t) = _
    rw [after0_8, (leaves m c h t.val t.isLt).o8]
    exact (blk8 t D.mixed).symm
  · have h0 : (i 0 : Nat) < 4096 := (i 0).isLt
    have h1 : (i 1 : Nat) < 1024 := (i 1).isLt
    have ht : (i 0 : Nat) / 256 < 16 := by omega
    have i0 : win0_8.index (⟨(i 0 : Nat) / 256, ht⟩ : Fin grid0.N) 0 = (i 0 : Nat) / 256 := (by decide +kernel : ∀ t : Fin grid0.N, win0_8.index t 0 = t.val) ⟨(i 0 : Nat) / 256, ht⟩
    have i1 : win0_8.index (⟨(i 0 : Nat) / 256, ht⟩ : Fin grid0.N) 1 = 0 := (by decide +kernel : ∀ t : Fin grid0.N, win0_8.index t 1 = 0) ⟨(i 0 : Nat) / 256, ht⟩
    refine ⟨⟨(i 0 : Nat) / 256, ht⟩, flush0_8 _, ?_⟩
    show i ∈ ((View.whole main_v9_0).slice (win0_8.rect (⟨(i 0 : Nat) / 256, ht⟩ : Fin grid0.N))).set
    rw [View.set_slice_whole, Rect.mem_set_unit]
    intro a
    match a with
    | ⟨0, _⟩ =>
      show win0_8.index (⟨(i 0 : Nat) / 256, ht⟩ : Fin grid0.N) 0 * 256 ≤ (i 0 : Nat) ∧ (i 0 : Nat) < win0_8.index (⟨(i 0 : Nat) / 256, ht⟩ : Fin grid0.N) 0 * 256 + 256
      rw [i0]; omega
    | ⟨1, _⟩ =>
      show win0_8.index (⟨(i 0 : Nat) / 256, ht⟩ : Fin grid0.N) 1 * 1024 ≤ (i 1 : Nat) ∧ (i 1 : Nat) < win0_8.index (⟨(i 0 : Nat) / 256, ht⟩ : Fin grid0.N) 1 * 1024 + 1024
      rw [i1]; omega

theorem final_9 (h : Args m c D) : (dats m 0 c).arrAt 9 cfg0.N = (M2 D.hn2 : S4096x1024.Idx → EReal) := by
  refine (dats m 0 c).arrAt_eq_of_cover 9 (M2 D.hn2 : S4096x1024.Idx → EReal) (fun t _ => ?_) fun i => ?_
  · show (cfg0.win 9).cut (grid0.coords t) ((dats m 0 c).after 9 t) = _
    rw [after0_9, (leaves m c h t.val t.isLt).o9]
    exact (blk9 t D.hn2).symm
  · have h0 : (i 0 : Nat) < 4096 := (i 0).isLt
    have h1 : (i 1 : Nat) < 1024 := (i 1).isLt
    have ht : (i 0 : Nat) / 256 < 16 := by omega
    have i0 : win0_9.index (⟨(i 0 : Nat) / 256, ht⟩ : Fin grid0.N) 0 = (i 0 : Nat) / 256 := (by decide +kernel : ∀ t : Fin grid0.N, win0_9.index t 0 = t.val) ⟨(i 0 : Nat) / 256, ht⟩
    have i1 : win0_9.index (⟨(i 0 : Nat) / 256, ht⟩ : Fin grid0.N) 1 = 0 := (by decide +kernel : ∀ t : Fin grid0.N, win0_9.index t 1 = 0) ⟨(i 0 : Nat) / 256, ht⟩
    refine ⟨⟨(i 0 : Nat) / 256, ht⟩, flush0_9 _, ?_⟩
    show i ∈ ((View.whole main_v9_1).slice (win0_9.rect (⟨(i 0 : Nat) / 256, ht⟩ : Fin grid0.N))).set
    rw [View.set_slice_whole, Rect.mem_set_unit]
    intro a
    match a with
    | ⟨0, _⟩ =>
      show win0_9.index (⟨(i 0 : Nat) / 256, ht⟩ : Fin grid0.N) 0 * 256 ≤ (i 0 : Nat) ∧ (i 0 : Nat) < win0_9.index (⟨(i 0 : Nat) / 256, ht⟩ : Fin grid0.N) 0 * 256 + 256
      rw [i0]; omega
    | ⟨1, _⟩ =>
      show win0_9.index (⟨(i 0 : Nat) / 256, ht⟩ : Fin grid0.N) 1 * 1024 ≤ (i 1 : Nat) ∧ (i 1 : Nat) < win0_9.index (⟨(i 0 : Nat) / 256, ht⟩ : Fin grid0.N) 1 * 1024 + 1024
      rw [i1]; omega

theorem final_10 (h : Args m c D) : (dats m 0 c).arrAt 10 cfg0.N = (M2 D.act : S4096x4096.Idx → EReal) := by
  refine (dats m 0 c).arrAt_eq_of_cover 10 (M2 D.act : S4096x4096.Idx → EReal) (fun t _ => ?_) fun i => ?_
  · show (cfg0.win 10).cut (grid0.coords t) ((dats m 0 c).after 10 t) = _
    rw [after0_10, (leaves m c h t.val t.isLt).o10]
    exact (blk10 t D.act).symm
  · have h0 : (i 0 : Nat) < 4096 := (i 0).isLt
    have h1 : (i 1 : Nat) < 4096 := (i 1).isLt
    have ht : (i 0 : Nat) / 256 < 16 := by omega
    have i0 : win0_10.index (⟨(i 0 : Nat) / 256, ht⟩ : Fin grid0.N) 0 = (i 0 : Nat) / 256 := (by decide +kernel : ∀ t : Fin grid0.N, win0_10.index t 0 = t.val) ⟨(i 0 : Nat) / 256, ht⟩
    have i1 : win0_10.index (⟨(i 0 : Nat) / 256, ht⟩ : Fin grid0.N) 1 = 0 := (by decide +kernel : ∀ t : Fin grid0.N, win0_10.index t 1 = 0) ⟨(i 0 : Nat) / 256, ht⟩
    refine ⟨⟨(i 0 : Nat) / 256, ht⟩, flush0_10 _, ?_⟩
    show i ∈ ((View.whole main_v9_2).slice (win0_10.rect (⟨(i 0 : Nat) / 256, ht⟩ : Fin grid0.N))).set
    rw [View.set_slice_whole, Rect.mem_set_unit]
    intro a
    match a with
    | ⟨0, _⟩ =>
      show win0_10.index (⟨(i 0 : Nat) / 256, ht⟩ : Fin grid0.N) 0 * 256 ≤ (i 0 : Nat) ∧ (i 0 : Nat) < win0_10.index (⟨(i 0 : Nat) / 256, ht⟩ : Fin grid0.N) 0 * 256 + 256
      rw [i0]; omega
    | ⟨1, _⟩ =>
      show win0_10.index (⟨(i 0 : Nat) / 256, ht⟩ : Fin grid0.N) 1 * 4096 ≤ (i 1 : Nat) ∧ (i 1 : Nat) < win0_10.index (⟨(i 0 : Nat) / 256, ht⟩ : Fin grid0.N) 1 * 4096 + 4096
      rw [i1]; omega

theorem final_11 (h : Args m c D) : (dats m 0 c).arrAt 11 cfg0.N = (M2 D.dup : S4096x4096.Idx → EReal) := by
  refine (dats m 0 c).arrAt_eq_of_cover 11 (M2 D.dup : S4096x4096.Idx → EReal) (fun t _ => ?_) fun i => ?_
  · show (cfg0.win 11).cut (grid0.coords t) ((dats m 0 c).after 11 t) = _
    rw [after0_11, (leaves m c h t.val t.isLt).o11]
    exact (blk11 t D.dup).symm
  · have h0 : (i 0 : Nat) < 4096 := (i 0).isLt
    have h1 : (i 1 : Nat) < 4096 := (i 1).isLt
    have ht : (i 0 : Nat) / 256 < 16 := by omega
    have i0 : win0_11.index (⟨(i 0 : Nat) / 256, ht⟩ : Fin grid0.N) 0 = (i 0 : Nat) / 256 := (by decide +kernel : ∀ t : Fin grid0.N, win0_11.index t 0 = t.val) ⟨(i 0 : Nat) / 256, ht⟩
    have i1 : win0_11.index (⟨(i 0 : Nat) / 256, ht⟩ : Fin grid0.N) 1 = 0 := (by decide +kernel : ∀ t : Fin grid0.N, win0_11.index t 1 = 0) ⟨(i 0 : Nat) / 256, ht⟩
    refine ⟨⟨(i 0 : Nat) / 256, ht⟩, flush0_11 _, ?_⟩
    show i ∈ ((View.whole main_v9_3).slice (win0_11.rect (⟨(i 0 : Nat) / 256, ht⟩ : Fin grid0.N))).set
    rw [View.set_slice_whole, Rect.mem_set_unit]
    intro a
    match a with
    | ⟨0, _⟩ =>
      show win0_11.index (⟨(i 0 : Nat) / 256, ht⟩ : Fin grid0.N) 0 * 256 ≤ (i 0 : Nat) ∧ (i 0 : Nat) < win0_11.index (⟨(i 0 : Nat) / 256, ht⟩ : Fin grid0.N) 0 * 256 + 256
      rw [i0]; omega
    | ⟨1, _⟩ =>
      show win0_11.index (⟨(i 0 : Nat) / 256, ht⟩ : Fin grid0.N) 1 * 4096 ≤ (i 1 : Nat) ∧ (i 1 : Nat) < win0_11.index (⟨(i 0 : Nat) / 256, ht⟩ : Fin grid0.N) 1 * 4096 + 4096
      rw [i1]; omega

theorem final_12 (h : Args m c D) : (dats m 0 c).arrAt 12 cfg0.N = (M2 D.dh2 : S4096x1024.Idx → EReal) := by
  refine (dats m 0 c).arrAt_eq_of_cover 12 (M2 D.dh2 : S4096x1024.Idx → EReal) (fun t _ => ?_) fun i => ?_
  · show (cfg0.win 12).cut (grid0.coords t) ((dats m 0 c).after 12 t) = _
    rw [after0_12, (leaves m c h t.val t.isLt).o12]
    exact (blk12 t D.dh2).symm
  · have h0 : (i 0 : Nat) < 4096 := (i 0).isLt
    have h1 : (i 1 : Nat) < 1024 := (i 1).isLt
    have ht : (i 0 : Nat) / 256 < 16 := by omega
    have i0 : win0_12.index (⟨(i 0 : Nat) / 256, ht⟩ : Fin grid0.N) 0 = (i 0 : Nat) / 256 := (by decide +kernel : ∀ t : Fin grid0.N, win0_12.index t 0 = t.val) ⟨(i 0 : Nat) / 256, ht⟩
    have i1 : win0_12.index (⟨(i 0 : Nat) / 256, ht⟩ : Fin grid0.N) 1 = 0 := (by decide +kernel : ∀ t : Fin grid0.N, win0_12.index t 1 = 0) ⟨(i 0 : Nat) / 256, ht⟩
    refine ⟨⟨(i 0 : Nat) / 256, ht⟩, flush0_12 _, ?_⟩
    show i ∈ ((View.whole main_v9_4).slice (win0_12.rect (⟨(i 0 : Nat) / 256, ht⟩ : Fin grid0.N))).set
    rw [View.set_slice_whole, Rect.mem_set_unit]
    intro a
    match a with
    | ⟨0, _⟩ =>
      show win0_12.index (⟨(i 0 : Nat) / 256, ht⟩ : Fin grid0.N) 0 * 256 ≤ (i 0 : Nat) ∧ (i 0 : Nat) < win0_12.index (⟨(i 0 : Nat) / 256, ht⟩ : Fin grid0.N) 0 * 256 + 256
      rw [i0]; omega
    | ⟨1, _⟩ =>
      show win0_12.index (⟨(i 0 : Nat) / 256, ht⟩ : Fin grid0.N) 1 * 1024 ≤ (i 1 : Nat) ∧ (i 1 : Nat) < win0_12.index (⟨(i 0 : Nat) / 256, ht⟩ : Fin grid0.N) 1 * 1024 + 1024
      rw [i1]; omega

theorem final_13 (h : Args m c D) : (dats m 0 c).arrAt 13 cfg0.N = (M2 D.dx : S4096x1024.Idx → EReal) := by
  refine (dats m 0 c).arrAt_eq_of_cover 13 (M2 D.dx : S4096x1024.Idx → EReal) (fun t _ => ?_) fun i => ?_
  · show (cfg0.win 13).cut (grid0.coords t) ((dats m 0 c).after 13 t) = _
    rw [after0_13, (leaves m c h t.val t.isLt).o13]
    exact (blk13 t D.dx).symm
  · have h0 : (i 0 : Nat) < 4096 := (i 0).isLt
    have h1 : (i 1 : Nat) < 1024 := (i 1).isLt
    have ht : (i 0 : Nat) / 256 < 16 := by omega
    have i0 : win0_13.index (⟨(i 0 : Nat) / 256, ht⟩ : Fin grid0.N) 0 = (i 0 : Nat) / 256 := (by decide +kernel : ∀ t : Fin grid0.N, win0_13.index t 0 = t.val) ⟨(i 0 : Nat) / 256, ht⟩
    have i1 : win0_13.index (⟨(i 0 : Nat) / 256, ht⟩ : Fin grid0.N) 1 = 0 := (by decide +kernel : ∀ t : Fin grid0.N, win0_13.index t 1 = 0) ⟨(i 0 : Nat) / 256, ht⟩
    refine ⟨⟨(i 0 : Nat) / 256, ht⟩, flush0_13 _, ?_⟩
    show i ∈ ((View.whole main_v9_5).slice (win0_13.rect (⟨(i 0 : Nat) / 256, ht⟩ : Fin grid0.N))).set
    rw [View.set_slice_whole, Rect.mem_set_unit]
    intro a
    match a with
    | ⟨0, _⟩ =>
      show win0_13.index (⟨(i 0 : Nat) / 256, ht⟩ : Fin grid0.N) 0 * 256 ≤ (i 0 : Nat) ∧ (i 0 : Nat) < win0_13.index (⟨(i 0 : Nat) / 256, ht⟩ : Fin grid0.N) 0 * 256 + 256
      rw [i0]; omega
    | ⟨1, _⟩ =>
      show win0_13.index (⟨(i 0 : Nat) / 256, ht⟩ : Fin grid0.N) 1 * 1024 ≤ (i 1 : Nat) ∧ (i 1 : Nat) < win0_13.index (⟨(i 0 : Nat) / 256, ht⟩ : Fin grid0.N) 1 * 1024 + 1024
      rw [i1]; omega

theorem final_14 (h : Args m c D) : (dats m 0 c).arrAt 14 cfg0.N = (M2 D.dx : S4096x1024.Idx → EReal) := by
  refine (dats m 0 c).arrAt_eq_of_cover 14 (M2 D.dx : S4096x1024.Idx → EReal) (fun t _ => ?_) fun i => ?_
  · show (cfg0.win 14).cut (grid0.coords t) ((dats m 0 c).after 14 t) = _
    rw [after0_14, (leaves m c h t.val t.isLt).o14]
    exact (blk14 t D.dx).symm
  · have h0 : (i 0 : Nat) < 4096 := (i 0).isLt
    have h1 : (i 1 : Nat) < 1024 := (i 1).isLt
    have ht : (i 0 : Nat) / 256 < 16 := by omega
    have i0 : win0_14.index (⟨(i 0 : Nat) / 256, ht⟩ : Fin grid0.N) 0 = (i 0 : Nat) / 256 := (by decide +kernel : ∀ t : Fin grid0.N, win0_14.index t 0 = t.val) ⟨(i 0 : Nat) / 256, ht⟩
    have i1 : win0_14.index (⟨(i 0 : Nat) / 256, ht⟩ : Fin grid0.N) 1 = 0 := (by decide +kernel : ∀ t : Fin grid0.N, win0_14.index t 1 = 0) ⟨(i 0 : Nat) / 256, ht⟩
    refine ⟨⟨(i 0 : Nat) / 256, ht⟩, flush0_14 _, ?_⟩
    show i ∈ ((View.whole main_v9_6).slice (win0_14.rect (⟨(i 0 : Nat) / 256, ht⟩ : Fin grid0.N))).set
    rw [View.set_slice_whole, Rect.mem_set_unit]
    intro a
    match a with
    | ⟨0, _⟩ =>
      show win0_14.index (⟨(i 0 : Nat) / 256, ht⟩ : Fin grid0.N) 0 * 256 ≤ (i 0 : Nat) ∧ (i 0 : Nat) < win0_14.index (⟨(i 0 : Nat) / 256, ht⟩ : Fin grid0.N) 0 * 256 + 256
      rw [i0]; omega
    | ⟨1, _⟩ =>
      show win0_14.index (⟨(i 0 : Nat) / 256, ht⟩ : Fin grid0.N) 1 * 1024 ≤ (i 1 : Nat) ∧ (i 1 : Nat) < win0_14.index (⟨(i 0 : Nat) / 256, ht⟩ : Fin grid0.N) 1 * 1024 + 1024
      rw [i1]; omega

theorem final_15 (h : Args m c D) : (dats m 0 c).arrAt 15 cfg0.N = (M2 D.dyp : S4096x512.Idx → EReal) := by
  refine (dats m 0 c).arrAt_eq_of_cover 15 (M2 D.dyp : S4096x512.Idx → EReal) (fun t _ => ?_) fun i => ?_
  · show (cfg0.win 15).cut (grid0.coords t) ((dats m 0 c).after 15 t) = _
    rw [after0_15, (leaves m c h t.val t.isLt).o15]
    exact (blk15 t D.dyp).symm
  · have h0 : (i 0 : Nat) < 4096 := (i 0).isLt
    have h1 : (i 1 : Nat) < 512 := (i 1).isLt
    have ht : (i 0 : Nat) / 256 < 16 := by omega
    have i0 : win0_15.index (⟨(i 0 : Nat) / 256, ht⟩ : Fin grid0.N) 0 = (i 0 : Nat) / 256 := (by decide +kernel : ∀ t : Fin grid0.N, win0_15.index t 0 = t.val) ⟨(i 0 : Nat) / 256, ht⟩
    have i1 : win0_15.index (⟨(i 0 : Nat) / 256, ht⟩ : Fin grid0.N) 1 = 0 := (by decide +kernel : ∀ t : Fin grid0.N, win0_15.index t 1 = 0) ⟨(i 0 : Nat) / 256, ht⟩
    refine ⟨⟨(i 0 : Nat) / 256, ht⟩, flush0_15 _, ?_⟩
    show i ∈ ((View.whole main_v9_7).slice (win0_15.rect (⟨(i 0 : Nat) / 256, ht⟩ : Fin grid0.N))).set
    rw [View.set_slice_whole, Rect.mem_set_unit]
    intro a
    match a with
    | ⟨0, _⟩ =>
      show win0_15.index (⟨(i 0 : Nat) / 256, ht⟩ : Fin grid0.N) 0 * 256 ≤ (i 0 : Nat) ∧ (i 0 : Nat) < win0_15.index (⟨(i 0 : Nat) / 256, ht⟩ : Fin grid0.N) 0 * 256 + 256
      rw [i0]; omega
    | ⟨1, _⟩ =>
      show win0_15.index (⟨(i 0 : Nat) / 256, ht⟩ : Fin grid0.N) 1 * 512 ≤ (i 1 : Nat) ∧ (i 1 : Nat) < win0_15.index (⟨(i 0 : Nat) / 256, ht⟩ : Fin grid0.N) 1 * 512 + 512
      rw [i1]; omega

theorem final_16 (h : Args m c D) : (dats m 0 c).arrAt 16 cfg0.N = (M2 D.dya : S4096x512.Idx → EReal) := by
  refine (dats m 0 c).arrAt_eq_of_cover 16 (M2 D.dya : S4096x512.Idx → EReal) (fun t _ => ?_) fun i => ?_
  · show (cfg0.win 16).cut (grid0.coords t) ((dats m 0 c).after 16 t) = _
    rw [after0_16, (leaves m c h t.val t.isLt).o16]
    exact (blk16 t D.dya).symm
  · have h0 : (i 0 : Nat) < 4096 := (i 0).isLt
    have h1 : (i 1 : Nat) < 512 := (i 1).isLt
    have ht : (i 0 : Nat) / 256 < 16 := by omega
    have i0 : win0_16.index (⟨(i 0 : Nat) / 256, ht⟩ : Fin grid0.N) 0 = (i 0 : Nat) / 256 := (by decide +kernel : ∀ t : Fin grid0.N, win0_16.index t 0 = t.val) ⟨(i 0 : Nat) / 256, ht⟩
    have i1 : win0_16.index (⟨(i 0 : Nat) / 256, ht⟩ : Fin grid0.N) 1 = 0 := (by decide +kernel : ∀ t : Fin grid0.N, win0_16.index t 1 = 0) ⟨(i 0 : Nat) / 256, ht⟩
    refine ⟨⟨(i 0 : Nat) / 256, ht⟩, flush0_16 _, ?_⟩
    show i ∈ ((View.whole main_v9_8).slice (win0_16.rect (⟨(i 0 : Nat) / 256, ht⟩ : Fin grid0.N))).set
    rw [View.set_slice_whole, Rect.mem_set_unit]
    intro a
    match a with
    | ⟨0, _⟩ =>
      show win0_16.index (⟨(i 0 : Nat) / 256, ht⟩ : Fin grid0.N) 0 * 256 ≤ (i 0 : Nat) ∧ (i 0 : Nat) < win0_16.index (⟨(i 0 : Nat) / 256, ht⟩ : Fin grid0.N) 0 * 256 + 256
      rw [i0]; omega
    | ⟨1, _⟩ =>
      show win0_16.index (⟨(i 0 : Nat) / 256, ht⟩ : Fin grid0.N) 1 * 512 ≤ (i 1 : Nat) ∧ (i 1 : Nat) < win0_16.index (⟨(i 0 : Nat) / 256, ht⟩ : Fin grid0.N) 1 * 512 + 512
      rw [i1]; omega

theorem final_17 (h : Args m c D) : (dats m 0 c).arrAt 17 cfg0.N = (M2 (D.sums 4096) : S8x1024.Idx → EReal) := by
  refine (dats m 0 c).arrAt_eq_of_cover 17 (M2 (D.sums 4096) : S8x1024.Idx → EReal) (fun t hf => ?_) fun i => ?_
  · have hN : t.val < 16 := t.isLt
    have ht : t.val = 15 := by have := (flush0_17 t).mp hf; omega
    show (cfg0.win 17).cut (grid0.coords t) ((dats m 0 c).after 17 t) = _
    rw [after0_17, (leaves m c h t.val t.isLt).o17, ht]
    exact (blk17 t (D.sums 4096)).symm
  · have h0 : (i 0 : Nat) < 8 := (i 0).isLt
    have h1 : (i 1 : Nat) < 1024 := (i 1).isLt
    have ht : 15 < 16 := by omega
    have i0 : win0_17.index (⟨15, ht⟩ : Fin grid0.N) 0 = 0 := (by decide +kernel : ∀ t : Fin grid0.N, win0_17.index t 0 = 0) ⟨15, ht⟩
    have i1 : win0_17.index (⟨15, ht⟩ : Fin grid0.N) 1 = 0 := (by decide +kernel : ∀ t : Fin grid0.N, win0_17.index t 1 = 0) ⟨15, ht⟩
    refine ⟨⟨15, ht⟩, (flush0_17 ⟨15, ht⟩).mpr rfl, ?_⟩
    show i ∈ ((View.whole main_v9_9).slice (win0_17.rect (⟨15, ht⟩ : Fin grid0.N))).set
    rw [View.set_slice_whole, Rect.mem_set_unit]
    intro a
    match a with
    | ⟨0, _⟩ =>
      show win0_17.index (⟨15, ht⟩ : Fin grid0.N) 0 * 8 ≤ (i 0 : Nat) ∧ (i 0 : Nat) < win0_17.index (⟨15, ht⟩ : Fin grid0.N) 0 * 8 + 8
      rw [i0]; omega
    | ⟨1, _⟩ =>
      show win0_17.index (⟨15, ht⟩ : Fin grid0.N) 1 * 1024 ≤ (i 1 : Nat) ∧ (i 1 : Nat) < win0_17.index (⟨15, ht⟩ : Fin grid0.N) 1 * 1024 + 1024
      rw [i1]; omega

end

set_option maxHeartbeats 2000000 in
/-- The run, read: the ten results, the arguments unchanged. -/
theorem run (m : (ℓ : Loc nD τ sig) → Buf (Elt Ideal) ℓ) (ρ : Dev nD → PrngReg) (D : Dev nD → Data) (H : ∀ c, Args m c (D c)) :
    θ_run defs (onTc (τ := τ) (main (F := Ideal))) ⟨m, fun _ => 0, ρ⟩ (fun r => ∀ c : Dev nD,
r.2.mem ((c.tc : Thread nD τ).loc main_v9_0) = (M2 ((D c).mixed) : S4096x1024.Idx → EReal)
      ∧ r.2.mem ((c.tc : Thread nD τ).loc main_v9_1) = (M2 ((D c).hn2) : S4096x1024.Idx → EReal)
      ∧ r.2.mem ((c.tc : Thread nD τ).loc main_v9_2) = (M2 ((D c).act) : S4096x4096.Idx → EReal)
      ∧ r.2.mem ((c.tc : Thread nD τ).loc main_v9_3) = (M2 ((D c).dup) : S4096x4096.Idx → EReal)
      ∧ r.2.mem ((c.tc : Thread nD τ).loc main_v9_4) = (M2 ((D c).dh2) : S4096x1024.Idx → EReal)
      ∧ r.2.mem ((c.tc : Thread nD τ).loc main_v9_5) = (M2 ((D c).dx) : S4096x1024.Idx → EReal)
      ∧ r.2.mem ((c.tc : Thread nD τ).loc main_v9_6) = (M2 ((D c).dx) : S4096x1024.Idx → EReal)
      ∧ r.2.mem ((c.tc : Thread nD τ).loc main_v9_7) = (M2 ((D c).dyp) : S4096x512.Idx → EReal)
      ∧ r.2.mem ((c.tc : Thread nD τ).loc main_v9_8) = (M2 ((D c).dya) : S4096x512.Idx → EReal)
      ∧ r.2.mem ((c.tc : Thread nD τ).loc main_v9_9) = (M2 ((D c).sums 4096) : S8x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 8).trans (final_8 m c (H c)),
    ((h c).1 9).trans (final_9 m c (H c)),
    ((h c).1 10).trans (final_10 m c (H c)),
    ((h c).1 11).trans (final_11 m c (H c)),
    ((h c).1 12).trans (final_12 m c (H c)),
    ((h c).1 13).trans (final_13 m c (H c)),
    ((h c).1 14).trans (final_14 m c (H c)),
    ((h c).1 15).trans (final_15 m c (H c)),
    ((h c).1 16).trans (final_16 m c (H c)),
    ((h c).1 17).trans (final_17 m c (H c)),
    ((h c).1 0).trans (((dats m 0 c).arrAt_in 0 rfl _).trans ((arrays_eq m c 0).trans (V_main_arg0 m c))),
    ((h c).1 1).trans (((dats m 0 c).arrAt_in 1 rfl _).trans ((arrays_eq m c 1).trans (V_main_arg1 m c))),
    ((h c).1 2).trans (((dats m 0 c).arrAt_in 2 rfl _).trans ((arrays_eq m c 2).trans (V_main_arg2 m c))),
    ((h c).1 3).trans (((dats m 0 c).arrAt_in 3 rfl _).trans ((arrays_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩)
    (launch_run m ρ)

end Cert.Mlp

end
-- ==== Proof.Finite.lean ====
/-
  The precondition read back: every argument is an array of real numbers, so that the arguments are the data of the
  specification.
-/
module

public import proofs.«01_k».proof.Defs
public import proofs.«01_k».proof.Proof.Gen.Pre_finite
public import proofs.«01_k».proof.Proof.Host
public import Idealize.ShloMosaic.Lib.ReduceAll

@[expose] public section

noncomputable section

namespace Cert.Mlp
open Cert.Mat
open Idealize.ShloMosaic

theorem bits_inf : Ideal.ofBits .f32 0x7F800000#32 = (⊤ : EReal) := by
  simp [Ideal.ofBits, Ideal.ieee]

/-- A number whose absolute value lies below infinity is real. -/
theorem real_of_lt (v : EReal) (h : Ideal.cmp .olt (max v (-v)) (Ideal.ofBits .f32 0x7F800000#32) = 1#1) :
    ((v.toReal : ℝ) : EReal) = v := by
  rw [bits_inf] at h
  have h' : max v (-v) < ⊤ := by
    by_contra hn
    simp [Ideal.cmp, hn] at h
  refine EReal.coe_toReal (fun e => ?_) (fun e => ?_)
  · rw [e] at h'; simp at h'
  · rw [e] at h'; simp at h'

/-- An array that passes the test has real elements. -/
theorem all_real {s : Shape} (v : FVec Ideal s .f32) (hb : Cert.Pre_finite.S_.BroadcastsInDim s (![] : Fin 0 → Fin s.rank))
    {axes : List (Fin s.rank)} (hr : s.ReducesTo axes Cert.Pre_finite.S_) (h0 : 0 < Cert.Pre_finite.S_.numel) (j : Cert.Pre_finite.S_.Idx)
    (e : Host.reduce IntOp.andi (cmpf .olt (Host.absf v) (broadcastInDim s ![] hb (constant Cert.Pre_finite.S_ .f32 0x7F800000#32)))
      (constantI Cert.Pre_finite.S_ 1 1#1) hr h0 j = 1#1) (i : s.Idx) : (((v i : EReal).toReal : ℝ) : EReal) = v i := by
  have : Subsingleton Cert.Pre_finite.S_.Idx := ⟨fun a b => funext fun k => k.elim0⟩
  exact real_of_lt (v i) (Host.reduce_andi_all _ _ hr h0 j e i)

theorem two_axes {a b : ℕ} (v : (⟨2, ![a, b]⟩ : Shape).Idx → EReal) (h : ∀ i, (((v i).toReal : ℝ) : EReal) = v i) :
    ∃ f : ℕ → ℕ → ℝ, v = M2 f := by
  refine ⟨fun p q => if hp : p < a ∧ q < b then (v (ValueIdx.ix2 ⟨p, hp.1⟩ ⟨q, hp.2⟩)).toReal else 0, funext fun i => ?_⟩
  have h0 : (i 0).val < a ∧ (i 1).val < b := ⟨(i 0).isLt, (i 1).isLt⟩
  have e : ValueIdx.ix2 ⟨(i 0).val, h0.1⟩ ⟨(i 1).val, h0.2⟩ = i := by
    funext k
    match k with
    | 0 => rfl
    | 1 => rfl
  show v i = ((dite _ _ _ : ℝ) : EReal)
  rw [dif_pos h0, e, h i]

theorem one_axis {a : ℕ} (v : (⟨1, ![a]⟩ : Shape).Idx → EReal) (h : ∀ i, (((v i).toReal : ℝ) : EReal) = v i) :
    ∃ f : ℕ → ℝ, v = M1 f := by
  refine ⟨fun p => if hp : p < a then (v (ValueIdx.ix1 ⟨p, hp⟩)).toReal else 0, funext fun i => ?_⟩
  have h0 : (i 0).val < a := (i 0).isLt
  have e : ValueIdx.ix1 ⟨(i 0).val, h0⟩ = i := by
    funext k
    match k with
    | 0 => rfl
  show v i = ((dite _ _ _ : ℝ) : EReal)
  rw [dif_pos h0, e, h i]

/-- The predicate over all the arguments. -/
theorem pre_all (a0 : FVec Ideal Cert.Pre_finite.S4096x1024 .f32) (a1 : FVec Ideal Cert.Pre_finite.S4096x512 .f32) (a2 : FVec Ideal Cert.Pre_finite.S4096x512 .f32) (a3 : FVec Ideal Cert.Pre_finite.S4096x1024 .f32) (a4 : FVec Ideal Cert.Pre_finite.S512 .f32) (a5 : FVec Ideal Cert.Pre_finite.S512 .f32) (a6 : FVec Ideal Cert.Pre_finite.S1024x1024 .f32) (a7 : FVec Ideal Cert.Pre_finite.S1024 .f32) (a8 : FVec Ideal Cert.Pre_finite.S1024x4096 .f32) (a9 : FVec Ideal Cert.Pre_finite.S4096x1024 .f32) (a10 : FVec Ideal Cert.Pre_finite.S1024 .f32)
    (h : Cert.Pre_finite.fn (F := Ideal) a0 a1 a2 a3 a4 a5 a6 a7 a8 a9 a10 = fun _ => 1#1) :
    (∀ i, (((a0 i : EReal).toReal : ℝ) : EReal) = a0 i) ∧ (∀ i, (((a1 i : EReal).toReal : ℝ) : EReal) = a1 i) ∧ (∀ i, (((a2 i : EReal).toReal : ℝ) : EReal) = a2 i) ∧ (∀ i, (((a3 i : EReal).toReal : ℝ) : EReal) = a3 i) ∧ (∀ i, (((a4 i : EReal).toReal : ℝ) : EReal) = a4 i) ∧ (∀ i, (((a5 i : EReal).toReal : ℝ) : EReal) = a5 i) ∧ (∀ i, (((a6 i : EReal).toReal : ℝ) : EReal) = a6 i) ∧ (∀ i, (((a7 i : EReal).toReal : ℝ) : EReal) = a7 i) ∧ (∀ i, (((a8 i : EReal).toReal : ℝ) : EReal) = a8 i) ∧ (∀ i, (((a9 i : EReal).toReal : ℝ) : EReal) = a9 i) ∧ (∀ i, (((a10 i : EReal).toReal : ℝ) : EReal) = a10 i) := by
  have j : Cert.Pre_finite.S_.Idx := fun k => k.elim0
  have e := congrFun h j
  unfold Cert.Pre_finite.fn Cert.Pre_finite.fn_part1 Cert.Pre_finite.fn_part2 Cert.Pre_finite.fn_part3 at e
  dsimp only at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨all_real a0 _ _ _ j e, all_real a1 _ _ _ j e1, all_real a2 _ _ _ j e2, all_real a3 _ _ _ j e3, all_real a4 _ _ _ j e4, all_real a5 _ _ _ j e5, all_real a6 _ _ _ j e6, all_real a7 _ _ _ j e7, all_real a8 _ _ _ j e8, all_real a9 _ _ _ j e9, all_real a10 _ _ _ j e10⟩

open Cert.KernelIdeal in
/-- Under the precondition the arguments are data. -/
theorem args_of_pre (m : (ℓ : Loc nD τ sig) → Buf (Elt Ideal) ℓ) (h : Cert.Pre_KernelIdeal_finite m) :
    ∃ D : Dev nD → Data, ∀ c, Args m c (D c) := by
  have one : ∀ c : Dev nD, ∃ D : Data, Args m c D := fun c => by
    obtain ⟨h0, h1, h2, h3, h4, h5, h6, h7, h8, h9, h10⟩ := pre_all _ _ _ _ _ _ _ _ _ _ _ (h c)
    obtain ⟨x, e0⟩ := two_axes _ h0
    obtain ⟨yp, e1⟩ := two_axes _ h1
    obtain ⟨ya, e2⟩ := two_axes _ h2
    obtain ⟨t, e3⟩ := two_axes _ h3
    obtain ⟨gp, e4⟩ := one_axis _ h4
    obtain ⟨ga, e5⟩ := one_axis _ h5
    obtain ⟨wo, e6⟩ := two_axes _ h6
    obtain ⟨g2, e7⟩ := one_axis _ h7
    obtain ⟨wu, e8⟩ := two_axes _ h8
    obtain ⟨wd, e9⟩ := two_axes _ h9
    obtain ⟨gf, e10⟩ := one_axis _ h10
    exact ⟨{ x := x, yp := yp, ya := ya, t := t, gp := gp, ga := ga, wo := wo, g2 := g2, wu := wu, wd := wd, gf := gf }, ⟨e0, e1, e2, e3, e4, e5, e6, e7, e8, e9, e10⟩⟩
  exact ⟨fun c => (one c).choose, fun c => (one c).choose_spec⟩

end Cert.Mlp

end
-- ==== Proof.RefValue.lean ====
/-
  The reference's operations over arrays of real numbers: what each one writes.
-/
module

public import proofs.«01_k».proof.Proof.Spec
public import proofs.«01_k».proof.Proof.Gen.ReferenceIdeal.Read

@[expose] public section

set_option maxRecDepth 16384

noncomputable section

namespace Cert.Plain
open Cert.Mat
open Cert.ReferenceIdeal Cert.ReferenceIdeal.Gen Cert.ReferenceIdeal.Read
open Idealize.ShloMosaic Idealize.ShloMosaic.TcCoe
open scoped BigOperators

section
variable {a b : ℕ} (f : ℕ → ℕ → ℝ)
theorem hostRowsum0 (h : (⟨2, ![a, b]⟩ : Shape).ReducesTo [1] ⟨1, ![a]⟩) (h' : 0 < (⟨0, ![]⟩ : Shape).numel) :
    Host.reduceAdd (F := Ideal) (φ := .f32) (M2 f : (⟨2, ![a, b]⟩ : Shape).Idx → EReal) (M0 0) h h' = M1 fun p => ∑ k ∈ Finset.range b, f p k :=
  (hostRowsum_M2 f h h' 0).trans (M1_congr fun _ _ => zero_add _)
theorem hostColsum0 (h : (⟨2, ![a, b]⟩ : Shape).ReducesTo [0] ⟨1, ![b]⟩) (h' : 0 < (⟨0, ![]⟩ : Shape).numel) :
    Host.reduceAdd (F := Ideal) (φ := .f32) (M2 f : (⟨2, ![a, b]⟩ : Shape).Idx → EReal) (M0 0) h h' = M1 fun q => ∑ k ∈ Finset.range a, f k q :=
  (hostColsum_M2 f h h' 0).trans (M1_congr fun _ _ => zero_add _)
end

/-- The derivative of the norm, written with the derivative of the inverse root, is `back`. -/
theorem back_eq (n : ℕ) (c : ℝ) (f d : ℕ → ℕ → ℝ) (hc : 0 < c) (p q : ℕ) :
    d p q * rs n c f p + f p q * ((∑ k ∈ Finset.range n, f p k * d p k) * (-1 / 2 * (rs n c f p / ((∑ k ∈ Finset.range n, f p k * f p k) / c + eps))) / c)
      + (∑ k ∈ Finset.range n, f p k * d p k) * (-1 / 2 * (rs n c f p / ((∑ k ∈ Finset.range n, f p k * f p k) / c + eps))) / c * f p q
      = back n c f d p q := by
  have hm := mean_pos f n hc p
  have e1 : (∑ k ∈ Finset.range n, d p k * hat n c f p k) = rs n c f p * ∑ k ∈ Finset.range n, f p k * d p k := by
    rw [Finset.mul_sum]
    refine Finset.sum_congr rfl fun k _ => ?_
    unfold hat
    ring
  have e2 : rs n c f p / ((∑ k ∈ Finset.range n, f p k * f p k) / c + eps) = rs n c f p * (rs n c f p * rs n c f p) := by
    have e3 : rs n c f p * rs n c f p = ((∑ k ∈ Finset.range n, f p k * f p k) / c + eps)⁻¹ := by
      unfold rs
      rw [← mul_inv, Real.mul_self_sqrt hm.le]
    rw [e3, div_eq_mul_inv]
  unfold back
  rw [e1, e2]
  unfold hat
  ring

/-- Four rows over four rows of zeros. -/
theorem stack_rows (D : Data) (h : Shape.Concatenates [S1x1024, S1x1024, S1x1024, S1x1024, S4x1024] S8x1024 0) :
    concatenate S8x1024 0 [⟨S1x1024, (M2 (row (Data.total 4096 D.dgf)) : S1x1024.Idx → EReal)⟩, ⟨S1x1024, (M2 (row (Data.total 4096 D.dg2)) : S1x1024.Idx → EReal)⟩,
      ⟨S1x1024, (M2 (row (beside 512 (row (Data.total 4096 D.dgp)) (row (Data.total 4096 D.dga)) 0)) : S1x1024.Idx → EReal)⟩,
      ⟨S1x1024, (M2 (fun _ _ => ∑ k ∈ Finset.range 4096, D.loss k) : S1x1024.Idx → EReal)⟩, ⟨S4x1024, (M2 (fun _ _ => 0) : S4x1024.Idx → EReal)⟩] h
      = M2 (D.sums 4096) := by
  funext j
  have hj0 : (j 0).val < 8 := (j 0).isLt
  have hj1 : (j 1).val < 1024 := (j 1).isLt
  show _ = ((D.sums 4096 (j 0).val (j 1).val : ℝ) : EReal)
  unfold Data.sums
  by_cases h0 : (j 0).val = 0
  · rw [if_pos h0]
    refine (concatenate_apply_piece (t := S8x1024) (0 : Fin S8x1024.rank) ([⟨S1x1024, (M2 (row (Data.total 4096 D.dgf)) : S1x1024.Idx → EReal)⟩, ⟨S1x1024, (M2 (row (Data.total 4096 D.dg2)) : S1x1024.Idx → EReal)⟩, ⟨S1x1024, (M2 (row (beside 512 (row (Data.total 4096 D.dgp)) (row (Data.total 4096 D.dga)) 0)) : S1x1024.Idx → EReal)⟩, ⟨S1x1024, (M2 (fun _ _ => ∑ k ∈ Finset.range 4096, D.loss k) : S1x1024.Idx → EReal)⟩, ⟨S4x1024, (M2 (fun _ _ => 0) : S4x1024.Idx → EReal)⟩] : List ((s : Shape) × (s.Idx → EReal))) h j 0 (by simp only [List.length_cons, List.length_nil]; omega) S1x1024 (M2 (row (Data.total 4096 D.dgf)) : S1x1024.Idx → EReal) rfl rfl 0 rfl (ValueIdx.ix2 (⟨0, Nat.one_pos⟩ : Fin 1) (⟨(j 1).val, hj1⟩ : Fin 1024)) ?_ h0.symm).trans rfl
    intro b hb
    match b with
    | 0 => exact absurd rfl hb
    | 1 => rfl
  rw [if_neg h0]
  by_cases h1 : (j 0).val = 1
  · rw [if_pos h1]
    refine (concatenate_apply_piece (t := S8x1024) (0 : Fin S8x1024.rank) ([⟨S1x1024, (M2 (row (Data.total 4096 D.dgf)) : S1x1024.Idx → EReal)⟩, ⟨S1x1024, (M2 (row (Data.total 4096 D.dg2)) : S1x1024.Idx → EReal)⟩, ⟨S1x1024, (M2 (row (beside 512 (row (Data.total 4096 D.dgp)) (row (Data.total 4096 D.dga)) 0)) : S1x1024.Idx → EReal)⟩, ⟨S1x1024, (M2 (fun _ _ => ∑ k ∈ Finset.range 4096, D.loss k) : S1x1024.Idx → EReal)⟩, ⟨S4x1024, (M2 (fun _ _ => 0) : S4x1024.Idx → EReal)⟩] : List ((s : Shape) × (s.Idx → EReal))) h j 1 (by simp only [List.length_cons, List.length_nil]; omega) S1x1024 (M2 (row (Data.total 4096 D.dg2)) : S1x1024.Idx → EReal) rfl rfl 1 rfl (ValueIdx.ix2 (⟨0, Nat.one_pos⟩ : Fin 1) (⟨(j 1).val, hj1⟩ : Fin 1024)) ?_ h1.symm).trans rfl
    intro b hb
    match b with
    | 0 => exact absurd rfl hb
    | 1 => rfl
  rw [if_neg h1]
  by_cases h2 : (j 0).val = 2
  · rw [if_pos h2]
    refine (concatenate_apply_piece (t := S8x1024) (0 : Fin S8x1024.rank) ([⟨S1x1024, (M2 (row (Data.total 4096 D.dgf)) : S1x1024.Idx → EReal)⟩, ⟨S1x1024, (M2 (row (Data.total 4096 D.dg2)) : S1x1024.Idx → EReal)⟩, ⟨S1x1024, (M2 (row (beside 512 (row (Data.total 4096 D.dgp)) (row (Data.total 4096 D.dga)) 0)) : S1x1024.Idx → EReal)⟩, ⟨S1x1024, (M2 (fun _ _ => ∑ k ∈ Finset.range 4096, D.loss k) : S1x1024.Idx → EReal)⟩, ⟨S4x1024, (M2 (fun _ _ => 0) : S4x1024.Idx → EReal)⟩] : List ((s : Shape) × (s.Idx → EReal))) h j 2 (by simp only [List.length_cons, List.length_nil]; omega) S1x1024 (M2 (row (beside 512 (row (Data.total 4096 D.dgp)) (row (Data.total 4096 D.dga)) 0)) : S1x1024.Idx → EReal) rfl rfl 2 rfl (ValueIdx.ix2 (⟨0, Nat.one_pos⟩ : Fin 1) (⟨(j 1).val, hj1⟩ : Fin 1024)) ?_ h2.symm).trans rfl
    intro b hb
    match b with
    | 0 => exact absurd rfl hb
    | 1 => rfl
  rw [if_neg h2]
  by_cases h3 : (j 0).val = 3
  · rw [if_pos h3]
    refine (concatenate_apply_piece (t := S8x1024) (0 : Fin S8x1024.rank) ([⟨S1x1024, (M2 (row (Data.total 4096 D.dgf)) : S1x1024.Idx → EReal)⟩, ⟨S1x1024, (M2 (row (Data.total 4096 D.dg2)) : S1x1024.Idx → EReal)⟩, ⟨S1x1024, (M2 (row (beside 512 (row (Data.total 4096 D.dgp)) (row (Data.total 4096 D.dga)) 0)) : S1x1024.Idx → EReal)⟩, ⟨S1x1024, (M2 (fun _ _ => ∑ k ∈ Finset.range 4096, D.loss k) : S1x1024.Idx → EReal)⟩, ⟨S4x1024, (M2 (fun _ _ => 0) : S4x1024.Idx → EReal)⟩] : List ((s : Shape) × (s.Idx → EReal))) h j 3 (by simp only [List.length_cons, List.length_nil]; omega) S1x1024 (M2 (fun _ _ => ∑ k ∈ Finset.range 4096, D.loss k) : S1x1024.Idx → EReal) rfl rfl 3 rfl (ValueIdx.ix2 (⟨0, Nat.one_pos⟩ : Fin 1) (⟨(j 1).val, hj1⟩ : Fin 1024)) ?_ h3.symm).trans rfl
    intro b hb
    match b with
    | 0 => exact absurd rfl hb
    | 1 => rfl
  rw [if_neg h3]
  have h4 : (j 0).val - 4 < 4 := by omega
  refine (concatenate_apply_piece (t := S8x1024) (0 : Fin S8x1024.rank) ([⟨S1x1024, (M2 (row (Data.total 4096 D.dgf)) : S1x1024.Idx → EReal)⟩, ⟨S1x1024, (M2 (row (Data.total 4096 D.dg2)) : S1x1024.Idx → EReal)⟩, ⟨S1x1024, (M2 (row (beside 512 (row (Data.total 4096 D.dgp)) (row (Data.total 4096 D.dga)) 0)) : S1x1024.Idx → EReal)⟩, ⟨S1x1024, (M2 (fun _ _ => ∑ k ∈ Finset.range 4096, D.loss k) : S1x1024.Idx → EReal)⟩, ⟨S4x1024, (M2 (fun _ _ => 0) : S4x1024.Idx → EReal)⟩] : List ((s : Shape) × (s.Idx → EReal))) h j 4 (by simp only [List.length_cons, List.length_nil]; omega) S4x1024 (M2 (fun _ _ => 0) : S4x1024.Idx → EReal) rfl rfl 4 rfl (ValueIdx.ix2 (⟨(j 0).val - 4, h4⟩ : Fin 4) (⟨(j 1).val, hj1⟩ : Fin 1024)) ?_ (by show 4 + ((j 0).val - 4) = (j 0).val; omega)).trans rfl
  intro b hb
  match b with
  | 0 => exact absurd rfl hb
  | 1 => rfl

variable (D : Data)

theorem r_v0 : val_main_v0 (F := Ideal)  = (M2 fun _ _ => 0 : S4096x4096.Idx → EReal) := by
  unfold val_main_v0 val_main_cst
  rw [constant_bits0 bits_0]
  rfl

theorem r_v1 : val_main_v1 (F := Ideal)  = (M2 fun _ _ => 0 : S4096x1024.Idx → EReal) := by
  unfold val_main_v1 val_main_cst_0
  rw [constant_bits0 bits_0]
  rfl

theorem r_v2 : val_main_v2 (F := Ideal) (M2 D.yp : S4096x512.Idx → EReal) = (M2 fun p q => D.yp p q * D.yp p q : S4096x512.Idx → EReal) := by
  unfold val_main_v2
  exact mulf_M2 _ _

theorem r_v3 : val_main_v3 (F := Ideal) (M2 D.yp : S4096x512.Idx → EReal) = (M1 fun p => ∑ k ∈ Finset.range 512, D.yp p k * D.yp p k : S4096.Idx → EReal) := by
  unfold val_main_v3 val_main_cst_1
  rw [r_v2, constant_bits0 bits_0]
  exact hostRowsum0 _ _ _

theorem r_v4 : val_main_v4 (F := Ideal) (M2 D.yp : S4096x512.Idx → EReal) = (M2 fun p _ => ∑ k ∈ Finset.range 512, D.yp p k * D.yp p k : S4096x1.Idx → EReal) := by
  unfold val_main_v4
  rw [r_v3]
  exact bind_col _ _

theorem r_v5 : val_main_v5 (F := Ideal)  = (M2 fun _ _ => 512 : S4096x1.Idx → EReal) := by
  unfold val_main_v5 val_main_cst_2
  rw [constant_bits0 bits_512]
  rfl

theorem r_v6 : val_main_v6 (F := Ideal) (M2 D.yp : S4096x512.Idx → EReal) = (M2 fun p _ => (∑ k ∈ Finset.range 512, D.yp p k * D.yp p k) / 512 : S4096x1.Idx → EReal) := by
  unfold val_main_v6
  rw [r_v4, r_v5]
  exact hostDivf_M2 _ _ fun _ _ => by norm_num

theorem r_v7 : val_main_v7 (F := Ideal)  = (M2 fun _ _ => eps : S4096x1.Idx → EReal) := by
  unfold val_main_v7 val_main_cst_3
  rw [constant_bits0 bits_eps]
  rfl

theorem r_v8 : val_main_v8 (F := Ideal) (M2 D.yp : S4096x512.Idx → EReal) = (M2 fun p _ => (∑ k ∈ Finset.range 512, D.yp p k * D.yp p k) / 512 + eps : S4096x1.Idx → EReal) := by
  unfold val_main_v8
  rw [r_v6, r_v7]
  exact addf_M2 _ _

theorem r_v9 : val_main_v9 (F := Ideal) (M2 D.yp : S4096x512.Idx → EReal) = (M2 (col (rs 512 512 D.yp)) : S4096x1.Idx → EReal) := by
  unfold val_main_v9
  rw [r_v8]
  exact hostRsqrt_M2 _ fun p _ => mean_pos D.yp 512 (by norm_num) p

theorem r_v10 : val_main_v10 (F := Ideal) (M2 D.yp : S4096x512.Idx → EReal) = (M2 fun p _ => rs 512 512 D.yp p / ((∑ k ∈ Finset.range 512, D.yp p k * D.yp p k) / 512 + eps) : S4096x1.Idx → EReal) := by
  unfold val_main_v10
  rw [r_v9, r_v8]
  exact hostDivf_M2 _ _ fun p _ => (mean_pos D.yp 512 (by norm_num) p).ne'

theorem r_v11 : val_main_v11 (F := Ideal)  = (M2 fun _ _ => -1 / 2 : S4096x1.Idx → EReal) := by
  unfold val_main_v11 val_main_cst_4
  rw [constant_bits0 bits_neghalf]
  rfl

theorem r_v12 : val_main_v12 (F := Ideal) (M2 D.yp : S4096x512.Idx → EReal) = (M2 fun p _ => -1 / 2 * (rs 512 512 D.yp p / ((∑ k ∈ Finset.range 512, D.yp p k * D.yp p k) / 512 + eps)) : S4096x1.Idx → EReal) := by
  unfold val_main_v12
  rw [r_v11, r_v10]
  exact mulf_M2 _ _

theorem r_v13 : val_main_v13 (F := Ideal) (M2 D.yp : S4096x512.Idx → EReal) = (M2 (col (rs 512 512 D.yp)) : S4096x512.Idx → EReal) := by
  unfold val_main_v13
  rw [r_v9]
  exact bind_col2 _ _

theorem r_v14 : val_main_v14 (F := Ideal) (M2 D.yp : S4096x512.Idx → EReal) = (M2 (hat 512 512 D.yp) : S4096x512.Idx → EReal) := by
  unfold val_main_v14
  rw [r_v13]
  exact mulf_M2 _ _

theorem r_v15 : val_main_v15 (F := Ideal) (M1 D.gp : S512.Idx → EReal) = (M2 (row D.gp) : S1x512.Idx → EReal) := by
  unfold val_main_v15
  exact bind_row _ _

theorem r_v16 : val_main_v16 (F := Ideal) (M1 D.gp : S512.Idx → EReal) = (M2 (row D.gp) : S4096x512.Idx → EReal) := by
  unfold val_main_v16
  rw [r_v15]
  exact bind_row2 _ _

theorem r_v17 : val_main_v17 (F := Ideal) (M2 D.yp : S4096x512.Idx → EReal) (M1 D.gp : S512.Idx → EReal) = (M2 (scale (hat 512 512 D.yp) D.gp) : S4096x512.Idx → EReal) := by
  unfold val_main_v17
  rw [r_v14, r_v16]
  exact mulf_M2 _ _

theorem r_v18 : val_main_v18 (F := Ideal) (M2 D.ya : S4096x512.Idx → EReal) = (M2 fun p q => D.ya p q * D.ya p q : S4096x512.Idx → EReal) := by
  unfold val_main_v18
  exact mulf_M2 _ _

theorem r_v19 : val_main_v19 (F := Ideal) (M2 D.ya : S4096x512.Idx → EReal) = (M1 fun p => ∑ k ∈ Finset.range 512, D.ya p k * D.ya p k : S4096.Idx → EReal) := by
  unfold val_main_v19 val_main_cst_5
  rw [r_v18, constant_bits0 bits_0]
  exact hostRowsum0 _ _ _

theorem r_v20 : val_main_v20 (F := Ideal) (M2 D.ya : S4096x512.Idx → EReal) = (M2 fun p _ => ∑ k ∈ Finset.range 512, D.ya p k * D.ya p k : S4096x1.Idx → EReal) := by
  unfold val_main_v20
  rw [r_v19]
  exact bind_col _ _

theorem r_v21 : val_main_v21 (F := Ideal)  = (M2 fun _ _ => 512 : S4096x1.Idx → EReal) := by
  unfold val_main_v21 val_main_cst_6
  rw [constant_bits0 bits_512]
  rfl

theorem r_v22 : val_main_v22 (F := Ideal) (M2 D.ya : S4096x512.Idx → EReal) = (M2 fun p _ => (∑ k ∈ Finset.range 512, D.ya p k * D.ya p k) / 512 : S4096x1.Idx → EReal) := by
  unfold val_main_v22
  rw [r_v20, r_v21]
  exact hostDivf_M2 _ _ fun _ _ => by norm_num

theorem r_v23 : val_main_v23 (F := Ideal)  = (M2 fun _ _ => eps : S4096x1.Idx → EReal) := by
  unfold val_main_v23 val_main_cst_7
  rw [constant_bits0 bits_eps]
  rfl

theorem r_v24 : val_main_v24 (F := Ideal) (M2 D.ya : S4096x512.Idx → EReal) = (M2 fun p _ => (∑ k ∈ Finset.range 512, D.ya p k * D.ya p k) / 512 + eps : S4096x1.Idx → EReal) := by
  unfold val_main_v24
  rw [r_v22, r_v23]
  exact addf_M2 _ _

theorem r_v25 : val_main_v25 (F := Ideal) (M2 D.ya : S4096x512.Idx → EReal) = (M2 (col (rs 512 512 D.ya)) : S4096x1.Idx → EReal) := by
  unfold val_main_v25
  rw [r_v24]
  exact hostRsqrt_M2 _ fun p _ => mean_pos D.ya 512 (by norm_num) p

theorem r_v26 : val_main_v26 (F := Ideal) (M2 D.ya : S4096x512.Idx → EReal) = (M2 fun p _ => rs 512 512 D.ya p / ((∑ k ∈ Finset.range 512, D.ya p k * D.ya p k) / 512 + eps) : S4096x1.Idx → EReal) := by
  unfold val_main_v26
  rw [r_v25, r_v24]
  exact hostDivf_M2 _ _ fun p _ => (mean_pos D.ya 512 (by norm_num) p).ne'

theorem r_v27 : val_main_v27 (F := Ideal)  = (M2 fun _ _ => -1 / 2 : S4096x1.Idx → EReal) := by
  unfold val_main_v27 val_main_cst_8
  rw [constant_bits0 bits_neghalf]
  rfl

theorem r_v28 : val_main_v28 (F := Ideal) (M2 D.ya : S4096x512.Idx → EReal) = (M2 fun p _ => -1 / 2 * (rs 512 512 D.ya p / ((∑ k ∈ Finset.range 512, D.ya p k * D.ya p k) / 512 + eps)) : S4096x1.Idx → EReal) := by
  unfold val_main_v28
  rw [r_v27, r_v26]
  exact mulf_M2 _ _

theorem r_v29 : val_main_v29 (F := Ideal) (M2 D.ya : S4096x512.Idx → EReal) = (M2 (col (rs 512 512 D.ya)) : S4096x512.Idx → EReal) := by
  unfold val_main_v29
  rw [r_v25]
  exact bind_col2 _ _

theorem r_v30 : val_main_v30 (F := Ideal) (M2 D.ya : S4096x512.Idx → EReal) = (M2 (hat 512 512 D.ya) : S4096x512.Idx → EReal) := by
  unfold val_main_v30
  rw [r_v29]
  exact mulf_M2 _ _

theorem r_v31 : val_main_v31 (F := Ideal) (M1 D.ga : S512.Idx → EReal) = (M2 (row D.ga) : S1x512.Idx → EReal) := by
  unfold val_main_v31
  exact bind_row _ _

theorem r_v32 : val_main_v32 (F := Ideal) (M1 D.ga : S512.Idx → EReal) = (M2 (row D.ga) : S4096x512.Idx → EReal) := by
  unfold val_main_v32
  rw [r_v31]
  exact bind_row2 _ _

theorem r_v33 : val_main_v33 (F := Ideal) (M2 D.ya : S4096x512.Idx → EReal) (M1 D.ga : S512.Idx → EReal) = (M2 (scale (hat 512 512 D.ya) D.ga) : S4096x512.Idx → EReal) := by
  unfold val_main_v33
  rw [r_v30, r_v32]
  exact mulf_M2 _ _

theorem r_v34 : val_main_v34 (F := Ideal) (M2 D.yp : S4096x512.Idx → EReal) (M2 D.ya : S4096x512.Idx → EReal) (M1 D.gp : S512.Idx → EReal) (M1 D.ga : S512.Idx → EReal) = (M2 D.mixed : S4096x1024.Idx → EReal) := by
  unfold val_main_v34
  rw [r_v17, r_v33]
  exact concatenate_M2 _ _ _

theorem r_v35 : val_main_v35 (F := Ideal) (M2 D.yp : S4096x512.Idx → EReal) (M2 D.ya : S4096x512.Idx → EReal) (M1 D.gp : S512.Idx → EReal) (M1 D.ga : S512.Idx → EReal) (M2 D.wo : S1024x1024.Idx → EReal) = (M2 (prod 1024 D.mixed D.wo) : S4096x1024.Idx → EReal) := by
  unfold val_main_v35
  rw [r_v34]
  exact dot_M2 _ _ none _

theorem r_v36 : val_main_v36 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 D.res : S4096x1024.Idx → EReal) := by
  unfold val_main_v36
  rw [r_v35]
  exact addf_M2 _ _

theorem r_v37 : val_main_v37 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p q => D.res p q * D.res p q : S4096x1024.Idx → EReal) := by
  unfold val_main_v37
  rw [r_v36]
  exact mulf_M2 _ _

theorem r_v38 : val_main_v38 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M1 fun p => ∑ k ∈ Finset.range 1024, D.res p k * D.res p k : S4096.Idx → EReal) := by
  unfold val_main_v38 val_main_cst_9
  rw [r_v37, constant_bits0 bits_0]
  exact hostRowsum0 _ _ _

theorem r_v39 : val_main_v39 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p _ => ∑ k ∈ Finset.range 1024, D.res p k * D.res p k : S4096x1.Idx → EReal) := by
  unfold val_main_v39
  rw [r_v38]
  exact bind_col _ _

theorem r_v40 : val_main_v40 (F := Ideal)  = (M2 fun _ _ => 1024 : S4096x1.Idx → EReal) := by
  unfold val_main_v40 val_main_cst_10
  rw [constant_bits0 bits_1024]
  rfl

theorem r_v41 : val_main_v41 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p _ => (∑ k ∈ Finset.range 1024, D.res p k * D.res p k) / 1024 : S4096x1.Idx → EReal) := by
  unfold val_main_v41
  rw [r_v39, r_v40]
  exact hostDivf_M2 _ _ fun _ _ => by norm_num

theorem r_v42 : val_main_v42 (F := Ideal)  = (M2 fun _ _ => eps : S4096x1.Idx → EReal) := by
  unfold val_main_v42 val_main_cst_11
  rw [constant_bits0 bits_eps]
  rfl

theorem r_v43 : val_main_v43 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p _ => (∑ k ∈ Finset.range 1024, D.res p k * D.res p k) / 1024 + eps : S4096x1.Idx → EReal) := by
  unfold val_main_v43
  rw [r_v41, r_v42]
  exact addf_M2 _ _

theorem r_v44 : val_main_v44 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 (col (rs 1024 1024 D.res)) : S4096x1.Idx → EReal) := by
  unfold val_main_v44
  rw [r_v43]
  exact hostRsqrt_M2 _ fun p _ => mean_pos D.res 1024 (by norm_num) p

theorem r_v45 : val_main_v45 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p _ => rs 1024 1024 D.res p / ((∑ k ∈ Finset.range 1024, D.res p k * D.res p k) / 1024 + eps) : S4096x1.Idx → EReal) := by
  unfold val_main_v45
  rw [r_v44, r_v43]
  exact hostDivf_M2 _ _ fun p _ => (mean_pos D.res 1024 (by norm_num) p).ne'

theorem r_v46 : val_main_v46 (F := Ideal)  = (M2 fun _ _ => -1 / 2 : S4096x1.Idx → EReal) := by
  unfold val_main_v46 val_main_cst_12
  rw [constant_bits0 bits_neghalf]
  rfl

theorem r_v47 : val_main_v47 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 fun p _ => -1 / 2 * (rs 1024 1024 D.res p / ((∑ k ∈ Finset.range 1024, D.res p k * D.res p k) / 1024 + eps)) : S4096x1.Idx → EReal) := by
  unfold val_main_v47
  rw [r_v46, r_v45]
  exact mulf_M2 _ _

theorem r_v48 : val_main_v48 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 (col (rs 1024 1024 D.res)) : S4096x1024.Idx → EReal) := by
  unfold val_main_v48
  rw [r_v44]
  exact bind_col2 _ _

theorem r_v49 : val_main_v49 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 (hat 1024 1024 D.res) : S4096x1024.Idx → EReal) := by
  unfold val_main_v49
  rw [r_v36, r_v48]
  exact mulf_M2 _ _

theorem r_v50 : val_main_v50 (F := Ideal) (M1 D.g2 : S1024.Idx → EReal) = (M2 (row D.g2) : S1x1024.Idx → EReal) := by
  unfold val_main_v50
  exact bind_row _ _

theorem r_v51 : val_main_v51 (F := Ideal) (M1 D.g2 : S1024.Idx → EReal) = (M2 (row D.g2) : S4096x1024.Idx → EReal) := by
  unfold val_main_v51
  rw [r_v50]
  exact bind_row2 _ _

theorem r_v52 : val_main_v52 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) = (M2 D.hn2 : S4096x1024.Idx → EReal) := by
  unfold val_main_v52
  rw [r_v49, r_v51]
  exact mulf_M2 _ _

theorem r_v53 : val_main_v53 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 D.up : S4096x4096.Idx → EReal) := by
  unfold val_main_v53
  rw [r_v52]
  exact dot_M2 _ _ none _

theorem r_v54 : val_main_v54 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 D.up : S4096x4096.Idx → EReal) := by
  unfold val_main_v54
  rw [r_v53, r_v0]
  exact (addf_M2 _ _).trans (M2_congr fun p q _ _ => add_zero _)

theorem r_call0_v0 : val_main_call0_v0 (F := Ideal)  = (M2 fun _ _ => 0 : S4096x4096.Idx → EReal) := by
  unfold val_main_call0_v0 val_main_call0_cst
  rw [constant_bits0 bits_0]
  rfl

theorem r_v55 : val_main_v55 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 D.relu : S4096x4096.Idx → EReal) := by
  unfold val_main_v55
  rw [r_v54, r_call0_v0]
  exact maximumf_M2 _ _

theorem r_v56 : val_main_v56 (F := Ideal)  = (M2 fun _ _ => 0 : S4096x4096.Idx → EReal) := by
  unfold val_main_v56 val_main_cst_13
  rw [constant_bits0 bits_0]
  rfl

theorem r_v59 : val_main_v59 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 D.act : S4096x4096.Idx → EReal) := by
  unfold val_main_v59
  rw [r_v55]
  exact mulf_M2 _ _

theorem r_v60 : val_main_v60 (F := Ideal)  = (M2 fun _ _ => 2 : S4096x4096.Idx → EReal) := by
  unfold val_main_v60 val_main_cst_15
  rw [constant_bits0 bits_2]
  rfl

theorem r_v61 : val_main_v61 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 fun p q => 2 * D.relu p q : S4096x4096.Idx → EReal) := by
  unfold val_main_v61
  rw [r_v60, r_v55]
  exact mulf_M2 _ _

theorem r_v62 : val_main_v62 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 (prod 4096 D.act D.wd) : S4096x1024.Idx → EReal) := by
  unfold val_main_v62
  rw [r_v59]
  exact dot_M2 _ _ none _

theorem r_v63 : val_main_v63 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 D.hid : S4096x1024.Idx → EReal) := by
  unfold val_main_v63
  rw [r_v36, r_v62]
  exact addf_M2 _ _

theorem r_v64 : val_main_v64 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 D.hid : S4096x1024.Idx → EReal) := by
  unfold val_main_v64
  rw [r_v63, r_v1]
  exact (addf_M2 _ _).trans (M2_congr fun p q _ _ => add_zero _)

theorem r_v65 : val_main_v65 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p q => D.hid p q * D.hid p q : S4096x1024.Idx → EReal) := by
  unfold val_main_v65
  rw [r_v64]
  exact mulf_M2 _ _

theorem r_v66 : val_main_v66 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M1 fun p => ∑ k ∈ Finset.range 1024, D.hid p k * D.hid p k : S4096.Idx → EReal) := by
  unfold val_main_v66 val_main_cst_16
  rw [r_v65, constant_bits0 bits_0]
  exact hostRowsum0 _ _ _

theorem r_v67 : val_main_v67 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p _ => ∑ k ∈ Finset.range 1024, D.hid p k * D.hid p k : S4096x1.Idx → EReal) := by
  unfold val_main_v67
  rw [r_v66]
  exact bind_col _ _

theorem r_v68 : val_main_v68 (F := Ideal)  = (M2 fun _ _ => 1024 : S4096x1.Idx → EReal) := by
  unfold val_main_v68 val_main_cst_17
  rw [constant_bits0 bits_1024]
  rfl

theorem r_v69 : val_main_v69 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p _ => (∑ k ∈ Finset.range 1024, D.hid p k * D.hid p k) / 1024 : S4096x1.Idx → EReal) := by
  unfold val_main_v69
  rw [r_v67, r_v68]
  exact hostDivf_M2 _ _ fun _ _ => by norm_num

theorem r_v70 : val_main_v70 (F := Ideal)  = (M2 fun _ _ => eps : S4096x1.Idx → EReal) := by
  unfold val_main_v70 val_main_cst_18
  rw [constant_bits0 bits_eps]
  rfl

theorem r_v71 : val_main_v71 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p _ => (∑ k ∈ Finset.range 1024, D.hid p k * D.hid p k) / 1024 + eps : S4096x1.Idx → EReal) := by
  unfold val_main_v71
  rw [r_v69, r_v70]
  exact addf_M2 _ _

theorem r_v72 : val_main_v72 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 (col (rs 1024 1024 D.hid)) : S4096x1.Idx → EReal) := by
  unfold val_main_v72
  rw [r_v71]
  exact hostRsqrt_M2 _ fun p _ => mean_pos D.hid 1024 (by norm_num) p

theorem r_v73 : val_main_v73 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p _ => rs 1024 1024 D.hid p / ((∑ k ∈ Finset.range 1024, D.hid p k * D.hid p k) / 1024 + eps) : S4096x1.Idx → EReal) := by
  unfold val_main_v73
  rw [r_v72, r_v71]
  exact hostDivf_M2 _ _ fun p _ => (mean_pos D.hid 1024 (by norm_num) p).ne'

theorem r_v74 : val_main_v74 (F := Ideal)  = (M2 fun _ _ => -1 / 2 : S4096x1.Idx → EReal) := by
  unfold val_main_v74 val_main_cst_19
  rw [constant_bits0 bits_neghalf]
  rfl

theorem r_v75 : val_main_v75 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 fun p _ => -1 / 2 * (rs 1024 1024 D.hid p / ((∑ k ∈ Finset.range 1024, D.hid p k * D.hid p k) / 1024 + eps)) : S4096x1.Idx → EReal) := by
  unfold val_main_v75
  rw [r_v74, r_v73]
  exact mulf_M2 _ _

theorem r_v76 : val_main_v76 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 (col (rs 1024 1024 D.hid)) : S4096x1024.Idx → EReal) := by
  unfold val_main_v76
  rw [r_v72]
  exact bind_col2 _ _

theorem r_v77 : val_main_v77 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 (hat 1024 1024 D.hid) : S4096x1024.Idx → EReal) := by
  unfold val_main_v77
  rw [r_v64, r_v76]
  exact mulf_M2 _ _

theorem r_v78 : val_main_v78 (F := Ideal) (M1 D.gf : S1024.Idx → EReal) = (M2 (row D.gf) : S1x1024.Idx → EReal) := by
  unfold val_main_v78
  exact bind_row _ _

theorem r_v79 : val_main_v79 (F := Ideal) (M1 D.gf : S1024.Idx → EReal) = (M2 (row D.gf) : S4096x1024.Idx → EReal) := by
  unfold val_main_v79
  rw [r_v78]
  exact bind_row2 _ _

theorem r_v80 : val_main_v80 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (scale (hat 1024 1024 D.hid) D.gf) : S4096x1024.Idx → EReal) := by
  unfold val_main_v80
  rw [r_v77, r_v79]
  exact mulf_M2 _ _

theorem r_v81 : val_main_v81 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.diff : S4096x1024.Idx → EReal) := by
  unfold val_main_v81
  rw [r_v80]
  exact subf_M2 _ _

theorem r_v82 : val_main_v82 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.diff p q * D.diff p q : S4096x1024.Idx → EReal) := by
  unfold val_main_v82
  rw [r_v81]
  exact mulf_M2 _ _

theorem r_v83 : val_main_v83 (F := Ideal)  = (M2 fun _ _ => 2 : S4096x1024.Idx → EReal) := by
  unfold val_main_v83 val_main_cst_20
  rw [constant_bits0 bits_2]
  rfl

theorem r_v84 : val_main_v84 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => 2 * D.diff p q : S4096x1024.Idx → EReal) := by
  unfold val_main_v84
  rw [r_v83, r_v81]
  exact mulf_M2 _ _

theorem r_v85 : val_main_v85 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => ∑ k ∈ Finset.range 1024, D.diff p k * D.diff p k : S4096.Idx → EReal) := by
  unfold val_main_v85 val_main_cst_21
  rw [r_v82, constant_bits0 bits_0]
  exact hostRowsum0 _ _ _

theorem r_v86 : val_main_v86 (F := Ideal)  = (M1 fun _ => 1024 : S4096.Idx → EReal) := by
  unfold val_main_v86 val_main_cst_22
  rw [constant_bits0 bits_1024]
  rfl

theorem r_v87 : val_main_v87 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => (∑ k ∈ Finset.range 1024, D.diff p k * D.diff p k) / 1024 : S4096.Idx → EReal) := by
  unfold val_main_v87
  rw [r_v85, r_v86]
  exact hostDivf_M1 _ _ fun _ => by norm_num

theorem r_v88 : val_main_v88 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M0 (∑ p ∈ Finset.range 4096, (∑ k ∈ Finset.range 1024, D.diff p k * D.diff p k) / 1024) : S_.Idx → EReal) := by
  unfold val_main_v88 val_main_cst_23
  rw [r_v87, constant_bits0 bits_0]
  exact (hostSum_M1 _ _ _ _).trans (by rw [zero_add])

theorem r_v89 : val_main_v89 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M0 (∑ p ∈ Finset.range 4096, D.loss p) : S_.Idx → EReal) := by
  unfold val_main_v89 val_main_cst_24
  rw [r_v88, constant_bits0 bits_half]
  exact (mulf_M0 _ _).trans (congrArg M0 (Finset.mul_sum _ _ _))

theorem r_v90 : val_main_v90 (F := Ideal)  = (M0 (1 / 2 * 1) : S_.Idx → EReal) := by
  unfold val_main_v90 val_main_cst_25 val_main_cst_26
  rw [constant_bits0 bits_half, constant_bits0 bits_1]
  exact mulf_M0 _ _

theorem r_v91 : val_main_v91 (F := Ideal)  = (M1 fun _ => 1 / 2 * 1 : S4096.Idx → EReal) := by
  unfold val_main_v91
  rw [r_v90]
  rfl

theorem r_v92 : val_main_v92 (F := Ideal)  = (M1 fun _ => 1024 : S4096.Idx → EReal) := by
  unfold val_main_v92 val_main_cst_27
  rw [constant_bits0 bits_1024]
  rfl

theorem r_v93 : val_main_v93 (F := Ideal)  = (M1 fun _ => 1 / 2 * 1 / 1024 : S4096.Idx → EReal) := by
  unfold val_main_v93
  rw [r_v91, r_v92]
  exact hostDivf_M1 _ _ fun _ => by norm_num

theorem r_v94 : val_main_v94 (F := Ideal)  = (M2 fun _ _ => 1 / 2 * 1 / 1024 : S4096x1024.Idx → EReal) := by
  unfold val_main_v94
  rw [r_v93]
  exact bind_col _ _

theorem r_v95 : val_main_v95 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dy : S4096x1024.Idx → EReal) := by
  unfold val_main_v95
  rw [r_v94, r_v84]
  refine (mulf_M2 _ _).trans (M2_congr fun p q _ _ => ?_)
  unfold Data.dy
  ring

theorem r_v96 : val_main_v96 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.dy p q * hat 1024 1024 D.hid p q : S4096x1024.Idx → EReal) := by
  unfold val_main_v96
  rw [r_v77, r_v95]
  exact (mulf_M2 _ _).trans (M2_congr fun p q _ _ => mul_comm _ _)

theorem r_v97 : val_main_v97 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dgf) : S1024.Idx → EReal) := by
  unfold val_main_v97 val_main_cst_28
  rw [r_v96, constant_bits0 bits_0]
  exact hostColsum0 _ _ _

theorem r_v98 : val_main_v98 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dgf)) : S1x1024.Idx → EReal) := by
  unfold val_main_v98
  rw [r_v97]
  exact shapeCast_M1_row _ _

theorem r_v99 : val_main_v99 (F := Ideal) (M1 D.gf : S1024.Idx → EReal) = (M2 (row D.gf) : S4096x1024.Idx → EReal) := by
  unfold val_main_v99
  rw [r_v78]
  exact bind_row2 _ _

theorem r_v100 : val_main_v100 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (scale D.dy D.gf) : S4096x1024.Idx → EReal) := by
  unfold val_main_v100
  rw [r_v95, r_v99]
  exact mulf_M2 _ _

theorem r_v101 : val_main_v101 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dgf) : S1024.Idx → EReal) := by
  unfold val_main_v101 val_main_cst_29
  rw [r_v98, constant_bits0 bits_0]
  exact (hostColsum0 _ _ _).trans (M1_congr fun q _ => Finset.sum_range_one _)

theorem r_v102 : val_main_v102 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.hid p q * scale D.dy D.gf p q : S4096x1024.Idx → EReal) := by
  unfold val_main_v102
  rw [r_v64, r_v100]
  exact mulf_M2 _ _

theorem r_v103 : val_main_v103 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => ∑ k ∈ Finset.range 1024, D.hid p k * scale D.dy D.gf p k : S4096.Idx → EReal) := by
  unfold val_main_v103 val_main_cst_30
  rw [r_v102, constant_bits0 bits_0]
  exact hostRowsum0 _ _ _

theorem r_v104 : val_main_v104 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => ∑ k ∈ Finset.range 1024, D.hid p k * scale D.dy D.gf p k : S4096x1.Idx → EReal) := by
  unfold val_main_v104
  rw [r_v103]
  exact shapeCast_M1_col _ _

theorem r_v105 : val_main_v105 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) = (M2 (col (rs 1024 1024 D.hid)) : S4096x1024.Idx → EReal) := by
  unfold val_main_v105
  rw [r_v72]
  exact bind_col2 _ _

theorem r_v106 : val_main_v106 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale D.dy D.gf p q * rs 1024 1024 D.hid p : S4096x1024.Idx → EReal) := by
  unfold val_main_v106
  rw [r_v100, r_v105]
  exact mulf_M2 _ _

theorem r_v107 : val_main_v107 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.hid p k * scale D.dy D.gf p k) * (-1 / 2 * (rs 1024 1024 D.hid p / ((∑ k ∈ Finset.range 1024, D.hid p k * D.hid p k) / 1024 + eps))) : S4096x1.Idx → EReal) := by
  unfold val_main_v107
  rw [r_v104, r_v75]
  exact mulf_M2 _ _

theorem r_v108 : val_main_v108 (F := Ideal)  = (M2 fun _ _ => 1024 : S4096x1.Idx → EReal) := by
  unfold val_main_v108 val_main_cst_31
  rw [constant_bits0 bits_1024]
  rfl

theorem r_v109 : val_main_v109 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.hid p k * scale D.dy D.gf p k) * (-1 / 2 * (rs 1024 1024 D.hid p / ((∑ k ∈ Finset.range 1024, D.hid p k * D.hid p k) / 1024 + eps))) / 1024 : S4096x1.Idx → EReal) := by
  unfold val_main_v109
  rw [r_v107, r_v108]
  exact hostDivf_M2 _ _ fun _ _ => by norm_num

theorem r_v110 : val_main_v110 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => (∑ k ∈ Finset.range 1024, D.hid p k * scale D.dy D.gf p k) * (-1 / 2 * (rs 1024 1024 D.hid p / ((∑ k ∈ Finset.range 1024, D.hid p k * D.hid p k) / 1024 + eps))) / 1024 : S4096.Idx → EReal) := by
  unfold val_main_v110 val_main_cst_32
  rw [r_v109, constant_bits0 bits_0]
  exact (hostRowsum0 _ _ _).trans (M1_congr fun p _ => Finset.sum_range_one _)

theorem r_v111 : val_main_v111 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.hid p k * scale D.dy D.gf p k) * (-1 / 2 * (rs 1024 1024 D.hid p / ((∑ k ∈ Finset.range 1024, D.hid p k * D.hid p k) / 1024 + eps))) / 1024 : S4096x1024.Idx → EReal) := by
  unfold val_main_v111
  rw [r_v110]
  exact bind_col _ _

theorem r_v112 : val_main_v112 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.hid p q * ((∑ k ∈ Finset.range 1024, D.hid p k * scale D.dy D.gf p k) * (-1 / 2 * (rs 1024 1024 D.hid p / ((∑ k ∈ Finset.range 1024, D.hid p k * D.hid p k) / 1024 + eps))) / 1024) : S4096x1024.Idx → EReal) := by
  unfold val_main_v112
  rw [r_v64, r_v111]
  exact mulf_M2 _ _

theorem r_v113 : val_main_v113 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale D.dy D.gf p q * rs 1024 1024 D.hid p + D.hid p q * ((∑ k ∈ Finset.range 1024, D.hid p k * scale D.dy D.gf p k) * (-1 / 2 * (rs 1024 1024 D.hid p / ((∑ k ∈ Finset.range 1024, D.hid p k * D.hid p k) / 1024 + eps))) / 1024) : S4096x1024.Idx → EReal) := by
  unfold val_main_v113
  rw [r_v106, r_v112]
  exact addf_M2 _ _

theorem r_v114 : val_main_v114 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => (∑ k ∈ Finset.range 1024, D.hid p k * scale D.dy D.gf p k) * (-1 / 2 * (rs 1024 1024 D.hid p / ((∑ k ∈ Finset.range 1024, D.hid p k * D.hid p k) / 1024 + eps))) / 1024 * D.hid p q : S4096x1024.Idx → EReal) := by
  unfold val_main_v114
  rw [r_v111, r_v64]
  exact mulf_M2 _ _

theorem r_v115 : val_main_v115 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dh2 : S4096x1024.Idx → EReal) := by
  unfold val_main_v115
  rw [r_v113, r_v114]
  exact (addf_M2 _ _).trans (M2_congr fun p q _ _ => back_eq 1024 1024 D.hid (scale D.dy D.gf) (by norm_num) p q)

theorem r_v116 : val_main_v116 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (prodT 1024 D.dh2 D.wd) : S4096x4096.Idx → EReal) := by
  unfold val_main_v116
  rw [r_v115]
  exact dotT_M2 _ _ none _

theorem r_v117 : val_main_v117 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => prodT 1024 D.dh2 D.wd p q * (2 * D.relu p q) : S4096x4096.Idx → EReal) := by
  unfold val_main_v117
  rw [r_v116, r_v61]
  exact mulf_M2 _ _

theorem r_v118 : val_main_v118 (F := Ideal)  = (M2 fun _ _ => 0 : S4096x4096.Idx → EReal) := by
  unfold val_main_v118 val_main_cst_33
  rw [constant_bits0 bits_0]
  rfl

theorem r_v119 : val_main_v119 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dup : S4096x4096.Idx → EReal) := by
  unfold val_main_v119 val_main_v57
  rw [r_v54, r_v56, r_v117, r_v118]
  refine (select_M2 _ _ _).trans (M2_congr fun p q _ _ => ?_)
  by_cases h : 0 < D.up p q
  · exact if_pos h
  · rw [if_neg h]
    show (0 : ℝ) = prodT 1024 D.dh2 D.wd p q * (2 * max (D.up p q) 0)
    rw [max_eq_right (not_lt.1 h)]; ring

theorem r_v120 : val_main_v120 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dhn2 : S4096x1024.Idx → EReal) := by
  unfold val_main_v120
  rw [r_v119]
  exact dotT_M2 _ _ none _

theorem r_v121 : val_main_v121 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.dhn2 p q * hat 1024 1024 D.res p q : S4096x1024.Idx → EReal) := by
  unfold val_main_v121
  rw [r_v49, r_v120]
  exact (mulf_M2 _ _).trans (M2_congr fun p q _ _ => mul_comm _ _)

theorem r_v122 : val_main_v122 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dg2) : S1024.Idx → EReal) := by
  unfold val_main_v122 val_main_cst_34
  rw [r_v121, constant_bits0 bits_0]
  exact hostColsum0 _ _ _

theorem r_v123 : val_main_v123 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dg2)) : S1x1024.Idx → EReal) := by
  unfold val_main_v123
  rw [r_v122]
  exact shapeCast_M1_row _ _

theorem r_v124 : val_main_v124 (F := Ideal) (M1 D.g2 : S1024.Idx → EReal) = (M2 (row D.g2) : S4096x1024.Idx → EReal) := by
  unfold val_main_v124
  rw [r_v50]
  exact bind_row2 _ _

theorem r_v125 : val_main_v125 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (scale D.dhn2 D.g2) : S4096x1024.Idx → EReal) := by
  unfold val_main_v125
  rw [r_v120, r_v124]
  exact mulf_M2 _ _

theorem r_v126 : val_main_v126 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dg2) : S1024.Idx → EReal) := by
  unfold val_main_v126 val_main_cst_35
  rw [r_v123, constant_bits0 bits_0]
  exact (hostColsum0 _ _ _).trans (M1_congr fun q _ => Finset.sum_range_one _)

theorem r_v127 : val_main_v127 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.res p q * scale D.dhn2 D.g2 p q : S4096x1024.Idx → EReal) := by
  unfold val_main_v127
  rw [r_v36, r_v125]
  exact mulf_M2 _ _

theorem r_v128 : val_main_v128 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => ∑ k ∈ Finset.range 1024, D.res p k * scale D.dhn2 D.g2 p k : S4096.Idx → EReal) := by
  unfold val_main_v128 val_main_cst_36
  rw [r_v127, constant_bits0 bits_0]
  exact hostRowsum0 _ _ _

theorem r_v129 : val_main_v129 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => ∑ k ∈ Finset.range 1024, D.res p k * scale D.dhn2 D.g2 p k : S4096x1.Idx → EReal) := by
  unfold val_main_v129
  rw [r_v128]
  exact shapeCast_M1_col _ _

theorem r_v130 : val_main_v130 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) = (M2 (col (rs 1024 1024 D.res)) : S4096x1024.Idx → EReal) := by
  unfold val_main_v130
  rw [r_v44]
  exact bind_col2 _ _

theorem r_v131 : val_main_v131 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale D.dhn2 D.g2 p q * rs 1024 1024 D.res p : S4096x1024.Idx → EReal) := by
  unfold val_main_v131
  rw [r_v125, r_v130]
  exact mulf_M2 _ _

theorem r_v132 : val_main_v132 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.dh2 p q + scale D.dhn2 D.g2 p q * rs 1024 1024 D.res p : S4096x1024.Idx → EReal) := by
  unfold val_main_v132
  rw [r_v115, r_v131]
  exact addf_M2 _ _

theorem r_v133 : val_main_v133 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.res p k * scale D.dhn2 D.g2 p k) * (-1 / 2 * (rs 1024 1024 D.res p / ((∑ k ∈ Finset.range 1024, D.res p k * D.res p k) / 1024 + eps))) : S4096x1.Idx → EReal) := by
  unfold val_main_v133
  rw [r_v129, r_v47]
  exact mulf_M2 _ _

theorem r_v134 : val_main_v134 (F := Ideal)  = (M2 fun _ _ => 1024 : S4096x1.Idx → EReal) := by
  unfold val_main_v134 val_main_cst_37
  rw [constant_bits0 bits_1024]
  rfl

theorem r_v135 : val_main_v135 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.res p k * scale D.dhn2 D.g2 p k) * (-1 / 2 * (rs 1024 1024 D.res p / ((∑ k ∈ Finset.range 1024, D.res p k * D.res p k) / 1024 + eps))) / 1024 : S4096x1.Idx → EReal) := by
  unfold val_main_v135
  rw [r_v133, r_v134]
  exact hostDivf_M2 _ _ fun _ _ => by norm_num

theorem r_v136 : val_main_v136 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => (∑ k ∈ Finset.range 1024, D.res p k * scale D.dhn2 D.g2 p k) * (-1 / 2 * (rs 1024 1024 D.res p / ((∑ k ∈ Finset.range 1024, D.res p k * D.res p k) / 1024 + eps))) / 1024 : S4096.Idx → EReal) := by
  unfold val_main_v136 val_main_cst_38
  rw [r_v135, constant_bits0 bits_0]
  exact (hostRowsum0 _ _ _).trans (M1_congr fun p _ => Finset.sum_range_one _)

theorem r_v137 : val_main_v137 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 1024, D.res p k * scale D.dhn2 D.g2 p k) * (-1 / 2 * (rs 1024 1024 D.res p / ((∑ k ∈ Finset.range 1024, D.res p k * D.res p k) / 1024 + eps))) / 1024 : S4096x1024.Idx → EReal) := by
  unfold val_main_v137
  rw [r_v136]
  exact bind_col _ _

theorem r_v138 : val_main_v138 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.res p q * ((∑ k ∈ Finset.range 1024, D.res p k * scale D.dhn2 D.g2 p k) * (-1 / 2 * (rs 1024 1024 D.res p / ((∑ k ∈ Finset.range 1024, D.res p k * D.res p k) / 1024 + eps))) / 1024) : S4096x1024.Idx → EReal) := by
  unfold val_main_v138
  rw [r_v36, r_v137]
  exact mulf_M2 _ _

theorem r_v139 : val_main_v139 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.dh2 p q + scale D.dhn2 D.g2 p q * rs 1024 1024 D.res p + D.res p q * ((∑ k ∈ Finset.range 1024, D.res p k * scale D.dhn2 D.g2 p k) * (-1 / 2 * (rs 1024 1024 D.res p / ((∑ k ∈ Finset.range 1024, D.res p k * D.res p k) / 1024 + eps))) / 1024) : S4096x1024.Idx → EReal) := by
  unfold val_main_v139
  rw [r_v132, r_v138]
  exact addf_M2 _ _

theorem r_v140 : val_main_v140 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => (∑ k ∈ Finset.range 1024, D.res p k * scale D.dhn2 D.g2 p k) * (-1 / 2 * (rs 1024 1024 D.res p / ((∑ k ∈ Finset.range 1024, D.res p k * D.res p k) / 1024 + eps))) / 1024 * D.res p q : S4096x1024.Idx → EReal) := by
  unfold val_main_v140
  rw [r_v137, r_v36]
  exact mulf_M2 _ _

theorem r_v141 : val_main_v141 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dx : S4096x1024.Idx → EReal) := by
  unfold val_main_v141
  rw [r_v139, r_v140]
  refine (addf_M2 _ _).trans (M2_congr fun p q _ _ => ?_)
  rw [add_assoc, add_assoc, ← add_assoc (scale D.dhn2 D.g2 p q * _)]
  exact congrArg (D.dh2 p q + ·) (back_eq 1024 1024 D.res (scale D.dhn2 D.g2) (by norm_num) p q)

theorem r_v142 : val_main_v142 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dmix : S4096x1024.Idx → EReal) := by
  unfold val_main_v142
  rw [r_v141]
  exact dotT_M2 _ _ none _

theorem r_v143 : val_main_v143 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (cols 0 D.dmix) : S4096x512.Idx → EReal) := by
  unfold val_main_v143
  rw [r_v142]
  exact slice_M2 _ _

theorem r_v144 : val_main_v144 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (cols 512 D.dmix) : S4096x512.Idx → EReal) := by
  unfold val_main_v144
  rw [r_v142]
  exact slice_M2 _ _

theorem r_v145 : val_main_v145 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => cols 512 D.dmix p q * hat 512 512 D.ya p q : S4096x512.Idx → EReal) := by
  unfold val_main_v145
  rw [r_v30, r_v144]
  exact (mulf_M2 _ _).trans (M2_congr fun p q _ _ => mul_comm _ _)

theorem r_v146 : val_main_v146 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dga) : S512.Idx → EReal) := by
  unfold val_main_v146 val_main_cst_39
  rw [r_v145, constant_bits0 bits_0]
  exact hostColsum0 _ _ _

theorem r_v147 : val_main_v147 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dga)) : S1x512.Idx → EReal) := by
  unfold val_main_v147
  rw [r_v146]
  exact shapeCast_M1_row _ _

theorem r_v148 : val_main_v148 (F := Ideal) (M1 D.ga : S512.Idx → EReal) = (M2 (row D.ga) : S4096x512.Idx → EReal) := by
  unfold val_main_v148
  rw [r_v31]
  exact bind_row2 _ _

theorem r_v149 : val_main_v149 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (scale (cols 512 D.dmix) D.ga) : S4096x512.Idx → EReal) := by
  unfold val_main_v149
  rw [r_v144, r_v148]
  exact mulf_M2 _ _

theorem r_v150 : val_main_v150 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dga) : S512.Idx → EReal) := by
  unfold val_main_v150 val_main_cst_40
  rw [r_v147, constant_bits0 bits_0]
  exact (hostColsum0 _ _ _).trans (M1_congr fun q _ => Finset.sum_range_one _)

theorem r_v151 : val_main_v151 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.ya p q * scale (cols 512 D.dmix) D.ga p q : S4096x512.Idx → EReal) := by
  unfold val_main_v151
  rw [r_v149]
  exact mulf_M2 _ _

theorem r_v152 : val_main_v152 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => ∑ k ∈ Finset.range 512, D.ya p k * scale (cols 512 D.dmix) D.ga p k : S4096.Idx → EReal) := by
  unfold val_main_v152 val_main_cst_41
  rw [r_v151, constant_bits0 bits_0]
  exact hostRowsum0 _ _ _

theorem r_v153 : val_main_v153 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => ∑ k ∈ Finset.range 512, D.ya p k * scale (cols 512 D.dmix) D.ga p k : S4096x1.Idx → EReal) := by
  unfold val_main_v153
  rw [r_v152]
  exact shapeCast_M1_col _ _

theorem r_v154 : val_main_v154 (F := Ideal) (M2 D.ya : S4096x512.Idx → EReal) = (M2 (col (rs 512 512 D.ya)) : S4096x512.Idx → EReal) := by
  unfold val_main_v154
  rw [r_v25]
  exact bind_col2 _ _

theorem r_v155 : val_main_v155 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale (cols 512 D.dmix) D.ga p q * rs 512 512 D.ya p : S4096x512.Idx → EReal) := by
  unfold val_main_v155
  rw [r_v149, r_v154]
  exact mulf_M2 _ _

theorem r_v156 : val_main_v156 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.ya p k * scale (cols 512 D.dmix) D.ga p k) * (-1 / 2 * (rs 512 512 D.ya p / ((∑ k ∈ Finset.range 512, D.ya p k * D.ya p k) / 512 + eps))) : S4096x1.Idx → EReal) := by
  unfold val_main_v156
  rw [r_v153, r_v28]
  exact mulf_M2 _ _

theorem r_v157 : val_main_v157 (F := Ideal)  = (M2 fun _ _ => 512 : S4096x1.Idx → EReal) := by
  unfold val_main_v157 val_main_cst_42
  rw [constant_bits0 bits_512]
  rfl

theorem r_v158 : val_main_v158 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.ya p k * scale (cols 512 D.dmix) D.ga p k) * (-1 / 2 * (rs 512 512 D.ya p / ((∑ k ∈ Finset.range 512, D.ya p k * D.ya p k) / 512 + eps))) / 512 : S4096x1.Idx → EReal) := by
  unfold val_main_v158
  rw [r_v156, r_v157]
  exact hostDivf_M2 _ _ fun _ _ => by norm_num

theorem r_v159 : val_main_v159 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => (∑ k ∈ Finset.range 512, D.ya p k * scale (cols 512 D.dmix) D.ga p k) * (-1 / 2 * (rs 512 512 D.ya p / ((∑ k ∈ Finset.range 512, D.ya p k * D.ya p k) / 512 + eps))) / 512 : S4096.Idx → EReal) := by
  unfold val_main_v159 val_main_cst_43
  rw [r_v158, constant_bits0 bits_0]
  exact (hostRowsum0 _ _ _).trans (M1_congr fun p _ => Finset.sum_range_one _)

theorem r_v160 : val_main_v160 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.ya p k * scale (cols 512 D.dmix) D.ga p k) * (-1 / 2 * (rs 512 512 D.ya p / ((∑ k ∈ Finset.range 512, D.ya p k * D.ya p k) / 512 + eps))) / 512 : S4096x512.Idx → EReal) := by
  unfold val_main_v160
  rw [r_v159]
  exact bind_col _ _

theorem r_v161 : val_main_v161 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.ya p q * ((∑ k ∈ Finset.range 512, D.ya p k * scale (cols 512 D.dmix) D.ga p k) * (-1 / 2 * (rs 512 512 D.ya p / ((∑ k ∈ Finset.range 512, D.ya p k * D.ya p k) / 512 + eps))) / 512) : S4096x512.Idx → EReal) := by
  unfold val_main_v161
  rw [r_v160]
  exact mulf_M2 _ _

theorem r_v162 : val_main_v162 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale (cols 512 D.dmix) D.ga p q * rs 512 512 D.ya p + D.ya p q * ((∑ k ∈ Finset.range 512, D.ya p k * scale (cols 512 D.dmix) D.ga p k) * (-1 / 2 * (rs 512 512 D.ya p / ((∑ k ∈ Finset.range 512, D.ya p k * D.ya p k) / 512 + eps))) / 512) : S4096x512.Idx → EReal) := by
  unfold val_main_v162
  rw [r_v155, r_v161]
  exact addf_M2 _ _

theorem r_v163 : val_main_v163 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => (∑ k ∈ Finset.range 512, D.ya p k * scale (cols 512 D.dmix) D.ga p k) * (-1 / 2 * (rs 512 512 D.ya p / ((∑ k ∈ Finset.range 512, D.ya p k * D.ya p k) / 512 + eps))) / 512 * D.ya p q : S4096x512.Idx → EReal) := by
  unfold val_main_v163
  rw [r_v160]
  exact mulf_M2 _ _

theorem r_v164 : val_main_v164 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dya : S4096x512.Idx → EReal) := by
  unfold val_main_v164
  rw [r_v162, r_v163]
  exact (addf_M2 _ _).trans (M2_congr fun p q _ _ => back_eq 512 512 D.ya (scale (cols 512 D.dmix) D.ga) (by norm_num) p q)

theorem r_v165 : val_main_v165 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => cols 0 D.dmix p q * hat 512 512 D.yp p q : S4096x512.Idx → EReal) := by
  unfold val_main_v165
  rw [r_v14, r_v143]
  exact (mulf_M2 _ _).trans (M2_congr fun p q _ _ => mul_comm _ _)

theorem r_v166 : val_main_v166 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dgp) : S512.Idx → EReal) := by
  unfold val_main_v166 val_main_cst_44
  rw [r_v165, constant_bits0 bits_0]
  exact hostColsum0 _ _ _

theorem r_v167 : val_main_v167 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dgp)) : S1x512.Idx → EReal) := by
  unfold val_main_v167
  rw [r_v166]
  exact shapeCast_M1_row _ _

theorem r_v168 : val_main_v168 (F := Ideal) (M1 D.gp : S512.Idx → EReal) = (M2 (row D.gp) : S4096x512.Idx → EReal) := by
  unfold val_main_v168
  rw [r_v15]
  exact bind_row2 _ _

theorem r_v169 : val_main_v169 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (scale (cols 0 D.dmix) D.gp) : S4096x512.Idx → EReal) := by
  unfold val_main_v169
  rw [r_v143, r_v168]
  exact mulf_M2 _ _

theorem r_v170 : val_main_v170 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 (Data.total 4096 D.dgp) : S512.Idx → EReal) := by
  unfold val_main_v170 val_main_cst_45
  rw [r_v167, constant_bits0 bits_0]
  exact (hostColsum0 _ _ _).trans (M1_congr fun q _ => Finset.sum_range_one _)

theorem r_v171 : val_main_v171 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.yp p q * scale (cols 0 D.dmix) D.gp p q : S4096x512.Idx → EReal) := by
  unfold val_main_v171
  rw [r_v169]
  exact mulf_M2 _ _

theorem r_v172 : val_main_v172 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => ∑ k ∈ Finset.range 512, D.yp p k * scale (cols 0 D.dmix) D.gp p k : S4096.Idx → EReal) := by
  unfold val_main_v172 val_main_cst_46
  rw [r_v171, constant_bits0 bits_0]
  exact hostRowsum0 _ _ _

theorem r_v173 : val_main_v173 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => ∑ k ∈ Finset.range 512, D.yp p k * scale (cols 0 D.dmix) D.gp p k : S4096x1.Idx → EReal) := by
  unfold val_main_v173
  rw [r_v172]
  exact shapeCast_M1_col _ _

theorem r_v174 : val_main_v174 (F := Ideal) (M2 D.yp : S4096x512.Idx → EReal) = (M2 (col (rs 512 512 D.yp)) : S4096x512.Idx → EReal) := by
  unfold val_main_v174
  rw [r_v9]
  exact bind_col2 _ _

theorem r_v175 : val_main_v175 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale (cols 0 D.dmix) D.gp p q * rs 512 512 D.yp p : S4096x512.Idx → EReal) := by
  unfold val_main_v175
  rw [r_v169, r_v174]
  exact mulf_M2 _ _

theorem r_v176 : val_main_v176 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.yp p k * scale (cols 0 D.dmix) D.gp p k) * (-1 / 2 * (rs 512 512 D.yp p / ((∑ k ∈ Finset.range 512, D.yp p k * D.yp p k) / 512 + eps))) : S4096x1.Idx → EReal) := by
  unfold val_main_v176
  rw [r_v173, r_v12]
  exact mulf_M2 _ _

theorem r_v177 : val_main_v177 (F := Ideal)  = (M2 fun _ _ => 512 : S4096x1.Idx → EReal) := by
  unfold val_main_v177 val_main_cst_47
  rw [constant_bits0 bits_512]
  rfl

theorem r_v178 : val_main_v178 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.yp p k * scale (cols 0 D.dmix) D.gp p k) * (-1 / 2 * (rs 512 512 D.yp p / ((∑ k ∈ Finset.range 512, D.yp p k * D.yp p k) / 512 + eps))) / 512 : S4096x1.Idx → EReal) := by
  unfold val_main_v178
  rw [r_v176, r_v177]
  exact hostDivf_M2 _ _ fun _ _ => by norm_num

theorem r_v179 : val_main_v179 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun p => (∑ k ∈ Finset.range 512, D.yp p k * scale (cols 0 D.dmix) D.gp p k) * (-1 / 2 * (rs 512 512 D.yp p / ((∑ k ∈ Finset.range 512, D.yp p k * D.yp p k) / 512 + eps))) / 512 : S4096.Idx → EReal) := by
  unfold val_main_v179 val_main_cst_48
  rw [r_v178, constant_bits0 bits_0]
  exact (hostRowsum0 _ _ _).trans (M1_congr fun p _ => Finset.sum_range_one _)

theorem r_v180 : val_main_v180 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p _ => (∑ k ∈ Finset.range 512, D.yp p k * scale (cols 0 D.dmix) D.gp p k) * (-1 / 2 * (rs 512 512 D.yp p / ((∑ k ∈ Finset.range 512, D.yp p k * D.yp p k) / 512 + eps))) / 512 : S4096x512.Idx → EReal) := by
  unfold val_main_v180
  rw [r_v179]
  exact bind_col _ _

theorem r_v181 : val_main_v181 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => D.yp p q * ((∑ k ∈ Finset.range 512, D.yp p k * scale (cols 0 D.dmix) D.gp p k) * (-1 / 2 * (rs 512 512 D.yp p / ((∑ k ∈ Finset.range 512, D.yp p k * D.yp p k) / 512 + eps))) / 512) : S4096x512.Idx → EReal) := by
  unfold val_main_v181
  rw [r_v180]
  exact mulf_M2 _ _

theorem r_v182 : val_main_v182 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => scale (cols 0 D.dmix) D.gp p q * rs 512 512 D.yp p + D.yp p q * ((∑ k ∈ Finset.range 512, D.yp p k * scale (cols 0 D.dmix) D.gp p k) * (-1 / 2 * (rs 512 512 D.yp p / ((∑ k ∈ Finset.range 512, D.yp p k * D.yp p k) / 512 + eps))) / 512) : S4096x512.Idx → EReal) := by
  unfold val_main_v182
  rw [r_v175, r_v181]
  exact addf_M2 _ _

theorem r_v183 : val_main_v183 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun p q => (∑ k ∈ Finset.range 512, D.yp p k * scale (cols 0 D.dmix) D.gp p k) * (-1 / 2 * (rs 512 512 D.yp p / ((∑ k ∈ Finset.range 512, D.yp p k * D.yp p k) / 512 + eps))) / 512 * D.yp p q : S4096x512.Idx → EReal) := by
  unfold val_main_v183
  rw [r_v180]
  exact mulf_M2 _ _

theorem r_v184 : val_main_v184 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dyp : S4096x512.Idx → EReal) := by
  unfold val_main_v184
  rw [r_v182, r_v183]
  exact (addf_M2 _ _).trans (M2_congr fun p q _ _ => back_eq 512 512 D.yp (scale (cols 0 D.dmix) D.gp) (by norm_num) p q)

theorem r_v185 : val_main_v185 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dgf)) : S1x1024.Idx → EReal) := by
  unfold val_main_v185
  rw [r_v101]
  exact bind_row _ _

theorem r_v186 : val_main_v186 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (Data.total 4096 D.dg2)) : S1x1024.Idx → EReal) := by
  unfold val_main_v186
  rw [r_v126]
  exact bind_row _ _

theorem r_v187 : val_main_v187 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M1 fun q => beside 512 (row (Data.total 4096 D.dgp)) (row (Data.total 4096 D.dga)) 0 q : S1024.Idx → EReal) := by
  unfold val_main_v187
  rw [r_v170, r_v150]
  exact concatenate_M1 _ _ _

theorem r_v188 : val_main_v188 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (row (beside 512 (row (Data.total 4096 D.dgp)) (row (Data.total 4096 D.dga)) 0)) : S1x1024.Idx → EReal) := by
  unfold val_main_v188
  rw [r_v187]
  exact bind_row _ _

theorem r_v189 : val_main_v189 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 fun _ _ => ∑ k ∈ Finset.range 4096, D.loss k : S1x1024.Idx → EReal) := by
  unfold val_main_v189
  rw [r_v89]
  rfl

theorem r_v190 : val_main_v190 (F := Ideal)  = (M2 fun _ _ => 0 : S4x1024.Idx → EReal) := by
  unfold val_main_v190 val_main_cst_49
  rw [constant_bits0 bits_0]
  rfl

theorem r_v191 : val_main_v191 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 (D.sums 4096) : S8x1024.Idx → EReal) := by
  unfold val_main_v191
  rw [r_v185, r_v186, r_v188, r_v189, r_v190]
  exact stack_rows _ _

theorem r_v192 : val_main_v192 (F := Ideal) (M2 D.yp : S4096x512.Idx → EReal) (M2 D.ya : S4096x512.Idx → EReal) (M1 D.gp : S512.Idx → EReal) (M1 D.ga : S512.Idx → EReal) = (M2 D.mixed : S4096x1024.Idx → EReal) := by
  unfold val_main_v192
  rw [r_v34]
  rfl

theorem r_v193 : val_main_v193 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) = (M2 D.hn2 : S4096x1024.Idx → EReal) := by
  unfold val_main_v193
  rw [r_v52]
  rfl

theorem r_v194 : val_main_v194 (F := Ideal) (M2 D.x : S4096x1024.Idx → EReal) (M2 D.yp : S4096x512.Idx → EReal) (M2 D.ya : S4096x512.Idx → EReal) (M1 D.gp : S512.Idx → EReal) (M1 D.ga : S512.Idx → EReal) (M2 D.wo : S1024x1024.Idx → EReal) (M1 D.g2 : S1024.Idx → EReal) (M2 D.wu : S1024x4096.Idx → EReal) = (M2 D.act : S4096x4096.Idx → EReal) := by
  unfold val_main_v194
  rw [r_v59]
  rfl

theorem r_v195 : val_main_v195 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dup : S4096x4096.Idx → EReal) := by
  unfold val_main_v195
  rw [r_v119]
  rfl

theorem r_v196 : val_main_v196 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dh2 : S4096x1024.Idx → EReal) := by
  unfold val_main_v196
  rw [r_v115]
  rfl

theorem r_v197 : val_main_v197 (F := Ideal) (M2 D.x : S4096x1024.Idx → EReal) (M2 D.yp : S4096x512.Idx → EReal) (M2 D.ya : S4096x512.Idx → EReal) (M2 D.t : S4096x1024.Idx → EReal) (M1 D.gp : S512.Idx → EReal) (M1 D.ga : S512.Idx → EReal) (M2 D.wo : S1024x1024.Idx → EReal) (M1 D.g2 : S1024.Idx → EReal) (M2 D.wu : S1024x4096.Idx → EReal) (M2 D.wd : S4096x1024.Idx → EReal) (M1 D.gf : S1024.Idx → EReal) = (M2 D.dx : S4096x1024.Idx → EReal) := by
  unfold val_main_v197
  rw [r_v141]
  rfl

end Cert.Plain

end
-- ==== Proof.RefRun.lean ====
/-
  The reference's run: its results are the stages of the specification when its arguments are the data.
-/
module

public import proofs.«01_k».proof.Proof.RefValue
public import proofs.«01_k».proof.Proof.Gen.ReferenceIdeal.Run
public import Idealize.ShloMosaic.Lib.Claim
public import Idealize.ShloMosaic.Lib.Quiescent

@[expose] public section

set_option maxRecDepth 16384

noncomputable section

namespace Cert.Plain
open Cert.Mat
open Cert.ReferenceIdeal Cert.ReferenceIdeal.Gen Cert.ReferenceIdeal.Read
open Idealize.ShloMosaic Idealize.ShloMosaic.TcCoe Idealize.SL.Sem Idealize.ShloMosaic.StableHlo

variable (m : (ℓ : Loc nD τ sig) → Buf (Elt Ideal) ℓ)

/-- The reference's arguments on one device are the data. -/
structure Args (c : Dev nD) (D : Data) : Prop where
  x : launchContents m c (Proc.devRef .tc main_arg0) = (M2 D.x : S4096x1024.Idx → EReal)
  yp : launchContents m c (Proc.devRef .tc main_arg1) = (M2 D.yp : S4096x512.Idx → EReal)
  ya : launchContents m c (Proc.devRef .tc main_arg2) = (M2 D.ya : S4096x512.Idx → EReal)
  t : launchContents m c (Proc.devRef .tc main_arg3) = (M2 D.t : S4096x1024.Idx → EReal)
  gp : launchContents m c (Proc.devRef .tc main_arg4) = (M1 D.gp : S512.Idx → EReal)
  ga : launchContents m c (Proc.devRef .tc main_arg5) = (M1 D.ga : S512.Idx → EReal)
  wo : launchContents m c (Proc.devRef .tc main_arg6) = (M2 D.wo : S1024x1024.Idx → EReal)
  g2 : launchContents m c (Proc.devRef .tc main_arg7) = (M1 D.g2 : S1024.Idx → EReal)
  wu : launchContents m c (Proc.devRef .tc main_arg8) = (M2 D.wu : S1024x4096.Idx → EReal)
  wd : launchContents m c (Proc.devRef .tc main_arg9) = (M2 D.wd : S4096x1024.Idx → EReal)
  gf : launchContents m c (Proc.devRef .tc main_arg10) = (M1 D.gf : S1024.Idx → EReal)

variable {m}
theorem end_v192 {c : Dev nD} {D : Data} (h : Args m c D) :
    val_main_v192 (F := Ideal) (launchContents m c (Proc.devRef .tc main_arg1)) (launchContents m c (Proc.devRef .tc main_arg2)) (launchContents m c (Proc.devRef .tc main_arg4)) (launchContents m c (Proc.devRef .tc main_arg5))
      = (M2 (D.mixed) : S4096x1024.Idx → EReal) := by
  rw [h.yp, h.ya, h.gp, h.ga]
  exact r_v192 D

theorem end_v193 {c : Dev nD} {D : Data} (h : Args m c D) :
    val_main_v193 (F := Ideal) (launchContents m c (Proc.devRef .tc main_arg0)) (launchContents m c (Proc.devRef .tc main_arg1)) (launchContents m c (Proc.devRef .tc main_arg2)) (launchContents m c (Proc.devRef .tc main_arg4)) (launchContents m c (Proc.devRef .tc main_arg5)) (launchContents m c (Proc.devRef .tc main_arg6)) (launchContents m c (Proc.devRef .tc main_arg7))
      = (M2 (D.hn2) : S4096x1024.Idx → EReal) := by
  rw [h.x, h.yp, h.ya, h.gp, h.ga, h.wo, h.g2]
  exact r_v193 D

theorem end_v194 {c : Dev nD} {D : Data} (h : Args m c D) :
    val_main_v194 (F := Ideal) (launchContents m c (Proc.devRef .tc main_arg0)) (launchContents m c (Proc.devRef .tc main_arg1)) (launchContents m c (Proc.devRef .tc main_arg2)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8))
      = (M2 (D.act) : S4096x4096.Idx → EReal) := by
  rw [h.x, h.yp, h.ya, h.gp, h.ga, h.wo, h.g2, h.wu]
  exact r_v194 D

theorem end_v195 {c : Dev nD} {D : Data} (h : Args m c D) :
    val_main_v195 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dup) : S4096x4096.Idx → EReal) := by
  rw [h.x, h.yp, h.ya, h.t, h.gp, h.ga, h.wo, h.g2, h.wu, h.wd, h.gf]
  exact r_v195 D

theorem end_v196 {c : Dev nD} {D : Data} (h : Args m c D) :
    val_main_v196 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dh2) : S4096x1024.Idx → EReal) := by
  rw [h.x, h.yp, h.ya, h.t, h.gp, h.ga, h.wo, h.g2, h.wu, h.wd, h.gf]
  exact r_v196 D

theorem end_v141 {c : Dev nD} {D : Data} (h : Args m c D) :
    val_main_v141 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dx) : S4096x1024.Idx → EReal) := by
  rw [h.x, h.yp, h.ya, h.t, h.gp, h.ga, h.wo, h.g2, h.wu, h.wd, h.gf]
  exact r_v141 D

theorem end_v197 {c : Dev nD} {D : Data} (h : Args m c D) :
    val_main_v197 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dx) : S4096x1024.Idx → EReal) := by
  rw [h.x, h.yp, h.ya, h.t, h.gp, h.ga, h.wo, h.g2, h.wu, h.wd, h.gf]
  exact r_v197 D

theorem end_v184 {c : Dev nD} {D : Data} (h : Args m c D) :
    val_main_v184 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dyp) : S4096x512.Idx → EReal) := by
  rw [h.x, h.yp, h.ya, h.t, h.gp, h.ga, h.wo, h.g2, h.wu, h.wd, h.gf]
  exact r_v184 D

theorem end_v164 {c : Dev nD} {D : Data} (h : Args m c D) :
    val_main_v164 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.dya) : S4096x512.Idx → EReal) := by
  rw [h.x, h.yp, h.ya, h.t, h.gp, h.ga, h.wo, h.g2, h.wu, h.wd, h.gf]
  exact r_v164 D

theorem end_v191 {c : Dev nD} {D : Data} (h : Args m c D) :
    val_main_v191 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))
      = (M2 (D.sums 4096) : S8x1024.Idx → EReal) := by
  rw [h.x, h.yp, h.ya, h.t, h.gp, h.ga, h.wo, h.g2, h.wu, h.wd, h.gf]
  exact r_v191 D

/-- The reference's run over the data. -/
theorem run (ρ : Dev nD → PrngReg) (D : Dev nD → Data) (H : ∀ c, Args m c (D c)) :
    θ_run defs (onTc (τ := τ) (main (F := Ideal))) ⟨m, fun _ => 0, ρ⟩ fun r => ∀ c : Dev nD,
      r.2.mem ((c.tc : Thread nD τ).loc main_v192) = (M2 ((D c).mixed) : S4096x1024.Idx → EReal)
      ∧ r.2.mem ((c.tc : Thread nD τ).loc main_v193) = (M2 ((D c).hn2) : S4096x1024.Idx → EReal)
      ∧ r.2.mem ((c.tc : Thread nD τ).loc main_v194) = (M2 ((D c).act) : S4096x4096.Idx → EReal)
      ∧ r.2.mem ((c.tc : Thread nD τ).loc main_v195) = (M2 ((D c).dup) : S4096x4096.Idx → EReal)
      ∧ r.2.mem ((c.tc : Thread nD τ).loc main_v196) = (M2 ((D c).dh2) : S4096x1024.Idx → EReal)
      ∧ r.2.mem ((c.tc : Thread nD τ).loc main_v141) = (M2 ((D c).dx) : S4096x1024.Idx → EReal)
      ∧ r.2.mem ((c.tc : Thread nD τ).loc main_v197) = (M2 ((D c).dx) : S4096x1024.Idx → EReal)
      ∧ r.2.mem ((c.tc : Thread nD τ).loc main_v184) = (M2 ((D c).dyp) : S4096x512.Idx → EReal)
      ∧ r.2.mem ((c.tc : Thread nD τ).loc main_v164) = (M2 ((D c).dya) : S4096x512.Idx → EReal)
      ∧ r.2.mem ((c.tc : Thread nD τ).loc main_v191) = (M2 ((D c).sums 4096) : S8x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, h2, h3, h4, h5, h6, h7, h8, h9, a0, a1, a2, a3, a4, a5, a6, a7, a8, a9, a10⟩ := h c
    refine ⟨?_, ?_, ?_, ?_, ?_, ?_, ?_, ?_, ?_, ?_, a0, a1, a2, a3, a4, a5, a6, a7, a8, a9, a10⟩
    · exact h0.trans ((val_main_v192_eq (launchContents m c)).trans (end_v192 (H c)))
    · exact h1.trans ((val_main_v193_eq (launchContents m c)).trans (end_v193 (H c)))
    · exact h2.trans ((val_main_v194_eq (launchContents m c)).trans (end_v194 (H c)))
    · exact h3.trans ((val_main_v195_eq (launchContents m c)).trans (end_v195 (H c)))
    · exact h4.trans ((val_main_v196_eq (launchContents m c)).trans (end_v196 (H c)))
    · exact h5.trans ((val_main_v141_eq (launchContents m c)).trans (end_v141 (H c)))
    · exact h6.trans ((val_main_v197_eq (launchContents m c)).trans (end_v197 (H c)))
    · exact h7.trans ((val_main_v184_eq (launchContents m c)).trans (end_v184 (H c)))
    · exact h8.trans ((val_main_v164_eq (launchContents m c)).trans (end_v164 (H c)))
    · exact h9.trans ((val_main_v191_eq (launchContents m c)).trans (end_v191 (H c)))
    ) (Cert.ReferenceIdeal.Value.run m ρ)

variable (m) in
/-- The reference leaves its arguments; it declares no semaphore. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun r h => ⟨fun c => (h c).2.2.2.2.2.2.2.2.2.2, sem_eq_zero_of_no_sems (by decide) r.2⟩)
    (Cert.ReferenceIdeal.Value.run m ρ)

end Cert.Plain

end
-- ==== Proof.BwdStage.lean ====
/-
  The gradient back through the input projection and the first norm, over arrays of reals: what it is, and what each
  value the kernel's body computes is, at the data of the block.
-/
module

public import proofs.«01_k».proof.Proof.Stage
public import proofs.«01_k».proof.Proof.Gen.Kernel2Ideal.Skeleton

@[expose] public section

set_option maxRecDepth 16384

noncomputable section

namespace Cert.Bwd

open Cert.Mat
open Cert.Kernel2Ideal Cert.Kernel2Ideal.Gen
open Idealize.ShloMosaic
open scoped BigOperators

/-- The arguments: the gradients of the four parts of the projection, its weight, the block's input, the gradient of
    the residual and the gain. -/
structure Data where
  du : ℕ → ℕ → ℝ
  dq : ℕ → ℕ → ℝ
  dk : ℕ → ℕ → ℝ
  dv : ℕ → ℕ → ℝ
  w : ℕ → ℕ → ℝ
  x : ℕ → ℕ → ℝ
  dh : ℕ → ℕ → ℝ
  g : ℕ → ℝ

namespace Data
variable (D : Data)

/-- The data from row `n` on. -/
def shift (n : ℕ) : Data :=
  { D with du := rows n D.du, dq := rows n D.dq, dk := rows n D.dk, dv := rows n D.dv, x := rows n D.x, dh := rows n D.dh }

/-- The gradient of the projection: its four parts side by side. -/
def dproj : ℕ → ℕ → ℝ := beside 512 D.du (beside 512 D.dq (beside 512 D.dk D.dv))
/-- The gradient of the norm's output, the first `n` of the projection's columns taken. -/
def dpart (n : ℕ) : ℕ → ℕ → ℝ := prodT n D.dproj D.w
def dhn : ℕ → ℕ → ℝ := D.dpart 2048
/-- A row's part of the gain's gradient. -/
def dg : ℕ → ℕ → ℝ := fun p q => D.dhn p q * hat 1024 1024 D.x p q
def dx : ℕ → ℕ → ℝ := fun p q => D.dh p q + back 1024 1024 D.x (scale D.dhn D.g) p q
/-- The first `n` rows' sums in the first of eight rows. -/
def sums (n : ℕ) : ℕ → ℕ → ℝ := fun p q => if p = 0 then ∑ k ∈ Finset.range n, D.dg k q else 0

theorem dpart_zero (p q : ℕ) : D.dpart 0 p q = 0 := rfl
theorem dpart_step (n : ℕ) (p q : ℕ) :
    D.dpart n p q + ∑ k ∈ Finset.range 256, cols n D.dproj p k * D.w q (n + k) = D.dpart (n + 256) p q :=
  (Finset.sum_range_add (fun k => D.dproj p k * D.w q k) n 256).symm
end Data

theorem kdot : dot_S512x256_S1024x256_S512x1024_1_1_0_0_n_n = DotDims.transposedRhs 512 256 1024 := rfl

variable (D : Data) (u : ℕ → ℝ)

theorem cut_u (o : ℕ) (ho : o + 256 ≤ 512) : (M2 (cols o D.du) : S512x256.Idx → EReal) = M2 (cols o D.dproj) :=
  M2_congr fun p q _ hq => (if_pos (by omega : o + q < 512)).symm
theorem cut_q (o : ℕ) (ho : o + 256 ≤ 512) : (M2 (cols o D.dq) : S512x256.Idx → EReal) = M2 (cols (512 + o) D.dproj) :=
  M2_congr fun p q _ hq => by
    unfold cols Data.dproj beside
    rw [if_neg (by omega), if_pos (by omega)]
    exact congrArg (D.dq p) (by omega)
theorem cut_k (o : ℕ) (ho : o + 256 ≤ 512) : (M2 (cols o D.dk) : S512x256.Idx → EReal) = M2 (cols (1024 + o) D.dproj) :=
  M2_congr fun p q _ hq => by
    unfold cols Data.dproj beside
    rw [if_neg (by omega), if_neg (by omega), if_pos (by omega)]
    exact congrArg (D.dk p) (by omega)
theorem cut_v (o : ℕ) (ho : o + 256 ≤ 512) : (M2 (cols o D.dv) : S512x256.Idx → EReal) = M2 (cols (1536 + o) D.dproj) :=
  M2_congr fun p q _ hq => by
    unfold cols Data.dproj beside
    rw [if_neg (by omega), if_neg (by omega), if_neg (by omega)]
    exact congrArg (D.dv p) (by omega)

theorem p1 : k0_pay1 (F := Ideal) = (M2 fun _ _ => 0) := by unfold k0_pay1; exact bc_0
theorem p2 : k0_pay2 (F := Ideal) (M2 D.du) = (M2 (cols 0 D.dproj)) := by
  unfold k0_pay2; exact (slice_M2 _ _).trans (cut_u D 0 (by omega))
theorem p3 : k0_pay3 (F := Ideal) (M2 D.du) = (M2 (cols 256 D.dproj)) := by
  unfold k0_pay3; exact (slice_M2 _ _).trans (cut_u D 256 (by omega))
theorem p4 : k0_pay4 (F := Ideal) (M2 D.dq) = (M2 (cols 512 D.dproj)) := by
  unfold k0_pay4; exact (slice_M2 _ _).trans (cut_q D 0 (by omega))
theorem p6 : k0_pay6 (F := Ideal) (M2 D.dq) = (M2 (cols 768 D.dproj)) := by
  unfold k0_pay6; exact (slice_M2 _ _).trans (cut_q D 256 (by omega))
theorem p7 : k0_pay7 (F := Ideal) (M2 D.dk) = (M2 (cols 1024 D.dproj)) := by
  unfold k0_pay7; exact (slice_M2 _ _).trans (cut_k D 0 (by omega))
theorem p8 : k0_pay8 (F := Ideal) (M2 D.dk) = (M2 (cols 1280 D.dproj)) := by
  unfold k0_pay8; exact (slice_M2 _ _).trans (cut_k D 256 (by omega))
theorem p9 : k0_pay9 (F := Ideal) (M2 D.dv) = (M2 (cols 1536 D.dproj)) := by
  unfold k0_pay9; exact (slice_M2 _ _).trans (cut_v D 0 (by omega))
theorem p11 : k0_pay11 (F := Ideal) (M2 D.dv) = (M2 (cols 1792 D.dproj)) := by
  unfold k0_pay11; exact (slice_M2 _ _).trans (cut_v D 256 (by omega))

theorem p5 : k0_pay5 (F := Ideal) (M2 D.du) (M2 D.dq) (M3 (slab 0 D.w)) (M3 (slab 256 D.w)) (M3 (slab 512 D.w)) = (M2 (D.dpart 768)) := by
  unfold k0_pay5
  simp only [kdot, p2, p3, p4, addf_M2, bc_0, const_0, shapeCast_M3, matmulT_M2]
  refine M2_congr fun p q _ _ => ?_
  rw [← D.dpart_step 512 p q, ← D.dpart_step 256 p q, ← D.dpart_step 0 p q, D.dpart_zero]
  rfl
theorem p10 : k0_pay10 (F := Ideal) (M2 D.dq) (M2 D.dk) (M2 D.dv) (M2 (D.dpart 768)) (M3 (slab 768 D.w)) (M3 (slab 1024 D.w)) (M3 (slab 1280 D.w)) (M3 (slab 1536 D.w))
    = (M2 (D.dpart 1792)) := by
  unfold k0_pay10
  simp only [kdot, p6, p7, p8, p9, addf_M2, bc_0, const_0, shapeCast_M3, matmulT_M2]
  refine M2_congr fun p q _ _ => ?_
  rw [← D.dpart_step 1536 p q, ← D.dpart_step 1280 p q, ← D.dpart_step 1024 p q, ← D.dpart_step 768 p q]
  rfl
theorem p12 : k0_pay12 (F := Ideal) (M2 (D.dpart 1792)) (M2 (cols 1792 D.dproj)) (M3 (slab 1792 D.w)) = (M2 D.dhn) := by
  unfold k0_pay12
  simp only [kdot, addf_M2, bc_0, const_0, shapeCast_M3, matmulT_M2]
  refine M2_congr fun p q _ _ => ?_
  exact D.dpart_step 1792 p q
theorem p13 : k0_pay13 (F := Ideal) (M2 D.x) = (M2 (col (rs 1024 1024 D.x))) := by
  unfold k0_pay13
  simp only [mulf_M2, multiReduction]
  rw [rowsum_M2]
  simp only [addf_M2, divf_1024, rsqrt_1024, bc_1024, bc_eps, shapeCast_M1_col]
theorem p14 : k0_pay14 (F := Ideal) (M2 D.x) = (M2 (hat 1024 1024 D.x)) := by
  unfold k0_pay14
  simp only [p13, broadcastTo_col, mulf_M2]
  rfl
theorem p15 : k0_pay15 (F := Ideal) (M2 (D.dpart 1792)) (M2 (cols 1792 D.dproj)) (M3 (slab 1792 D.w)) (M2 D.x) (M2 (row D.g)) (M2 D.dh) = (M2 D.dx) := by
  unfold k0_pay15
  simp only [p12, p13, p14, addf_M2, subf_M2, mulf_M2, shapeCast_same, broadcastTo_row, broadcastTo_col, multiReduction]
  rw [rowsum_M2]
  simp only [addf_M2, subf_M2, mulf_M2, divf_1024, bc_1024, shapeCast_M1_col, broadcastTo_col]
  rfl
theorem p16 : k0_pay16 (F := Ideal) (M2 (D.dpart 1792)) (M2 (cols 1792 D.dproj)) (M3 (slab 1792 D.w)) (M2 D.x) (M2 (row u))
    = (M2 (row fun q => u q + ∑ k ∈ Finset.range 512, D.dg k q)) := by
  unfold k0_pay16
  simp only [p12, p14, mulf_M2, shapeCast_same, multiReduction]
  rw [colsum_M2]
  simp only [addf_M2, shapeCast_M1_row]
  rfl

end Cert.Bwd

end
-- ==== Proof.BwdHost.lean ====
/-
  The gradient back through the input projection: what the call finds at launch when the arguments are arrays of reals.
-/
module

public import proofs.«01_k».proof.Proof.BwdStage
public import proofs.«01_k».proof.Proof.Loads
public import proofs.«01_k».proof.Proof.Gen.Kernel2Ideal.Value
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.Bwd
open Cert.Mat
open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)
open scoped BigOperators

/-- The projection's weight as eight blocks of 256 of its columns. -/
def blocks (f : ℕ → ℕ → ℝ) : ℕ → ℕ → ℕ → ℝ := fun k p q => f p (256 * k + q)

/-- The arguments at launch, on one device, are the data. -/
structure Args (m : (ℓ : Loc nD τ sig) → Buf (Elt Ideal) ℓ) (c : Dev nD) (D : Data) : Prop where
  du : m ((c : Thread nD τ).loc main_arg0) = (M2 D.du : S4096x512.Idx → EReal)
  dq : m ((c : Thread nD τ).loc main_arg1) = (M2 D.dq : S4096x512.Idx → EReal)
  dk : m ((c : Thread nD τ).loc main_arg2) = (M2 D.dk : S4096x512.Idx → EReal)
  dv : m ((c : Thread nD τ).loc main_arg3) = (M2 D.dv : S4096x512.Idx → EReal)
  w : m ((c : Thread nD τ).loc main_arg4) = (M2 D.w : S1024x2048.Idx → EReal)
  x : m ((c : Thread nD τ).loc main_arg5) = (M2 D.x : S4096x1024.Idx → EReal)
  dh : m ((c : Thread nD τ).loc main_arg6) = (M2 D.dh : S4096x1024.Idx → EReal)
  g : m ((c : Thread nD τ).loc main_arg7) = (M1 D.g : S1024.Idx → EReal)

section
variable (m : (ℓ : Loc nD τ sig) → Buf (Elt Ideal) ℓ) (c : Dev nD) {D : Data}

theorem V_g (h : Args m c D) : V m c main_v3 = (M2 (row D.g) : S1x1024.Idx → EReal) := by
  have e : V m c main_v3 = (shapeCast S1x1024 (m ((c : Thread nD τ).loc main_arg7) : S1024.Idx → EReal) shapeCasts_S1024_S1x1024 : S1x1024.Idx → EReal) := by
    show StableHlo.after hostOps0 (fun b => m (c, b)) (Proc.devRef .tc main_v3) = _
    after_reads_simp; rfl
  rw [e, h.g]; exact shapeCast_M1_row _ _
theorem V_w (h : Args m c D) : V m c main_v2 = (M3 (blocks D.w) : S8x1024x256.Idx → EReal) := by
  have e : V m c main_v2 = (transpose S8x1024x256 [1, 0, 2] (shapeCast S1024x8x256 (truncf .bf16 (m ((c : Thread nD τ).loc main_arg4) : FVec Ideal S1024x2048 .f32) bitsLt_bf16_f32 : FVec Ideal S1024x2048 .bf16) shapeCasts_S1024x2048_S1024x8x256 : S1024x8x256.Idx → EReal) transposes_S1024x8x256_S8x1024x256_1_0_2 : S8x1024x256.Idx → EReal) := by
    show StableHlo.after hostOps0 (fun b => m (c, b)) (Proc.devRef .tc main_v2) = _
    after_reads_simp; rfl
  rw [e, h.w]
  funext i
  have hi0 : (i 0).val < 8 := (i 0).isLt
  have hi1 : (i 1).val < 1024 := (i 1).isLt
  have hi2 : (i 2).val < 256 := (i 2).isLt
  have hk : 256 * (i 0).val + (i 2).val < 2048 := by omega
  refine (transpose_apply _ _ _ i (ValueIdx.ix3 (⟨(i 1).val, hi1⟩ : Fin 1024) (⟨(i 0).val, hi0⟩ : Fin 8) (⟨(i 2).val, hi2⟩ : Fin 256)) ?_).trans ?_
  · intro b; match b with
    | 0 => rfl
    | 1 => rfl
    | 2 => rfl
  refine (shapeCast_apply _ _ _ (ValueIdx.ix2 (⟨(i 1).val, hi1⟩ : Fin 1024) (⟨256 * (i 0).val + (i 2).val, hk⟩ : Fin 2048)) ?_).trans rfl
  rw [Shape.rowMajor_val_two, Shape.rowMajor_val_three]
  show (i 1).val * 2048 + (256 * (i 0).val + (i 2).val) = ((i 1).val * 8 + (i 0).val) * 256 + (i 2).val
  omega

variable (t : Fin cfg0.N)
theorem blk0 (f : ℕ → ℕ → ℝ) :
    ((cfg0.win 0).blk t).view.read (Elt Ideal) (M2 f : S4096x512.Idx → EReal) = (M2 (rows (512 * t.val) f) : S512x512.Idx → EReal) := by
  have i0 : win0_0.index t 0 = t.val := (by decide +kernel : ∀ t : Fin grid0.N, win0_0.index t 0 = t.val) t
  have i1 : win0_0.index t 1 = 0 := (by decide +kernel : ∀ t : Fin grid0.N, win0_0.index t 1 = 0) t
  funext i
  show ((f (win0_0.index t 0 * 512 + 1 * (i 0).val) (win0_0.index t 1 * 512 + 1 * (i 1).val) : ℝ) : EReal) = ((f (512 * t.val + (i 0).val) (i 1).val : ℝ) : EReal)
  rw [i0, i1]; congr 2 <;> ring
theorem blk1 (f : ℕ → ℕ → ℝ) :
    ((cfg0.win 1).blk t).view.read (Elt Ideal) (M2 f : S4096x512.Idx → EReal) = (M2 (rows (512 * t.val) f) : S512x512.Idx → EReal) := by
  have i0 : win0_1.index t 0 = t.val := (by decide +kernel : ∀ t : Fin grid0.N, win0_1.index t 0 = t.val) t
  have i1 : win0_1.index t 1 = 0 := (by decide +kernel : ∀ t : Fin grid0.N, win0_1.index t 1 = 0) t
  funext i
  show ((f (win0_1.index t 0 * 512 + 1 * (i 0).val) (win0_1.index t 1 * 512 + 1 * (i 1).val) : ℝ) : EReal) = ((f (512 * t.val + (i 0).val) (i 1).val : ℝ) : EReal)
  rw [i0, i1]; congr 2 <;> ring
theorem blk2 (f : ℕ → ℕ → ℝ) :
    ((cfg0.win 2).blk t).view.read (Elt Ideal) (M2 f : S4096x512.Idx → EReal) = (M2 (rows (512 * t.val) f) : S512x512.Idx → EReal) := by
  have i0 : win0_2.index t 0 = t.val := (by decide +kernel : ∀ t : Fin grid0.N, win0_2.index t 0 = t.val) t
  have i1 : win0_2.index t 1 = 0 := (by decide +kernel : ∀ t : Fin grid0.N, win0_2.index t 1 = 0) t
  funext i
  show ((f (win0_2.index t 0 * 512 + 1 * (i 0).val) (win0_2.index t 1 * 512 + 1 * (i 1).val) : ℝ) : EReal) = ((f (512 * t.val + (i 0).val) (i 1).val : ℝ) : EReal)
  rw [i0, i1]; congr 2 <;> ring
theorem blk3 (f : ℕ → ℕ → ℝ) :
    ((cfg0.win 3).blk t).view.read (Elt Ideal) (M2 f : S4096x512.Idx → EReal) = (M2 (rows (512 * t.val) f) : S512x512.Idx → EReal) := by
  have i0 : win0_3.index t 0 = t.val := (by decide +kernel : ∀ t : Fin grid0.N, win0_3.index t 0 = t.val) t
  have i1 : win0_3.index t 1 = 0 := (by decide +kernel : ∀ t : Fin grid0.N, win0_3.index t 1 = 0) t
  funext i
  show ((f (win0_3.index t 0 * 512 + 1 * (i 0).val) (win0_3.index t 1 * 512 + 1 * (i 1).val) : ℝ) : EReal) = ((f (512 * t.val + (i 0).val) (i 1).val : ℝ) : EReal)
  rw [i0, i1]; congr 2 <;> ring
theorem blk5 (f : ℕ → ℕ → ℝ) :
    ((cfg0.win 5).blk t).view.read (Elt Ideal) (M2 f : S4096x1024.Idx → EReal) = (M2 (rows (512 * t.val) f) : S512x1024.Idx → EReal) := by
  have i0 : win0_5.index t 0 = t.val := (by decide +kernel : ∀ t : Fin grid0.N, win0_5.index t 0 = t.val) t
  have i1 : win0_5.index t 1 = 0 := (by decide +kernel : ∀ t : Fin grid0.N, win0_5.index t 1 = 0) t
  funext i
  show ((f (win0_5.index t 0 * 512 + 1 * (i 0).val) (win0_5.index t 1 * 1024 + 1 * (i 1).val) : ℝ) : EReal) = ((f (512 * t.val + (i 0).val) (i 1).val : ℝ) : EReal)
  rw [i0, i1]; congr 2 <;> ring
theorem blk6 (f : ℕ → ℕ → ℝ) :
    ((cfg0.win 6).blk t).view.read (Elt Ideal) (M2 f : S4096x1024.Idx → EReal) = (M2 (rows (512 * t.val) f) : S512x1024.Idx → EReal) := by
  have i0 : win0_6.index t 0 = t.val := (by decide +kernel : ∀ t : Fin grid0.N, win0_6.index t 0 = t.val) t
  have i1 : win0_6.index t 1 = 0 := (by decide +kernel : ∀ t : Fin grid0.N, win0_6.index t 1 = 0) t
  funext i
  show ((f (win0_6.index t 0 * 512 + 1 * (i 0).val) (win0_6.index t 1 * 1024 + 1 * (i 1).val) : ℝ) : EReal) = ((f (512 * t.val + (i 0).val) (i 1).val : ℝ) : EReal)
  rw [i0, i1]; congr 2 <;> ring
theorem blk7 (f : ℕ → ℕ → ℝ) :
    ((cfg0.win 7).blk t).view.read (Elt Ideal) (M2 f : S1x1024.Idx → EReal) = (M2 f : S1x1024.Idx → EReal) := by
  have i0 : win0_7.index t 0 = 0 := (by decide +kernel : ∀ t : Fin grid0.N, win0_7.index t 0 = 0) t
  have i1 : win0_7.index t 1 = 0 := (by decide +kernel : ∀ t : Fin grid0.N, win0_7.index t 1 = 0) t
  funext i
  show ((f (win0_7.index t 0 * 1 + 1 * (i 0).val) (win0_7.index t 1 * 1024 + 1 * (i 1).val) : ℝ) : EReal) = ((f (i 0).val (i 1).val : ℝ) : EReal)
  rw [i0, i1]; congr 2 <;> ring
theorem blk8 (f : ℕ → ℕ → ℝ) :
    ((cfg0.win 8).blk t).view.read (Elt Ideal) (M2 f : S4096x1024.Idx → EReal) = (M2 (rows (512 * t.val) f) : S512x1024.Idx → EReal) := by
  have i0 : win0_8.index t 0 = t.val := (by decide +kernel : ∀ t : Fin grid0.N, win0_8.index t 0 = t.val) t
  have i1 : win0_8.index t 1 = 0 := (by decide +kernel : ∀ t : Fin grid0.N, win0_8.index t 1 = 0) t
  funext i
  show ((f (win0_8.index t 0 * 512 + 1 * (i 0).val) (win0_8.index t 1 * 1024 + 1 * (i 1).val) : ℝ) : EReal) = ((f (512 * t.val + (i 0).val) (i 1).val : ℝ) : EReal)
  rw [i0, i1]; congr 2 <;> ring
theorem blk9 (f : ℕ → ℕ → ℝ) :
    ((cfg0.win 9).blk t).view.read (Elt Ideal) (M2 f : S4096x2048.Idx → EReal) = (M2 (rows (512 * t.val) f) : S512x2048.Idx → EReal) := by
  have i0 : win0_9.index t 0 = t.val := (by decide +kernel : ∀ t : Fin grid0.N, win0_9.index t 0 = t.val) t
  have i1 : win0_9.index t 1 = 0 := (by decide +kernel : ∀ t : Fin grid0.N, win0_9.index t 1 = 0) t
  funext i
  show ((f (win0_9.index t 0 * 512 + 1 * (i 0).val) (win0_9.index t 1 * 2048 + 1 * (i 1).val) : ℝ) : EReal) = ((f (512 * t.val + (i 0).val) (i 1).val : ℝ) : EReal)
  rw [i0, i1]; congr 2 <;> ring
theorem blk10 (f : ℕ → ℕ → ℝ) :
    ((cfg0.win 10).blk t).view.read (Elt Ideal) (M2 f : S8x1024.Idx → EReal) = (M2 f : S8x1024.Idx → EReal) := by
  have i0 : win0_10.index t 0 = 0 := (by decide +kernel : ∀ t : Fin grid0.N, win0_10.index t 0 = 0) t
  have i1 : win0_10.index t 1 = 0 := (by decide +kernel : ∀ t : Fin grid0.N, win0_10.index t 1 = 0) t
  funext i
  show ((f (win0_10.index t 0 * 8 + 1 * (i 0).val) (win0_10.index t 1 * 1024 + 1 * (i 1).val) : ℝ) : EReal) = ((f (i 0).val (i 1).val : ℝ) : EReal)
  rw [i0, i1]; congr 2 <;> ring
theorem blk4 (f : ℕ → ℕ → ℕ → ℝ) :
    ((cfg0.win 4).blk t).view.read (Elt Ideal) (M3 f : S8x1024x256.Idx → EReal) = (M3 f : S8x1024x256.Idx → EReal) := by
  have i0 : win0_4.index t 0 = 0 := (by decide +kernel : ∀ t : Fin grid0.N, win0_4.index t 0 = 0) t
  have i1 : win0_4.index t 1 = 0 := (by decide +kernel : ∀ t : Fin grid0.N, win0_4.index t 1 = 0) t
  have i2 : win0_4.index t 2 = 0 := (by decide +kernel : ∀ t : Fin grid0.N, win0_4.index t 2 = 0) t
  funext i
  show ((f (win0_4.index t 0 * 8 + 1 * (i 0).val) (win0_4.index t 1 * 1024 + 1 * (i 1).val) (win0_4.index t 2 * 256 + 1 * (i 2).val) : ℝ) : EReal) = ((f (i 0).val (i 1).val (i 2).val : ℝ) : EReal)
  rw [i0, i1, i2]; congr 2 <;> ring

theorem iblk_0 (h : Args m c D) : iblk m c 0 t = (M2 (D.shift (512 * t.val)).du : S512x512.Idx → EReal) := by
  have e : V m c (Pipeline.arrRef spec0 0) = (M2 D.du : S4096x512.Idx → EReal) := (V_main_arg0 m c).trans h.du
  show ((cfg0.win 0).blk t).view.read (Elt Ideal) (V m c (Pipeline.arrRef spec0 0)) = _
  rw [e]; exact blk0 t _
theorem iblk_1 (h : Args m c D) : iblk m c 1 t = (M2 (D.shift (512 * t.val)).dq : S512x512.Idx → EReal) := by
  have e : V m c (Pipeline.arrRef spec0 1) = (M2 D.dq : S4096x512.Idx → EReal) := (V_main_arg1 m c).trans h.dq
  show ((cfg0.win 1).blk t).view.read (Elt Ideal) (V m c (Pipeline.arrRef spec0 1)) = _
  rw [e]; exact blk1 t _
theorem iblk_2 (h : Args m c D) : iblk m c 2 t = (M2 (D.shift (512 * t.val)).dk : S512x512.Idx → EReal) := by
  have e : V m c (Pipeline.arrRef spec0 2) = (M2 D.dk : S4096x512.Idx → EReal) := (V_main_arg2 m c).trans h.dk
  show ((cfg0.win 2).blk t).view.read (Elt Ideal) (V m c (Pipeline.arrRef spec0 2)) = _
  rw [e]; exact blk2 t _
theorem iblk_3 (h : Args m c D) : iblk m c 3 t = (M2 (D.shift (512 * t.val)).dv : S512x512.Idx → EReal) := by
  have e : V m c (Pipeline.arrRef spec0 3) = (M2 D.dv : S4096x512.Idx → EReal) := (V_main_arg3 m c).trans h.dv
  show ((cfg0.win 3).blk t).view.read (Elt Ideal) (V m c (Pipeline.arrRef spec0 3)) = _
  rw [e]; exact blk3 t _
theorem iblk_5 (h : Args m c D) : iblk m c 5 t = (M2 (D.shift (512 * t.val)).x : S512x1024.Idx → EReal) := by
  have e : V m c (Pipeline.arrRef spec0 5) = (M2 D.x : S4096x1024.Idx → EReal) := (V_main_arg5 m c).trans h.x
  show ((cfg0.win 5).blk t).view.read (Elt Ideal) (V m c (Pipeline.arrRef spec0 5)) = _
  rw [e]; exact blk5 t _
theorem iblk_6 (h : Args m c D) : iblk m c 6 t = (M2 (D.shift (512 * t.val)).dh : S512x1024.Idx → EReal) := by
  have e : V m c (Pipeline.arrRef spec0 6) = (M2 D.dh : S4096x1024.Idx → EReal) := (V_main_arg6 m c).trans h.dh
  show ((cfg0.win 6).blk t).view.read (Elt Ideal) (V m c (Pipeline.arrRef spec0 6)) = _
  rw [e]; exact blk6 t _
theorem iblk_4 (h : Args m c D) : iblk m c 4 t = (M3 (blocks D.w) : S8x1024x256.Idx → EReal) := by
  have e : V m c (Pipeline.arrRef spec0 4) = (M3 (blocks D.w) : S8x1024x256.Idx → EReal) := V_w m c h
  show ((cfg0.win 4).blk t).view.read (Elt Ideal) (V m c (Pipeline.arrRef spec0 4)) = _
  rw [e]; exact blk4 t _
theorem iblk_7 (h : Args m c D) : iblk m c 7 t = (M2 (row D.g) : S1x1024.Idx → EReal) := by
  have e : V m c (Pipeline.arrRef spec0 7) = (M2 (row D.g) : S1x1024.Idx → EReal) := V_g m c h
  show ((cfg0.win 7).blk t).view.read (Elt Ideal) (V m c (Pipeline.arrRef spec0 7)) = _
  rw [e]; exact blk7 t _
end

theorem ld_block (f : ℕ → ℕ → ℝ) (k o : ℕ) (ho : o = 256 * k) (inb) :
    View.ld (e' := .bf16) (Val := Elt Ideal) (M3 (blocks f) : S8x1024x256.Idx → EReal) (Rect.unit (s := S8x1024x256) ![k, 0, 0] ![1, 1024, 256] inb)
      = (M3 (slab o f) : S1x1024x256.Idx → EReal) := by
  subst ho
  funext i
  have l0 : (i 0).val < 1 := (i 0).isLt
  have e0 : (i 0).val = 0 := by omega
  have h0 : ((Rect.unit (s := S8x1024x256) ![k, 0, 0] ![1, 1024, 256] inb).idx i 0).val = k + (i 0).val := Rect.idx_unit_val _ _ inb i 0
  have h1 : ((Rect.unit (s := S8x1024x256) ![k, 0, 0] ![1, 1024, 256] inb).idx i 1).val = 0 + (i 1).val := Rect.idx_unit_val _ _ inb i 1
  have h2 : ((Rect.unit (s := S8x1024x256) ![k, 0, 0] ![1, 1024, 256] inb).idx i 2).val = 0 + (i 2).val := Rect.idx_unit_val _ _ inb i 2
  show ((f ((Rect.unit (s := S8x1024x256) ![k, 0, 0] ![1, 1024, 256] inb).idx i 1).val (256 * ((Rect.unit (s := S8x1024x256) ![k, 0, 0] ![1, 1024, 256] inb).idx i 0).val + ((Rect.unit (s := S8x1024x256) ![k, 0, 0] ![1, 1024, 256] inb).idx i 2).val) : ℝ) : EReal)
    = ((f (i 1).val (256 * k + (i 2).val) : ℝ) : EReal)
  rw [h0, h1, h2, e0, Nat.zero_add, Nat.zero_add, Nat.add_zero]

end Cert.Bwd

end
-- ==== Proof.BwdValue.lean ====
/-
  The gradient back through the input projection: what each point leaves, and the three result arrays.
-/
module

public import proofs.«01_k».proof.Proof.BwdHost

@[expose] public section

set_option maxRecDepth 16384

noncomputable section

namespace Cert.Bwd
open Cert.Mat
open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)
open scoped BigOperators

section
variable (D : Data) (x0 x1 x2 x3 : S512x512.Idx → EReal) (x4 : S8x1024x256.Idx → EReal) (x5 x6 : S512x1024.Idx → EReal) (x7 : S1x1024.Idx → EReal)

/-- One point's blocks, all of one data. -/
structure At : Prop where
  e0 : x0 = M2 D.du
  e1 : x1 = M2 D.dq
  e2 : x2 = M2 D.dk
  e3 : x3 = M2 D.dv
  e4 : x4 = M3 (blocks D.w)
  e5 : x5 = M2 D.x
  e6 : x6 = M2 D.dh
  e7 : x7 = M2 (row D.g)

/-- The products over the first seven blocks of columns. -/
abbrev sofar : S512x1024.Idx → EReal :=
  k0_pay10 (F := Ideal) x1 x2 x3
    (k0_pay5 (F := Ideal) x0 x1 (View.ld (Val := Elt Ideal) (e' := .bf16) x4 (Rect.unit (s := S8x1024x256) ![0, 0, 0] ![1, 1024, 256] inb_S8x1024x256_S1x1024x256_0_0_0))
      (View.ld (Val := Elt Ideal) (e' := .bf16) x4 (Rect.unit (s := S8x1024x256) ![1, 0, 0] ![1, 1024, 256] inb_S8x1024x256_S1x1024x256_1_0_0)) (View.ld (Val := Elt Ideal) (e' := .bf16) x4 (Rect.unit (s := S8x1024x256) ![2, 0, 0] ![1, 1024, 256] inb_S8x1024x256_S1x1024x256_2_0_0)))
    (View.ld (Val := Elt Ideal) (e' := .bf16) x4 (Rect.unit (s := S8x1024x256) ![3, 0, 0] ![1, 1024, 256] inb_S8x1024x256_S1x1024x256_3_0_0)) (View.ld (Val := Elt Ideal) (e' := .bf16) x4 (Rect.unit (s := S8x1024x256) ![4, 0, 0] ![1, 1024, 256] inb_S8x1024x256_S1x1024x256_4_0_0))
    (View.ld (Val := Elt Ideal) (e' := .bf16) x4 (Rect.unit (s := S8x1024x256) ![5, 0, 0] ![1, 1024, 256] inb_S8x1024x256_S1x1024x256_5_0_0)) (View.ld (Val := Elt Ideal) (e' := .bf16) x4 (Rect.unit (s := S8x1024x256) ![6, 0, 0] ![1, 1024, 256] inb_S8x1024x256_S1x1024x256_6_0_0))

variable {D x0 x1 x2 x3 x4 x5 x6 x7}
theorem At.sofar (h : At D x0 x1 x2 x3 x4 x5 x6 x7) : Bwd.sofar x0 x1 x2 x3 x4 = M2 (D.dpart 1792) := by
  unfold Bwd.sofar
  rw [h.e0, h.e1, h.e2, h.e3, h.e4, ld_block D.w 0 0 rfl, ld_block D.w 1 256 rfl, ld_block D.w 2 512 rfl, ld_block D.w 3 768 rfl, ld_block D.w 4 1024 rfl,
    ld_block D.w 5 1280 rfl, ld_block D.w 6 1536 rfl, p5, p10]

theorem At.dx (h : At D x0 x1 x2 x3 x4 x5 x6 x7) :
    k0_pay15 (F := Ideal) (Bwd.sofar x0 x1 x2 x3 x4) (k0_pay11 (F := Ideal) x3)
      (View.ld (Val := Elt Ideal) (e' := .bf16) x4 (Rect.unit (s := S8x1024x256) ![7, 0, 0] ![1, 1024, 256] inb_S8x1024x256_S1x1024x256_7_0_0)) x5 x7 x6 = M2 D.dx := by
  rw [h.sofar, h.e3, h.e4, h.e5, h.e6, h.e7, ld_block D.w 7 1792 rfl, p11, p15]

theorem At.dg (h : At D x0 x1 x2 x3 x4 x5 x6 x7) (z : S1x1024.Idx → EReal) (u : ℕ → ℝ) (hz : z = M2 (row u)) :
    k0_pay16 (F := Ideal) (Bwd.sofar x0 x1 x2 x3 x4) (k0_pay11 (F := Ideal) x3)
      (View.ld (Val := Elt Ideal) (e' := .bf16) x4 (Rect.unit (s := S8x1024x256) ![7, 0, 0] ![1, 1024, 256] inb_S8x1024x256_S1x1024x256_7_0_0)) x5 z = M2 (row fun q => u q + ∑ k ∈ Finset.range 512, D.dg k q) := by
  rw [h.sofar, h.e3, h.e4, h.e5, hz, ld_block D.w 7 1792 rfl, p11, p16]

theorem piece_cols (f : ℕ → ℕ → ℝ) (o : ℕ) (inb) (w : S512x256.Idx → EReal) (h : w = M2 (cols o f)) (x : (Rect.unit (s := S512x2048) ![0, o] ![512, 256] inb).shape.Idx) :
    w x = (M2 f : S512x2048.Idx → EReal) ((Rect.unit (s := S512x2048) ![0, o] ![512, 256] inb).emb x) := by
  subst h
  have h0 : ((Rect.unit (s := S512x2048) ![0, o] ![512, 256] inb).emb x 0).val = 0 + (x 0).val := Rect.idx_unit_val _ _ inb x 0
  have h1 : ((Rect.unit (s := S512x2048) ![0, o] ![512, 256] inb).emb x 1).val = o + (x 1).val := Rect.idx_unit_val _ _ inb x 1
  show ((f (x 0).val (o + (x 1).val) : ℝ) : EReal) = ((f ((Rect.unit (s := S512x2048) ![0, o] ![512, 256] inb).emb x 0).val ((Rect.unit (s := S512x2048) ![0, o] ![512, 256] inb).emb x 1).val : ℝ) : EReal)
  rw [h0, h1, Nat.zero_add]

theorem At.dproj (h : At D x0 x1 x2 x3 x4 x5 x6 x7) :
    (View.canon (Val := Elt Ideal) (e := .bf16) [⟨Rect.unit (s := S512x2048) ![0, 1792] ![512, 256] inb_S512x2048_S512x256_0_1792, k0_pay11 (F := Ideal) x3⟩,
      ⟨Rect.unit (s := S512x2048) ![0, 1536] ![512, 256] inb_S512x2048_S512x256_0_1536, k0_pay9 (F := Ideal) x3⟩,
      ⟨Rect.unit (s := S512x2048) ![0, 1280] ![512, 256] inb_S512x2048_S512x256_0_1280, k0_pay8 (F := Ideal) x2⟩,
      ⟨Rect.unit (s := S512x2048) ![0, 1024] ![512, 256] inb_S512x2048_S512x256_0_1024, k0_pay7 (F := Ideal) x2⟩,
      ⟨Rect.unit (s := S512x2048) ![0, 768] ![512, 256] inb_S512x2048_S512x256_0_768, k0_pay6 (F := Ideal) x1⟩,
      ⟨Rect.unit (s := S512x2048) ![0, 512] ![512, 256] inb_S512x2048_S512x256_0_512, k0_pay4 (F := Ideal) x1⟩,
      ⟨Rect.unit (s := S512x2048) ![0, 256] ![512, 256] inb_S512x2048_S512x256_0_256, k0_pay3 (F := Ideal) x0⟩,
      ⟨Rect.unit (s := S512x2048) ![0, 0] ![512, 256] inb_S512x2048_S512x256_0_0, k0_pay2 (F := Ideal) x0⟩] : S512x2048.Idx → EReal) = M2 D.dproj := by
  rw [h.e0, h.e1, h.e2, h.e3]
  funext y
  refine View.canon_apply_of_pieces (Val := Elt Ideal) (e := .bf16) (M2 D.dproj : S512x2048.Idx → EReal) _ (View.PiecesOf.mem ?_) y (View.cover_of_tiledL (s := S512x2048) _ S512x256.size (by sl_kernel_rfl) y)
  exact ⟨piece_cols _ _ inb_S512x2048_S512x256_0_1792 _ (p11 D), piece_cols _ _ inb_S512x2048_S512x256_0_1536 _ (p9 D), piece_cols _ _ inb_S512x2048_S512x256_0_1280 _ (p8 D), piece_cols _ _ inb_S512x2048_S512x256_0_1024 _ (p7 D), piece_cols _ _ inb_S512x2048_S512x256_0_768 _ (p6 D),
    piece_cols _ _ inb_S512x2048_S512x256_0_512 _ (p4 D), piece_cols _ _ inb_S512x2048_S512x256_0_256 _ (p3 D), piece_cols _ _ inb_S512x2048_S512x256_0_0 _ (p2 D), trivial⟩

variable (D)
/-- The first rows' sums and the next rows'. -/
theorem sums_step (n p q : ℕ) : (if p = 0 then D.sums n 0 q + ∑ k ∈ Finset.range 512, (D.shift n).dg k q else D.sums n p q) = D.sums (n + 512) p q := by
  unfold Data.sums
  by_cases h : p = 0
  · rw [if_pos h, if_pos rfl, if_pos h, Finset.sum_range_add]; rfl
  · rw [if_neg h, if_neg h, if_neg h]
theorem shift_dx (n : ℕ) : (D.shift n).dx = rows n D.dx := by
  funext p q
  simp only [Data.dx, Data.dhn, Data.dpart, Data.dproj, Data.shift, back, hat, rs, scale, prodT, rows, beside]
theorem shift_dproj (n : ℕ) : (D.shift n).dproj = rows n D.dproj := rfl
theorem sums_zero : (M2 (D.sums 0) : S8x1024.Idx → EReal) = M2 fun _ _ => 0 :=
  M2_congr fun p q _ _ => by unfold Data.sums; rw [Finset.sum_range_zero, ite_self]

/-- The row of sums written over what was there. -/
theorem over_row (n : ℕ) (w : S8x1024.Idx → EReal) (hw : w = M2 (D.sums n)) (r : S1x1024.Idx → EReal)
    (hr : r = M2 (row fun q => D.sums n 0 q + ∑ k ∈ Finset.range 512, (D.shift n).dg k q)) :
    (Rect.unit (s := S8x1024) ![0, 0] ![1, 1024] inb_S8x1024_S1x1024_0_0).overlay w r = (M2 (D.sums (n + 512)) : S8x1024.Idx → EReal) := by
  subst hw hr
  refine (Mlp.overlay_row (D.sums n) _ 0 inb_S8x1024_S1x1024_0_0).trans (M2_congr fun p q _ _ => ?_)
  exact sums_step D n p q
end

variable (m : (ℓ : Loc nD τ sig) → Buf (Elt Ideal) ℓ) (c : Dev nD) {D : Data} (t : Fin cfg0.N)

/-- A point's blocks are its 512 rows of the data. -/
theorem at_point (h : Args m c D) : At (D.shift (512 * t.val)) (iblk m c 0 t) (iblk m c 1 t) (iblk m c 2 t) (iblk m c 3 t) (iblk m c 4 t) (iblk m c 5 t) (iblk m c 6 t) (iblk m c 7 t) :=
  ⟨iblk_0 m c t h, iblk_1 m c t h, iblk_2 m c t h, iblk_3 m c t h, iblk_4 (D := D) m c t h, iblk_5 m c t h, iblk_6 m c t h, iblk_7 (D := D) m c t h⟩

/-- A point's leavings: its rows of the two results, and the sums of the rows so far. -/
structure Leaves (n : ℕ) (hn : n < cfg0.N) : Prop where
  dx : (outsAt0 m c n hn).1 = (M2 (D.shift (512 * n)).dx : S512x1024.Idx → EReal)
  dproj : (outsAt0 m c n hn).2.1 = (M2 (D.shift (512 * n)).dproj : S512x2048.Idx → EReal)
  sums : (outsAt0 m c n hn).2.2 = (M2 (D.sums (512 * n + 512)) : S8x1024.Idx → EReal)

theorem dx_A (h : Args m c D) (h0 : t.val % 8 = 0) : (outsAt0 m c t.val t.isLt).1 = (M2 (D.shift (512 * t.val)).dx : S512x1024.Idx → EReal) := by
  rw [outsAt0_A m c t h0]
  frame_out
  exact (at_point m c t h).dx
theorem dproj_A (h : Args m c D) (h0 : t.val % 8 = 0) : (outsAt0 m c t.val t.isLt).2.1 = (M2 (D.shift (512 * t.val)).dproj : S512x2048.Idx → EReal) := by
  rw [outsAt0_A m c t h0]
  frame_out
  exact (at_point m c t h).dproj

theorem dx_B (h : Args m c D) (h0 : ¬t.val % 8 = 0) : (outsAt0 m c t.val t.isLt).1 = (M2 (D.shift (512 * t.val)).dx : S512x1024.Idx → EReal) := by
  rw [outsAt0_B m c t h0]
  frame_out
  exact (at_point m c t h).dx
theorem dproj_B (h : Args m c D) (h0 : ¬t.val % 8 = 0) : (outsAt0 m c t.val t.isLt).2.1 = (M2 (D.shift (512 * t.val)).dproj : S512x2048.Idx → EReal) := by
  rw [outsAt0_B m c t h0]
  frame_out
  exact (at_point m c t h).dproj

theorem sums_A (h : Args m c D) (h0 : t.val % 8 = 0) : (outsAt0 m c t.val t.isLt).2.2 = (M2 (D.sums (512 * t.val + 512)) : S8x1024.Idx → EReal) := by
  have hN : t.val < 8 := lt_of_lt_of_eq t.isLt N_0
  have ht : t.val = 0 := by omega
  have e : 512 * t.val = 0 := by omega
  have hd := at_point m c t h
  rw [e] at hd
  have hw : k0_pay1 (F := Ideal) = (M2 (D.sums 0) : S8x1024.Idx → EReal) := p1.trans (sums_zero D).symm
  rw [outsAt0_A m c t h0]
  frame_out
  rw [e, View.canon_cons, View.canon_unit_zero (S := S8x1024) Mlp.hz, Mlp.readCov_zero _ Mlp.hz]
  refine over_row D 0 _ hw _ (hd.dg _ (fun q => D.sums 0 0 q) ?_)
  rw [hw]
  refine (Mlp.ld_row8 (D.sums 0) 0 _).trans (M2_congr fun p q hp _ => ?_)
  obtain rfl : p = 0 := by omega
  rfl

theorem sums_B (h : Args m c D) (h0 : ¬t.val % 8 = 0)
    (ih : ∀ h, (outsAt0 m c (t.val - 1) h).2.2 = (M2 (D.sums (512 * (t.val - 1) + 512)) : S8x1024.Idx → EReal)) :
    (outsAt0 m c t.val t.isLt).2.2 = (M2 (D.sums (512 * t.val + 512)) : S8x1024.Idx → EReal) := by
  have e : 512 * (t.val - 1) + 512 = 512 * t.val := by omega
  rw [e] at ih
  rw [outsAt0_B m c t h0]
  frame_out
  simp only [Mlp.read_writes_over, View.writes_nil, read_unread_whole, (hs0_10 t).read_unread, ih]
  refine over_row D (512 * t.val) _ rfl _ ((at_point m c t h).dg _ (fun q => D.sums (512 * t.val) 0 q) ?_)
  refine (Mlp.ld_row8 (D.sums (512 * t.val)) 0 _).trans (M2_congr fun p q hp _ => ?_)
  obtain rfl : p = 0 := by omega
  rfl

theorem leaves (h : Args m c D) : ∀ (n : ℕ) (hn : n < cfg0.N), Leaves m c (D := D) n hn
  | 0, hn => ⟨dx_A m c ⟨0, hn⟩ h rfl, dproj_A m c ⟨0, hn⟩ h rfl, sums_A m c ⟨0, hn⟩ h rfl⟩
  | n + 1, hn => by
    have hN : n + 1 < 8 := lt_of_lt_of_eq hn N_0
    have h0 : ¬(⟨n + 1, hn⟩ : Fin cfg0.N).val % 8 = 0 := by show ¬(n + 1) % 8 = 0; omega
    exact ⟨dx_B m c ⟨n + 1, hn⟩ h h0, dproj_B m c ⟨n + 1, hn⟩ h h0, sums_B m c ⟨n + 1, hn⟩ h h0 fun h' => (leaves h n h').sums⟩

theorem final_8 (h : Args m c D) : (dats m 0 c).arrAt 8 cfg0.N = (M2 D.dx : S4096x1024.Idx → EReal) := by
  refine (dats m 0 c).arrAt_eq_of_cover 8 (M2 D.dx : S4096x1024.Idx → EReal) (fun t _ => ?_) fun i => ?_
  · show (cfg0.win 8).cut (grid0.coords t) ((dats m 0 c).after 8 t) = _
    rw [after0_8, (leaves m c h t.val t.isLt).dx, shift_dx]
    exact (blk8 t D.dx).symm
  · have h0 : (i 0 : Nat) < 4096 := (i 0).isLt
    have h1 : (i 1 : Nat) < 1024 := (i 1).isLt
    have ht : (i 0 : Nat) / 512 < 8 := by omega
    have i0 : win0_8.index (⟨(i 0 : Nat) / 512, ht⟩ : Fin grid0.N) 0 = (i 0 : Nat) / 512 := (by decide +kernel : ∀ t : Fin grid0.N, win0_8.index t 0 = t.val) ⟨(i 0 : Nat) / 512, ht⟩
    have i1 : win0_8.index (⟨(i 0 : Nat) / 512, ht⟩ : Fin grid0.N) 1 = 0 := (by decide +kernel : ∀ t : Fin grid0.N, win0_8.index t 1 = 0) ⟨(i 0 : Nat) / 512, ht⟩
    refine ⟨⟨(i 0 : Nat) / 512, ht⟩, flush0_8 _, ?_⟩
    show i ∈ ((View.whole main_v4_0).slice (win0_8.rect (⟨(i 0 : Nat) / 512, ht⟩ : Fin grid0.N))).set
    rw [View.set_slice_whole, Rect.mem_set_unit]
    intro a
    match a with
    | ⟨0, _⟩ =>
      show win0_8.index (⟨(i 0 : Nat) / 512, ht⟩ : Fin grid0.N) 0 * 512 ≤ (i 0 : Nat) ∧ (i 0 : Nat) < win0_8.index (⟨(i 0 : Nat) / 512, ht⟩ : Fin grid0.N) 0 * 512 + 512
      rw [i0]; omega
    | ⟨1, _⟩ =>
      show win0_8.index (⟨(i 0 : Nat) / 512, ht⟩ : Fin grid0.N) 1 * 1024 ≤ (i 1 : Nat) ∧ (i 1 : Nat) < win0_8.index (⟨(i 0 : Nat) / 512, ht⟩ : Fin grid0.N) 1 * 1024 + 1024
      rw [i1]; omega

theorem final_9 (h : Args m c D) : (dats m 0 c).arrAt 9 cfg0.N = (M2 D.dproj : S4096x2048.Idx → EReal) := by
  refine (dats m 0 c).arrAt_eq_of_cover 9 (M2 D.dproj : S4096x2048.Idx → EReal) (fun t _ => ?_) fun i => ?_
  · show (cfg0.win 9).cut (grid0.coords t) ((dats m 0 c).after 9 t) = _
    rw [after0_9, (leaves m c h t.val t.isLt).dproj, shift_dproj]
    exact (blk9 t D.dproj).symm
  · have h0 : (i 0 : Nat) < 4096 := (i 0).isLt
    have h1 : (i 1 : Nat) < 2048 := (i 1).isLt
    have ht : (i 0 : Nat) / 512 < 8 := by omega
    have i0 : win0_9.index (⟨(i 0 : Nat) / 512, ht⟩ : Fin grid0.N) 0 = (i 0 : Nat) / 512 := (by decide +kernel : ∀ t : Fin grid0.N, win0_9.index t 0 = t.val) ⟨(i 0 : Nat) / 512, ht⟩
    have i1 : win0_9.index (⟨(i 0 : Nat) / 512, ht⟩ : Fin grid0.N) 1 = 0 := (by decide +kernel : ∀ t : Fin grid0.N, win0_9.index t 1 = 0) ⟨(i 0 : Nat) / 512, ht⟩
    refine ⟨⟨(i 0 : Nat) / 512, ht⟩, flush0_9 _, ?_⟩
    show i ∈ ((View.whole main_v4_1).slice (win0_9.rect (⟨(i 0 : Nat) / 512, ht⟩ : Fin grid0.N))).set
    rw [View.set_slice_whole, Rect.mem_set_unit]
    intro a
    match a with
    | ⟨0, _⟩ =>
      show win0_9.index (⟨(i 0 : Nat) / 512, ht⟩ : Fin grid0.N) 0 * 512 ≤ (i 0 : Nat) ∧ (i 0 : Nat) < win0_9.index (⟨(i 0 : Nat) / 512, ht⟩ : Fin grid0.N) 0 * 512 + 512
      rw [i0]; omega
    | ⟨1, _⟩ =>
      show win0_9.index (⟨(i 0 : Nat) / 512, ht⟩ : Fin grid0.N) 1 * 2048 ≤ (i 1 : Nat) ∧ (i 1 : Nat) < win0_9.index (⟨(i 0 : Nat) / 512, ht⟩ : Fin grid0.N) 1 * 2048 + 2048
      rw [i1]; omega

theorem final_10 (h : Args m c D) : (dats m 0 c).arrAt 10 cfg0.N = (M2 (D.sums 4096) : S8x1024.Idx → EReal) := by
  refine (dats m 0 c).arrAt_eq_of_cover 10 (M2 (D.sums 4096) : S8x1024.Idx → EReal) (fun t hf => ?_) fun i => ?_
  · have hN : t.val < 8 := t.isLt
    have ht : t.val = 7 := by have := (flush0_10 t).mp hf; omega
    show (cfg0.win 10).cut (grid0.coords t) ((dats m 0 c).after 10 t) = _
    rw [after0_10, (leaves m c h t.val t.isLt).sums, ht]
    exact (blk10 t (D.sums 4096)).symm
  · have h0 : (i 0 : Nat) < 8 := (i 0).isLt
    have h1 : (i 1 : Nat) < 1024 := (i 1).isLt
    have ht : 7 < 8 := by omega
    have i0 : win0_10.index (⟨7, ht⟩ : Fin grid0.N) 0 = 0 := (by decide +kernel : ∀ t : Fin grid0.N, win0_10.index t 0 = 0) ⟨7, ht⟩
    have i1 : win0_10.index (⟨7, ht⟩ : Fin grid0.N) 1 = 0 := (by decide +kernel : ∀ t : Fin grid0.N, win0_10.index t 1 = 0) ⟨7, ht⟩
    refine ⟨⟨7, ht⟩, (flush0_10 ⟨7, ht⟩).mpr rfl, ?_⟩
    show i ∈ ((View.whole main_v4_2).slice (win0_10.rect (⟨7, ht⟩ : Fin grid0.N))).set
    rw [View.set_slice_whole, Rect.mem_set_unit]
    intro a
    match a with
    | ⟨0, _⟩ =>
      show win0_10.index (⟨7, ht⟩ : Fin grid0.N) 0 * 8 ≤ (i 0 : Nat) ∧ (i 0 : Nat) < win0_10.index (⟨7, ht⟩ : Fin grid0.N) 0 * 8 + 8
      rw [i0]; omega
    | ⟨1, _⟩ =>
      show win0_10.index (⟨7, ht⟩ : Fin grid0.N) 1 * 1024 ≤ (i 1 : Nat) ∧ (i 1 : Nat) < win0_10.index (⟨7, ht⟩ : Fin grid0.N) 1 * 1024 + 1024
      rw [i1]; omega

/-- The kernel's run at arguments of reals: the three results, the arguments unchanged. -/
theorem run_kernel (ρ : Dev nD → PrngReg) (D : Dev nD → Data) (H : ∀ c, Args m c (D c)) :
    θ_run defs (onTc (τ := τ) (main (F := Ideal))) ⟨m, fun _ => 0, ρ⟩ (fun r => ∀ c : Dev nD,
      r.2.mem ((c : Thread nD τ).loc main_v4_0) = (M2 (D c).dx : S4096x1024.Idx → EReal)
      ∧ r.2.mem ((c : Thread nD τ).loc main_v4_1) = (M2 (D c).dproj : S4096x2048.Idx → EReal)
      ∧ r.2.mem ((c : Thread nD τ).loc main_v4_2) = (M2 ((D c).sums 4096) : S8x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1.trans (final_8 m c (H c)), (h c).2.1.trans (final_9 m c (H c)), (h c).2.2.1.trans (final_10 m c (H c)), (h c).2.2.2⟩)
    (run_blocks m ρ)

end Cert.Bwd

end
-- ==== Proof.BwdFinite.lean ====
/-
  The precondition of the gradient back through the input projection read back: every argument is an array of reals.
-/
module

public import proofs.«01_k».proof.Proof.Finite
public import proofs.«01_k».proof.Proof.Gen.Pre_finite_in
public import proofs.«01_k».proof.Proof.BwdHost

@[expose] public section

noncomputable section

namespace Cert.Bwd
open Cert.Mat Cert.Mlp
open Idealize.ShloMosaic

/-- The predicate over all the arguments. -/
theorem pre_all (a0 : FVec Ideal Cert.Pre_finite_in.S4096x512 .bf16) (a1 : FVec Ideal Cert.Pre_finite_in.S4096x512 .bf16) (a2 : FVec Ideal Cert.Pre_finite_in.S4096x512 .bf16) (a3 : FVec Ideal Cert.Pre_finite_in.S4096x512 .bf16) (a4 : FVec Ideal Cert.Pre_finite_in.S1024x2048 .f32) (a5 : FVec Ideal Cert.Pre_finite_in.S4096x1024 .f32) (a6 : FVec Ideal Cert.Pre_finite_in.S4096x1024 .f32) (a7 : FVec Ideal Cert.Pre_finite_in.S1024 .f32)
    (h : Cert.Pre_finite_in.fn (F := Ideal) a0 a1 a2 a3 a4 a5 a6 a7 = fun _ => 1#1) :
    (∀ i, (((a0 i : EReal).toReal : ℝ) : EReal) = a0 i) ∧ (∀ i, (((a1 i : EReal).toReal : ℝ) : EReal) = a1 i) ∧ (∀ i, (((a2 i : EReal).toReal : ℝ) : EReal) = a2 i) ∧ (∀ i, (((a3 i : EReal).toReal : ℝ) : EReal) = a3 i) ∧ (∀ i, (((a4 i : EReal).toReal : ℝ) : EReal) = a4 i) ∧ (∀ i, (((a5 i : EReal).toReal : ℝ) : EReal) = a5 i) ∧ (∀ i, (((a6 i : EReal).toReal : ℝ) : EReal) = a6 i) ∧ (∀ i, (((a7 i : EReal).toReal : ℝ) : EReal) = a7 i) := by
  have j : Cert.Pre_finite_in.S_.Idx := fun k => k.elim0
  have e := congrFun h j
  unfold Cert.Pre_finite_in.fn Cert.Pre_finite_in.fn_part1 Cert.Pre_finite_in.fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨all_real (extf .f32 a0 Cert.Pre_finite_in.Facts.bitsLt_bf16_f32) _ _ _ j e, all_real (extf .f32 a1 Cert.Pre_finite_in.Facts.bitsLt_bf16_f32) _ _ _ j e1, all_real (extf .f32 a2 Cert.Pre_finite_in.Facts.bitsLt_bf16_f32) _ _ _ j e2, all_real (extf .f32 a3 Cert.Pre_finite_in.Facts.bitsLt_bf16_f32) _ _ _ j e3, all_real a4 _ _ _ j e4, all_real a5 _ _ _ j e5, all_real a6 _ _ _ j e6, all_real a7 _ _ _ j e7⟩

open Cert.Kernel2Ideal in
/-- Under the precondition the arguments are data. -/
theorem args_of_pre (m : (ℓ : Loc nD τ sig) → Buf (Elt Ideal) ℓ) (h : Cert.Pre_Kernel2Ideal_finite_in m) :
    ∃ D : Dev nD → Data, ∀ c, Args m c (D c) := by
  have one : ∀ c : Dev nD, ∃ D : Data, Args m c D := fun c => by
    obtain ⟨h0, h1, h2, h3, h4, h5, h6, h7⟩ := pre_all _ _ _ _ _ _ _ _ (h c)
    obtain ⟨du, e0⟩ := two_axes _ h0
    obtain ⟨dq, e1⟩ := two_axes _ h1
    obtain ⟨dk, e2⟩ := two_axes _ h2
    obtain ⟨dv, e3⟩ := two_axes _ h3
    obtain ⟨w, e4⟩ := two_axes _ h4
    obtain ⟨x, e5⟩ := two_axes _ h5
    obtain ⟨dh, e6⟩ := two_axes _ h6
    obtain ⟨g, e7⟩ := one_axis _ h7
    exact ⟨{ du := du, dq := dq, dk := dk, dv := dv, w := w, x := x, dh := dh, g := g }, ⟨e0, e1, e2, e3, e4, e5, e6, e7⟩⟩
  exact ⟨fun c => (one c).choose, fun c => (one c).choose_spec⟩

end Cert.Bwd

end
-- ==== Proof.BwdRef.lean ====
/-
  The gradient back through the input projection: what the reference computes at arguments of reals.
-/
module

public import proofs.«01_k».proof.Proof.BwdStage
public import proofs.«01_k».proof.Proof.RefValue
public import proofs.«01_k».proof.Proof.Gen.Reference2Ideal.Run
public import Idealize.ShloMosaic.Lib.Claim
public import Idealize.ShloMosaic.Lib.Quiescent

@[expose] public section

set_option maxRecDepth 16384

noncomputable section

namespace Cert.BwdRef
open Cert.Mat Cert.Bwd
open Cert.Reference2Ideal Cert.Reference2Ideal.Gen Cert.Reference2Ideal.Value
open Idealize.ShloMosaic Idealize.ShloMosaic.TcCoe Idealize.SL.Sem
open scoped BigOperators

section
variable (a0 a1 a2 a3 : FVec Ideal S4096x512 .bf16) (w : FVec Ideal S1024x2048 .f32) (x dh : FVec Ideal S4096x1024 .f32) (g : FVec Ideal S1024 .f32)

/-- The constant zero the sums start from. -/
def zero : FVec Ideal S_ .f32 := constant S_ .f32 0x00000000#32
/-- The four gradients side by side. -/
def cat : FVec Ideal S4096x2048 .f32 :=
  concatenate S4096x2048 1 [⟨S4096x512, extf .f32 a0 bitsLt_bf16_f32⟩, ⟨S4096x512, extf .f32 a1 bitsLt_bf16_f32⟩, ⟨S4096x512, extf .f32 a2 bitsLt_bf16_f32⟩, ⟨S4096x512, extf .f32 a3 bitsLt_bf16_f32⟩]
    concatenates_S4096x512_S4096x512_S4096x512_S4096x512_S4096x2048_d1
/-- A column of one number. -/
def column (b : BitVec 32) : FVec Ideal S4096x1 .f32 := broadcastInDim S4096x1 ![] bcast_S_S4096x1 (constant S_ .f32 b)
/-- The mean squares with the small number, and the inverse roots. -/
def den : FVec Ideal S4096x1 .f32 :=
  addf (Host.divf (broadcastInDim S4096x1 ![0] bcast_S4096_S4096x1_0 (Host.reduceAdd (mulf x x) zero reducesTo_S4096x1024_S4096_d1 h_S_)) (column 0x44800000#32)) (column 0x358637BD#32)
def inv : FVec Ideal S4096x1 .f32 := Host.rsqrt (den x)
/-- The gradient of the norm's output, and the gain taken in. -/
def gy : FVec Ideal S4096x1024 .f32 := Host.dotGeneral dot_S4096x2048_S1024x2048_S4096x1024_1_1_0_0_n_n none (cat a0 a1 a2 a3) w
def gz : FVec Ideal S4096x1024 .f32 :=
  mulf (gy a0 a1 a2 a3 w) (broadcastInDim S4096x1024 ![0, 1] bcast_S1x1024_S4096x1024_0_1 (broadcastInDim S1x1024 ![1] bcast_S1024_S1x1024_1 g))
/-- The part that goes through the inverse roots, for any gradient `z` of the normed rows. -/
def thru (z : FVec Ideal S4096x1024 .f32) : FVec Ideal S4096x1024 .f32 :=
  broadcastInDim S4096x1024 ![0] bcast_S4096_S4096x1024_0 (Host.reduceAdd (Host.divf
    (mulf (shapeCast S4096x1 (Host.reduceAdd (mulf x z) zero reducesTo_S4096x1024_S4096_d1 h_S_ : FVec Ideal S4096 .f32) shapeCasts_S4096_S4096x1) (mulf (column 0xBF000000#32) (Host.divf (inv x) (den x))))
    (column 0x44800000#32)) zero reducesTo_S4096x1_S4096_d1 h_S_)
def gx (z : FVec Ideal S4096x1024 .f32) : FVec Ideal S4096x1024 .f32 :=
  addf (addf (addf dh (mulf z (broadcastInDim S4096x1024 ![0, 1] bcast_S4096x1_S4096x1024_0_1 (inv x)))) (mulf x (thru x z))) (mulf (thru x z) x)
/-- The gain's gradient, a row. -/
def gg : FVec Ideal S1024 .f32 :=
  Host.reduceAdd (shapeCast S1x1024 (Host.reduceAdd (mulf (mulf x (broadcastInDim S4096x1024 ![0, 1] bcast_S4096x1_S4096x1024_0_1 (inv x))) (gy a0 a1 a2 a3 w)) zero reducesTo_S4096x1024_S1024_d0 h_S_ : FVec Ideal S1024 .f32) shapeCasts_S1024_S1x1024)
    zero reducesTo_S1x1024_S1024_d0 h_S_
def eight : FVec Ideal S8x1024 .f32 :=
  concatenate S8x1024 0 [⟨S1x1024, broadcastInDim S1x1024 ![1] bcast_S1024_S1x1024_1 (gg a0 a1 a2 a3 w x)⟩, ⟨S7x1024, broadcastInDim S7x1024 ![] bcast_S_S7x1024 zero⟩] concatenates_S1x1024_S7x1024_S8x1024_d0
end

theorem rdot : dot_S4096x2048_S1024x2048_S4096x1024_1_1_0_0_n_n = DotDims.transposedRhs 4096 2048 1024 := rfl

theorem zero_M0 : zero = M0 0 := constant_bits0 bits_0
theorem column_M2 {b : BitVec 32} {r : ℝ} (h : Ideal.ofBits .f32 b = (r : EReal)) : column b = (M2 fun _ _ => r : S4096x1.Idx → EReal) := by
  unfold column; rw [constant_bits0 h]; rfl

/-- Four arrays of 512 columns side by side. -/
theorem cat_M2 (f0 f1 f2 f3 : ℕ → ℕ → ℝ) (h : Shape.Concatenates [S4096x512, S4096x512, S4096x512, S4096x512] S4096x2048 1) :
    concatenate S4096x2048 1 [⟨S4096x512, (M2 f0 : S4096x512.Idx → EReal)⟩, ⟨S4096x512, (M2 f1 : S4096x512.Idx → EReal)⟩, ⟨S4096x512, (M2 f2 : S4096x512.Idx → EReal)⟩, ⟨S4096x512, (M2 f3 : S4096x512.Idx → EReal)⟩] h
      = M2 (beside 512 f0 (beside 512 f1 (beside 512 f2 f3))) := by
  funext j
  have hj0 : (j 0).val < 4096 := (j 0).isLt
  have hj1 : (j 1).val < 2048 := (j 1).isLt
  show _ = ((beside 512 f0 (beside 512 f1 (beside 512 f2 f3)) (j 0).val (j 1).val : ℝ) : EReal)
  unfold beside
  by_cases h0 : (j 1).val < 512
  · rw [if_pos h0]
    refine (concatenate_apply_piece (t := S4096x2048) (1 : Fin S4096x2048.rank) ([⟨S4096x512, (M2 f0 : S4096x512.Idx → EReal)⟩, ⟨S4096x512, (M2 f1 : S4096x512.Idx → EReal)⟩, ⟨S4096x512, (M2 f2 : S4096x512.Idx → EReal)⟩, ⟨S4096x512, (M2 f3 : S4096x512.Idx → EReal)⟩] : List ((s : Shape) × (s.Idx → EReal))) h j 0 (by simp only [List.length_cons, List.length_nil]; omega) S4096x512 (M2 f0 : S4096x512.Idx → EReal) rfl rfl 0 rfl (ValueIdx.ix2 (⟨(j 0).val, hj0⟩ : Fin 4096) (⟨(j 1).val - 0, by omega⟩ : Fin 512)) ?_ (by show 0 + ((j 1).val - 0) = (j 1).val; omega)).trans ?_
    · intro b hb
      match b with
      | 0 => rfl
      | 1 => exact absurd rfl hb
    · rfl
  rw [if_neg h0]
  by_cases h1 : (j 1).val - 512 < 512
  · rw [if_pos h1]
    refine (concatenate_apply_piece (t := S4096x2048) (1 : Fin S4096x2048.rank) ([⟨S4096x512, (M2 f0 : S4096x512.Idx → EReal)⟩, ⟨S4096x512, (M2 f1 : S4096x512.Idx → EReal)⟩, ⟨S4096x512, (M2 f2 : S4096x512.Idx → EReal)⟩, ⟨S4096x512, (M2 f3 : S4096x512.Idx → EReal)⟩] : List ((s : Shape) × (s.Idx → EReal))) h j 1 (by simp only [List.length_cons, List.length_nil]; omega) S4096x512 (M2 f1 : S4096x512.Idx → EReal) rfl rfl 512 rfl (ValueIdx.ix2 (⟨(j 0).val, hj0⟩ : Fin 4096) (⟨(j 1).val - 512, by omega⟩ : Fin 512)) ?_ (by show 512 + ((j 1).val - 512) = (j 1).val; omega)).trans ?_
    · intro b hb
      match b with
      | 0 => rfl
      | 1 => exact absurd rfl hb
    · rfl
  rw [if_neg h1]
  by_cases h2 : (j 1).val - 512 - 512 < 512
  · rw [if_pos h2]
    refine (concatenate_apply_piece (t := S4096x2048) (1 : Fin S4096x2048.rank) ([⟨S4096x512, (M2 f0 : S4096x512.Idx → EReal)⟩, ⟨S4096x512, (M2 f1 : S4096x512.Idx → EReal)⟩, ⟨S4096x512, (M2 f2 : S4096x512.Idx → EReal)⟩, ⟨S4096x512, (M2 f3 : S4096x512.Idx → EReal)⟩] : List ((s : Shape) × (s.Idx → EReal))) h j 2 (by simp only [List.length_cons, List.length_nil]; omega) S4096x512 (M2 f2 : S4096x512.Idx → EReal) rfl rfl 1024 rfl (ValueIdx.ix2 (⟨(j 0).val, hj0⟩ : Fin 4096) (⟨(j 1).val - 1024, by omega⟩ : Fin 512)) ?_ (by show 1024 + ((j 1).val - 1024) = (j 1).val; omega)).trans ?_
    · intro b hb
      match b with
      | 0 => rfl
      | 1 => exact absurd rfl hb
    · show ((f2 (j 0).val ((j 1).val - 1024) : ℝ) : EReal) = _
      rw [show (j 1).val - 1024 = (j 1).val - 512 - 512 from by omega]
  · rw [if_neg h2]
    refine (concatenate_apply_piece (t := S4096x2048) (1 : Fin S4096x2048.rank) ([⟨S4096x512, (M2 f0 : S4096x512.Idx → EReal)⟩, ⟨S4096x512, (M2 f1 : S4096x512.Idx → EReal)⟩, ⟨S4096x512, (M2 f2 : S4096x512.Idx → EReal)⟩, ⟨S4096x512, (M2 f3 : S4096x512.Idx → EReal)⟩] : List ((s : Shape) × (s.Idx → EReal))) h j 3 (by simp only [List.length_cons, List.length_nil]; omega) S4096x512 (M2 f3 : S4096x512.Idx → EReal) rfl rfl 1536 rfl (ValueIdx.ix2 (⟨(j 0).val, hj0⟩ : Fin 4096) (⟨(j 1).val - 1536, by omega⟩ : Fin 512)) ?_ (by show 1536 + ((j 1).val - 1536) = (j 1).val; omega)).trans ?_
    · intro b hb
      match b with
      | 0 => rfl
      | 1 => exact absurd rfl hb
    · show ((f3 (j 0).val ((j 1).val - 1536) : ℝ) : EReal) = _
      rw [show (j 1).val - 1536 = (j 1).val - 512 - 512 - 512 from by omega]

section
variable (D : Bwd.Data)

theorem cat_eq : cat (M2 D.du) (M2 D.dq) (M2 D.dk) (M2 D.dv) = (M2 D.dproj : S4096x2048.Idx → EReal) := by
  unfold cat
  simp only [extf_M2]
  exact cat_M2 _ _ _ _ _
theorem den_eq : den (M2 D.x) = (M2 fun p _ => (∑ k ∈ Finset.range 1024, D.x p k * D.x p k) / 1024 + eps : S4096x1.Idx → EReal) := by
  unfold den
  rw [mulf_M2, zero_M0, Plain.hostRowsum0, bind_col, column_M2 bits_1024, column_M2 bits_eps, hostDivf_M2 _ _ (fun _ _ => by norm_num)]
  exact addf_M2 _ _
theorem inv_eq : inv (M2 D.x) = (M2 fun p _ => rs 1024 1024 D.x p : S4096x1.Idx → EReal) := by
  unfold inv
  rw [den_eq]
  exact hostRsqrt_M2 _ fun p _ => mean_pos D.x 1024 (by norm_num) p
theorem gy_eq : gy (M2 D.du) (M2 D.dq) (M2 D.dk) (M2 D.dv) (M2 D.w) = (M2 D.dhn : S4096x1024.Idx → EReal) := by
  unfold gy
  rw [cat_eq, rdot]
  exact dotT_M2 _ _ _ _
theorem gz_eq : gz (M2 D.du) (M2 D.dq) (M2 D.dk) (M2 D.dv) (M2 D.w) (M1 D.g) = (M2 (scale D.dhn D.g) : S4096x1024.Idx → EReal) := by
  unfold gz
  rw [gy_eq, bind_row, bind_row2]
  exact mulf_M2 _ _
theorem thru_eq (d : ℕ → ℕ → ℝ) : thru (M2 D.x) (M2 d) = (M2 fun p _ => (∑ k ∈ Finset.range 1024, D.x p k * d p k) *
    (-1 / 2 * (rs 1024 1024 D.x p / ((∑ k ∈ Finset.range 1024, D.x p k * D.x p k) / 1024 + eps))) / 1024 : S4096x1024.Idx → EReal) := by
  unfold thru
  rw [mulf_M2, zero_M0, Plain.hostRowsum0, shapeCast_M1_col, inv_eq, den_eq, column_M2 bits_1024, column_M2 bits_neghalf,
    hostDivf_M2 _ _ (fun p _ => (mean_pos D.x 1024 (by norm_num) p).ne'), mulf_M2, mulf_M2, hostDivf_M2 _ _ (fun _ _ => by norm_num), Plain.hostRowsum0, bind_col]
  refine M2_congr fun p q _ _ => ?_
  rw [Finset.sum_range_one]
theorem gx_eq : gx (M2 D.x) (M2 D.dh) (M2 (scale D.dhn D.g)) = (M2 D.dx : S4096x1024.Idx → EReal) := by
  unfold gx
  rw [thru_eq, inv_eq, bind_col2, mulf_M2, mulf_M2, mulf_M2, addf_M2, addf_M2, addf_M2]
  refine M2_congr fun p q _ _ => ?_
  unfold Bwd.Data.dx
  rw [← Plain.back_eq 1024 1024 D.x (scale D.dhn D.g) (by norm_num) p q]
  ring
theorem gg_eq : gg (M2 D.du) (M2 D.dq) (M2 D.dk) (M2 D.dv) (M2 D.w) (M2 D.x) = (M1 fun q => ∑ k ∈ Finset.range 4096, D.dg k q : S1024.Idx → EReal) := by
  unfold gg
  rw [inv_eq, gy_eq, bind_col2, mulf_M2, mulf_M2, zero_M0, Plain.hostColsum0, shapeCast_M1_row, Plain.hostColsum0]
  refine M1_congr fun q _ => ?_
  rw [Finset.sum_range_one]
  refine Finset.sum_congr rfl fun k _ => ?_
  unfold Bwd.Data.dg hat
  exact mul_comm _ _
/-- A row over seven rows of zeros. -/
theorem eight_M2 (u : ℕ → ℝ) (h : Shape.Concatenates [S1x1024, S7x1024] S8x1024 0) :
    concatenate S8x1024 0 [⟨S1x1024, (M2 fun _ q => u q : S1x1024.Idx → EReal)⟩, ⟨S7x1024, (M2 fun _ _ => 0 : S7x1024.Idx → EReal)⟩] h
      = M2 fun p q => if p = 0 then u q else 0 := by
  funext j
  have hj0 : (j 0).val < 8 := (j 0).isLt
  have hj1 : (j 1).val < 1024 := (j 1).isLt
  show _ = ((if (j 0).val = 0 then u (j 1).val else 0 : ℝ) : EReal)
  by_cases h0 : (j 0).val = 0
  · rw [if_pos h0]
    refine (concatenate_apply_piece (t := S8x1024) (0 : Fin S8x1024.rank) ([⟨S1x1024, (M2 fun _ q => u q : S1x1024.Idx → EReal)⟩, ⟨S7x1024, (M2 fun _ _ => 0 : S7x1024.Idx → EReal)⟩] : List ((s : Shape) × (s.Idx → EReal))) h j 0 (by simp only [List.length_cons, List.length_nil]; omega) S1x1024 (M2 fun _ q => u q : S1x1024.Idx → EReal) rfl rfl 0 rfl (ValueIdx.ix2 (⟨0, Nat.one_pos⟩ : Fin 1) (⟨(j 1).val, hj1⟩ : Fin 1024)) ?_ h0.symm).trans rfl
    intro b hb
    match b with
    | 0 => exact absurd rfl hb
    | 1 => rfl
  · rw [if_neg h0]
    refine (concatenate_apply_piece (t := S8x1024) (0 : Fin S8x1024.rank) ([⟨S1x1024, (M2 fun _ q => u q : S1x1024.Idx → EReal)⟩, ⟨S7x1024, (M2 fun _ _ => 0 : S7x1024.Idx → EReal)⟩] : List ((s : Shape) × (s.Idx → EReal))) h j 1 (by simp only [List.length_cons, List.length_nil]; omega) S7x1024 (M2 fun _ _ => 0 : S7x1024.Idx → EReal) rfl rfl 1 rfl (ValueIdx.ix2 (⟨(j 0).val - 1, by omega⟩ : Fin 7) (⟨(j 1).val, hj1⟩ : Fin 1024)) ?_ (by show 1 + ((j 0).val - 1) = (j 0).val; omega)).trans rfl
    intro b hb
    match b with
    | 0 => exact absurd rfl hb
    | 1 => rfl
theorem eight_eq : eight (M2 D.du) (M2 D.dq) (M2 D.dk) (M2 D.dv) (M2 D.w) (M2 D.x) = (M2 (D.sums 4096) : S8x1024.Idx → EReal) := by
  unfold eight
  rw [gg_eq, bind_row, zero_M0, bind_scalar (t := S_)]
  exact eight_M2 _ _
end

variable (m : (ℓ : Loc nD τ sig) → Buf (Elt Ideal) ℓ)
/-- The arguments at launch, on one device, are the data. -/
structure Args (c : Dev nD) (D : Bwd.Data) : Prop where
  du : m ((c.tc : Thread nD τ).loc main_arg0) = (M2 D.du : S4096x512.Idx → EReal)
  dq : m ((c.tc : Thread nD τ).loc main_arg1) = (M2 D.dq : S4096x512.Idx → EReal)
  dk : m ((c.tc : Thread nD τ).loc main_arg2) = (M2 D.dk : S4096x512.Idx → EReal)
  dv : m ((c.tc : Thread nD τ).loc main_arg3) = (M2 D.dv : S4096x512.Idx → EReal)
  w : m ((c.tc : Thread nD τ).loc main_arg4) = (M2 D.w : S1024x2048.Idx → EReal)
  x : m ((c.tc : Thread nD τ).loc main_arg5) = (M2 D.x : S4096x1024.Idx → EReal)
  dh : m ((c.tc : Thread nD τ).loc main_arg6) = (M2 D.dh : S4096x1024.Idx → EReal)
  g : m ((c.tc : Thread nD τ).loc main_arg7) = (M1 D.g : S1024.Idx → EReal)

variable {m} {c : Dev nD} {D : Bwd.Data}
theorem end_dx (h : Args m c D) : res_main_v49 (F := Ideal) m c = (M2 D.dx : S4096x1024.Idx → EReal) := by
  have e : res_main_v49 (F := Ideal) m c = gx (m ((c.tc : Thread nD τ).loc main_arg5)) (m ((c.tc : Thread nD τ).loc main_arg6))
      (gz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) := by
    unfold res_main_v49 gx gz thru gy inv den cat column zero; rfl
  rw [e, h.du, h.dq, h.dk, h.dv, h.w, h.x, h.dh, h.g, gz_eq, gx_eq]
theorem end_dproj (h : Args m c D) : (truncf .bf16 (cat (m ((c.tc : Thread nD τ).loc main_arg0)) (m ((c.tc : Thread nD τ).loc main_arg1)) (m ((c.tc : Thread nD τ).loc main_arg2)) (m ((c.tc : Thread nD τ).loc main_arg3))) bitsLt_bf16_f32 : FVec Ideal S4096x2048 .bf16)
    = (M2 D.dproj : S4096x2048.Idx → EReal) := by
  rw [h.du, h.dq, h.dk, h.dv, cat_eq]; rfl
theorem end_sums (h : Args m c D) : eight (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = (M2 (D.sums 4096) : S8x1024.Idx → EReal) := by
  rw [h.du, h.dq, h.dk, h.dv, h.w, h.x, eight_eq]

variable (m) in
/-- The reference's run over the data. -/
theorem run (ρ : Dev nD → PrngReg) (D : Dev nD → Bwd.Data) (H : ∀ c, Args m c (D c)) :
    θ_run defs (onTc (τ := τ) (main (F := Ideal))) ⟨m, fun _ => 0, ρ⟩ fun r => ∀ c : Dev nD,
      r.2.mem ((c.tc : Thread nD τ).loc main_v49) = (M2 (D c).dx : S4096x1024.Idx → EReal)
      ∧ r.2.mem ((c.tc : Thread nD τ).loc main_v50) = (M2 (D c).dproj : S4096x2048.Idx → EReal)
      ∧ r.2.mem ((c.tc : Thread nD τ).loc main_v53) = (M2 ((D c).sums 4096) : S8x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (end_dx (H c)), (h c).2.1.trans (end_dproj (H c)), (h c).2.2.1.trans (end_sums (H c)), (h c).2.2.2⟩)
    (Cert.Reference2Ideal.Value.run m ρ)

variable (m) in
/-- The reference leaves its arguments; it declares no semaphore. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2.2.2, sem_eq_zero_of_no_sems (by decide) r.2⟩) (Cert.Reference2Ideal.Value.run m ρ)

end Cert.BwdRef

end
-- ==== Proof.Rows.lean ====
/-
  Two arrays with the same rows, multiplied over their rows, entry by entry over the extended reals.
-/
module

public import proofs.«01_k».proof.Proof.Mat

@[expose] public section

noncomputable section

namespace Cert.Rows

open Idealize.ShloMosaic
open scoped BigOperators

/-- The dimension numbers of `[K, M]ᵀ × [K, N]`. -/
def dims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : ℕ} (wf : DotDims.WF ⟨2, ![K, M]⟩ ⟨2, ![K, N]⟩ ⟨2, ![M, N]⟩ [0] [0] [1] [1] [] [])

theorem rank_one : (dims K M N wf).contr.rank = 1 := rfl
theorem size_rows : (dims K M N wf).contr.size ⟨0, by rw [rank_one]; exact Nat.one_pos⟩ = K := rfl

/-- Contracted position `k` of an output entry reads row `k` of the left factor in the entry's first coordinate. -/
theorem lhs_at (p : Fin M) (q : Fin N) (k : Fin K) :
    (dims K M N wf).lhsIdx (ValueIdx.ix2 p q) ((ValueIdx.contrEquiv1 _ K (rank_one wf) (size_rows wf)).symm k) = ValueIdx.ix2 k p := by
  funext a; apply Fin.ext
  match a with
  | ⟨0, _⟩ => exact ValueIdx.contrEquiv1_symm_val _ K (rank_one wf) (size_rows wf) k
  | ⟨1, _⟩ => rfl
/-- … and row `k` of the right factor in the second. -/
theorem rhs_at (p : Fin M) (q : Fin N) (k : Fin K) :
    (dims K M N wf).rhsIdx (ValueIdx.ix2 p q) ((ValueIdx.contrEquiv1 _ K (rank_one wf) (size_rows wf)).symm k) = ValueIdx.ix2 k q := by
  funext a; apply Fin.ext
  match a with
  | ⟨0, _⟩ => exact ValueIdx.contrEquiv1_symm_val _ K (rank_one wf) (size_rows wf) k
  | ⟨1, _⟩ => rfl

variable {φ ψ : FTy}

/-- A product over the rows, added to an accumulator. -/
theorem matmul_at (prec : Option ContractPrecision) (a : FVec Ideal ⟨2, ![K, M]⟩ φ) (b : FVec Ideal ⟨2, ![K, N]⟩ ψ)
    (z : FVec Ideal ⟨2, ![M, N]⟩ .f32) (p : Fin M) (q : Fin N) :
    FloatOps.matmul (F := Ideal) (dims K M N wf) prec a b z (ValueIdx.ix2 p q) = z (ValueIdx.ix2 p q) + ∑ k : Fin K, a (ValueIdx.ix2 k p) * b (ValueIdx.ix2 k q) := by
  rw [Ideal.matmul_apply, ← Equiv.sum_comp (ValueIdx.contrEquiv1 _ K (rank_one wf) (size_rows wf)).symm]
  refine congrArg (z (ValueIdx.ix2 p q) + ·) (Finset.sum_congr rfl fun k _ => ?_)
  rw [lhs_at, rhs_at]
/-- The same on the host, without an accumulator. -/
theorem dot_at (prec : Option ContractPrecision) (sched : HostSchedule) (a : FVec Ideal ⟨2, ![K, M]⟩ φ) (b : FVec Ideal ⟨2, ![K, N]⟩ ψ)
    (p : Fin M) (q : Fin N) :
    FloatOps.dotGeneral (F := Ideal) (dims K M N wf) prec sched a b (ValueIdx.ix2 p q) = ∑ k : Fin K, a (ValueIdx.ix2 k p) * b (ValueIdx.ix2 k q) := by
  rw [Ideal.dotGeneral_apply, ← Equiv.sum_comp (ValueIdx.contrEquiv1 _ K (rank_one wf) (size_rows wf)).symm]
  refine Finset.sum_congr rfl fun k _ => ?_
  rw [lhs_at, rhs_at]

/-- An array's entry by its coordinates, zero outside the array. -/
def entry {K M : ℕ} (a : (⟨2, ![K, M]⟩ : Shape).Idx → EReal) (k p : ℕ) : EReal :=
  if h : k < K ∧ p < M then a (ValueIdx.ix2 ⟨k, h.1⟩ ⟨p, h.2⟩) else 0
theorem entry_ix {K M : ℕ} (a : (⟨2, ![K, M]⟩ : Shape).Idx → EReal) (k : Fin K) (p : Fin M) : entry a k.val p.val = a (ValueIdx.ix2 k p) :=
  dif_pos ⟨k.isLt, p.isLt⟩

/-- The product of two arrays over their first `n` rows. -/
def upto {K M N : ℕ} (n : ℕ) (a : (⟨2, ![K, M]⟩ : Shape).Idx → EReal) (b : (⟨2, ![K, N]⟩ : Shape).Idx → EReal) (p q : ℕ) : EReal :=
  ∑ k ∈ Finset.range n, entry a k p * entry b k q
theorem upto_zero (a : (⟨2, ![K, M]⟩ : Shape).Idx → EReal) (b : (⟨2, ![K, N]⟩ : Shape).Idx → EReal) (p q : ℕ) : upto 0 a b p q = 0 :=
  Finset.sum_range_zero _
theorem upto_add (n l : ℕ) (a : (⟨2, ![K, M]⟩ : Shape).Idx → EReal) (b : (⟨2, ![K, N]⟩ : Shape).Idx → EReal) (p q : ℕ) :
    upto (n + l) a b p q = upto n a b p q + ∑ k ∈ Finset.range l, entry a (n + k) p * entry b (n + k) q :=
  Finset.sum_range_add _ n l
theorem upto_all (a : (⟨2, ![K, M]⟩ : Shape).Idx → EReal) (b : (⟨2, ![K, N]⟩ : Shape).Idx → EReal) (p : Fin M) (q : Fin N) :
    ∑ k : Fin K, a (ValueIdx.ix2 k p) * b (ValueIdx.ix2 k q) = upto K a b p.val q.val := by
  rw [upto, ← Fin.sum_univ_eq_sum_range (fun k => entry a k p.val * entry b k q.val)]
  exact Finset.sum_congr rfl fun k _ => by rw [entry_ix, entry_ix]

/-- A block of `l` rows from row `n` on adds its products to those of the rows before. -/
theorem upto_block {l : ℕ} (n : ℕ) (hn : n + l ≤ K) (a : (⟨2, ![K, M]⟩ : Shape).Idx → EReal) (b : (⟨2, ![K, N]⟩ : Shape).Idx → EReal)
    (a' : (⟨2, ![l, M]⟩ : Shape).Idx → EReal) (b' : (⟨2, ![l, N]⟩ : Shape).Idx → EReal)
    (ha : ∀ (k : Fin l) (p : Fin M), a' (ValueIdx.ix2 k p) = a (ValueIdx.ix2 ⟨n + k.val, by omega⟩ p))
    (hb : ∀ (k : Fin l) (q : Fin N), b' (ValueIdx.ix2 k q) = b (ValueIdx.ix2 ⟨n + k.val, by omega⟩ q)) (p : Fin M) (q : Fin N) :
    upto n a b p.val q.val + ∑ k : Fin l, a' (ValueIdx.ix2 k p) * b' (ValueIdx.ix2 k q) = upto (n + l) a b p.val q.val := by
  rw [upto_add, ← Fin.sum_univ_eq_sum_range (fun k => entry a (n + k) p.val * entry b (n + k) q.val)]
  refine congrArg (upto n a b p.val q.val + ·) (Finset.sum_congr rfl fun k _ => ?_)
  rw [ha, hb]
  exact congrArg₂ (· * ·) (entry_ix a ⟨n + k.val, by omega⟩ p).symm (entry_ix b ⟨n + k.val, by omega⟩ q).symm

/-- The factors may change places. -/
theorem upto_comm (n : ℕ) (a : (⟨2, ![K, M]⟩ : Shape).Idx → EReal) (b : (⟨2, ![K, N]⟩ : Shape).Idx → EReal) (p q : ℕ) :
    upto n a b p q = upto n b a q p := Finset.sum_congr rfl fun k _ => mul_comm _ _

end Cert.Rows
-- ==== Proof.Wout.lean ====
/-
  The gradient of the output projection: the kernel adds up four blocks of rows, the reference multiplies once.
-/
module

public import proofs.«01_k».proof.Proof.Gen.Kernel3Ideal.Value
public import proofs.«01_k».proof.Proof.Gen.Reference3Ideal.Run
public import proofs.«01_k».proof.Proof.Rows
public import Idealize.ShloMosaic.Lib.Claim
public import Idealize.ShloMosaic.Lib.Quiescent
public import Idealize.ShloMosaic.Lib.Pipeline.ReadBack
public import Idealize.ShloMosaic.Lib.Pipeline.ValueKit

@[expose] public section

set_option maxRecDepth 16384

noncomputable section

namespace Cert.Wout

open Cert.Rows
open Cert.Kernel3Ideal Cert.Kernel3Ideal.Gen Cert.Kernel3Ideal.Value Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

/-- The two arguments. -/
def left : S4096x1024.Idx → EReal := m ((c : Thread nD τ).loc main_arg0)
def right : S4096x1024.Idx → EReal := m ((c : Thread nD τ).loc main_arg1)

/-- A point's blocks are the point's 1024 rows of the arguments. -/
theorem block_left (t : Fin cfg0.N) (k p : Fin 1024) (h : 1024 * t.val + k.val < 4096) :
    (iblk m c 0 t : S1024x1024.Idx → EReal) (ValueIdx.ix2 k p) = left m c (ValueIdx.ix2 ⟨1024 * t.val + k.val, h⟩ p) := by
  have i0 : win0_0.index t 0 = t.val := (by decide +kernel : ∀ t : Fin grid0.N, win0_0.index t 0 = t.val) t
  have i1 : win0_0.index t 1 = 0 := (by decide +kernel : ∀ t : Fin grid0.N, win0_0.index t 1 = 0) t
  show left m c (((cfg0.win 0).blk t).view.emb (ValueIdx.ix2 k p)) = _
  refine congrArg (left m c) ?_
  funext a; apply Fin.ext
  match a with
  | ⟨0, _⟩ => show win0_0.index t 0 * 1024 + 1 * k.val = 1024 * t.val + k.val; rw [i0]; ring
  | ⟨1, _⟩ => show win0_0.index t 1 * 1024 + 1 * p.val = p.val; rw [i1]; ring
theorem block_right (t : Fin cfg0.N) (k p : Fin 1024) (h : 1024 * t.val + k.val < 4096) :
    (iblk m c 1 t : S1024x1024.Idx → EReal) (ValueIdx.ix2 k p) = right m c (ValueIdx.ix2 ⟨1024 * t.val + k.val, h⟩ p) := by
  have i0 : win0_1.index t 0 = t.val := (by decide +kernel : ∀ t : Fin grid0.N, win0_1.index t 0 = t.val) t
  have i1 : win0_1.index t 1 = 0 := (by decide +kernel : ∀ t : Fin grid0.N, win0_1.index t 1 = 0) t
  show right m c (((cfg0.win 1).blk t).view.emb (ValueIdx.ix2 k p)) = _
  refine congrArg (right m c) ?_
  funext a; apply Fin.ext
  match a with
  | ⟨0, _⟩ => show win0_1.index t 0 * 1024 + 1 * k.val = 1024 * t.val + k.val; rw [i0]; ring
  | ⟨1, _⟩ => show win0_1.index t 1 * 1024 + 1 * p.val = p.val; rw [i1]; ring

/-- What the accumulator starts from. -/
theorem zeros (j : S1024x1024.Idx) : k0_pay1 (F := Ideal) j = 0 := by
  unfold k0_pay1
  rw [shapeCast_self]
  exact Ideal.ofBits_zero_f32

/-- One block's products, added to what was there. -/
theorem added (z : S1024x1024.Idx → EReal) (a b : S1024x1024.Idx → EReal) (p q : Fin 1024) :
    k0_pay2 (F := Ideal) z a b (ValueIdx.ix2 p q) = z (ValueIdx.ix2 p q) + ∑ k : Fin 1024, a (ValueIdx.ix2 k p) * b (ValueIdx.ix2 k q) := by
  unfold k0_pay2
  rw [shapeCast_self]
  refine congrArg (z (ValueIdx.ix2 p q) + ·) ?_
  refine (matmul_at (K := 1024) (M := 1024) (N := 1024) _ none a b (constant S1024x1024 .f32 0x00000000#32) p q).trans ?_
  show Ideal.ofBits .f32 0x00000000#32 + _ = _
  rw [Ideal.ofBits_zero_f32, zero_add]

/-- The products over the rows of the points up to and including point `n`. -/
def soFar (n : ℕ) : S1024x1024.Idx → EReal := fun j => upto (1024 * (n + 1)) (left m c) (right m c) (j 0).val (j 1).val

theorem step (t : Fin cfg0.N) (z : S1024x1024.Idx → EReal)
    (hz : ∀ p q : Fin 1024, z (ValueIdx.ix2 p q) = upto (1024 * t.val) (left m c) (right m c) p.val q.val) :
    k0_pay2 (F := Ideal) z (iblk m c 0 t) (iblk m c 1 t) = soFar m c t.val := by
  have hN : t.val < 4 := lt_of_lt_of_eq t.isLt N_0
  let left' : S1024x1024.Idx → EReal := iblk m c 0 t
  let right' : S1024x1024.Idx → EReal := iblk m c 1 t
  have hl : ∀ (k p : Fin 1024), left' (ValueIdx.ix2 k p) = left m c (ValueIdx.ix2 ⟨1024 * t.val + k.val, by omega⟩ p) := fun k p => block_left m c t k p (by omega)
  have hr : ∀ (k p : Fin 1024), right' (ValueIdx.ix2 k p) = right m c (ValueIdx.ix2 ⟨1024 * t.val + k.val, by omega⟩ p) := fun k p => block_right m c t k p (by omega)
  have e : ∀ p q : Fin 1024, k0_pay2 (F := Ideal) z left' right' (ValueIdx.ix2 p q) = upto (1024 * t.val + 1024) (left m c) (right m c) p.val q.val := fun p q => by
    rw [added, hz]
    exact upto_block (1024 * t.val) (by omega) (left m c) (right m c) left' right' hl hr p q
  funext j
  exact (congrArg (k0_pay2 (F := Ideal) z left' right') (ValueIdx.eq_ix2 j)).trans (e (j 0) (j 1))

theorem scratch_first (t : Fin cfg0.N) (h0 : t.val % 4 = 0) (h1 : ¬t.val % 4 = 3) : (outsAt0 m c t.val t.isLt).2 = soFar m c t.val := by
  have hN : t.val < 4 := lt_of_lt_of_eq t.isLt N_0
  have ht : t.val = 0 := by omega
  rw [outsAt0_A m c t h0 h1]
  frame_out
  refine step m c t _ fun p q => ?_
  rw [zeros, ht, Nat.mul_zero, upto_zero]

theorem scratch_middle (t : Fin cfg0.N) (h0 : ¬t.val % 4 = 0) (h1 : ¬t.val % 4 = 3)
    (ih : ∀ h, (outsAt0 m c (t.val - 1) h).2 = soFar m c (t.val - 1)) : (outsAt0 m c t.val t.isLt).2 = soFar m c t.val := by
  rw [outsAt0_B m c t h0 h1]
  frame_out
  simp only [read_unread_whole, ih]
  refine step m c t _ fun p q => ?_
  show upto (1024 * (t.val - 1 + 1)) _ _ _ _ = _
  rw [show t.val - 1 + 1 = t.val from by omega]

/-- An array's rows in eight slabs of 128. -/
def slabs (w : S1024x1024.Idx → EReal) : S8x128x1024.Idx → EReal := fun i =>
  w (ValueIdx.ix2 ⟨128 * (i 0).val + (i 1).val, by have h0 : (i 0).val < 8 := (i 0).isLt; have h1 : (i 1).val < 128 := (i 1).isLt; omega⟩ (i 2))

/-- One slab, loaded, rounded and stored. -/
theorem slab_piece (w : S1024x1024.Idx → EReal) (v : View sig .tc .vmem S1024x1024 .f32) (k o : ℕ) (ho : o = 128 * k) (inb inb' inb0) (hb : FTy.bits .bf16 < FTy.bits .f32) (hs : S128x1024.ShapeCasts S1x128x1024)
    (x : (Rect.unit (s := S8x128x1024) ![k, 0, 0] ![1, 128, 1024] inb').shape.Idx) :
    (shapeCast S1x128x1024 (truncf (F := Ideal) (φ := .f32) (s := S128x1024) .bf16 (v.readCov (Val := Elt Ideal) [⟨Rect.unit (s := S1024x1024) ![0, 0] ![1024, 1024] inb0, w⟩]
        (Rect.unit (s := S1024x1024) ![o, 0] ![128, 1024] inb).toLoadRect : FVec Ideal S128x1024 .f32) hb) hs : S1x128x1024.Idx → EReal) x
      = slabs w ((Rect.unit (s := S8x128x1024) ![k, 0, 0] ![1, 128, 1024] inb').emb x) := by
  subst ho
  have x0 : (x 0).val < 1 := (x 0).isLt
  have x1 : (x 1).val < 128 := (x 1).isLt
  have h0 : ((Rect.unit (s := S8x128x1024) ![k, 0, 0] ![1, 128, 1024] inb').idx x 0).val = k + (x 0).val := Rect.idx_unit_val _ _ inb' x 0
  have h1 : ((Rect.unit (s := S8x128x1024) ![k, 0, 0] ![1, 128, 1024] inb').idx x 1).val = 0 + (x 1).val := Rect.idx_unit_val _ _ inb' x 1
  have h2 : ((Rect.unit (s := S8x128x1024) ![k, 0, 0] ![1, 128, 1024] inb').idx x 2).val = 0 + (x 2).val := Rect.idx_unit_val _ _ inb' x 2
  refine (shapeCast_apply _ hs x (ValueIdx.ix2 (x 1) (x 2)) ?_).trans ?_
  · rw [Shape.rowMajor_val_two, Shape.rowMajor_val_three]
    show (x 1).val * 1024 + (x 2).val = ((x 0).val * 128 + (x 1).val) * 1024 + (x 2).val
    omega
  · refine (congrFun (View.readCov_fill (Val := Elt Ideal) v inb0 w [] (Rect.unit (s := S1024x1024) ![128 * k, 0] ![128, 1024] inb) (by decide)) (ValueIdx.ix2 (x 1) (x 2))).trans ?_
    refine congrArg w ?_
    have g0 := Rect.idx_unit_val (s := S1024x1024) ![128 * k, 0] ![128, 1024] inb (ValueIdx.ix2 (x 1) (x 2)) 0
    have g1 := Rect.idx_unit_val (s := S1024x1024) ![128 * k, 0] ![128, 1024] inb (ValueIdx.ix2 (x 1) (x 2)) 1
    funext a; apply Fin.ext
    match a with
    | ⟨0, _⟩ =>
      refine g0.trans ?_
      show 128 * k + (x 1).val = 128 * ((Rect.unit (s := S8x128x1024) ![k, 0, 0] ![1, 128, 1024] inb').idx x 0).val + ((Rect.unit (s := S8x128x1024) ![k, 0, 0] ![1, 128, 1024] inb').idx x 1).val
      rw [h0, h1]; omega
    | ⟨1, _⟩ =>
      refine g1.trans ?_
      show 0 + (x 2).val = ((Rect.unit (s := S8x128x1024) ![k, 0, 0] ![1, 128, 1024] inb').idx x 2).val
      rw [h2]

theorem result_last (t : Fin cfg0.N) (h0 : ¬t.val % 4 = 0) (h1 : t.val % 4 = 3)
    (ih : ∀ h, (outsAt0 m c (t.val - 1) h).2 = soFar m c (t.val - 1)) : (outsAt0 m c t.val t.isLt).1 = slabs (soFar m c t.val) := by
  have e : k0_pay2 (F := Ideal) (soFar m c (t.val - 1)) (iblk m c 0 t) (iblk m c 1 t) = soFar m c t.val := by
    refine step m c t _ fun p q => ?_
    show upto (1024 * (t.val - 1 + 1)) _ _ _ _ = _
    rw [show t.val - 1 + 1 = t.val from by omega]
  rw [outsAt0_C m c t h0 h1]
  frame_out
  simp only [read_unread_whole, ih]
  rw [e]
  funext y
  refine View.canon_apply_of_pieces (Val := Elt Ideal) (e := .bf16) (slabs (soFar m c t.val)) _ (View.PiecesOf.mem ?_) y (View.cover_of_tiledL (s := S8x128x1024) _ S1x128x1024.size (by sl_kernel_rfl) y)
  exact ⟨slab_piece _ _ 7 896 rfl inb_S1024x1024_S128x1024_896_0 inb_S8x128x1024_S1x128x1024_7_0_0 inb_S1024x1024_S1024x1024_0_0 bitsLt_bf16_f32 shapeCasts_S128x1024_S1x128x1024,
    slab_piece _ _ 6 768 rfl inb_S1024x1024_S128x1024_768_0 inb_S8x128x1024_S1x128x1024_6_0_0 inb_S1024x1024_S1024x1024_0_0 bitsLt_bf16_f32 shapeCasts_S128x1024_S1x128x1024,
    slab_piece _ _ 5 640 rfl inb_S1024x1024_S128x1024_640_0 inb_S8x128x1024_S1x128x1024_5_0_0 inb_S1024x1024_S1024x1024_0_0 bitsLt_bf16_f32 shapeCasts_S128x1024_S1x128x1024,
    slab_piece _ _ 4 512 rfl inb_S1024x1024_S128x1024_512_0 inb_S8x128x1024_S1x128x1024_4_0_0 inb_S1024x1024_S1024x1024_0_0 bitsLt_bf16_f32 shapeCasts_S128x1024_S1x128x1024,
    slab_piece _ _ 3 384 rfl inb_S1024x1024_S128x1024_384_0 inb_S8x128x1024_S1x128x1024_3_0_0 inb_S1024x1024_S1024x1024_0_0 bitsLt_bf16_f32 shapeCasts_S128x1024_S1x128x1024,
    slab_piece _ _ 2 256 rfl inb_S1024x1024_S128x1024_256_0 inb_S8x128x1024_S1x128x1024_2_0_0 inb_S1024x1024_S1024x1024_0_0 bitsLt_bf16_f32 shapeCasts_S128x1024_S1x128x1024,
    slab_piece _ _ 1 128 rfl inb_S1024x1024_S128x1024_128_0 inb_S8x128x1024_S1x128x1024_1_0_0 inb_S1024x1024_S1024x1024_0_0 bitsLt_bf16_f32 shapeCasts_S128x1024_S1x128x1024,
    slab_piece _ _ 0 0 rfl inb_S1024x1024_S128x1024_0_0 inb_S8x128x1024_S1x128x1024_0_0_0 inb_S1024x1024_S1024x1024_0_0 bitsLt_bf16_f32 shapeCasts_S128x1024_S1x128x1024, trivial⟩

/-- The accumulator after each of the first three points. -/
theorem scratch : ∀ (n : ℕ) (hn : n < cfg0.N), n < 3 → (outsAt0 m c n hn).2 = soFar m c n
  | 0, hn, _ => scratch_first m c ⟨0, hn⟩ rfl (by show ¬0 % 4 = 3; omega)
  | n + 1, hn, h3 => scratch_middle m c ⟨n + 1, hn⟩ (by show ¬(n + 1) % 4 = 0; omega) (by show ¬(n + 1) % 4 = 3; omega)
      fun h => scratch n h (by omega)

theorem result (h : 3 < cfg0.N) : (outsAt0 m c 3 h).1 = slabs (soFar m c 3) :=
  result_last m c ⟨3, h⟩ (by show ¬3 % 4 = 0; omega) rfl fun h => scratch m c 2 h (by omega)

/-- The result array. -/
theorem array : G2 m c = slabs (soFar m c 3) := by
  rw [G2_last, ← outsAt0_sweep m c 3 (lt_of_lt_of_eq (by decide) N_0.symm)]
  exact result m c _

/-- The reference's result. -/
theorem plain (a b : S4096x1024.Idx → EReal) (hb hs ht) (j : S8x128x1024.Idx) :
    (shapeCast S8x128x1024 (truncf (F := Ideal) .bf16 (transpose Cert.Reference3Ideal.S1024x1024 [1, 0]
      (Host.dotGeneral (F := Ideal) Cert.Reference3Ideal.dot_S4096x1024_S4096x1024_S1024x1024_0_0_1_1_n_n none
        (extf .f32 (b : FVec Ideal S4096x1024 .bf16) hb) (extf .f32 (a : FVec Ideal S4096x1024 .bf16) hb)) ht) hb) hs : S8x128x1024.Idx → EReal) j
      = slabs (fun i => upto 4096 a b (i 0).val (i 1).val) j := by
  have j0 : (j 0).val < 8 := (j 0).isLt
  have j1 : (j 1).val < 128 := (j 1).isLt
  refine (shapeCast_apply _ hs j (ValueIdx.ix2 (⟨128 * (j 0).val + (j 1).val, by omega⟩ : Fin 1024) (j 2 : Fin 1024)) ?_).trans ?_
  · rw [Shape.rowMajor_val_two, Shape.rowMajor_val_three]
    show (128 * (j 0).val + (j 1).val) * 1024 + (j 2).val = ((j 0).val * 128 + (j 1).val) * 1024 + (j 2).val
    omega
  · refine Eq.trans (b := transpose Cert.Reference3Ideal.S1024x1024 [1, 0]
      (Host.dotGeneral (F := Ideal) Cert.Reference3Ideal.dot_S4096x1024_S4096x1024_S1024x1024_0_0_1_1_n_n none
        (extf .f32 (b : FVec Ideal S4096x1024 .bf16) hb) (extf .f32 (a : FVec Ideal S4096x1024 .bf16) hb)) ht
        (ValueIdx.ix2 (⟨128 * (j 0).val + (j 1).val, by omega⟩ : Fin 1024) (j 2 : Fin 1024))) rfl ?_
    refine (transpose_apply _ _ _ _ (ValueIdx.ix2 (j 2 : Fin 1024) (⟨128 * (j 0).val + (j 1).val, by omega⟩ : Fin 1024)) ?_).trans ?_
    · intro b
      match b with
      | ⟨0, _⟩ => rfl
      | ⟨1, _⟩ => rfl
    · refine (dot_at (K := 4096) (M := 1024) (N := 1024) _ none _ b a (j 2) ⟨128 * (j 0).val + (j 1).val, by omega⟩).trans ?_
      exact (upto_all b a _ _).trans (upto_comm 4096 b a _ _)

/-- The gradient of the output projection as both programs leave it. -/
def grad : S8x128x1024.Idx → EReal := slabs fun i => upto 4096 (left m c) (right m c) (i 0).val (i 1).val

theorem run_kernel : θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel3Ideal.Value.run m ρ)

theorem run_plain (m' : (ℓ : Loc Cert.Reference3Ideal.nD Cert.Reference3Ideal.τ Cert.Reference3Ideal.sig) → Buf (Elt Ideal) ℓ)
    (ρ' : Dev Cert.Reference3Ideal.nD → PrngReg)
    (h0 : ∀ c : Dev nD, m' ((c.tc : Thread Cert.Reference3Ideal.nD Cert.Reference3Ideal.τ).loc Cert.Reference3Ideal.main_arg0) = left m c)
    (h1 : ∀ c : Dev nD, m' ((c.tc : Thread Cert.Reference3Ideal.nD Cert.Reference3Ideal.τ).loc Cert.Reference3Ideal.main_arg1) = right m c) :
    θ_run (Cert.Reference3Ideal.defs (F := Ideal)) (onTc (τ := Cert.Reference3Ideal.τ) (Cert.Reference3Ideal.main (F := Ideal))) ⟨m', fun _ => 0, ρ'⟩
      fun r => ∀ c : Dev Cert.Reference3Ideal.nD,
      r.2.mem ((c.tc : Thread Cert.Reference3Ideal.nD Cert.Reference3Ideal.τ).loc Cert.Reference3Ideal.main_v7) = grad m c
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1) :=
  (θ_run _ _ _).mono (fun r h c => ⟨(h c).1.trans (by rw [h0 c, h1 c]; funext j; exact plain (left m c) (right m c) _ _ _ j), (h c).2⟩)
    (Cert.Reference3Ideal.Value.run m' ρ')

/-- The reference leaves its arguments; it declares no semaphore. -/
theorem frame_plain {F : FTy → Type} [FloatOps F] (m : (ℓ : Loc Cert.Reference3Ideal.nD Cert.Reference3Ideal.τ Cert.Reference3Ideal.sig) → Buf (Elt F) ℓ) (ρ : Dev Cert.Reference3Ideal.nD → PrngReg) :
    θ_run (Cert.Reference3Ideal.defs (F := F)) (onTc (τ := Cert.Reference3Ideal.τ) (Cert.Reference3Ideal.main (F := F))) ⟨m, fun _ => 0, ρ⟩ fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0 :=
  (θ_run _ _ _).mono (fun r h => ⟨fun c => (h c).2, sem_eq_zero_of_no_sems (by decide) r.2⟩) (Cert.Reference3Ideal.Value.run m ρ)

end Cert.Wout

end
-- ==== Proof.FwdRun.lean ====
/-
  The body of the forward entry kernel, idealized, run once: what its stores leave in each output's staging buffer, as
  pieces, with the triple that says so.  Every grid point runs the same straight line.
-/
module

public import proofs.«01_k».proof.Proof.Gen.Kernel4Ideal.Frame.Runs

@[expose] public section

set_option maxRecDepth 16384

noncomputable section

namespace Cert.Fwd
open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The pieces the body leaves in its eleven outputs, last first, and the triple: on whole staging buffers, the inputs'
    at their contents and the outputs' at anything, the body hands the inputs' back and each output's with its pieces
    written. -/
noncomputable def run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S8x1024x256 .bf16) (harg3 : arg3.IsWhole) (arg4 : Memref sig .tc .vmem S16x1024 .f32) (harg4 : arg4.IsWhole) (arg5 : Memref sig .tc .vmem S128x512 .f32) (harg5 : arg5.IsWhole) (arg6 : Memref sig .tc .vmem S64x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S8x128 .f32) (harg11 : arg11.IsWhole) (arg12 : Memref sig .tc .vmem S4x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S4x128 .f32) (harg15 : arg15.IsWhole) (arg16 : Memref sig .tc .vmem S4x128 .f32) (harg16 : arg16.IsWhole) (arg17 : Memref sig .tc .vmem S8x128 .f32) (harg17 : arg17.IsWhole) (arg18 : Memref sig .tc .vmem S4x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S4x128 .f32) (harg21 : arg21.IsWhole) (arg22 : Memref sig .tc .vmem S4x128 .f32) (harg22 : arg22.IsWhole) (arg23 : Memref sig .tc .vmem S8x128 .f32) (harg23 : arg23.IsWhole) (arg24 : Memref sig .tc .vmem S4x128 .f32) (harg24 : arg24.IsWhole) (arg25 : Memref sig .tc .vmem S512x1024 .bf16) (harg25 : arg25.IsWhole) (arg26 : Memref sig .tc .vmem S512x512 .f32) (harg26 : arg26.IsWhole) (arg27 : Memref sig .tc .vmem S512x512 .bf16) (harg27 : arg27.IsWhole) (arg28 : Memref sig .tc .vmem S512x512 .bf16) (harg28 : arg28.IsWhole) (arg29 : Memref sig .tc .vmem S512x512 .bf16) (harg29 : arg29.IsWhole) (arg30 : Memref sig .tc .vmem S16x1024 .bf16) (harg30 : arg30.IsWhole) (arg31 : Memref sig .tc .vmem S128x512 .bf16) (harg31 : arg31.IsWhole) (arg32 : Memref sig .tc .vmem S64x1024 .bf16) (harg32 : arg32.IsWhole) (arg33 : Memref sig .tc .vmem S48x128 .f32) (harg33 : arg33.IsWhole) (arg34 : Memref sig .tc .vmem S48x128 .f32) (harg34 : arg34.IsWhole) (arg35 : Memref sig .tc .vmem S48x128 .f32) (harg35 : arg35.IsWhole)
    (x0 : Vec F S512x1024 .f32) (x1 : Vec F S1x1024 .f32) (x2 : Vec F S8x1024x256 .bf16) (x3 : Vec F S16x1024 .f32) (x4 : Vec F S128x512 .f32) (x5 : Vec F S64x1024 .f32) (x6 : Vec F S8x128 .f32) (x7 : Vec F S8x128 .f32) (x8 : Vec F S4x128 .f32) (x9 : Vec F S4x128 .f32) (x10 : Vec F S8x128 .f32) (x11 : Vec F S4x128 .f32) (x12 : Vec F S8x128 .f32) (x13 : Vec F S8x128 .f32) (x14 : Vec F S4x128 .f32) (x15 : Vec F S4x128 .f32) (x16 : Vec F S8x128 .f32) (x17 : Vec F S4x128 .f32) (x18 : Vec F S8x128 .f32) (x19 : Vec F S8x128 .f32) (x20 : Vec F S4x128 .f32) (x21 : Vec F S4x128 .f32) (x22 : Vec F S8x128 .f32) (x23 : Vec F S4x128 .f32) :
    Σ' (L24 : List (View.Piece (Elt F) S512x1024 .bf16)), Σ' (L25 : List (View.Piece (Elt F) S512x512 .f32)), Σ' (L26 : List (View.Piece (Elt F) S512x512 .bf16)), Σ' (L27 : List (View.Piece (Elt F) S512x512 .bf16)), Σ' (L28 : List (View.Piece (Elt F) S512x512 .bf16)), Σ' (L29 : List (View.Piece (Elt F) S16x1024 .bf16)), Σ' (L30 : List (View.Piece (Elt F) S128x512 .bf16)), Σ' (L31 : List (View.Piece (Elt F) S64x1024 .bf16)), Σ' (L32 : List (View.Piece (Elt F) S48x128 .f32)), Σ' (L33 : List (View.Piece (Elt F) S48x128 .f32)), { L34 : List (View.Piece (Elt F) S48x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34)) -∗ K ⟨⟩))
          ⊢ wp frame (wpE (defs₀ (F := F)) Variants.none c none) E (cc0_fwd_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, ?_, ?_, ?_, ?_, ?_, fun E K => ?run⟩
  case run =>
    simp only [cc0_fwd_in_eq_skeleton]; unfold cc0_fwd_in_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.Fwd

end
-- ==== Proof.FwdLaunch.lean ====
/-
  The launch of the forward entry kernel, idealized: what each grid point leaves, the body's triple at a point, and the
  run of the whole program from any memory.
-/
module

public import proofs.«01_k».proof.Proof.FwdRun
public import Idealize.ShloMosaic.Lib.Claim

@[expose] public section

set_option maxRecDepth 16384

noncomputable section

namespace Cert.Fwd
open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at grid point `t`, on the point's buffers and blocks. -/
def at_ (c : Dev nD) (t : Fin cfg0.N) :=
  run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

theorem cover24 (c : Dev nD) (t : Fin cfg0.N) (y : S512x1024.Idx) : ∃ pc ∈ (at_ m c t).1, y ∈ pc.1.set :=
  View.cover_of_tiledL (at_ m c t).1 S512x1024.size (by sl_kernel_rfl) y
theorem cover25 (c : Dev nD) (t : Fin cfg0.N) (y : S512x512.Idx) : ∃ pc ∈ (at_ m c t).2.1, y ∈ pc.1.set :=
  View.cover_of_tiledL (at_ m c t).2.1 S512x256.size (by sl_kernel_rfl) y
theorem cover26 (c : Dev nD) (t : Fin cfg0.N) (y : S512x512.Idx) : ∃ pc ∈ (at_ m c t).2.2.1, y ∈ pc.1.set :=
  View.cover_of_tiledL (at_ m c t).2.2.1 S512x256.size (by sl_kernel_rfl) y
theorem cover27 (c : Dev nD) (t : Fin cfg0.N) (y : S512x512.Idx) : ∃ pc ∈ (at_ m c t).2.2.2.1, y ∈ pc.1.set :=
  View.cover_of_tiledL (at_ m c t).2.2.2.1 S512x256.size (by sl_kernel_rfl) y
theorem cover28 (c : Dev nD) (t : Fin cfg0.N) (y : S512x512.Idx) : ∃ pc ∈ (at_ m c t).2.2.2.2.1, y ∈ pc.1.set :=
  View.cover_of_tiledL (at_ m c t).2.2.2.2.1 S512x256.size (by sl_kernel_rfl) y
theorem cover29 (c : Dev nD) (t : Fin cfg0.N) (y : S16x1024.Idx) : ∃ pc ∈ (at_ m c t).2.2.2.2.2.1, y ∈ pc.1.set :=
  View.cover_of_tiledL (at_ m c t).2.2.2.2.2.1 S16x1024.size (by sl_kernel_rfl) y
theorem cover30 (c : Dev nD) (t : Fin cfg0.N) (y : S128x512.Idx) : ∃ pc ∈ (at_ m c t).2.2.2.2.2.2.1, y ∈ pc.1.set :=
  View.cover_of_tiledL (at_ m c t).2.2.2.2.2.2.1 S128x512.size (by sl_kernel_rfl) y
theorem cover31 (c : Dev nD) (t : Fin cfg0.N) (y : S64x1024.Idx) : ∃ pc ∈ (at_ m c t).2.2.2.2.2.2.2.1, y ∈ pc.1.set :=
  View.cover_of_tiledL (at_ m c t).2.2.2.2.2.2.2.1 S64x1024.size (by sl_kernel_rfl) y
theorem cover32 (c : Dev nD) (t : Fin cfg0.N) (y : S48x128.Idx) : ∃ pc ∈ (at_ m c t).2.2.2.2.2.2.2.2.1, y ∈ pc.1.set :=
  View.cover_of_tiledBy (at_ m c t).2.2.2.2.2.2.2.2.1 ![4, 128] (by sl_kernel_rfl) y
theorem cover33 (c : Dev nD) (t : Fin cfg0.N) (y : S48x128.Idx) : ∃ pc ∈ (at_ m c t).2.2.2.2.2.2.2.2.2.1, y ∈ pc.1.set :=
  View.cover_of_tiledBy (at_ m c t).2.2.2.2.2.2.2.2.2.1 ![4, 128] (by sl_kernel_rfl) y
theorem cover34 (c : Dev nD) (t : Fin cfg0.N) (y : S48x128.Idx) : ∃ pc ∈ (at_ m c t).2.2.2.2.2.2.2.2.2.2.1, y ∈ pc.1.set :=
  View.cover_of_tiledBy (at_ m c t).2.2.2.2.2.2.2.2.2.2.1 ![4, 128] (by sl_kernel_rfl) y
/-- What point `t` leaves in output 0. -/
def out24 (c : Dev nD) (t : Fin cfg0.N) : Vec F S512x1024 .bf16 := View.canon (at_ m c t).1
/-- What point `t` leaves in output 1. -/
def out25 (c : Dev nD) (t : Fin cfg0.N) : Vec F S512x512 .f32 := View.canon (at_ m c t).2.1
/-- What point `t` leaves in output 2. -/
def out26 (c : Dev nD) (t : Fin cfg0.N) : Vec F S512x512 .bf16 := View.canon (at_ m c t).2.2.1
/-- What point `t` leaves in output 3. -/
def out27 (c : Dev nD) (t : Fin cfg0.N) : Vec F S512x512 .bf16 := View.canon (at_ m c t).2.2.2.1
/-- What point `t` leaves in output 4. -/
def out28 (c : Dev nD) (t : Fin cfg0.N) : Vec F S512x512 .bf16 := View.canon (at_ m c t).2.2.2.2.1
/-- What point `t` leaves in output 5. -/
def out29 (c : Dev nD) (t : Fin cfg0.N) : Vec F S16x1024 .bf16 := View.canon (at_ m c t).2.2.2.2.2.1
/-- What point `t` leaves in output 6. -/
def out30 (c : Dev nD) (t : Fin cfg0.N) : Vec F S128x512 .bf16 := View.canon (at_ m c t).2.2.2.2.2.2.1
/-- What point `t` leaves in output 7. -/
def out31 (c : Dev nD) (t : Fin cfg0.N) : Vec F S64x1024 .bf16 := View.canon (at_ m c t).2.2.2.2.2.2.2.1
/-- What point `t` leaves in output 8. -/
def out32 (c : Dev nD) (t : Fin cfg0.N) : Vec F S48x128 .f32 := View.canon (at_ m c t).2.2.2.2.2.2.2.2.1
/-- What point `t` leaves in output 9. -/
def out33 (c : Dev nD) (t : Fin cfg0.N) : Vec F S48x128 .f32 := View.canon (at_ m c t).2.2.2.2.2.2.2.2.2.1
/-- What point `t` leaves in output 10. -/
def out34 (c : Dev nD) (t : Fin cfg0.N) : Vec F S48x128 .f32 := View.canon (at_ m c t).2.2.2.2.2.2.2.2.2.2.1

/-- The pipeline's proof data: after the body at a point each input's buffer holds its block and each output's what the
    run's pieces say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out24 m c t
    | ⟨25, _⟩ => out25 m c t
    | ⟨26, _⟩ => out26 m c t
    | ⟨27, _⟩ => out27 m c t
    | ⟨28, _⟩ => out28 m c t
    | ⟨29, _⟩ => out29 m c t
    | ⟨30, _⟩ => out30 m c t
    | ⟨31, _⟩ => out31 m c t
    | ⟨32, _⟩ => out32 m c t
    | ⟨33, _⟩ => out33 m c t
    | ⟨34, _⟩ => out34 m c t
    | ⟨_ + 35, h⟩ => absurd h (Nat.not_lt.2 (Nat.le_add_left _ _))
  Φ _ := Pipeline.ΦA spec0 c
  q _ := fullShare
  owed _ := 0

theorem arrays_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = out24 m c t := by dsimp only [dats]
theorem after25 (c : Dev nD) (t : Fin cfg0.N) : (dats m 0 c).after 25 t = out25 m c t := by dsimp only [dats]
theorem after26 (c : Dev nD) (t : Fin cfg0.N) : (dats m 0 c).after 26 t = out26 m c t := by dsimp only [dats]
theorem after27 (c : Dev nD) (t : Fin cfg0.N) : (dats m 0 c).after 27 t = out27 m c t := by dsimp only [dats]
theorem after28 (c : Dev nD) (t : Fin cfg0.N) : (dats m 0 c).after 28 t = out28 m c t := by dsimp only [dats]
theorem after29 (c : Dev nD) (t : Fin cfg0.N) : (dats m 0 c).after 29 t = out29 m c t := by dsimp only [dats]
theorem after30 (c : Dev nD) (t : Fin cfg0.N) : (dats m 0 c).after 30 t = out30 m c t := by dsimp only [dats]
theorem after31 (c : Dev nD) (t : Fin cfg0.N) : (dats m 0 c).after 31 t = out31 m c t := by dsimp only [dats]
theorem after32 (c : Dev nD) (t : Fin cfg0.N) : (dats m 0 c).after 32 t = out32 m c t := by dsimp only [dats]
theorem after33 (c : Dev nD) (t : Fin cfg0.N) : (dats m 0 c).after 33 t = out33 m c t := by dsimp only [dats]
theorem after34 (c : Dev nD) (t : Fin cfg0.N) : (dats m 0 c).after 34 t = out34 m c t := by dsimp only [dats]
theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d
theorem before3 (c : Dev nD) (t : Fin cfg0.N) (d) : (dats m 0 c).before 3 t d = iblk m c 3 t :=
  before0_3_of m (dats m 0 c) (arrays_eq m c 3) (after3 m c) t d
theorem before4 (c : Dev nD) (t : Fin cfg0.N) (d) : (dats m 0 c).before 4 t d = iblk m c 4 t :=
  before0_4_of m (dats m 0 c) (arrays_eq m c 4) (after4 m c) t d
theorem before5 (c : Dev nD) (t : Fin cfg0.N) (d) : (dats m 0 c).before 5 t d = iblk m c 5 t :=
  before0_5_of m (dats m 0 c) (arrays_eq m c 5) (after5 m c) t d
theorem before6 (c : Dev nD) (t : Fin cfg0.N) (d) : (dats m 0 c).before 6 t d = iblk m c 6 t :=
  before0_6_of m (dats m 0 c) (arrays_eq m c 6) (after6 m c) t d
theorem before7 (c : Dev nD) (t : Fin cfg0.N) (d) : (dats m 0 c).before 7 t d = iblk m c 7 t :=
  before0_7_of m (dats m 0 c) (arrays_eq m c 7) (after7 m c) t d
theorem before8 (c : Dev nD) (t : Fin cfg0.N) (d) : (dats m 0 c).before 8 t d = iblk m c 8 t :=
  before0_8_of m (dats m 0 c) (arrays_eq m c 8) (after8 m c) t d
theorem before9 (c : Dev nD) (t : Fin cfg0.N) (d) : (dats m 0 c).before 9 t d = iblk m c 9 t :=
  before0_9_of m (dats m 0 c) (arrays_eq m c 9) (after9 m c) t d
theorem before10 (c : Dev nD) (t : Fin cfg0.N) (d) : (dats m 0 c).before 10 t d = iblk m c 10 t :=
  before0_10_of m (dats m 0 c) (arrays_eq m c 10) (after10 m c) t d
theorem before11 (c : Dev nD) (t : Fin cfg0.N) (d) : (dats m 0 c).before 11 t d = iblk m c 11 t :=
  before0_11_of m (dats m 0 c) (arrays_eq m c 11) (after11 m c) t d
theorem before12 (c : Dev nD) (t : Fin cfg0.N) (d) : (dats m 0 c).before 12 t d = iblk m c 12 t :=
  before0_12_of m (dats m 0 c) (arrays_eq m c 12) (after12 m c) t d
theorem before13 (c : Dev nD) (t : Fin cfg0.N) (d) : (dats m 0 c).before 13 t d = iblk m c 13 t :=
  before0_13_of m (dats m 0 c) (arrays_eq m c 13) (after13 m c) t d
theorem before14 (c : Dev nD) (t : Fin cfg0.N) (d) : (dats m 0 c).before 14 t d = iblk m c 14 t :=
  before0_14_of m (dats m 0 c) (arrays_eq m c 14) (after14 m c) t d
theorem before15 (c : Dev nD) (t : Fin cfg0.N) (d) : (dats m 0 c).before 15 t d = iblk m c 15 t :=
  before0_15_of m (dats m 0 c) (arrays_eq m c 15) (after15 m c) t d
theorem before16 (c : Dev nD) (t : Fin cfg0.N) (d) : (dats m 0 c).before 16 t d = iblk m c 16 t :=
  before0_16_of m (dats m 0 c) (arrays_eq m c 16) (after16 m c) t d
theorem before17 (c : Dev nD) (t : Fin cfg0.N) (d) : (dats m 0 c).before 17 t d = iblk m c 17 t :=
  before0_17_of m (dats m 0 c) (arrays_eq m c 17) (after17 m c) t d
theorem before18 (c : Dev nD) (t : Fin cfg0.N) (d) : (dats m 0 c).before 18 t d = iblk m c 18 t :=
  before0_18_of m (dats m 0 c) (arrays_eq m c 18) (after18 m c) t d
theorem before19 (c : Dev nD) (t : Fin cfg0.N) (d) : (dats m 0 c).before 19 t d = iblk m c 19 t :=
  before0_19_of m (dats m 0 c) (arrays_eq m c 19) (after19 m c) t d
theorem before20 (c : Dev nD) (t : Fin cfg0.N) (d) : (dats m 0 c).before 20 t d = iblk m c 20 t :=
  before0_20_of m (dats m 0 c) (arrays_eq m c 20) (after20 m c) t d
theorem before21 (c : Dev nD) (t : Fin cfg0.N) (d) : (dats m 0 c).before 21 t d = iblk m c 21 t :=
  before0_21_of m (dats m 0 c) (arrays_eq m c 21) (after21 m c) t d
theorem before22 (c : Dev nD) (t : Fin cfg0.N) (d) : (dats m 0 c).before 22 t d = iblk m c 22 t :=
  before0_22_of m (dats m 0 c) (arrays_eq m c 22) (after22 m c) t d
theorem before23 (c : Dev nD) (t : Fin cfg0.N) (d) : (dats m 0 c).before 23 t d = iblk m c 23 t :=
  before0_23_of m (dats m 0 c) (arrays_eq m c 23) (after23 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

set_option maxHeartbeats 6400000 in
/-- The body at any point. -/
theorem body_holds (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, after0, after1, after2, after3, after4, after5, after6, after7, after8, after9, after10, after11, after12, after13, after14, after15, after16, after17, after18, after19, after20, after21, after22, after23, after24, after25, after26, after27, after28, after29, after30, after31, after32, after33, after34]
  rewrite [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply ((at_ m c t).2.2.2.2.2.2.2.2.2.2.2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_eq_canon _ _ _ (cover24 m c t)
  isplitl [H25]
  · unfold owns; iexists _; isplitr
    swap; · iexact H25
    ipureintro; exact View.read_writes_eq_canon _ _ _ (cover25 m c t)
  isplitl [H26]
  · unfold owns; iexists _; isplitr
    swap; · iexact H26
    ipureintro; exact View.read_writes_eq_canon _ _ _ (cover26 m c t)
  isplitl [H27]
  · unfold owns; iexists _; isplitr
    swap; · iexact H27
    ipureintro; exact View.read_writes_eq_canon _ _ _ (cover27 m c t)
  isplitl [H28]
  · unfold owns; iexists _; isplitr
    swap; · iexact H28
    ipureintro; exact View.read_writes_eq_canon _ _ _ (cover28 m c t)
  isplitl [H29]
  · unfold owns; iexists _; isplitr
    swap; · iexact H29
    ipureintro; exact View.read_writes_eq_canon _ _ _ (cover29 m c t)
  isplitl [H30]
  · unfold owns; iexists _; isplitr
    swap; · iexact H30
    ipureintro; exact View.read_writes_eq_canon _ _ _ (cover30 m c t)
  isplitl [H31]
  · unfold owns; iexists _; isplitr
    swap; · iexact H31
    ipureintro; exact View.read_writes_eq_canon _ _ _ (cover31 m c t)
  isplitl [H32]
  · unfold owns; iexists _; isplitr
    swap; · iexact H32
    ipureintro; exact View.read_writes_eq_canon _ _ _ (cover32 m c t)
  isplitl [H33]
  · unfold owns; iexists _; isplitr
    swap; · iexact H33
    ipureintro; exact View.read_writes_eq_canon _ _ _ (cover33 m c t)
  unfold owns; iexists _; isplitr
  swap; · iexact H34
  ipureintro; exact View.read_writes_eq_canon _ _ _ (cover34 m c t)

theorem body_row (t : Fin cfg0.N) :
    defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, body_row]
  exact triple_restated (body_holds m c t) rfl .rfl fun _ => .rfl

set_option backward.isDefEq.respectTransparency.types false in
/-- The launch: every array as the proof data say, and every semaphore counter at zero. -/
theorem launch_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays_eq m) (hΦ := fun _ _ => rfl)

theorem launch_run : θ_run defs (onTc (τ := τ) (main (F := F))) (s₀ m ρ) (Pipeline.FramePost cfgs (dats m) 0 (V m)) :=
  (θ_run defs _ _).mono (fun _ h => h.1) (launch_quiescent m ρ)

/-- The frame: the arguments end unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (frame_of m ρ (dats m) (arrays_eq m) (launch_run m ρ)) ((θ_run defs _ _).mono (fun _ h => h.2) (launch_quiescent m ρ))

end Cert.Fwd

end
-- ==== Proof.FwdSame.lean ====
/-
  The forward entry kernel and its idealized form have one text; the kernel's frame is the idealized form's launch read
  over machine floats.
-/
module

public import proofs.«01_k».proof.Proof.Gen.Kernel4
public import proofs.«01_k».proof.Proof.Same
public import proofs.«01_k».proof.Proof.FwdLaunch

@[expose] public section

set_option maxRecDepth 16384
set_option maxHeartbeats 4000000

namespace Cert.FwdSame

open Idealize.ShloMosaic Idealize.SL.Sem

theorem bodies : Cert.Kernel4.defs₀ (F := Bits) = Cert.Kernel4Ideal.defs₀ (F := Bits) := by
  funext p l a
  cases p with
  | tc =>
    match l with
    | ⟨0, _⟩ => rfl
  | scScalar _ => rfl
  | scVector _ _ => rfl

theorem tables : Cert.Kernel4.defs (F := Bits) = Cert.Kernel4Ideal.defs (F := Bits) :=
  congrArg (Pipeline.defs Cert.Kernel4Ideal.pcfgs) bodies

theorem mains : Cert.Kernel4.main (F := Bits) = Cert.Kernel4Ideal.main (F := Bits) := by
  funext c
  unfold Cert.Kernel4.main Cert.Kernel4Ideal.main
  rfl

theorem frame : Cert.quiescent_Kernel4 := fun m ρ _ =>
  Cert.Same.run_of_eq tables mains (Cert.Fwd.frame_holds (F := Bits) m ρ)

end Cert.FwdSame
-- ==== Proof.FwdMath.lean ====
/-
  The norm and the projections of the forward entry as functions on the extended reals, and what each operation of the
  two programs does to arrays of such values.
-/
module

public import proofs.«01_k».proof.Proof.Mat

@[expose] public section

set_option maxRecDepth 16384

noncomputable section

namespace Cert.Fwd

open Idealize.ShloMosaic
open scoped BigOperators

/-- The one-, two- and three-axis arrays of a function's values. -/
def E1 {a : ℕ} (f : ℕ → EReal) : (⟨1, ![a]⟩ : Shape).Idx → EReal := fun i => f (i 0).val
def E2 {a b : ℕ} (f : ℕ → ℕ → EReal) : (⟨2, ![a, b]⟩ : Shape).Idx → EReal := fun i => f (i 0).val (i 1).val
def E3 {a b c : ℕ} (f : ℕ → ℕ → ℕ → EReal) : (⟨3, ![a, b, c]⟩ : Shape).Idx → EReal := fun i => f (i 0).val (i 1).val (i 2).val

section
variable {a b K : ℕ} {φ ψ : FTy} (f g : ℕ → ℕ → EReal) (u : ℕ → EReal)

theorem exists_E1 (v : (⟨1, ![a]⟩ : Shape).Idx → EReal) : ∃ f, v = E1 f := by
  refine ⟨fun p => if h : p < a then v (ValueIdx.ix1 ⟨p, h⟩) else 0, funext fun i => ?_⟩
  have h0 : (i 0).val < a := (i 0).isLt
  have e : ValueIdx.ix1 ⟨(i 0).val, h0⟩ = i := funext fun k => match k with | 0 => rfl
  show v i = dite _ _ _
  rw [dif_pos h0, e]
theorem exists_E2 (v : (⟨2, ![a, b]⟩ : Shape).Idx → EReal) : ∃ f, v = E2 f := by
  refine ⟨fun p q => if h : p < a ∧ q < b then v (ValueIdx.ix2 ⟨p, h.1⟩ ⟨q, h.2⟩) else 0, funext fun i => ?_⟩
  have h0 : (i 0).val < a ∧ (i 1).val < b := ⟨(i 0).isLt, (i 1).isLt⟩
  have e : ValueIdx.ix2 ⟨(i 0).val, h0.1⟩ ⟨(i 1).val, h0.2⟩ = i := funext fun k => match k with | 0 => rfl | 1 => rfl
  show v i = dite _ _ _
  rw [dif_pos h0, e]

theorem mulf_E2 : mulf (F := Ideal) (φ := φ) (E2 f : (⟨2, ![a, b]⟩ : Shape).Idx → EReal) (E2 g) = E2 fun p q => f p q * g p q := rfl
theorem addf_E2 : addf (F := Ideal) (φ := φ) (E2 f : (⟨2, ![a, b]⟩ : Shape).Idx → EReal) (E2 g) = E2 fun p q => f p q + g p q := rfl
theorem divf_E2 : divf (F := Ideal) (φ := φ) (E2 f : (⟨2, ![a, b]⟩ : Shape).Idx → EReal) (E2 g) = E2 fun p q => Ideal.div (f p q) (g p q) := rfl
theorem hostDivf_E2 : Host.divf (F := Ideal) (φ := φ) (E2 f : (⟨2, ![a, b]⟩ : Shape).Idx → EReal) (E2 g) = E2 fun p q => Ideal.div (f p q) (g p q) := rfl
theorem rsqrt_E2 : rsqrt (F := Ideal) (φ := φ) (E2 f : (⟨2, ![a, b]⟩ : Shape).Idx → EReal) = E2 fun p q => Ideal.rsqrt (f p q) := rfl
theorem hostRsqrt_E2 : Host.rsqrt (F := Ideal) (φ := φ) (E2 f : (⟨2, ![a, b]⟩ : Shape).Idx → EReal) = E2 fun p q => Ideal.rsqrt (f p q) := rfl
theorem truncf_E2 (h : ψ.bits < φ.bits) : truncf (F := Ideal) (φ := φ) ψ (E2 f : (⟨2, ![a, b]⟩ : Shape).Idx → EReal) h = E2 f := rfl
theorem broadcast_E2 (w : BitVec 32) : (broadcast (⟨2, ![a, b]⟩ : Shape) (Scalar.ofBits (F := Ideal) .f32 w) : (⟨2, ![a, b]⟩ : Shape).Idx → EReal) = E2 fun _ _ => Ideal.ofBits .f32 w := rfl
theorem bind_E2 (w : BitVec 32) (dims : Fin 0 → Fin 2) (h : (⟨0, ![]⟩ : Shape).BroadcastsInDim ⟨2, ![a, b]⟩ dims) :
    broadcastInDim (⟨2, ![a, b]⟩ : Shape) dims h (constant (F := Ideal) (⟨0, ![]⟩ : Shape) .f32 w) = E2 fun _ _ => Ideal.ofBits .f32 w := rfl
theorem zero_bits : Ideal.ofBits .f32 0x00000000#32 = 0 := Cert.Mat.bits_0.trans EReal.coe_zero

theorem broadcastTo_rowE (h : (⟨2, ![1, b]⟩ : Shape).Broadcasts ⟨2, ![a, b]⟩) :
    broadcastTo (⟨2, ![a, b]⟩ : Shape) (E2 f : (⟨2, ![1, b]⟩ : Shape).Idx → EReal) h = E2 fun _ q => f 0 q := by
  funext j
  refine (broadcastTo_apply _ h j (ValueIdx.ix2 ⟨0, Nat.one_pos⟩ (j 1)) fun x => ?_).trans rfl
  match x with
  | ⟨0, _⟩ => exact (if_pos rfl).symm
  | ⟨1, _⟩ =>
    show (j 1).val = if b = 1 then 0 else (j 1).val
    have := ValueIdx.idx2_lt1 j
    split <;> omega
theorem broadcastTo_colE (h : (⟨2, ![a, 1]⟩ : Shape).Broadcasts ⟨2, ![a, b]⟩) :
    broadcastTo (⟨2, ![a, b]⟩ : Shape) (E2 f : (⟨2, ![a, 1]⟩ : Shape).Idx → EReal) h = E2 fun p _ => f p 0 := by
  funext j
  refine (broadcastTo_apply _ h j (ValueIdx.ix2 (j 0) ⟨0, Nat.one_pos⟩) fun x => ?_).trans rfl
  match x with
  | ⟨1, _⟩ => exact (if_pos rfl).symm
  | ⟨0, _⟩ =>
    show (j 0).val = if a = 1 then 0 else (j 0).val
    have := ValueIdx.idx2_lt0 j
    split <;> omega
theorem shapeCast_colE (h : (⟨1, ![a]⟩ : Shape).ShapeCasts ⟨2, ![a, 1]⟩) : shapeCast (⟨2, ![a, 1]⟩ : Shape) (E1 u) h = E2 fun p _ => u p := by
  funext j
  refine (shapeCast_apply _ h j (ValueIdx.ix1 (j 0)) ?_).trans rfl
  have := ValueIdx.idx2_lt1 j
  rw [Shape.rowMajor_val_one, Shape.rowMajor_val_two]
  show (j 0).val = (j 0).val * 1 + (j 1).val
  omega
theorem shapeCast_rowE (h : (⟨1, ![a]⟩ : Shape).ShapeCasts ⟨2, ![1, a]⟩) : shapeCast (⟨2, ![1, a]⟩ : Shape) (E1 u) h = E2 fun _ q => u q := by
  funext j
  refine (shapeCast_apply _ h j (ValueIdx.ix1 (j 1)) ?_).trans rfl
  have := ValueIdx.idx2_lt0 j
  rw [Shape.rowMajor_val_one, Shape.rowMajor_val_two]
  have h0 : (j 0).val = 0 := by omega
  show (j 1).val = (j 0).val * a + (j 1).val
  rw [h0]; omega
theorem shapeCast_E3 (f : ℕ → ℕ → ℕ → EReal) (h : (⟨3, ![1, a, b]⟩ : Shape).ShapeCasts ⟨2, ![a, b]⟩) :
    shapeCast (⟨2, ![a, b]⟩ : Shape) (E3 f : (⟨3, ![1, a, b]⟩ : Shape).Idx → EReal) h = E2 fun p q => f 0 p q :=
  funext fun j => (shapeCast_dropUnit_apply ![a, b] (E3 f) h j).trans rfl
theorem slice_E2 {n o : ℕ} (h : (⟨2, ![a, n]⟩ : Shape).Slices ![0, o] ⟨2, ![a, b]⟩) :
    extractStridedSlice (⟨2, ![a, b]⟩ : Shape) ![0, o] (E2 f : (⟨2, ![a, n]⟩ : Shape).Idx → EReal) h = E2 fun p q => f p (o + q) := by
  funext j
  show f (0 + (j 0).val) (o + (j 1).val) = _
  rw [Nat.zero_add]; rfl
theorem rowsum_E2 (h : (⟨2, ![a, b]⟩ : Shape).Reduces [1] ⟨1, ![a]⟩) :
    FloatOps.reduceAdd (F := Ideal) (φ := φ) [1] h (E2 f : (⟨2, ![a, b]⟩ : Shape).Idx → EReal) = E1 fun p => ∑ k : Fin b, f p k :=
  funext fun j => Ideal.reduceAdd_r2_a1 h _ j
theorem hostRowsum_E2 (h : (⟨2, ![a, b]⟩ : Shape).ReducesTo [1] ⟨1, ![a]⟩) (h' : 0 < (⟨0, ![]⟩ : Shape).numel) :
    Host.reduceAdd (F := Ideal) (φ := .f32) (E2 f : (⟨2, ![a, b]⟩ : Shape).Idx → EReal) (constant (F := Ideal) (⟨0, ![]⟩ : Shape) .f32 0x00000000#32) h h'
      = E1 fun p => ∑ k : Fin b, f p k :=
  funext fun j => (Ideal.hostReduceAdd_r2_a1 h _ _ j).trans ((congrArg (· + _) zero_bits).trans (zero_add _))
theorem matmul_E2 (prec : Option ContractPrecision) :
    matmul (F := Ideal) (φ₁ := φ) (φ₂ := ψ) (DotDims.plain a K b) prec (E2 f) (E2 g) (constant (F := Ideal) (⟨2, ![a, b]⟩ : Shape) .f32 0x00000000#32)
      = E2 fun p q => ∑ k : Fin K, f p k * g k q := by
  funext j
  rw [ValueIdx.eq_ix2 j]
  exact (Ideal.matmul_plain_apply prec (E2 f) (E2 g) _ (j 0) (j 1)).trans ((congrArg (· + _) zero_bits).trans (zero_add _))
theorem dot_E2 (prec : Option ContractPrecision) (sched : HostSchedule) :
    FloatOps.dotGeneral (F := Ideal) (φ₁ := φ) (φ₂ := ψ) (DotDims.plain a K b) prec sched (E2 f) (E2 g) = E2 fun p q => ∑ k : Fin K, f p k * g k q := by
  funext j
  refine Eq.trans ?_ (congrFun (matmul_E2 (φ := φ) (ψ := ψ) f g prec) j)
  refine (Ideal.dotGeneral_apply (φ₁ := φ) (φ₂ := ψ) (DotDims.plain a K b) prec sched (E2 f) (E2 g) j).trans ?_
  refine Eq.trans ?_ (Ideal.matmul_apply (φ₁ := φ) (φ₂ := ψ) _ prec (E2 f) (E2 g) _ j).symm
  exact ((congrArg (· + _) zero_bits).trans (zero_add _)).symm
theorem bind_colE (h : (⟨1, ![a]⟩ : Shape).BroadcastsInDim ⟨2, ![a, b]⟩ ![0]) : broadcastInDim (⟨2, ![a, b]⟩ : Shape) ![0] h (E1 u) = E2 fun p _ => u p := by
  funext j
  refine (broadcastInDim_apply _ h _ j (ValueIdx.ix1 (j 0)) fun x => ?_).trans rfl
  match x with
  | ⟨0, _⟩ =>
    show (j 0).val = if a = 1 then 0 else (j 0).val
    have := ValueIdx.idx2_lt0 j
    split <;> omega
theorem bind_rowE (h : (⟨1, ![b]⟩ : Shape).BroadcastsInDim ⟨2, ![a, b]⟩ ![1]) : broadcastInDim (⟨2, ![a, b]⟩ : Shape) ![1] h (E1 u) = E2 fun _ q => u q := by
  funext j
  refine (broadcastInDim_apply _ h _ j (ValueIdx.ix1 (j 1)) fun x => ?_).trans rfl
  match x with
  | ⟨0, _⟩ =>
    show (j 1).val = if b = 1 then 0 else (j 1).val
    have := ValueIdx.idx2_lt1 j
    split <;> omega
theorem bind_colE2 (h : (⟨2, ![a, 1]⟩ : Shape).BroadcastsInDim ⟨2, ![a, b]⟩ ![0, 1]) :
    broadcastInDim (⟨2, ![a, b]⟩ : Shape) ![0, 1] h (E2 f : (⟨2, ![a, 1]⟩ : Shape).Idx → EReal) = E2 fun p _ => f p 0 := by
  funext j
  refine (broadcastInDim_apply _ h _ j (ValueIdx.ix2 (j 0) ⟨0, Nat.one_pos⟩) fun x => ?_).trans rfl
  match x with
  | ⟨0, _⟩ =>
    show (j 0).val = if a = 1 then 0 else (j 0).val
    have := ValueIdx.idx2_lt0 j
    split <;> omega
  | ⟨1, _⟩ => exact (if_pos rfl).symm
theorem bind_rowE2 (h : (⟨2, ![1, b]⟩ : Shape).BroadcastsInDim ⟨2, ![a, b]⟩ ![0, 1]) :
    broadcastInDim (⟨2, ![a, b]⟩ : Shape) ![0, 1] h (E2 f : (⟨2, ![1, b]⟩ : Shape).Idx → EReal) = E2 fun _ q => f 0 q := by
  funext j
  refine (broadcastInDim_apply _ h _ j (ValueIdx.ix2 ⟨0, Nat.one_pos⟩ (j 1)) fun x => ?_).trans rfl
  match x with
  | ⟨0, _⟩ => exact (if_pos rfl).symm
  | ⟨1, _⟩ =>
    show (j 1).val = if b = 1 then 0 else (j 1).val
    have := ValueIdx.idx2_lt1 j
    split <;> omega
end

/-- Each row over its root mean square, each column times its gain. -/
def norm (x : ℕ → ℕ → EReal) (g : ℕ → EReal) : ℕ → ℕ → EReal := fun p q =>
  x p q * Ideal.rsqrt (Ideal.div (∑ k : Fin 1024, x p k * x p k) (Ideal.ofBits .f32 0x44800000#32) + Ideal.ofBits .f32 0x358637BD#32) * g q
/-- The matrix product over 1024. -/
def prod (f g : ℕ → ℕ → EReal) : ℕ → ℕ → EReal := fun p q => ∑ k : Fin 1024, f p k * g k q
/-- The array from row `o` on, and from column `o` on. -/
def down (o : ℕ) (f : ℕ → ℕ → EReal) : ℕ → ℕ → EReal := fun p q => f (o + p) q
def right (o : ℕ) (f : ℕ → ℕ → EReal) : ℕ → ℕ → EReal := fun p q => f p (o + q)
/-- The factor of the queries. -/
def times (f : ℕ → ℕ → EReal) : ℕ → ℕ → EReal := fun p q => f p q * Ideal.ofBits .f32 0x3E000000#32

/-- The arguments the results are made of. -/
structure Data where
  x : ℕ → ℕ → EReal
  g : ℕ → EReal
  w : ℕ → ℕ → EReal
  wo : ℕ → ℕ → EReal
  wu : ℕ → ℕ → EReal
  wd : ℕ → ℕ → EReal

/-- The norm of the input, and its projection. -/
def Data.hn (D : Data) : ℕ → ℕ → EReal := norm D.x D.g
def Data.proj (D : Data) : ℕ → ℕ → EReal := prod D.hn D.w

end Cert.Fwd

end
-- ==== Proof.FwdValue.lean ====
/-
  The forward entry kernel over every input: what each value of the body is, what each grid point leaves, and what the
  result arrays end with.
-/
module

public import proofs.«01_k».proof.Proof.FwdLaunch
public import proofs.«01_k».proof.Proof.FwdMath
public import Idealize.ShloMosaic.Lib.StableHlo.RunRead
public import proofs.«01_k».proof.Proof.Loads

@[expose] public section

set_option maxRecDepth 16384

noncomputable section

namespace Cert.Fwd

open Cert.Kernel4Ideal Cert.Kernel4Ideal.Gen
open Idealize.ShloMosaic Idealize.ShloMosaic.TcCoe Idealize.ShloMosaic.Tactic Idealize.ShloMosaic.Pipeline
open Idealize.SL.Sem
open Cert.Mlp (hz)
open scoped BigOperators

theorem kdot : dot_S512x1024_S1024x256_S512x256_1_0_0_1_n_n = DotDims.plain 512 1024 256 := rfl

section
variable (x h : ℕ → ℕ → EReal) (g : ℕ → EReal) (w : ℕ → ℕ → ℕ → EReal)
theorem p26 : k0_pay26 (F := Ideal) (E2 x) (E2 fun _ q => g q) = E2 (norm x g) := by
  unfold k0_pay26
  simp only [mulf_E2, multiReduction]
  rw [rowsum_E2]
  simp only [mulf_E2, addf_E2, divf_E2, rsqrt_E2, broadcast_E2, shapeCast_colE, broadcastTo_colE, broadcastTo_rowE, shapeCast_self, truncf_E2]
  rfl
theorem p27 : k0_pay27 (F := Ideal) (E2 x) (E2 fun _ q => g q) (E3 w) = E2 (prod (norm x g) (w 0)) := by
  unfold k0_pay27; simp only [p26, shapeCast_E3, kdot, matmul_E2]; rfl
theorem p28 : k0_pay28 (F := Ideal) (E2 x) (E2 fun _ q => g q) (E3 w) = E2 (prod (norm x g) (w 0)) := by
  unfold k0_pay28; simp only [p26, shapeCast_E3, kdot, matmul_E2]; rfl
theorem p29 : k0_pay29 (F := Ideal) (E2 h) (E3 w) = E2 (times (prod h (w 0))) := by
  unfold k0_pay29; simp only [shapeCast_E3, kdot, matmul_E2, broadcast_E2, mulf_E2, truncf_E2]; rfl
theorem p30 : k0_pay30 (F := Ideal) (E2 h) (E3 w) = E2 (times (prod h (w 0))) := by
  unfold k0_pay30; simp only [shapeCast_E3, kdot, matmul_E2, broadcast_E2, mulf_E2, truncf_E2]; rfl
theorem p31 : k0_pay31 (F := Ideal) (E2 h) (E3 w) = E2 (prod h (w 0)) := by
  unfold k0_pay31; simp only [shapeCast_E3, kdot, matmul_E2, truncf_E2]; rfl
theorem p32 : k0_pay32 (F := Ideal) (E2 h) (E3 w) = E2 (prod h (w 0)) := by
  unfold k0_pay32; simp only [shapeCast_E3, kdot, matmul_E2, truncf_E2]; rfl
theorem p33 : k0_pay33 (F := Ideal) (E2 h) (E3 w) = E2 (prod h (w 0)) := by
  unfold k0_pay33; simp only [shapeCast_E3, kdot, matmul_E2, truncf_E2]; rfl
theorem p1 : k0_pay1 (F := Ideal) (E2 h) (E3 w) = E2 (prod h (w 0)) := by
  unfold k0_pay1; simp only [shapeCast_E3, kdot, matmul_E2, truncf_E2]; rfl
end

/-- The projection's weight as eight blocks of 256 of its columns. -/
def slabs (f : ℕ → ℕ → EReal) : ℕ → ℕ → ℕ → EReal := fun k p q => f p (256 * k + q)

theorem ld_slab (f : ℕ → ℕ → EReal) (k : ℕ) (inb) :
    View.ld (e' := .bf16) (Val := Elt Ideal) (E3 (slabs f) : S8x1024x256.Idx → EReal) (Rect.unit (s := S8x1024x256) ![k, 0, 0] ![1, 1024, 256] inb)
      = (E3 (fun _ => right (256 * k) f) : S1x1024x256.Idx → EReal) := by
  funext i
  have l0 : (i 0).val < 1 := (i 0).isLt
  have e0 : (i 0).val = 0 := by omega
  let r := Rect.unit (s := S8x1024x256) ![k, 0, 0] ![1, 1024, 256] inb
  have h0 : (r.idx i 0).val = k + (i 0).val := Rect.idx_unit_val _ _ inb i 0
  have h1 : (r.idx i 1).val = 0 + (i 1).val := Rect.idx_unit_val _ _ inb i 1
  have h2 : (r.idx i 2).val = 0 + (i 2).val := Rect.idx_unit_val _ _ inb i 2
  show f (r.idx i 1).val (256 * (r.idx i 0).val + (r.idx i 2).val) = f (i 1).val (256 * k + (i 2).val)
  rw [h0, h1, h2, e0, Nat.zero_add, Nat.zero_add, Nat.add_zero]

/-- 256 columns of an array, stored. -/
theorem piece (f g : ℕ → ℕ → EReal) (o : ℕ) (inb) (h : ∀ p q, g p q = f p (o + q)) (x : (Rect.unit (s := S512x512) ![0, o] ![512, 256] inb).shape.Idx) :
    (E2 g : S512x256.Idx → EReal) x = (E2 f : S512x512.Idx → EReal) ((Rect.unit (s := S512x512) ![0, o] ![512, 256] inb).emb x) := by
  let r := Rect.unit (s := S512x512) ![0, o] ![512, 256] inb
  have h0 : (r.emb x 0).val = 0 + (x 0).val := Rect.idx_unit_val _ _ inb x 0
  have h1 : (r.emb x 1).val = o + (x 1).val := Rect.idx_unit_val _ _ inb x 1
  show g (x 0).val (x 1).val = f (r.emb x 0).val (r.emb x 1).val
  rw [h0, h1, Nat.zero_add, h]

section
variable (m : (ℓ : Loc nD τ sig) → Buf (Elt Ideal) ℓ) (c : Dev nD) {D : Data}

/-- The arguments hold the data. -/
structure Args (m : (ℓ : Loc nD τ sig) → Buf (Elt Ideal) ℓ) (c : Dev nD) (D : Data) : Prop where
  x : m ((c : Thread nD τ).loc main_arg0) = (E2 D.x : S4096x1024.Idx → EReal)
  g : m ((c : Thread nD τ).loc main_arg1) = (E1 D.g : S1024.Idx → EReal)
  w : m ((c : Thread nD τ).loc main_arg2) = (E2 D.w : S1024x2048.Idx → EReal)
  wo : m ((c : Thread nD τ).loc main_arg3) = (E2 D.wo : S128x1024.Idx → EReal)
  wu : m ((c : Thread nD τ).loc main_arg4) = (E2 D.wu : S1024x512.Idx → EReal)
  wd : m ((c : Thread nD τ).loc main_arg5) = (E2 D.wd : S512x1024.Idx → EReal)

theorem args : ∃ D, Args m c D := by
  obtain ⟨x, hx⟩ := exists_E2 (a := 4096) (b := 1024) (m ((c : Thread nD τ).loc main_arg0))
  obtain ⟨g, hg⟩ := exists_E1 (a := 1024) (m ((c : Thread nD τ).loc main_arg1))
  obtain ⟨w, hw⟩ := exists_E2 (a := 1024) (b := 2048) (m ((c : Thread nD τ).loc main_arg2))
  obtain ⟨wo, hwo⟩ := exists_E2 (a := 128) (b := 1024) (m ((c : Thread nD τ).loc main_arg3))
  obtain ⟨wu, hwu⟩ := exists_E2 (a := 1024) (b := 512) (m ((c : Thread nD τ).loc main_arg4))
  obtain ⟨wd, hwd⟩ := exists_E2 (a := 512) (b := 1024) (m ((c : Thread nD τ).loc main_arg5))
  exact ⟨⟨x, g, w, wo, wu, wd⟩, ⟨hx, hg, hw, hwo, hwu, hwd⟩⟩

theorem V_gain (h : Args m c D) : V m c main_v21 = (E2 fun _ q => D.g q : S1x1024.Idx → EReal) := by
  have e : V m c main_v21 = (shapeCast S1x1024 (m ((c : Thread nD τ).loc main_arg1) : S1024.Idx → EReal) shapeCasts_S1024_S1x1024 : S1x1024.Idx → EReal) := by
    show StableHlo.after hostOps0 (fun b => m (c, b)) (Proc.devRef .tc main_v21) = _
    after_reads_simp; rfl
  rw [e, h.g]; exact shapeCast_rowE _ _
theorem V_slabs (h : Args m c D) : V m c main_v20 = (E3 (slabs D.w) : S8x1024x256.Idx → EReal) := by
  have e : V m c main_v20 = (transpose S8x1024x256 [1, 0, 2] (shapeCast S1024x8x256 (truncf .bf16 (m ((c : Thread nD τ).loc main_arg2) : FVec Ideal S1024x2048 .f32) bitsLt_bf16_f32 : FVec Ideal S1024x2048 .bf16) shapeCasts_S1024x2048_S1024x8x256 : S1024x8x256.Idx → EReal) transposes_S1024x8x256_S8x1024x256_1_0_2 : S8x1024x256.Idx → EReal) := by
    show StableHlo.after hostOps0 (fun b => m (c, b)) (Proc.devRef .tc main_v20) = _
    after_reads_simp; rfl
  rw [e, h.w]
  funext i
  have hi0 : (i 0).val < 8 := (i 0).isLt
  have hi1 : (i 1).val < 1024 := (i 1).isLt
  have hi2 : (i 2).val < 256 := (i 2).isLt
  have hk : 256 * (i 0).val + (i 2).val < 2048 := by omega
  refine (transpose_apply _ _ _ i (ValueIdx.ix3 (⟨(i 1).val, hi1⟩ : Fin 1024) (⟨(i 0).val, hi0⟩ : Fin 8) (⟨(i 2).val, hi2⟩ : Fin 256)) ?_).trans ?_
  · intro b; match b with
    | 0 => rfl
    | 1 => rfl
    | 2 => rfl
  refine (shapeCast_apply _ _ _ (ValueIdx.ix2 (⟨(i 1).val, hi1⟩ : Fin 1024) (⟨256 * (i 0).val + (i 2).val, hk⟩ : Fin 2048)) ?_).trans rfl
  rw [Shape.rowMajor_val_two, Shape.rowMajor_val_three]
  show (i 1).val * 2048 + (256 * (i 0).val + (i 2).val) = ((i 1).val * 8 + (i 0).val) * 256 + (i 2).val
  omega

theorem at_rows (f : ℕ → ℕ → EReal) (R C : ℕ) {a b t p q : ℕ} (h : a = t ∧ b = 0) : f (a * R + 1 * p) (b * C + 1 * q) = f (R * t + p) q := by
  rw [h.1, h.2]; congr 1 <;> ring
theorem idx0 : ∀ t : Fin grid0.N, win0_0.index t 0 = t.val ∧ win0_0.index t 1 = 0 := by decide +kernel
theorem blk0 (t : Fin cfg0.N) (f : ℕ → ℕ → EReal) : ((cfg0.win 0).blk t).view.read (Elt Ideal) (E2 f : S4096x1024.Idx → EReal) = (E2 (down (512 * t.val) f) : S512x1024.Idx → EReal) :=
  funext fun i => at_rows f 512 1024 (idx0 t)
theorem idx3 : ∀ t : Fin grid0.N, win0_3.index t 0 = t.val ∧ win0_3.index t 1 = 0 := by decide +kernel
theorem blk3 (t : Fin cfg0.N) (f : ℕ → ℕ → EReal) : ((cfg0.win 3).blk t).view.read (Elt Ideal) (E2 f : S128x1024.Idx → EReal) = (E2 (down (16 * t.val) f) : S16x1024.Idx → EReal) :=
  funext fun i => at_rows f 16 1024 (idx3 t)
theorem idx4 : ∀ t : Fin grid0.N, win0_4.index t 0 = t.val ∧ win0_4.index t 1 = 0 := by decide +kernel
theorem blk4 (t : Fin cfg0.N) (f : ℕ → ℕ → EReal) : ((cfg0.win 4).blk t).view.read (Elt Ideal) (E2 f : S1024x512.Idx → EReal) = (E2 (down (128 * t.val) f) : S128x512.Idx → EReal) :=
  funext fun i => at_rows f 128 512 (idx4 t)
theorem idx5 : ∀ t : Fin grid0.N, win0_5.index t 0 = t.val ∧ win0_5.index t 1 = 0 := by decide +kernel
theorem blk5 (t : Fin cfg0.N) (f : ℕ → ℕ → EReal) : ((cfg0.win 5).blk t).view.read (Elt Ideal) (E2 f : S512x1024.Idx → EReal) = (E2 (down (64 * t.val) f) : S64x1024.Idx → EReal) :=
  funext fun i => at_rows f 64 1024 (idx5 t)
theorem idx24 : ∀ t : Fin grid0.N, win0_24.index t 0 = t.val ∧ win0_24.index t 1 = 0 := by decide +kernel
theorem blk24 (t : Fin cfg0.N) (f : ℕ → ℕ → EReal) : ((cfg0.win 24).blk t).view.read (Elt Ideal) (E2 f : S4096x1024.Idx → EReal) = (E2 (down (512 * t.val) f) : S512x1024.Idx → EReal) :=
  funext fun i => at_rows f 512 1024 (idx24 t)
theorem idx25 : ∀ t : Fin grid0.N, win0_25.index t 0 = t.val ∧ win0_25.index t 1 = 0 := by decide +kernel
theorem blk25 (t : Fin cfg0.N) (f : ℕ → ℕ → EReal) : ((cfg0.win 25).blk t).view.read (Elt Ideal) (E2 f : S4096x512.Idx → EReal) = (E2 (down (512 * t.val) f) : S512x512.Idx → EReal) :=
  funext fun i => at_rows f 512 512 (idx25 t)
theorem idx26 : ∀ t : Fin grid0.N, win0_26.index t 0 = t.val ∧ win0_26.index t 1 = 0 := by decide +kernel
theorem blk26 (t : Fin cfg0.N) (f : ℕ → ℕ → EReal) : ((cfg0.win 26).blk t).view.read (Elt Ideal) (E2 f : S4096x512.Idx → EReal) = (E2 (down (512 * t.val) f) : S512x512.Idx → EReal) :=
  funext fun i => at_rows f 512 512 (idx26 t)
theorem idx27 : ∀ t : Fin grid0.N, win0_27.index t 0 = t.val ∧ win0_27.index t 1 = 0 := by decide +kernel
theorem blk27 (t : Fin cfg0.N) (f : ℕ → ℕ → EReal) : ((cfg0.win 27).blk t).view.read (Elt Ideal) (E2 f : S4096x512.Idx → EReal) = (E2 (down (512 * t.val) f) : S512x512.Idx → EReal) :=
  funext fun i => at_rows f 512 512 (idx27 t)
theorem idx28 : ∀ t : Fin grid0.N, win0_28.index t 0 = t.val ∧ win0_28.index t 1 = 0 := by decide +kernel
theorem blk28 (t : Fin cfg0.N) (f : ℕ → ℕ → EReal) : ((cfg0.win 28).blk t).view.read (Elt Ideal) (E2 f : S4096x512.Idx → EReal) = (E2 (down (512 * t.val) f) : S512x512.Idx → EReal) :=
  funext fun i => at_rows f 512 512 (idx28 t)
theorem idx29 : ∀ t : Fin grid0.N, win0_29.index t 0 = t.val ∧ win0_29.index t 1 = 0 := by decide +kernel
theorem blk29 (t : Fin cfg0.N) (f : ℕ → ℕ → EReal) : ((cfg0.win 29).blk t).view.read (Elt Ideal) (E2 f : S128x1024.Idx → EReal) = (E2 (down (16 * t.val) f) : S16x1024.Idx → EReal) :=
  funext fun i => at_rows f 16 1024 (idx29 t)
theorem idx30 : ∀ t : Fin grid0.N, win0_30.index t 0 = t.val ∧ win0_30.index t 1 = 0 := by decide +kernel
theorem blk30 (t : Fin cfg0.N) (f : ℕ → ℕ → EReal) : ((cfg0.win 30).blk t).view.read (Elt Ideal) (E2 f : S1024x512.Idx → EReal) = (E2 (down (128 * t.val) f) : S128x512.Idx → EReal) :=
  funext fun i => at_rows f 128 512 (idx30 t)
theorem idx31 : ∀ t : Fin grid0.N, win0_31.index t 0 = t.val ∧ win0_31.index t 1 = 0 := by decide +kernel
theorem blk31 (t : Fin cfg0.N) (f : ℕ → ℕ → EReal) : ((cfg0.win 31).blk t).view.read (Elt Ideal) (E2 f : S512x1024.Idx → EReal) = (E2 (down (64 * t.val) f) : S64x1024.Idx → EReal) :=
  funext fun i => at_rows f 64 1024 (idx31 t)
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel

/-- The blocks at a point hold the data from the point's rows on. -/
theorem iblk0 (h : Args m c D) (t : Fin cfg0.N) : iblk m c 0 t = (E2 (down (512 * t.val) D.x) : S512x1024.Idx → EReal) :=
  (congrArg _ ((V_main_arg0 m c).trans h.x)).trans (blk0 t D.x)
theorem iblk1 (h : Args m c D) (t : Fin cfg0.N) : iblk m c 1 t = (E2 fun _ q => D.g q : S1x1024.Idx → EReal) := by
  refine (congrArg _ (V_gain m c h)).trans (funext fun i => ?_)
  show D.g (win0_1.index t 1 * 1024 + 1 * (i 1).val) = D.g (i 1).val
  rw [(idx1 t).2]; congr 1; ring
theorem iblk2 (h : Args m c D) (t : Fin cfg0.N) : iblk m c 2 t = (E3 (slabs D.w) : S8x1024x256.Idx → EReal) := by
  refine (congrArg _ (V_slabs m c h)).trans (funext fun i => ?_)
  show slabs D.w (win0_2.index t 0 * 8 + 1 * (i 0).val) (win0_2.index t 1 * 1024 + 1 * (i 1).val) (win0_2.index t 2 * 256 + 1 * (i 2).val) = slabs D.w (i 0).val (i 1).val (i 2).val
  rw [(idx2 t).1, (idx2 t).2.1, (idx2 t).2.2]; congr 1 <;> ring
theorem iblk3 (h : Args m c D) (t : Fin cfg0.N) : iblk m c 3 t = (E2 (down (16 * t.val) D.wo) : S16x1024.Idx → EReal) :=
  (congrArg _ ((V_main_arg3 m c).trans h.wo)).trans (blk3 t D.wo)
theorem iblk4 (h : Args m c D) (t : Fin cfg0.N) : iblk m c 4 t = (E2 (down (128 * t.val) D.wu) : S128x512.Idx → EReal) :=
  (congrArg _ ((V_main_arg4 m c).trans h.wu)).trans (blk4 t D.wu)
theorem iblk5 (h : Args m c D) (t : Fin cfg0.N) : iblk m c 5 t = (E2 (down (64 * t.val) D.wd) : S64x1024.Idx → EReal) :=
  (congrArg _ ((V_main_arg5 m c).trans h.wd)).trans (blk5 t D.wd)

theorem leaves29 (h : Args m c D) (t : Fin cfg0.N) : out29 m c t = (E2 (down (16 * t.val) D.wo) : S16x1024.Idx → EReal) := by
  unfold out29 at_ run; dsimp only; rw [View.canon_unit_zero hz]
  sl_unfold_words
  simp only [View.readAt_eq_ld, (hs0_3 t).read_unread, View.ld_unit_zero (S := S16x1024) hz]
  exact iblk3 m c h t
theorem leaves30 (h : Args m c D) (t : Fin cfg0.N) : out30 m c t = (E2 (down (128 * t.val) D.wu) : S128x512.Idx → EReal) := by
  unfold out30 at_ run; dsimp only; rw [View.canon_unit_zero hz]
  sl_unfold_words
  simp only [View.readAt_eq_ld, (hs0_4 t).read_unread, View.ld_unit_zero (S := S128x512) hz]
  exact iblk4 m c h t
theorem leaves31 (h : Args m c D) (t : Fin cfg0.N) : out31 m c t = (E2 (down (64 * t.val) D.wd) : S64x1024.Idx → EReal) := by
  unfold out31 at_ run; dsimp only; rw [View.canon_unit_zero hz]
  sl_unfold_words
  simp only [View.readAt_eq_ld, (hs0_5 t).read_unread, View.ld_unit_zero (S := S64x1024) hz]
  exact iblk5 m c h t
theorem leaves24 (h : Args m c D) (t : Fin cfg0.N) : out24 m c t = (E2 (down (512 * t.val) D.hn) : S512x1024.Idx → EReal) := by
  unfold out24 at_ run; dsimp only; rw [View.canon_unit_zero hz]
  sl_unfold_words
  simp only [View.readAt_eq_ld, (hs0_0 t).read_unread, (hs0_1 t).read_unread, View.ld_unit_zero (S := S512x1024) hz, View.ld_unit_zero (S := S1x1024) hz, iblk0 m c h t, iblk1 m c h t]
  exact p26 _ _
theorem leaves25 (h : Args m c D) (t : Fin cfg0.N) : out25 m c t = (E2 (down (512 * t.val) (D.proj)) : S512x512.Idx → EReal) := by
  unfold out25 at_ run; dsimp only
  sl_unfold_words
  simp only [View.readAt_eq_ld, (hs0_0 t).read_unread, (hs0_1 t).read_unread, (hs0_2 t).read_unread, View.ld_unit_zero (S := S512x1024) hz, View.ld_unit_zero (S := S1x1024) hz, iblk0 m c h t, iblk1 m c h t, iblk2 m c h t, ld_slab, p27, p28]
  funext y
  refine View.canon_apply_of_pieces _ _ ?_ y ?_
  · exact View.PiecesOf.mem ⟨piece (down (512 * t.val) (D.proj)) (down (512 * t.val) (prod D.hn (right (256 * 1) D.w))) 256 inb_S512x512_S512x256_0_256 (fun p q => congrArg (fun n => D.proj (512 * t.val + p) n) (by omega : 256 * 1 + q = 256 + q)), piece (down (512 * t.val) (D.proj)) (down (512 * t.val) (prod D.hn (right (256 * 0) D.w))) 0 inb_S512x512_S512x256_0_0 (fun p q => congrArg (fun n => D.proj (512 * t.val + p) n) (by omega : 256 * 0 + q = 0 + q)), trivial⟩
  · exact View.cover_of_tiledL (s := S512x512) _ S512x256.size (by sl_kernel_rfl) y
theorem leaves26 (h : Args m c D) (t : Fin cfg0.N) : out26 m c t = (E2 (down (512 * t.val) (times (right 512 D.proj))) : S512x512.Idx → EReal) := by
  unfold out26 at_ run; dsimp only
  sl_unfold_words
  simp only [View.readAt_eq_ld, (hs0_0 t).read_unread, (hs0_1 t).read_unread, (hs0_2 t).read_unread, View.ld_unit_zero (S := S512x1024) hz, View.ld_unit_zero (S := S1x1024) hz, iblk0 m c h t, iblk1 m c h t, iblk2 m c h t, ld_slab, p26, p29, p30]
  funext y
  refine View.canon_apply_of_pieces _ _ ?_ y ?_
  · exact View.PiecesOf.mem ⟨piece (down (512 * t.val) (times (right 512 D.proj))) (down (512 * t.val) (times (prod D.hn (right (256 * 3) D.w)))) 256 inb_S512x512_S512x256_0_256 (fun p q => congrArg (fun n => D.proj (512 * t.val + p) n * Ideal.ofBits .f32 0x3E000000#32) (by omega : 256 * 3 + q = 512 + (256 + q))), piece (down (512 * t.val) (times (right 512 D.proj))) (down (512 * t.val) (times (prod D.hn (right (256 * 2) D.w)))) 0 inb_S512x512_S512x256_0_0 (fun p q => congrArg (fun n => D.proj (512 * t.val + p) n * Ideal.ofBits .f32 0x3E000000#32) (by omega : 256 * 2 + q = 512 + (0 + q))), trivial⟩
  · exact View.cover_of_tiledL (s := S512x512) _ S512x256.size (by sl_kernel_rfl) y
theorem leaves27 (h : Args m c D) (t : Fin cfg0.N) : out27 m c t = (E2 (down (512 * t.val) (right 1024 D.proj)) : S512x512.Idx → EReal) := by
  unfold out27 at_ run; dsimp only
  sl_unfold_words
  simp only [View.readAt_eq_ld, (hs0_0 t).read_unread, (hs0_1 t).read_unread, (hs0_2 t).read_unread, View.ld_unit_zero (S := S512x1024) hz, View.ld_unit_zero (S := S1x1024) hz, iblk0 m c h t, iblk1 m c h t, iblk2 m c h t, ld_slab, p26, p31, p32]
  funext y
  refine View.canon_apply_of_pieces _ _ ?_ y ?_
  · exact View.PiecesOf.mem ⟨piece (down (512 * t.val) (right 1024 D.proj)) (down (512 * t.val) (prod D.hn (right (256 * 5) D.w))) 256 inb_S512x512_S512x256_0_256 (fun p q => congrArg (fun n => D.proj (512 * t.val + p) n) (by omega : 256 * 5 + q = 1024 + (256 + q))), piece (down (512 * t.val) (right 1024 D.proj)) (down (512 * t.val) (prod D.hn (right (256 * 4) D.w))) 0 inb_S512x512_S512x256_0_0 (fun p q => congrArg (fun n => D.proj (512 * t.val + p) n) (by omega : 256 * 4 + q = 1024 + (0 + q))), trivial⟩
  · exact View.cover_of_tiledL (s := S512x512) _ S512x256.size (by sl_kernel_rfl) y
theorem leaves28 (h : Args m c D) (t : Fin cfg0.N) : out28 m c t = (E2 (down (512 * t.val) (right 1536 D.proj)) : S512x512.Idx → EReal) := by
  unfold out28 at_ run; dsimp only
  sl_unfold_words
  simp only [View.readAt_eq_ld, (hs0_0 t).read_unread, (hs0_1 t).read_unread, (hs0_2 t).read_unread, View.ld_unit_zero (S := S512x1024) hz, View.ld_unit_zero (S := S1x1024) hz, iblk0 m c h t, iblk1 m c h t, iblk2 m c h t, ld_slab, p26, p33, p1]
  funext y
  refine View.canon_apply_of_pieces _ _ ?_ y ?_
  · exact View.PiecesOf.mem ⟨piece (down (512 * t.val) (right 1536 D.proj)) (down (512 * t.val) (prod D.hn (right (256 * 7) D.w))) 256 inb_S512x512_S512x256_0_256 (fun p q => congrArg (fun n => D.proj (512 * t.val + p) n) (by omega : 256 * 7 + q = 1536 + (256 + q))), piece (down (512 * t.val) (right 1536 D.proj)) (down (512 * t.val) (prod D.hn (right (256 * 6) D.w))) 0 inb_S512x512_S512x256_0_0 (fun p q => congrArg (fun n => D.proj (512 * t.val + p) n) (by omega : 256 * 6 + q = 1536 + (0 + q))), trivial⟩
  · exact View.cover_of_tiledL (s := S512x512) _ S512x256.size (by sl_kernel_rfl) y

theorem final24 (h : Args m c D) : (dats m 0 c).arrAt 24 cfg0.N = (E2 D.hn : S4096x1024.Idx → EReal) := by
  refine (dats m 0 c).arrAt_eq_of_cover 24 (E2 D.hn : S4096x1024.Idx → EReal) (fun t _ => ?_) fun i => ?_
  · show (cfg0.win 24).cut (grid0.coords t) ((dats m 0 c).after 24 t) = _
    simp only [after24, leaves24 m c h t]
    exact (blk24 t _).symm
  · have h0 : (i 0 : Nat) < 4096 := (i 0).isLt
    have h1 : (i 1 : Nat) < 1024 := (i 1).isLt
    let t : Fin grid0.N := ⟨(i 0 : Nat) / 512, (by omega : (i 0 : Nat) / 512 < 8)⟩
    have i0 : win0_24.index t 0 = (i 0 : Nat) / 512 := (idx24 t).1
    refine ⟨t, flush0_24 _, ?_⟩
    show i ∈ ((View.whole main_v22_0).slice (win0_24.rect t)).set
    rw [View.set_slice_whole, Rect.mem_set_unit]
    intro a
    match a with
    | ⟨0, _⟩ =>
      show win0_24.index t 0 * 512 ≤ (i 0 : Nat) ∧ (i 0 : Nat) < win0_24.index t 0 * 512 + 512
      rw [i0]; omega
    | ⟨1, _⟩ =>
      show win0_24.index t 1 * 1024 ≤ (i 1 : Nat) ∧ (i 1 : Nat) < win0_24.index t 1 * 1024 + 1024
      rw [(idx24 t).2]; omega
theorem final25 (h : Args m c D) : (dats m 0 c).arrAt 25 cfg0.N = (E2 D.proj : S4096x512.Idx → EReal) := by
  refine (dats m 0 c).arrAt_eq_of_cover 25 (E2 D.proj : S4096x512.Idx → EReal) (fun t _ => ?_) fun i => ?_
  · show (cfg0.win 25).cut (grid0.coords t) ((dats m 0 c).after 25 t) = _
    simp only [after25, leaves25 m c h t]
    exact (blk25 t _).symm
  · have h0 : (i 0 : Nat) < 4096 := (i 0).isLt
    have h1 : (i 1 : Nat) < 512 := (i 1).isLt
    let t : Fin grid0.N := ⟨(i 0 : Nat) / 512, (by omega : (i 0 : Nat) / 512 < 8)⟩
    have i0 : win0_25.index t 0 = (i 0 : Nat) / 512 := (idx25 t).1
    refine ⟨t, flush0_25 _, ?_⟩
    show i ∈ ((View.whole main_v22_1).slice (win0_25.rect t)).set
    rw [View.set_slice_whole, Rect.mem_set_unit]
    intro a
    match a with
    | ⟨0, _⟩ =>
      show win0_25.index t 0 * 512 ≤ (i 0 : Nat) ∧ (i 0 : Nat) < win0_25.index t 0 * 512 + 512
      rw [i0]; omega
    | ⟨1, _⟩ =>
      show win0_25.index t 1 * 512 ≤ (i 1 : Nat) ∧ (i 1 : Nat) < win0_25.index t 1 * 512 + 512
      rw [(idx25 t).2]; omega
theorem final26 (h : Args m c D) : (dats m 0 c).arrAt 26 cfg0.N = (E2 (times (right 512 D.proj)) : S4096x512.Idx → EReal) := by
  refine (dats m 0 c).arrAt_eq_of_cover 26 (E2 (times (right 512 D.proj)) : S4096x512.Idx → EReal) (fun t _ => ?_) fun i => ?_
  · show (cfg0.win 26).cut (grid0.coords t) ((dats m 0 c).after 26 t) = _
    simp only [after26, leaves26 m c h t]
    exact (blk26 t _).symm
  · have h0 : (i 0 : Nat) < 4096 := (i 0).isLt
    have h1 : (i 1 : Nat) < 512 := (i 1).isLt
    let t : Fin grid0.N := ⟨(i 0 : Nat) / 512, (by omega : (i 0 : Nat) / 512 < 8)⟩
    have i0 : win0_26.index t 0 = (i 0 : Nat) / 512 := (idx26 t).1
    refine ⟨t, flush0_26 _, ?_⟩
    show i ∈ ((View.whole main_v22_2).slice (win0_26.rect t)).set
    rw [View.set_slice_whole, Rect.mem_set_unit]
    intro a
    match a with
    | ⟨0, _⟩ =>
      show win0_26.index t 0 * 512 ≤ (i 0 : Nat) ∧ (i 0 : Nat) < win0_26.index t 0 * 512 + 512
      rw [i0]; omega
    | ⟨1, _⟩ =>
      show win0_26.index t 1 * 512 ≤ (i 1 : Nat) ∧ (i 1 : Nat) < win0_26.index t 1 * 512 + 512
      rw [(idx26 t).2]; omega
theorem final27 (h : Args m c D) : (dats m 0 c).arrAt 27 cfg0.N = (E2 (right 1024 D.proj) : S4096x512.Idx → EReal) := by
  refine (dats m 0 c).arrAt_eq_of_cover 27 (E2 (right 1024 D.proj) : S4096x512.Idx → EReal) (fun t _ => ?_) fun i => ?_
  · show (cfg0.win 27).cut (grid0.coords t) ((dats m 0 c).after 27 t) = _
    simp only [after27, leaves27 m c h t]
    exact (blk27 t _).symm
  · have h0 : (i 0 : Nat) < 4096 := (i 0).isLt
    have h1 : (i 1 : Nat) < 512 := (i 1).isLt
    let t : Fin grid0.N := ⟨(i 0 : Nat) / 512, (by omega : (i 0 : Nat) / 512 < 8)⟩
    have i0 : win0_27.index t 0 = (i 0 : Nat) / 512 := (idx27 t).1
    refine ⟨t, flush0_27 _, ?_⟩
    show i ∈ ((View.whole main_v22_3).slice (win0_27.rect t)).set
    rw [View.set_slice_whole, Rect.mem_set_unit]
    intro a
    match a with
    | ⟨0, _⟩ =>
      show win0_27.index t 0 * 512 ≤ (i 0 : Nat) ∧ (i 0 : Nat) < win0_27.index t 0 * 512 + 512
      rw [i0]; omega
    | ⟨1, _⟩ =>
      show win0_27.index t 1 * 512 ≤ (i 1 : Nat) ∧ (i 1 : Nat) < win0_27.index t 1 * 512 + 512
      rw [(idx27 t).2]; omega
theorem final28 (h : Args m c D) : (dats m 0 c).arrAt 28 cfg0.N = (E2 (right 1536 D.proj) : S4096x512.Idx → EReal) := by
  refine (dats m 0 c).arrAt_eq_of_cover 28 (E2 (right 1536 D.proj) : S4096x512.Idx → EReal) (fun t _ => ?_) fun i => ?_
  · show (cfg0.win 28).cut (grid0.coords t) ((dats m 0 c).after 28 t) = _
    simp only [after28, leaves28 m c h t]
    exact (blk28 t _).symm
  · have h0 : (i 0 : Nat) < 4096 := (i 0).isLt
    have h1 : (i 1 : Nat) < 512 := (i 1).isLt
    let t : Fin grid0.N := ⟨(i 0 : Nat) / 512, (by omega : (i 0 : Nat) / 512 < 8)⟩
    have i0 : win0_28.index t 0 = (i 0 : Nat) / 512 := (idx28 t).1
    refine ⟨t, flush0_28 _, ?_⟩
    show i ∈ ((View.whole main_v22_4).slice (win0_28.rect t)).set
    rw [View.set_slice_whole, Rect.mem_set_unit]
    intro a
    match a with
    | ⟨0, _⟩ =>
      show win0_28.index t 0 * 512 ≤ (i 0 : Nat) ∧ (i 0 : Nat) < win0_28.index t 0 * 512 + 512
      rw [i0]; omega
    | ⟨1, _⟩ =>
      show win0_28.index t 1 * 512 ≤ (i 1 : Nat) ∧ (i 1 : Nat) < win0_28.index t 1 * 512 + 512
      rw [(idx28 t).2]; omega
theorem final29 (h : Args m c D) : (dats m 0 c).arrAt 29 cfg0.N = (E2 D.wo : S128x1024.Idx → EReal) := by
  refine (dats m 0 c).arrAt_eq_of_cover 29 (E2 D.wo : S128x1024.Idx → EReal) (fun t _ => ?_) fun i => ?_
  · show (cfg0.win 29).cut (grid0.coords t) ((dats m 0 c).after 29 t) = _
    simp only [after29, leaves29 m c h t]
    exact (blk29 t _).symm
  · have h0 : (i 0 : Nat) < 128 := (i 0).isLt
    have h1 : (i 1 : Nat) < 1024 := (i 1).isLt
    let t : Fin grid0.N := ⟨(i 0 : Nat) / 16, (by omega : (i 0 : Nat) / 16 < 8)⟩
    have i0 : win0_29.index t 0 = (i 0 : Nat) / 16 := (idx29 t).1
    refine ⟨t, flush0_29 _, ?_⟩
    show i ∈ ((View.whole main_v22_5).slice (win0_29.rect t)).set
    rw [View.set_slice_whole, Rect.mem_set_unit]
    intro a
    match a with
    | ⟨0, _⟩ =>
      show win0_29.index t 0 * 16 ≤ (i 0 : Nat) ∧ (i 0 : Nat) < win0_29.index t 0 * 16 + 16
      rw [i0]; omega
    | ⟨1, _⟩ =>
      show win0_29.index t 1 * 1024 ≤ (i 1 : Nat) ∧ (i 1 : Nat) < win0_29.index t 1 * 1024 + 1024
      rw [(idx29 t).2]; omega
theorem final30 (h : Args m c D) : (dats m 0 c).arrAt 30 cfg0.N = (E2 D.wu : S1024x512.Idx → EReal) := by
  refine (dats m 0 c).arrAt_eq_of_cover 30 (E2 D.wu : S1024x512.Idx → EReal) (fun t _ => ?_) fun i => ?_
  · show (cfg0.win 30).cut (grid0.coords t) ((dats m 0 c).after 30 t) = _
    simp only [after30, leaves30 m c h t]
    exact (blk30 t _).symm
  · have h0 : (i 0 : Nat) < 1024 := (i 0).isLt
    have h1 : (i 1 : Nat) < 512 := (i 1).isLt
    let t : Fin grid0.N := ⟨(i 0 : Nat) / 128, (by omega : (i 0 : Nat) / 128 < 8)⟩
    have i0 : win0_30.index t 0 = (i 0 : Nat) / 128 := (idx30 t).1
    refine ⟨t, flush0_30 _, ?_⟩
    show i ∈ ((View.whole main_v22_6).slice (win0_30.rect t)).set
    rw [View.set_slice_whole, Rect.mem_set_unit]
    intro a
    match a with
    | ⟨0, _⟩ =>
      show win0_30.index t 0 * 128 ≤ (i 0 : Nat) ∧ (i 0 : Nat) < win0_30.index t 0 * 128 + 128
      rw [i0]; omega
    | ⟨1, _⟩ =>
      show win0_30.index t 1 * 512 ≤ (i 1 : Nat) ∧ (i 1 : Nat) < win0_30.index t 1 * 512 + 512
      rw [(idx30 t).2]; omega
theorem final31 (h : Args m c D) : (dats m 0 c).arrAt 31 cfg0.N = (E2 D.wd : S512x1024.Idx → EReal) := by
  refine (dats m 0 c).arrAt_eq_of_cover 31 (E2 D.wd : S512x1024.Idx → EReal) (fun t _ => ?_) fun i => ?_
  · show (cfg0.win 31).cut (grid0.coords t) ((dats m 0 c).after 31 t) = _
    simp only [after31, leaves31 m c h t]
    exact (blk31 t _).symm
  · have h0 : (i 0 : Nat) < 512 := (i 0).isLt
    have h1 : (i 1 : Nat) < 1024 := (i 1).isLt
    let t : Fin grid0.N := ⟨(i 0 : Nat) / 64, (by omega : (i 0 : Nat) / 64 < 8)⟩
    have i0 : win0_31.index t 0 = (i 0 : Nat) / 64 := (idx31 t).1
    refine ⟨t, flush0_31 _, ?_⟩
    show i ∈ ((View.whole main_v22_7).slice (win0_31.rect t)).set
    rw [View.set_slice_whole, Rect.mem_set_unit]
    intro a
    match a with
    | ⟨0, _⟩ =>
      show win0_31.index t 0 * 64 ≤ (i 0 : Nat) ∧ (i 0 : Nat) < win0_31.index t 0 * 64 + 64
      rw [i0]; omega
    | ⟨1, _⟩ =>
      show win0_31.index t 1 * 1024 ≤ (i 1 : Nat) ∧ (i 1 : Nat) < win0_31.index t 1 * 1024 + 1024
      rw [(idx31 t).2]; omega
end

set_option maxHeartbeats 4000000 in
/-- The kernel's results. -/
theorem results (m : (ℓ : Loc nD τ sig) → Buf (Elt Ideal) ℓ) (ρ : Dev nD → PrngReg) (D : Dev nD → Data) (H : ∀ c, Args m c (D c)) :
    θ_run defs (onTc (τ := τ) (main (F := Ideal))) ⟨m, fun _ => 0, ρ⟩ (fun r => ∀ c : Dev nD,
      r.2.mem ((c : Thread nD τ).loc main_v22_0) = (E2 (D c).hn : S4096x1024.Idx → EReal)
      ∧ r.2.mem ((c : Thread nD τ).loc main_v22_1) = (E2 (D c).proj : S4096x512.Idx → EReal)
      ∧ r.2.mem ((c : Thread nD τ).loc main_v22_2) = (E2 (times (right 512 (D c).proj)) : S4096x512.Idx → EReal)
      ∧ r.2.mem ((c : Thread nD τ).loc main_v22_3) = (E2 (right 1024 (D c).proj) : S4096x512.Idx → EReal)
      ∧ r.2.mem ((c : Thread nD τ).loc main_v22_4) = (E2 (right 1536 (D c).proj) : S4096x512.Idx → EReal)
      ∧ r.2.mem ((c : Thread nD τ).loc main_v22_5) = (E2 (D c).wo : S128x1024.Idx → EReal)
      ∧ r.2.mem ((c : Thread nD τ).loc main_v22_6) = (E2 (D c).wu : S1024x512.Idx → EReal)
      ∧ r.2.mem ((c : Thread nD τ).loc main_v22_7) = (E2 (D c).wd : S512x1024.Idx → EReal)) :=
  (θ_run defs _ _).mono (fun _ h c => ⟨((h c).1 24).trans (final24 m c (H c)), ((h c).1 25).trans (final25 m c (H c)), ((h c).1 26).trans (final26 m c (H c)), ((h c).1 27).trans (final27 m c (H c)), ((h c).1 28).trans (final28 m c (H c)), ((h c).1 29).trans (final29 m c (H c)), ((h c).1 30).trans (final30 m c (H c)), ((h c).1 31).trans (final31 m c (H c))⟩) (launch_run m ρ)

end Cert.Fwd

end
-- ==== Proof.FwdVecs.lean ====
/-
  The packed vectors of the forward entry: six vectors and zeros end to end, as rows of 128, and what the pieces of that
  array are.
-/
module

public import proofs.«01_k».proof.Proof.FwdMath

@[expose] public section

set_option maxRecDepth 16384

noncomputable section

namespace Cert.Fwd

open Idealize.ShloMosaic

/-- Two vectors end to end, the first `n` long. -/
def join (n : ℕ) (u w : ℕ → EReal) : ℕ → EReal := fun i => if i < n then u i else w (i - n)
/-- A vector as rows of 128. -/
def lanes (u : ℕ → EReal) : ℕ → ℕ → EReal := fun p q => u (128 * p + q)
/-- Six vectors and zeros end to end, as rows of 128. -/
def pack (u0 u1 u2 u3 u4 u5 : ℕ → EReal) : ℕ → ℕ → EReal :=
  lanes (join 4608 (join 4096 (join 3072 (join 2560 (join 2048 (join 1024 u0 u1) u2) u3) u4) u5) fun _ => Ideal.ofBits .f32 0x00000000#32)

theorem concat_E1 {a b n : ℕ} (u w : ℕ → EReal) (h : Shape.Concatenates [(⟨1, ![a]⟩ : Shape), ⟨1, ![b]⟩] ⟨1, ![n]⟩ 0) :
    concatenate (⟨1, ![n]⟩ : Shape) 0 [⟨⟨1, ![a]⟩, E1 u⟩, ⟨⟨1, ![b]⟩, E1 w⟩] h = E1 (join a u w) := by
  funext j
  have hn : a + b = n := by have := h.2.2; simpa using this
  have hj : (j 0).val < n := (j 0).isLt
  show _ = join a u w (j 0).val
  unfold join
  by_cases h0 : (j 0).val < a
  · rw [if_pos h0]
    exact concatenate_pair_apply_left 0 _ _ h j rfl (ValueIdx.ix1 ⟨(j 0).val, h0⟩) fun k => match k with | 0 => rfl
  · rw [if_neg h0]
    have h1 : (j 0).val - a < b := by omega
    refine concatenate_pair_apply_right 0 _ _ h j rfl rfl (ValueIdx.ix1 ⟨(j 0).val - a, h1⟩) (fun k hk => ?_) ?_
    · match k with
      | 0 => exact absurd rfl hk
    · show (j 0).val - a + a = (j 0).val
      omega

theorem lanes_E1 {a n : ℕ} (u : ℕ → EReal) (hn : n = a * 128) (h : (⟨1, ![n]⟩ : Shape).ShapeCasts ⟨2, ![a, 128]⟩) :
    shapeCast (⟨2, ![a, 128]⟩ : Shape) (E1 u : (⟨1, ![n]⟩ : Shape).Idx → EReal) h = E2 (lanes u) := by
  funext j
  have h0 := ValueIdx.idx2_lt0 j
  have h1 := ValueIdx.idx2_lt1 j
  have hk : 128 * (j 0).val + (j 1).val < n := by omega
  refine (shapeCast_apply _ h j (ValueIdx.ix1 ⟨128 * (j 0).val + (j 1).val, hk⟩) ?_).trans rfl
  rw [Shape.rowMajor_val_one, Shape.rowMajor_val_two]
  show 128 * (j 0).val + (j 1).val = (j 0).val * 128 + (j 1).val
  omega

/-- Two vectors end to end. -/
def cat {a b : ℕ} (n : ℕ) (h : Shape.Concatenates [(⟨1, ![a]⟩ : Shape), ⟨1, ![b]⟩] ⟨1, ![n]⟩ 0) (x : (⟨1, ![a]⟩ : Shape).Idx → EReal)
    (y : (⟨1, ![b]⟩ : Shape).Idx → EReal) : (⟨1, ![n]⟩ : Shape).Idx → EReal := concatenate (⟨1, ![n]⟩ : Shape) 0 [⟨⟨1, ![a]⟩, x⟩, ⟨⟨1, ![b]⟩, y⟩] h
theorem cat_E1 {a b n : ℕ} (u w : ℕ → EReal) (h) : cat (a := a) (b := b) n h (E1 u) (E1 w) = E1 (join a u w) := concat_E1 u w h

section
variable (a0 a1 : (⟨1, ![1024]⟩ : Shape).Idx → EReal) (a2 a3 : (⟨1, ![512]⟩ : Shape).Idx → EReal) (a4 : (⟨1, ![1024]⟩ : Shape).Idx → EReal)
  (a5 : (⟨1, ![512]⟩ : Shape).Idx → EReal)
def cat3 : (⟨1, ![3072]⟩ : Shape).Idx → EReal := cat 3072 (by decide) (cat 2560 (by decide) (cat 2048 (by decide) a0 a1) a2) a3
def cat5 : (⟨1, ![4608]⟩ : Shape).Idx → EReal := cat 4608 (by decide) (cat 4096 (by decide) (cat3 a0 a1 a2 a3) a4) a5
/-- Six vectors and zeros end to end, as 48 rows of 128. -/
def packed : (⟨2, ![48, 128]⟩ : Shape).Idx → EReal :=
  shapeCast (⟨2, ![48, 128]⟩ : Shape) (cat (b := 1536) 6144 (by decide) (cat5 a0 a1 a2 a3 a4 a5) fun _ => Ideal.ofBits .f32 0x00000000#32) (by decide)
end

theorem packed_eq (u0 u1 u2 u3 u4 u5 : ℕ → EReal) : packed (E1 u0) (E1 u1) (E1 u2) (E1 u3) (E1 u4) (E1 u5) = E2 (pack u0 u1 u2 u3 u4 u5) := by
  unfold packed cat5 cat3
  rw [cat_E1, cat_E1, cat_E1, cat_E1, cat_E1]
  have e : (fun _ => Ideal.ofBits .f32 0x00000000#32 : (⟨1, ![1536]⟩ : Shape).Idx → EReal) = E1 fun _ => Ideal.ofBits .f32 0x00000000#32 := rfl
  rw [e, cat_E1]
  exact lanes_E1 _ rfl _

section
variable (u0 u1 u2 u3 u4 u5 : ℕ → EReal) (p q : ℕ) (hq : q < 128)
include hq
theorem pack0 (hp : p < 8) : lanes u0 p q = pack u0 u1 u2 u3 u4 u5 (0 + p) q := by
  unfold pack lanes join
  rw [if_pos (by omega), if_pos (by omega), if_pos (by omega), if_pos (by omega), if_pos (by omega), if_pos (by omega)]; exact congrArg u0 (by omega)
theorem pack1 (hp : p < 8) : lanes u1 p q = pack u0 u1 u2 u3 u4 u5 (8 + p) q := by
  unfold pack lanes join
  rw [if_pos (by omega), if_pos (by omega), if_pos (by omega), if_pos (by omega), if_pos (by omega), if_neg (by omega)]; exact congrArg u1 (by omega)
theorem pack2 (hp : p < 4) : lanes u2 p q = pack u0 u1 u2 u3 u4 u5 (16 + p) q := by
  unfold pack lanes join
  rw [if_pos (by omega), if_pos (by omega), if_pos (by omega), if_pos (by omega), if_neg (by omega)]; exact congrArg u2 (by omega)
theorem pack3 (hp : p < 4) : lanes u3 p q = pack u0 u1 u2 u3 u4 u5 (20 + p) q := by
  unfold pack lanes join
  rw [if_pos (by omega), if_pos (by omega), if_pos (by omega), if_neg (by omega)]; exact congrArg u3 (by omega)
theorem pack4 (hp : p < 8) : lanes u4 p q = pack u0 u1 u2 u3 u4 u5 (24 + p) q := by
  unfold pack lanes join
  rw [if_pos (by omega), if_pos (by omega), if_neg (by omega)]; exact congrArg u4 (by omega)
theorem pack5 (hp : p < 4) : lanes u5 p q = pack u0 u1 u2 u3 u4 u5 (32 + p) q := by
  unfold pack lanes join
  rw [if_pos (by omega), if_neg (by omega)]; exact congrArg u5 (by omega)
theorem pack6 (hp : p < 12) : Ideal.ofBits .f32 0x00000000#32 = pack u0 u1 u2 u3 u4 u5 (36 + p) q := by
  unfold pack lanes join
  rw [if_neg (by omega)]
end

end Cert.Fwd

end
-- ==== Proof.FwdPack.lean ====
/-
  The packed vectors the forward entry kernel leaves: every grid point stores the same six vectors and zeros.
-/
module

public import proofs.«01_k».proof.Proof.FwdValue
public import proofs.«01_k».proof.Proof.FwdVecs

@[expose] public section

set_option maxRecDepth 16384

noncomputable section

namespace Cert.Fwd

open Cert.Kernel4Ideal Cert.Kernel4Ideal.Gen
open Idealize.ShloMosaic Idealize.ShloMosaic.TcCoe Idealize.ShloMosaic.Tactic Idealize.ShloMosaic.Pipeline
open Idealize.SL.Sem
open Cert.Mlp (hz)

/-- `R` rows of an array, stored. -/
theorem band (f g : ℕ → ℕ → EReal) (o R : ℕ) (inb) (h : ∀ p q, q < 128 → p < R → g p q = f (o + p) q) (x : (Rect.unit (s := S48x128) ![o, 0] ![R, 128] inb).shape.Idx) :
    (E2 g : (⟨2, ![R, 128]⟩ : Shape).Idx → EReal) x = (E2 f : S48x128.Idx → EReal) ((Rect.unit (s := S48x128) ![o, 0] ![R, 128] inb).emb x) := by
  let r := Rect.unit (s := S48x128) ![o, 0] ![R, 128] inb
  have h0 : (r.emb x 0).val = o + (x 0).val := Rect.idx_unit_val _ _ inb x 0
  have h1 : (r.emb x 1).val = 0 + (x 1).val := Rect.idx_unit_val _ _ inb x 1
  show g (x 0).val (x 1).val = f (r.emb x 0).val (r.emb x 1).val
  rw [h0, h1, Nat.zero_add]
  exact h _ _ (x 1).isLt (x 0).isLt

theorem at_zero (f : ℕ → ℕ → EReal) (R C : ℕ) {p q : ℕ} : f (0 * R + 1 * p) (0 * C + 1 * q) = f p q := by
  congr 1 <;> ring

section
variable (m : (ℓ : Loc nD τ sig) → Buf (Elt Ideal) ℓ) (c : Dev nD)

/-- Each vector's block, at every point: the argument as rows of 128. -/
theorem vec0 {u : ℕ → EReal} (h : m ((c : Thread nD τ).loc main_arg6) = (E1 u : S1024.Idx → EReal)) (t : Fin cfg0.N) : iblk m c 6 t = (E2 (lanes u) : S8x128.Idx → EReal) := by
  have e : V m c main_v0 = (shapeCast S8x128 (m ((c : Thread nD τ).loc main_arg6) : S1024.Idx → EReal) shapeCasts_S1024_S8x128 : S8x128.Idx → EReal) := by
    show StableHlo.after hostOps0 (fun b => m (c, b)) (Proc.devRef .tc main_v0) = _
    after_reads_simp; rfl
  rw [h, lanes_E1 u rfl] at e
  exact (congrArg _ e).trans (funext fun i => at_zero (lanes u) 8 128)
theorem vec1 {u : ℕ → EReal} (h : m ((c : Thread nD τ).loc main_arg7) = (E1 u : S1024.Idx → EReal)) (t : Fin cfg0.N) : iblk m c 7 t = (E2 (lanes u) : S8x128.Idx → EReal) := by
  have e : V m c main_v1 = (shapeCast S8x128 (m ((c : Thread nD τ).loc main_arg7) : S1024.Idx → EReal) shapeCasts_S1024_S8x128 : S8x128.Idx → EReal) := by
    show StableHlo.after hostOps0 (fun b => m (c, b)) (Proc.devRef .tc main_v1) = _
    after_reads_simp; rfl
  rw [h, lanes_E1 u rfl] at e
  exact (congrArg _ e).trans (funext fun i => at_zero (lanes u) 8 128)
theorem vec2 {u : ℕ → EReal} (h : m ((c : Thread nD τ).loc main_arg8) = (E1 u : S512.Idx → EReal)) (t : Fin cfg0.N) : iblk m c 8 t = (E2 (lanes u) : S4x128.Idx → EReal) := by
  have e : V m c main_v2 = (shapeCast S4x128 (m ((c : Thread nD τ).loc main_arg8) : S512.Idx → EReal) shapeCasts_S512_S4x128 : S4x128.Idx → EReal) := by
    show StableHlo.after hostOps0 (fun b => m (c, b)) (Proc.devRef .tc main_v2) = _
    after_reads_simp; rfl
  rw [h, lanes_E1 u rfl] at e
  exact (congrArg _ e).trans (funext fun i => at_zero (lanes u) 4 128)
theorem vec3 {u : ℕ → EReal} (h : m ((c : Thread nD τ).loc main_arg9) = (E1 u : S512.Idx → EReal)) (t : Fin cfg0.N) : iblk m c 9 t = (E2 (lanes u) : S4x128.Idx → EReal) := by
  have e : V m c main_v3 = (shapeCast S4x128 (m ((c : Thread nD τ).loc main_arg9) : S512.Idx → EReal) shapeCasts_S512_S4x128 : S4x128.Idx → EReal) := by
    show StableHlo.after hostOps0 (fun b => m (c, b)) (Proc.devRef .tc main_v3) = _
    after_reads_simp; rfl
  rw [h, lanes_E1 u rfl] at e
  exact (congrArg _ e).trans (funext fun i => at_zero (lanes u) 4 128)
theorem vec4 {u : ℕ → EReal} (h : m ((c : Thread nD τ).loc main_arg1) = (E1 u : S1024.Idx → EReal)) (t : Fin cfg0.N) : iblk m c 10 t = (E2 (lanes u) : S8x128.Idx → EReal) := by
  have e : V m c main_v4 = (shapeCast S8x128 (m ((c : Thread nD τ).loc main_arg1) : S1024.Idx → EReal) shapeCasts_S1024_S8x128 : S8x128.Idx → EReal) := by
    show StableHlo.after hostOps0 (fun b => m (c, b)) (Proc.devRef .tc main_v4) = _
    after_reads_simp; rfl
  rw [h, lanes_E1 u rfl] at e
  exact (congrArg _ e).trans (funext fun i => at_zero (lanes u) 8 128)
theorem vec5 {u : ℕ → EReal} (h : m ((c : Thread nD τ).loc main_arg10) = (E1 u : S512.Idx → EReal)) (t : Fin cfg0.N) : iblk m c 11 t = (E2 (lanes u) : S4x128.Idx → EReal) := by
  have e : V m c main_v5 = (shapeCast S4x128 (m ((c : Thread nD τ).loc main_arg10) : S512.Idx → EReal) shapeCasts_S512_S4x128 : S4x128.Idx → EReal) := by
    show StableHlo.after hostOps0 (fun b => m (c, b)) (Proc.devRef .tc main_v5) = _
    after_reads_simp; rfl
  rw [h, lanes_E1 u rfl] at e
  exact (congrArg _ e).trans (funext fun i => at_zero (lanes u) 4 128)
theorem vec6 {u : ℕ → EReal} (h : m ((c : Thread nD τ).loc main_arg11) = (E1 u : S1024.Idx → EReal)) (t : Fin cfg0.N) : iblk m c 12 t = (E2 (lanes u) : S8x128.Idx → EReal) := by
  have e : V m c main_v6 = (shapeCast S8x128 (m ((c : Thread nD τ).loc main_arg11) : S1024.Idx → EReal) shapeCasts_S1024_S8x128 : S8x128.Idx → EReal) := by
    show StableHlo.after hostOps0 (fun b => m (c, b)) (Proc.devRef .tc main_v6) = _
    after_reads_simp; rfl
  rw [h, lanes_E1 u rfl] at e
  exact (congrArg _ e).trans (funext fun i => at_zero (lanes u) 8 128)
theorem vec7 {u : ℕ → EReal} (h : m ((c : Thread nD τ).loc main_arg12) = (E1 u : S1024.Idx → EReal)) (t : Fin cfg0.N) : iblk m c 13 t = (E2 (lanes u) : S8x128.Idx → EReal) := by
  have e : V m c main_v7 = (shapeCast S8x128 (m ((c : Thread nD τ).loc main_arg12) : S1024.Idx → EReal) shapeCasts_S1024_S8x128 : S8x128.Idx → EReal) := by
    show StableHlo.after hostOps0 (fun b => m (c, b)) (Proc.devRef .tc main_v7) = _
    after_reads_simp; rfl
  rw [h, lanes_E1 u rfl] at e
  exact (congrArg _ e).trans (funext fun i => at_zero (lanes u) 8 128)
theorem vec8 {u : ℕ → EReal} (h : m ((c : Thread nD τ).loc main_arg13) = (E1 u : S512.Idx → EReal)) (t : Fin cfg0.N) : iblk m c 14 t = (E2 (lanes u) : S4x128.Idx → EReal) := by
  have e : V m c main_v8 = (shapeCast S4x128 (m ((c : Thread nD τ).loc main_arg13) : S512.Idx → EReal) shapeCasts_S512_S4x128 : S4x128.Idx → EReal) := by
    show StableHlo.after hostOps0 (fun b => m (c, b)) (Proc.devRef .tc main_v8) = _
    after_reads_simp; rfl
  rw [h, lanes_E1 u rfl] at e
  exact (congrArg _ e).trans (funext fun i => at_zero (lanes u) 4 128)
theorem vec9 {u : ℕ → EReal} (h : m ((c : Thread nD τ).loc main_arg14) = (E1 u : S512.Idx → EReal)) (t : Fin cfg0.N) : iblk m c 15 t = (E2 (lanes u) : S4x128.Idx → EReal) := by
  have e : V m c main_v9 = (shapeCast S4x128 (m ((c : Thread nD τ).loc main_arg14) : S512.Idx → EReal) shapeCasts_S512_S4x128 : S4x128.Idx → EReal) := by
    show StableHlo.after hostOps0 (fun b => m (c, b)) (Proc.devRef .tc main_v9) = _
    after_reads_simp; rfl
  rw [h, lanes_E1 u rfl] at e
  exact (congrArg _ e).trans (funext fun i => at_zero (lanes u) 4 128)
theorem vec10 {u : ℕ → EReal} (h : m ((c : Thread nD τ).loc main_arg15) = (E1 u : S1024.Idx → EReal)) (t : Fin cfg0.N) : iblk m c 16 t = (E2 (lanes u) : S8x128.Idx → EReal) := by
  have e : V m c main_v10 = (shapeCast S8x128 (m ((c : Thread nD τ).loc main_arg15) : S1024.Idx → EReal) shapeCasts_S1024_S8x128 : S8x128.Idx → EReal) := by
    show StableHlo.after hostOps0 (fun b => m (c, b)) (Proc.devRef .tc main_v10) = _
    after_reads_simp; rfl
  rw [h, lanes_E1 u rfl] at e
  exact (congrArg _ e).trans (funext fun i => at_zero (lanes u) 8 128)
theorem vec11 {u : ℕ → EReal} (h : m ((c : Thread nD τ).loc main_arg16) = (E1 u : S512.Idx → EReal)) (t : Fin cfg0.N) : iblk m c 17 t = (E2 (lanes u) : S4x128.Idx → EReal) := by
  have e : V m c main_v11 = (shapeCast S4x128 (m ((c : Thread nD τ).loc main_arg16) : S512.Idx → EReal) shapeCasts_S512_S4x128 : S4x128.Idx → EReal) := by
    show StableHlo.after hostOps0 (fun b => m (c, b)) (Proc.devRef .tc main_v11) = _
    after_reads_simp; rfl
  rw [h, lanes_E1 u rfl] at e
  exact (congrArg _ e).trans (funext fun i => at_zero (lanes u) 4 128)
theorem vec12 {u : ℕ → EReal} (h : m ((c : Thread nD τ).loc main_arg17) = (E1 u : S1024.Idx → EReal)) (t : Fin cfg0.N) : iblk m c 18 t = (E2 (lanes u) : S8x128.Idx → EReal) := by
  have e : V m c main_v12 = (shapeCast S8x128 (m ((c : Thread nD τ).loc main_arg17) : S1024.Idx → EReal) shapeCasts_S1024_S8x128 : S8x128.Idx → EReal) := by
    show StableHlo.after hostOps0 (fun b => m (c, b)) (Proc.devRef .tc main_v12) = _
    after_reads_simp; rfl
  rw [h, lanes_E1 u rfl] at e
  exact (congrArg _ e).trans (funext fun i => at_zero (lanes u) 8 128)
theorem vec13 {u : ℕ → EReal} (h : m ((c : Thread nD τ).loc main_arg18) = (E1 u : S1024.Idx → EReal)) (t : Fin cfg0.N) : iblk m c 19 t = (E2 (lanes u) : S8x128.Idx → EReal) := by
  have e : V m c main_v13 = (shapeCast S8x128 (m ((c : Thread nD τ).loc main_arg18) : S1024.Idx → EReal) shapeCasts_S1024_S8x128 : S8x128.Idx → EReal) := by
    show StableHlo.after hostOps0 (fun b => m (c, b)) (Proc.devRef .tc main_v13) = _
    after_reads_simp; rfl
  rw [h, lanes_E1 u rfl] at e
  exact (congrArg _ e).trans (funext fun i => at_zero (lanes u) 8 128)
theorem vec14 {u : ℕ → EReal} (h : m ((c : Thread nD τ).loc main_arg19) = (E1 u : S512.Idx → EReal)) (t : Fin cfg0.N) : iblk m c 20 t = (E2 (lanes u) : S4x128.Idx → EReal) := by
  have e : V m c main_v14 = (shapeCast S4x128 (m ((c : Thread nD τ).loc main_arg19) : S512.Idx → EReal) shapeCasts_S512_S4x128 : S4x128.Idx → EReal) := by
    show StableHlo.after hostOps0 (fun b => m (c, b)) (Proc.devRef .tc main_v14) = _
    after_reads_simp; rfl
  rw [h, lanes_E1 u rfl] at e
  exact (congrArg _ e).trans (funext fun i => at_zero (lanes u) 4 128)
theorem vec15 {u : ℕ → EReal} (h : m ((c : Thread nD τ).loc main_arg20) = (E1 u : S512.Idx → EReal)) (t : Fin cfg0.N) : iblk m c 21 t = (E2 (lanes u) : S4x128.Idx → EReal) := by
  have e : V m c main_v15 = (shapeCast S4x128 (m ((c : Thread nD τ).loc main_arg20) : S512.Idx → EReal) shapeCasts_S512_S4x128 : S4x128.Idx → EReal) := by
    show StableHlo.after hostOps0 (fun b => m (c, b)) (Proc.devRef .tc main_v15) = _
    after_reads_simp; rfl
  rw [h, lanes_E1 u rfl] at e
  exact (congrArg _ e).trans (funext fun i => at_zero (lanes u) 4 128)
theorem vec16 {u : ℕ → EReal} (h : m ((c : Thread nD τ).loc main_arg21) = (E1 u : S1024.Idx → EReal)) (t : Fin cfg0.N) : iblk m c 22 t = (E2 (lanes u) : S8x128.Idx → EReal) := by
  have e : V m c main_v16 = (shapeCast S8x128 (m ((c : Thread nD τ).loc main_arg21) : S1024.Idx → EReal) shapeCasts_S1024_S8x128 : S8x128.Idx → EReal) := by
    show StableHlo.after hostOps0 (fun b => m (c, b)) (Proc.devRef .tc main_v16) = _
    after_reads_simp; rfl
  rw [h, lanes_E1 u rfl] at e
  exact (congrArg _ e).trans (funext fun i => at_zero (lanes u) 8 128)
theorem vec17 {u : ℕ → EReal} (h : m ((c : Thread nD τ).loc main_arg22) = (E1 u : S512.Idx → EReal)) (t : Fin cfg0.N) : iblk m c 23 t = (E2 (lanes u) : S4x128.Idx → EReal) := by
  have e : V m c main_v17 = (shapeCast S4x128 (m ((c : Thread nD τ).loc main_arg22) : S512.Idx → EReal) shapeCasts_S512_S4x128 : S4x128.Idx → EReal) := by
    show StableHlo.after hostOps0 (fun b => m (c, b)) (Proc.devRef .tc main_v17) = _
    after_reads_simp; rfl
  rw [h, lanes_E1 u rfl] at e
  exact (congrArg _ e).trans (funext fun i => at_zero (lanes u) 4 128)

set_option maxHeartbeats 4000000 in
theorem leaves32 (t : Fin cfg0.N) : out32 m c t = packed (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg10)) := by
  obtain ⟨u0, h0⟩ := exists_E1 (a := 1024) (m ((c : Thread nD τ).loc main_arg6))
  obtain ⟨u1, h1⟩ := exists_E1 (a := 1024) (m ((c : Thread nD τ).loc main_arg7))
  obtain ⟨u2, h2⟩ := exists_E1 (a := 512) (m ((c : Thread nD τ).loc main_arg8))
  obtain ⟨u3, h3⟩ := exists_E1 (a := 512) (m ((c : Thread nD τ).loc main_arg9))
  obtain ⟨u4, h4⟩ := exists_E1 (a := 1024) (m ((c : Thread nD τ).loc main_arg1))
  obtain ⟨u5, h5⟩ := exists_E1 (a := 512) (m ((c : Thread nD τ).loc main_arg10))
  refine Eq.trans ?_ ((packed_eq u0 u1 u2 u3 u4 u5).symm.trans (by rw [h0, h1, h2, h3, h4, h5]))
  unfold out32 at_ run; dsimp only
  sl_unfold_words
  simp only [View.readAt_eq_ld, (hs0_6 t).read_unread, (hs0_7 t).read_unread, (hs0_8 t).read_unread, (hs0_9 t).read_unread, (hs0_10 t).read_unread, (hs0_11 t).read_unread, View.ld_unit_zero (S := S8x128) hz, View.ld_unit_zero (S := S4x128) hz, vec0 m c h0 t, vec1 m c h1 t, vec2 m c h2 t, vec3 m c h3 t, vec4 m c h4 t, vec5 m c h5 t, k0_pay5, k0_pay6, k0_pay7, k0_pay8, k0_pay9, k0_pay10, k0_pay11, shapeCast_self]
  funext y
  refine View.canon_apply_of_pieces _ _ ?_ y ?_
  · exact View.PiecesOf.mem ⟨band _ (fun _ _ => Ideal.ofBits .f32 0x00000000#32) 36 12 inb_S48x128_S12x128_36_0 (pack6 u0 u1 u2 u3 u4 u5), band _ (lanes u5) 32 4 inb_S48x128_S4x128_32_0 (pack5 u0 u1 u2 u3 u4 u5), band _ (lanes u4) 24 8 inb_S48x128_S8x128_24_0 (pack4 u0 u1 u2 u3 u4 u5), band _ (lanes u3) 20 4 inb_S48x128_S4x128_20_0 (pack3 u0 u1 u2 u3 u4 u5), band _ (lanes u2) 16 4 inb_S48x128_S4x128_16_0 (pack2 u0 u1 u2 u3 u4 u5), band _ (lanes u1) 8 8 inb_S48x128_S8x128_8_0 (pack1 u0 u1 u2 u3 u4 u5), band _ (lanes u0) 0 8 inb_S48x128_S8x128_0_0 (pack0 u0 u1 u2 u3 u4 u5), trivial⟩
  · exact View.cover_of_tiledBy (s := S48x128) _ ![4, 128] (by sl_kernel_rfl) y
set_option maxHeartbeats 4000000 in
theorem leaves33 (t : Fin cfg0.N) : out33 m c t = packed (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨u0, h0⟩ := exists_E1 (a := 1024) (m ((c : Thread nD τ).loc main_arg11))
  obtain ⟨u1, h1⟩ := exists_E1 (a := 1024) (m ((c : Thread nD τ).loc main_arg12))
  obtain ⟨u2, h2⟩ := exists_E1 (a := 512) (m ((c : Thread nD τ).loc main_arg13))
  obtain ⟨u3, h3⟩ := exists_E1 (a := 512) (m ((c : Thread nD τ).loc main_arg14))
  obtain ⟨u4, h4⟩ := exists_E1 (a := 1024) (m ((c : Thread nD τ).loc main_arg15))
  obtain ⟨u5, h5⟩ := exists_E1 (a := 512) (m ((c : Thread nD τ).loc main_arg16))
  refine Eq.trans ?_ ((packed_eq u0 u1 u2 u3 u4 u5).symm.trans (by rw [h0, h1, h2, h3, h4, h5]))
  unfold out33 at_ run; dsimp only
  sl_unfold_words
  simp only [View.readAt_eq_ld, (hs0_12 t).read_unread, (hs0_13 t).read_unread, (hs0_14 t).read_unread, (hs0_15 t).read_unread, (hs0_16 t).read_unread, (hs0_17 t).read_unread, View.ld_unit_zero (S := S8x128) hz, View.ld_unit_zero (S := S4x128) hz, vec6 m c h0 t, vec7 m c h1 t, vec8 m c h2 t, vec9 m c h3 t, vec10 m c h4 t, vec11 m c h5 t, k0_pay12, k0_pay13, k0_pay14, k0_pay15, k0_pay16, k0_pay17, k0_pay18, shapeCast_self]
  funext y
  refine View.canon_apply_of_pieces _ _ ?_ y ?_
  · exact View.PiecesOf.mem ⟨band _ (fun _ _ => Ideal.ofBits .f32 0x00000000#32) 36 12 inb_S48x128_S12x128_36_0 (pack6 u0 u1 u2 u3 u4 u5), band _ (lanes u5) 32 4 inb_S48x128_S4x128_32_0 (pack5 u0 u1 u2 u3 u4 u5), band _ (lanes u4) 24 8 inb_S48x128_S8x128_24_0 (pack4 u0 u1 u2 u3 u4 u5), band _ (lanes u3) 20 4 inb_S48x128_S4x128_20_0 (pack3 u0 u1 u2 u3 u4 u5), band _ (lanes u2) 16 4 inb_S48x128_S4x128_16_0 (pack2 u0 u1 u2 u3 u4 u5), band _ (lanes u1) 8 8 inb_S48x128_S8x128_8_0 (pack1 u0 u1 u2 u3 u4 u5), band _ (lanes u0) 0 8 inb_S48x128_S8x128_0_0 (pack0 u0 u1 u2 u3 u4 u5), trivial⟩
  · exact View.cover_of_tiledBy (s := S48x128) _ ![4, 128] (by sl_kernel_rfl) y
set_option maxHeartbeats 4000000 in
theorem leaves34 (t : Fin cfg0.N) : out34 m c t = packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  obtain ⟨u0, h0⟩ := exists_E1 (a := 1024) (m ((c : Thread nD τ).loc main_arg17))
  obtain ⟨u1, h1⟩ := exists_E1 (a := 1024) (m ((c : Thread nD τ).loc main_arg18))
  obtain ⟨u2, h2⟩ := exists_E1 (a := 512) (m ((c : Thread nD τ).loc main_arg19))
  obtain ⟨u3, h3⟩ := exists_E1 (a := 512) (m ((c : Thread nD τ).loc main_arg20))
  obtain ⟨u4, h4⟩ := exists_E1 (a := 1024) (m ((c : Thread nD τ).loc main_arg21))
  obtain ⟨u5, h5⟩ := exists_E1 (a := 512) (m ((c : Thread nD τ).loc main_arg22))
  refine Eq.trans ?_ ((packed_eq u0 u1 u2 u3 u4 u5).symm.trans (by rw [h0, h1, h2, h3, h4, h5]))
  unfold out34 at_ run; dsimp only
  sl_unfold_words
  simp only [View.readAt_eq_ld, (hs0_18 t).read_unread, (hs0_19 t).read_unread, (hs0_20 t).read_unread, (hs0_21 t).read_unread, (hs0_22 t).read_unread, (hs0_23 t).read_unread, View.ld_unit_zero (S := S8x128) hz, View.ld_unit_zero (S := S4x128) hz, vec12 m c h0 t, vec13 m c h1 t, vec14 m c h2 t, vec15 m c h3 t, vec16 m c h4 t, vec17 m c h5 t, k0_pay19, k0_pay20, k0_pay21, k0_pay22, k0_pay23, k0_pay24, k0_pay25, shapeCast_self]
  funext y
  refine View.canon_apply_of_pieces _ _ ?_ y ?_
  · exact View.PiecesOf.mem ⟨band _ (fun _ _ => Ideal.ofBits .f32 0x00000000#32) 36 12 inb_S48x128_S12x128_36_0 (pack6 u0 u1 u2 u3 u4 u5), band _ (lanes u5) 32 4 inb_S48x128_S4x128_32_0 (pack5 u0 u1 u2 u3 u4 u5), band _ (lanes u4) 24 8 inb_S48x128_S8x128_24_0 (pack4 u0 u1 u2 u3 u4 u5), band _ (lanes u3) 20 4 inb_S48x128_S4x128_20_0 (pack3 u0 u1 u2 u3 u4 u5), band _ (lanes u2) 16 4 inb_S48x128_S4x128_16_0 (pack2 u0 u1 u2 u3 u4 u5), band _ (lanes u1) 8 8 inb_S48x128_S8x128_8_0 (pack1 u0 u1 u2 u3 u4 u5), band _ (lanes u0) 0 8 inb_S48x128_S8x128_0_0 (pack0 u0 u1 u2 u3 u4 u5), trivial⟩
  · exact View.cover_of_tiledBy (s := S48x128) _ ![4, 128] (by sl_kernel_rfl) y
theorem at_whole (R : ℕ) {p : ℕ} : 0 * R + 1 * p = p := by ring
theorem whole32 (t : Fin cfg0.N) (x : S48x128.Idx → EReal) : ((cfg0.win 32).blk t).view.read (Elt Ideal) x = x :=
  funext fun i => congrArg x (funext fun a => Fin.ext (match a with | 0 => at_whole 48 | 1 => at_whole 128))
theorem all32 (t : Fin cfg0.N) (i : S48x128.Idx) : i ∈ ((View.whole main_v22_8).slice (win0_32.rect t)).set := by
  rw [View.set_slice_whole, Rect.mem_set_unit]
  intro a
  match a with
  | ⟨0, _⟩ => exact ⟨Nat.zero_le _, (i 0).isLt⟩
  | ⟨1, _⟩ => exact ⟨Nat.zero_le _, (i 1).isLt⟩
theorem whole33 (t : Fin cfg0.N) (x : S48x128.Idx → EReal) : ((cfg0.win 33).blk t).view.read (Elt Ideal) x = x :=
  funext fun i => congrArg x (funext fun a => Fin.ext (match a with | 0 => at_whole 48 | 1 => at_whole 128))
theorem all33 (t : Fin cfg0.N) (i : S48x128.Idx) : i ∈ ((View.whole main_v22_9).slice (win0_33.rect t)).set := by
  rw [View.set_slice_whole, Rect.mem_set_unit]
  intro a
  match a with
  | ⟨0, _⟩ => exact ⟨Nat.zero_le _, (i 0).isLt⟩
  | ⟨1, _⟩ => exact ⟨Nat.zero_le _, (i 1).isLt⟩
theorem whole34 (t : Fin cfg0.N) (x : S48x128.Idx → EReal) : ((cfg0.win 34).blk t).view.read (Elt Ideal) x = x :=
  funext fun i => congrArg x (funext fun a => Fin.ext (match a with | 0 => at_whole 48 | 1 => at_whole 128))
theorem all34 (t : Fin cfg0.N) (i : S48x128.Idx) : i ∈ ((View.whole main_v22_10).slice (win0_34.rect t)).set := by
  rw [View.set_slice_whole, Rect.mem_set_unit]
  intro a
  match a with
  | ⟨0, _⟩ => exact ⟨Nat.zero_le _, (i 0).isLt⟩
  | ⟨1, _⟩ => exact ⟨Nat.zero_le _, (i 1).isLt⟩
theorem final32 : (dats m 0 c).arrAt 32 cfg0.N = packed (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg10)) := by
  refine (dats m 0 c).arrAt_eq_of_cover 32 (packed (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg10))) (fun t _ => ?_) fun i => ?_
  · show (cfg0.win 32).cut (grid0.coords t) ((dats m 0 c).after 32 t) = _
    simp only [after32, leaves32 m c t]
    exact (whole32 t _).symm
  · exact ⟨⟨7, by decide⟩, (flush0_32 _).2 rfl, all32 _ i⟩
theorem final33 : (dats m 0 c).arrAt 33 cfg0.N = packed (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_cover 33 (packed (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (fun t _ => ?_) fun i => ?_
  · show (cfg0.win 33).cut (grid0.coords t) ((dats m 0 c).after 33 t) = _
    simp only [after33, leaves33 m c t]
    exact (whole33 t _).symm
  · exact ⟨⟨7, by decide⟩, (flush0_33 _).2 rfl, all33 _ i⟩
theorem final34 : (dats m 0 c).arrAt 34 cfg0.N = packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (dats m 0 c).arrAt_eq_of_cover 34 (packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (fun t _ => ?_) fun i => ?_
  · show (cfg0.win 34).cut (grid0.coords t) ((dats m 0 c).after 34 t) = _
    simp only [after34, leaves34 m c t]
    exact (whole34 t _).symm
  · exact ⟨⟨7, by decide⟩, (flush0_34 _).2 rfl, all34 _ i⟩
end

/-- The kernel's packed results. -/
theorem packs (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v22_8) = packed (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg10))
      ∧ r.2.mem ((c : Thread nD τ).loc main_v22_9) = packed (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v22_10) = packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (θ_run defs _ _).mono (fun _ h c => ⟨((h c).1 32).trans (final32 m c), ((h c).1 33).trans (final33 m c), ((h c).1 34).trans (final34 m c)⟩) (launch_run m ρ)

end Cert.Fwd

end
-- ==== Proof.FwdRef.lean ====
/-
  The forward entry's reference over every input: its results are the norm, the parts of the projection and the weights.
-/
module

public import proofs.«01_k».proof.Proof.Gen.Reference4Ideal.Run
public import proofs.«01_k».proof.Proof.FwdMath
public import proofs.«01_k».proof.Proof.FwdVecs

@[expose] public section

set_option maxRecDepth 16384

noncomputable section

namespace Cert.FwdRef

open Cert.Fwd
open Cert.Reference4Ideal Cert.Reference4Ideal.Gen
open Idealize.ShloMosaic Idealize.ShloMosaic.TcCoe
open Idealize.SL.Sem

theorem kdot : dot_S4096x1024_S1024x2048_S4096x2048_1_0_0_1_n_n = DotDims.plain 4096 1024 2048 := rfl

/-- The arguments hold the data. -/
structure Args (m : (ℓ : Loc nD τ sig) → Buf (Elt Ideal) ℓ) (c : Dev nD) (D : Data) : Prop where
  x : m ((c : Thread nD τ).loc main_arg0) = (E2 D.x : S4096x1024.Idx → EReal)
  g : m ((c : Thread nD τ).loc main_arg1) = (E1 D.g : S1024.Idx → EReal)
  w : m ((c : Thread nD τ).loc main_arg2) = (E2 D.w : S1024x2048.Idx → EReal)
  wo : m ((c : Thread nD τ).loc main_arg3) = (E2 D.wo : S128x1024.Idx → EReal)
  wu : m ((c : Thread nD τ).loc main_arg4) = (E2 D.wu : S1024x512.Idx → EReal)
  wd : m ((c : Thread nD τ).loc main_arg5) = (E2 D.wd : S512x1024.Idx → EReal)

/-- The reference's norm, and its projection. -/
def hn (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))
def proj (x : FVec Ideal S4096x1024 .f32) (g : FVec Ideal S1024 .f32) (w : FVec Ideal S1024x2048 .f32) : FVec Ideal S4096x2048 .f32 :=
  Host.dotGeneral dot_S4096x1024_S1024x2048_S4096x2048_1_0_0_1_n_n none (hn x g) w

theorem hn_eq (x : ℕ → ℕ → EReal) (g : ℕ → EReal) : hn (E2 x) (E1 g) = E2 (norm x g) := by
  unfold hn
  simp only [mulf_E2, bind_E2]
  rw [hostRowsum_E2]
  rw [bind_colE, bind_rowE, hostDivf_E2, addf_E2, hostRsqrt_E2, bind_colE2, bind_rowE2]
  rfl
theorem proj_eq (D : Data) : proj (E2 D.x) (E1 D.g) (E2 D.w) = E2 D.proj := by
  unfold proj
  rw [hn_eq, kdot]
  exact dot_E2 _ _ _ _

section
variable (D : Data)
theorem u_eq : (extractStridedSlice S4096x512 ![0, 0] (proj (E2 D.x) (E1 D.g) (E2 D.w)) slices_S4096x2048_S4096x512_0_0 : S4096x512.Idx → EReal) = E2 D.proj := by
  rw [proj_eq]; refine (slice_E2 _ _).trans ?_
  simp only [Nat.zero_add]
theorem q_eq : (truncf .bf16 (mulf (extractStridedSlice S4096x512 ![0, 512] (proj (E2 D.x) (E1 D.g) (E2 D.w)) slices_S4096x2048_S4096x512_0_512) (broadcastInDim S4096x512 ![] bcast_S_S4096x512 (constant S_ .f32 0x3E000000#32))) bitsLt_bf16_f32 : S4096x512.Idx → EReal)
    = E2 (times (right 512 D.proj)) := by
  rw [proj_eq, slice_E2]; rfl
theorem k_eq : (truncf .bf16 (extractStridedSlice S4096x512 ![0, 1024] (proj (E2 D.x) (E1 D.g) (E2 D.w)) slices_S4096x2048_S4096x512_0_1024) bitsLt_bf16_f32 : S4096x512.Idx → EReal) = E2 (right 1024 D.proj) := by
  rw [proj_eq, slice_E2]; rfl
theorem v_eq : (truncf .bf16 (extractStridedSlice S4096x512 ![0, 1536] (proj (E2 D.x) (E1 D.g) (E2 D.w)) slices_S4096x2048_S4096x512_0_1536) bitsLt_bf16_f32 : S4096x512.Idx → EReal) = E2 (right 1536 D.proj) := by
  rw [proj_eq, slice_E2]; rfl
end

set_option maxHeartbeats 4000000 in
/-- The reference's results. -/
theorem results (m : (ℓ : Loc nD τ sig) → Buf (Elt Ideal) ℓ) (ρ : Dev nD → PrngReg) (D : Dev nD → Data) (H : ∀ c, Args m c (D c)) :
    θ_run defs (onTc (τ := τ) (main (F := Ideal))) ⟨m, fun _ => 0, ρ⟩ (fun r => ∀ c : Dev nD,
      r.2.mem ((c : Thread nD τ).loc main_v18) = (E2 (D c).hn : S4096x1024.Idx → EReal)
      ∧ r.2.mem ((c : Thread nD τ).loc main_v14) = (E2 (D c).proj : S4096x512.Idx → EReal)
      ∧ r.2.mem ((c : Thread nD τ).loc main_v21) = (E2 (times (right 512 (D c).proj)) : S4096x512.Idx → EReal)
      ∧ r.2.mem ((c : Thread nD τ).loc main_v22) = (E2 (right 1024 (D c).proj) : S4096x512.Idx → EReal)
      ∧ r.2.mem ((c : Thread nD τ).loc main_v23) = (E2 (right 1536 (D c).proj) : S4096x512.Idx → EReal)
      ∧ r.2.mem ((c : Thread nD τ).loc main_v24) = (E2 (D c).wo : S128x1024.Idx → EReal)
      ∧ r.2.mem ((c : Thread nD τ).loc main_v25) = (E2 (D c).wu : S1024x512.Idx → EReal)
      ∧ r.2.mem ((c : Thread nD τ).loc main_v26) = (E2 (D c).wd : S512x1024.Idx → EReal)) := by
  refine (θ_run defs _ _).mono (fun _ h c => ?_) (Cert.Reference4Ideal.Value.run m ρ)
  have hh := h c
  rw [(H c).x, (H c).g, (H c).w, (H c).wo, (H c).wu, (H c).wd] at hh
  obtain ⟨e0, e1, e2, e3, e4, e5, e6, e7, -⟩ := hh
  exact ⟨e0.trans (hn_eq _ _), e1.trans (u_eq _), e2.trans (q_eq _), e3.trans (k_eq _), e4.trans (v_eq _), e5, e6, e7⟩

/-- The reference's packed results. -/
theorem packs (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v34) = packed (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg10))
      ∧ r.2.mem ((c : Thread nD τ).loc main_v42) = packed (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v50) = packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  refine (θ_run defs _ _).mono (fun _ h c => ?_) (Cert.Reference4Ideal.Value.run m ρ)
  obtain ⟨-, -, -, -, -, -, -, -, e8, e9, e10, -⟩ := h c
  exact ⟨e8, e9, e10⟩

end Cert.FwdRef

end
-- ==== Proof.WupTalk.lean ====
/-
# What the devices say to each other in `wgrad_up`

Two transfers leave every device, numbered by `j`: each carries one slab of the device's array to one other device, and
the other device's own transfer of the same number comes back.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.Launch
public import Idealize.ShloMosaic.Lib.Pipeline.Kit
public import Idealize.ShloMosaic.Lib.Pipeline.ValueKit
public import Idealize.ShloMosaic.Lib.ValueLayout
public import Idealize.ShloMosaic.Lib.Tactic

@[expose] public section

set_option maxRecDepth 16384

noncomputable section

namespace Cert.Wup

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ)

/-! ## Who talks to whom -/

/-- The device that device `c` exchanges slabs with in transfer `j`. -/
def peer (j : Fin 2) (c : Dev nD) : Dev nD := match j with
  | 0 => ⟨(4 * (c.val / 4) + (c.val % 2) + 2) - 2 * ((c.val / 2) % 2), by have h : c.val < 8 := c.isLt; show _ < 8; omega⟩
  | 1 => ⟨(2 * ((c.val / 2) % 2) + (c.val % 2) + 4) - 4 * (c.val / 4), by have h : c.val < 8 := c.isLt; show _ < 8; omega⟩

theorem peer_peer (j : Fin 2) (c : Dev nD) : peer j (peer j c) = c := by revert j c; decide
def swap (j : Fin 2) : Dev nD ≃ Dev nD := ⟨peer j, peer j, peer_peer j, peer_peer j⟩

theorem to_first (c : Dev nD) (h) : (⟨k0_dev1 c, h⟩ : Dev nD) = peer 0 c := Fin.ext (k0_dev1_eq c)
theorem to_second (c : Dev nD) (h) : (⟨k0_dev2 c, h⟩ : Dev nD) = peer 1 c := Fin.ext (k0_dev2_eq c)

/-! ## The slabs, the landing slots and the semaphores -/

abbrev sentM : Memref sig .tc .hbm S8x512x1024 .bf16 := Memref.whole main_arg2
abbrev landM : Memref sig .tc .hbm S2x512x1024 .bf16 := Memref.whole main_v1_1

theorem slab_inb (d : Dev nD) : ∀ a, (![d.val, 0, 0] : Fin 3 → ℕ) a + S1x512x1024.size a ≤ S8x512x1024.size a := by
  have h : d.val < 8 := d.isLt
  intro a
  match a with
  | ⟨0, _⟩ => show d.val + 1 ≤ 8; omega
  | ⟨1, _⟩ => show 0 + 512 ≤ 512; omega
  | ⟨2, _⟩ => show 0 + 1024 ≤ 1024; omega
theorem slot_inb (j : Fin 2) : ∀ a, (![j.val, 0, 0] : Fin 3 → ℕ) a + S1x512x1024.size a ≤ S2x512x1024.size a := by
  have h : j.val < 2 := j.isLt
  intro a
  match a with
  | ⟨0, _⟩ => show j.val + 1 ≤ 2; omega
  | ⟨1, _⟩ => show 0 + 512 ≤ 512; omega
  | ⟨2, _⟩ => show 0 + 1024 ≤ 1024; omega

abbrev slab (d : Dev nD) : Memref sig .tc .hbm S512x1024 .bf16 :=
  (sentM.slice (Rect.unit (s := S8x512x1024) ![d.val, 0, 0] S1x512x1024.size (slab_inb d)) (fun _ => rfl)).squeeze S512x1024 squeezes_S1x512x1024_S512x1024
abbrev slot (j : Fin 2) : Memref sig .tc .hbm S512x1024 .bf16 :=
  (landM.slice (Rect.unit (s := S2x512x1024) ![j.val, 0, 0] S1x512x1024.size (slot_inb j)) (fun _ => rfl)).squeeze S512x1024 squeezes_S1x512x1024_S512x1024

theorem slab_at (d : Dev nD) (off : Fin 3 → ℕ) (h : off = ![d.val, 0, 0]) (inb) :
    (sentM.slice (Rect.unit (s := S8x512x1024) off S1x512x1024.size inb) (fun _ => rfl)).squeeze S512x1024 squeezes_S1x512x1024_S512x1024 = slab d := by
  subst h; rfl

/-- A place of a slab, with the axis of length one before it. -/
theorem unit_row (y : S512x1024.Idx) : Shape.reshapeEquiv squeezes_S1x512x1024_S512x1024.numel_eq y
    = (ValueIdx.ix3 (⟨0, Nat.one_pos⟩ : Fin 1) (y 0 : Fin 512) (y 1 : Fin 1024) : S1x512x1024.Idx) :=
  (congrArg _ (ValueIdx.eq_ix2 y)).trans (ValueIdx.reshapeEquiv_ix2_1ab _ (y 0) (y 1))

theorem slab_emb (d : Dev nD) (y : S512x1024.Idx) :
    ((slab d).view.emb y : S8x512x1024.Idx) = ValueIdx.ix3 (d : Fin 8) (y 0 : Fin 512) (y 1 : Fin 1024) := by
  refine (congrArg (fun x : S1x512x1024.Idx => ((Rect.unit (s := S8x512x1024) ![d.val, 0, 0] S1x512x1024.size (slab_inb d)).emb x : S8x512x1024.Idx)) (unit_row y)).trans ?_
  funext a; apply Fin.ext
  match a with
  | ⟨0, _⟩ => show d.val + 1 * 0 = d.val; omega
  | ⟨1, _⟩ => show 0 + 1 * (y 0).val = (y 0).val; omega
  | ⟨2, _⟩ => show 0 + 1 * (y 1).val = (y 1).val; omega
theorem slot_emb (j : Fin 2) (y : S512x1024.Idx) :
    ((slot j).view.emb y : S2x512x1024.Idx) = ValueIdx.ix3 j (y 0 : Fin 512) (y 1 : Fin 1024) := by
  refine (congrArg (fun x : S1x512x1024.Idx => ((Rect.unit (s := S2x512x1024) ![j.val, 0, 0] S1x512x1024.size (slot_inb j)).emb x : S2x512x1024.Idx)) (unit_row y)).trans ?_
  funext a; apply Fin.ext
  match a with
  | ⟨0, _⟩ => show j.val + 1 * 0 = j.val; omega
  | ⟨1, _⟩ => show 0 + 1 * (y 0).val = (y 0).val; omega
  | ⟨2, _⟩ => show 0 + 1 * (y 1).val = (y 1).val; omega

theorem slot_mem (j : Fin 2) (i : S2x512x1024.Idx) : i ∈ (slot j).view.set ↔ (i 0).val = j.val := by
  have e : (slot j).view.set = (Rect.unit (s := S2x512x1024) ![j.val, 0, 0] S1x512x1024.size (slot_inb j)).set :=
    (Memref.set_view_squeeze _ _).trans (View.set_slice_whole _ _)
  have h1 : (i 1).val < 512 := (i 1).isLt
  have h2 : (i 2).val < 1024 := (i 2).isLt
  rw [e, Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 512; omega
    | ⟨2, _⟩ => show 0 ≤ (i 2).val ∧ (i 2).val < 0 + 1024; omega
theorem slot_other : (Finset.univ : Finset S2x512x1024.Idx) \ (slot 0).view.set = (slot 1).view.set := by
  ext i
  have h0 : (i 0).val < 2 := (i 0).isLt
  rw [Finset.mem_sdiff]
  constructor
  · intro h
    have h' : ¬(i 0).val = 0 := fun e => h.2 ((slot_mem 0 i).mpr e)
    exact (slot_mem 1 i).mpr (by show (i 0).val = 1; omega)
  · intro h
    have h' : (i 0).val = 1 := (slot_mem 1 i).mp h
    refine ⟨Finset.mem_univ _, fun e => ?_⟩
    have e' : (i 0).val = 0 := (slot_mem 0 i).mp e
    omega

/-- The semaphore of transfer `j`: `b = 0` counts what has left, `b = 1` what has come in. -/
abbrev semOf (j b : Fin 2) : DmaSem sig := ⟨7 + 2 * j.val + 7 * b.val, by have hj := j.isLt; have hb := b.isLt; show _ < 21; omega⟩
abbrev osem (jb : Fin 2 × Fin 2) : SemLoc sig := .dma (semOf jb.1 jb.2)
theorem osem_inj : Function.Injective osem := by decide
abbrev kcell (ck : Dev nD × (Fin 2 × Fin 2)) : GSem nD τ sig := ((ck.1 : Thread nD τ), osem ck.2)
theorem kcell_injective : Function.Injective kcell := by
  rintro ⟨c, a⟩ ⟨d, b⟩ h
  have h1 : c = d := Fin.ext (congrArg (fun g : GSem nD τ sig => g.1.1.val) h)
  have h2 : a = b := osem_inj (congrArg Prod.snd h)
  rw [h1, h2]

/-- What one slab counts. -/
@[irreducible] def N : ℕ := (slot 0).view.dmaCredit
theorem credit_eq (dst : Memref sig .tc .hbm S512x1024 .bf16) : dst.view.dmaCredit = N := by unfold N; rfl
theorem N_pos : 0 < N := by unfold N; exact View.dmaCredit_pos _ (by decide)

/-! ## What travels -/

abbrev half (j : Fin 2) : PosShare TreeShare := match j with
  | 0 => fullShare.left
  | 1 => fullShare.right

/-- What lands at device `d`: in slot `j` the slab that device `peer j d` holds for it. -/
def landed (d : Dev nD) : S2x512x1024.Idx → Elt F .bf16 := fun i =>
  m ((peer (i 0 : Fin 2) d : Thread nD τ).loc main_arg2) (ValueIdx.ix3 (d : Fin 8) (i 1 : Fin 512) (i 2 : Fin 1024) : S8x512x1024.Idx)

def wholeAt (j : Fin 2) (c : Dev nD) : sProp 𝕄 := ((c : Thread nD τ).loc main_arg2) ↦{half j} m ((c : Thread nD τ).loc main_arg2)
def slabAt (j : Fin 2) (c : Dev nD) : sProp 𝕄 :=
  (slab (peer j c)).view.loc (c : Thread nD τ) ↦[(slab (peer j c)).view.set]{half j} m ((c : Thread nD τ).loc main_arg2)
def restAt (j : Fin 2) (c : Dev nD) : sProp 𝕄 :=
  ((c : Thread nD τ).loc main_arg2) ↦[Finset.univ \ (slab (peer j c)).view.set]{half j} m ((c : Thread nD τ).loc main_arg2)
def slotAt (j : Fin 2) (c : Dev nD) (f : S2x512x1024.Idx → Elt F .bf16) : sProp 𝕄 :=
  (slot j).view.loc (c : Thread nD τ) ↦[(slot j).view.set]{fullShare} f

omit [FloatOps F] in
instance slabAt_storable (j : Fin 2) (c : Dev nD) : BI.Storable (upEmb : UEmb _ 𝕄) (slabAt (F := F) m j c) := by unfold slabAt; infer_instance
omit [FloatOps F] in
instance slotAt_storable (j : Fin 2) (c : Dev nD) (f) : BI.Storable (upEmb : UEmb _ 𝕄) (slotAt (F := F) j c f) := by unfold slotAt; infer_instance

omit [FloatOps F] in
theorem whole_split (j : Fin 2) (c : Dev nD) : (wholeAt m j c : sProp 𝕄) ⊣⊢ iprop(slabAt m j c ∗ restAt m j c) :=
  pointsTo_split_subset (Finset.subset_univ _)
omit [FloatOps F] in
theorem sent_split (c : Dev nD) :
    (((c : Thread nD τ).loc main_arg2) ↦{fullShare} m ((c : Thread nD τ).loc main_arg2) : sProp 𝕄) ⊣⊢ iprop(wholeAt m 0 c ∗ wholeAt m 1 c) :=
  pointsTo_share (PosShare.mem_left_op_right fullShare)
omit [FloatOps F] in
theorem slots_split (c : Dev nD) (f : S2x512x1024.Idx → Elt F .bf16) :
    (((c : Thread nD τ).loc main_v1_1) ↦{fullShare} f : sProp 𝕄) ⊣⊢ iprop(slotAt 0 c f ∗ slotAt 1 c f) := by
  refine BiEntails.trans (pointsTo_split_subset (I := (slot 0).view.set) (Finset.subset_univ _)) ?_
  have e : (Finset.univ : Finset S2x512x1024.Idx) \ (slot 0).view.set = (slot 1).view.set := slot_other
  unfold slotAt
  rw [← e]

omit [FloatOps F] in
/-- A slab written into its slot is what is said to land there. -/
theorem slot_written (j : Fin 2) (c : Dev nD) (f : S2x512x1024.Idx → Elt F .bf16) :
    ((slot j).view.loc (peer j c : Thread nD τ) ↦[(slot j).view.set]{fullShare}
        ((slot j).view.write (Elt F) f ((slab (peer j c)).view.read (Elt F) (m ((c : Thread nD τ).loc main_arg2))) Finset.univ) : sProp 𝕄)
      = slotAt j (peer j c) (landed m (peer j c)) := by
  refine pointsTo_congr fun i hi => ?_
  obtain ⟨y, -, rfl⟩ := Finset.mem_map.mp hi
  refine ((slot j).view.write_emb_of_mem f _ (Finset.mem_univ y)).trans ?_
  have e : landed m (peer j c) ((slot j).view.emb y) = m ((c : Thread nD τ).loc main_arg2) ((slab (peer j c)).view.emb y) := by
    have h1 := slab_emb (peer j c) y
    have h2 := slot_emb j y
    have h3 : landed m (peer j c) (ValueIdx.ix3 j (y 0 : Fin 512) (y 1 : Fin 1024))
        = m ((peer j (peer j c) : Thread nD τ).loc main_arg2) (ValueIdx.ix3 (peer j c : Fin 8) (y 0 : Fin 512) (y 1 : Fin 1024) : S8x512x1024.Idx) := rfl
    rw [peer_peer] at h3
    exact (congrArg (landed m (peer j c)) h2).trans (h3.trans (congrArg (m ((c : Thread nD τ).loc main_arg2)) h1.symm))
  exact e.symm

/-! ## The schedule: one round, one duty on each of a device's four semaphores -/

abbrev Live (g : GSem nD τ sig) : Prop := g.1.2 = .tc ∧ ∃ jb, g.2 = osem jb

def talk : Rounds.Schedule (GSem nD τ sig) Unit 𝕄 where
  duties g r := if r = 0 ∧ Live g then {()} else ∅
  unitless _ := False
  amount _ _ _ := N
  payload g _ _ :=
    if g.2 = osem (0, 0) then slabAt m 0 g.1.1
    else if g.2 = osem (1, 0) then slabAt m 1 g.1.1
    else if g.2 = osem (0, 1) then slotAt 0 g.1.1 (landed m g.1.1)
    else if g.2 = osem (1, 1) then slotAt 1 g.1.1 (landed m g.1.1)
    else iprop(emp)
  amount_pos _ _ _ _ := N_pos

omit [FloatOps F] in
instance talk_payload_storable (g : GSem nD τ sig) (r : ℕ) (d : Unit) : BI.Storable (upEmb : UEmb _ 𝕄) ((talk (F := F) m).payload g r d) := by
  show BI.Storable upEmb (if g.2 = osem (0, 0) then slabAt m 0 g.1.1
    else if g.2 = osem (1, 0) then slabAt m 1 g.1.1
    else if g.2 = osem (0, 1) then slotAt 0 g.1.1 (landed m g.1.1)
    else if g.2 = osem (1, 1) then slotAt 1 g.1.1 (landed m g.1.1)
    else iprop(emp))
  (repeat' split) <;> infer_instance

omit [FloatOps F] in
theorem duties_now (ck) : (talk (F := F) m).duties (kcell ck) 0 = {()} := by dsimp only [talk]; exact if_pos ⟨rfl, rfl, ck.2, rfl⟩
omit [FloatOps F] in
theorem duty_mem (ck) : () ∈ (talk (F := F) m).duties (kcell ck) 0 := by rw [duties_now]; exact Finset.mem_singleton_self _
omit [FloatOps F] in
theorem duties_later (g : GSem nD τ sig) : ∀ r, 1 ≤ r → (talk (F := F) m).duties g r = ∅ :=
  fun r hr => by dsimp only [talk]; exact if_neg fun h => by omega
omit [FloatOps F] in
theorem expect_now (ck) : (talk (F := F) m).expect (kcell ck) 0 = N := by
  unfold Schedule.expect Schedule.amountOf; rw [duties_now, Finset.sum_singleton]; rfl

omit [FloatOps F] in
theorem payload_out (j : Fin 2) (c : Dev nD) (u : Unit) : (talk (F := F) m).payload (kcell (c, (j, 0))) 0 u = slabAt m j c := by
  dsimp only [talk]
  match j with
  | 0 => exact if_pos rfl
  | 1 => rw [if_neg (osem_inj.ne (by decide)), if_pos rfl]
omit [FloatOps F] in
theorem payload_in (j : Fin 2) (c : Dev nD) (u : Unit) : (talk (F := F) m).payload (kcell (c, (j, 1))) 0 u = slotAt j c (landed m c) := by
  dsimp only [talk]
  match j with
  | 0 => rw [if_neg (osem_inj.ne (by decide)), if_neg (osem_inj.ne (by decide)), if_pos rfl]
  | 1 => rw [if_neg (osem_inj.ne (by decide)), if_neg (osem_inj.ne (by decide)), if_neg (osem_inj.ne (by decide)), if_pos rfl]
omit [FloatOps F] in
theorem all_paid (ck) (P : sProp 𝕄) (h : (talk (F := F) m).payload (kcell ck) 0 () = P) :
    bigSep ((talk (F := F) m).duties (kcell ck) 0 \ ∅) (fun u => (talk (F := F) m).payload (kcell ck) 0 u) = P := by
  rw [Finset.sdiff_empty, duties_now, bigSep_singleton, h]

/-! ## The states of one transfer -/

/-- What device `c` keeps for its own transfer `j`, and what it hands to the device that will write into it. -/
def keeps (j : Fin 2) (c : Dev nD) : sProp 𝕄 :=
  iprop(atPos ER (kcell (c, (j, 0))) 0 ∅ 0 ∗ atPos ER (kcell (c, (j, 1))) 0 ∅ 0 ∗ dutyTok ER (kcell (c, (j, 0))) 0 () ∗ wholeAt m j c)
def hands (j : Fin 2) (c : Dev nD) : sProp 𝕄 :=
  iprop(dutyTok ER (kcell (c, (j, 1))) 0 () ∗ ∃ f, slotAt j c f)
/-- The cells, open to everybody. -/
def records (K : Dev nD × (Fin 2 × Fin 2) → ℕ) : sProp 𝕄 :=
  iprop((bigSep Finset.univ fun ck => cellInv ER (talk m) (K ck) (kcell ck)) ∗ bigSep Finset.univ fun ck => reached ER (kcell ck) 0)
instance records_persistent (K) : BI.Persistent (records (F := F) m K) := by unfold records; infer_instance

omit [FloatOps F] in
theorem inv_at (K) (ck) : records (F := F) m K ⊢ cellInv ER (talk m) (K ck) (kcell ck) := by
  unfold records; exact sep_elim_left.trans (bigSep_elim (Finset.mem_univ ck))
omit [FloatOps F] in
theorem reached_at (K) (ck) : records (F := F) m K ⊢ reached ER (kcell ck) 0 := by
  unfold records; exact sep_elim_right.trans (bigSep_elim (Finset.mem_univ ck))

def ready (j : Fin 2) (c : Dev nD) : sProp 𝕄 :=
  iprop((∃ K, records m K ∗ keeps m j c ∗ hands j (peer j c)) ∗ cred (tallyAt (kcell (c, (j, 1))) () N))
def flying (j : Fin 2) (c : Dev nD) : sProp 𝕄 :=
  iprop((∃ K, records m K) ∗ atPos ER (kcell (c, (j, 0))) 0 ∅ 0 ∗ atPos ER (kcell (c, (j, 1))) 0 ∅ 0
    ∗ cred (tallyAt (kcell (c, (j, 0))) () N) ∗ cred (tallyAt (kcell (c, (j, 1))) () N) ∗ restAt m j c)
def arrived (j : Fin 2) (c : Dev nD) : sProp 𝕄 :=
  iprop((∃ K, records m K) ∗ atPos ER (kcell (c, (j, 0))) 0 ∅ 0 ∗ cred (tallyAt (kcell (c, (j, 0))) () N) ∗ restAt m j c
    ∗ semVal (kcell (c, (j, 1))) 0 ∗ slotAt j c (landed m c))
def settled (j : Fin 2) (c : Dev nD) : sProp 𝕄 :=
  iprop(semVal (kcell (c, (j, 0))) 0 ∗ semVal (kcell (c, (j, 1))) 0 ∗ wholeAt m j c ∗ slotAt j c (landed m c))

variable {α : Type}

set_option maxHeartbeats 400000 in
/-- The transfer is started. -/
theorem send_step (j : Fin 2) (c n : Dev nD) (hn : n = peer j c) {src : Memref sig .tc .hbm S512x1024 .bf16} (hs : src = slab (peer j c))
    {dst : Memref sig .tc .hbm S512x1024 .bf16} (hd : dst = slot j) {sS sR : DmaSem sig} (h1 : sS = semOf j 0) (h2 : sR = semOf j 1)
    {hsc : (dst : Memref sig (Dev.tc n : Thread nD τ).2.kind .hbm S512x1024 .bf16).view.ref.isScScratch = false} {hsrc : src.view.WordExact} {hdst : dst.view.WordExact}
    {hsem : DmaTarget.Typed .hbm (.dma sR) (.remote (Dev.tc n : Thread nD τ) dst (.dma sS) hsc)}
    {k : PUnit → Prog (TpuEff nD τ sig (Elt F) Λ₀ .tc) α} {Q : α → sProp 𝕄} (O' : CellTallies nD τ sig Unit) (W : Waits sig Unit) :
    iprop(ready m j c ∗ owes (c : Thread nD τ) (O' + tallyAt (kcell (peer j c, (j, 1))) () N) W)
      ⊢ iprop(((flying m j c ∗ owes (c : Thread nD τ) O' W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) k) Q) := by
  subst hn; subst hs; subst hd; subst h1; subst h2
  unfold ready keeps hands
  iintro ⟨⟨⟨%K, #HR, ⟨Ha0, Ha1, Ht0, Hw⟩, Ht1, ⟨%f, Hf⟩⟩, Hc⟩, HO⟩
  iintro Hk
  ihave Hw' := (whole_split m j c).1 $$ Hw
  icases Hw' with ⟨Hs, Hrest⟩
  have hp0 : ((slab (peer j c)).view.loc (c : Thread nD τ) ↦[(slab (peer j c)).view.set]{half j} m ((c : Thread nD τ).loc main_arg2) : sProp 𝕄)
      ⊢ (talk (F := F) m).payload ((c : Thread nD τ), .dma (semOf j 0)) 0 () := Entails.of_eq (payload_out m j c ()).symm
  have hp1 : ((slot j).view.loc (peer j c : Thread nD τ) ↦[(slot j).view.set]{fullShare}
        ((slot j).view.write (Elt F) f ((slab (peer j c)).view.read (Elt F) (m ((c : Thread nD τ).loc main_arg2))) Finset.univ) : sProp 𝕄)
      ⊢ (talk (F := F) m).payload ((peer j c : Thread nD τ), .dma (semOf j 1)) 0 () :=
    Entails.of_eq ((slot_written m j c f).trans (payload_in m j (peer j c) ()).symm)
  have hN : (slot j).view.amount (.dma (semOf j 1)) = N := credit_eq (slot j)
  unfold slabAt slotAt
  iapply (Rounds.wp_send_pointsTo 𝒱₀ ER (talk m) (c : Thread nD τ) none (c' := (peer j c : Thread nD τ)) (src := slab (peer j c)) (dst := slot j)
      (sS := .dma (semOf j 0)) (sem := .dma (semOf j 1)) (κ₁ := K (c, (j, 0))) (κ₂ := K (peer j c, (j, 1))) (r₁ := 0) (r₂ := 0) (d₁ := ()) (d₂ := ())
      (duty_mem m (c, (j, 0))) (duty_mem m (peer j c, (j, 1))) () () N hN rfl rfl O' rfl (W := W) hp0 hp1) $$ [Hs Hf HO Ht0 Ht1]
  · isplitr; · iapply (inv_at m K (c, (j, 0))); iexact HR
    isplitr; · iapply (inv_at m K (peer j c, (j, 1))); iexact HR
    isplitl [Hs]; · iexact Hs
    isplitl [Hf]; · iexact Hf
    isplitl [HO]; · iexact HO
    isplitl [Ht0]; · iexact Ht0
    isplitr; · iapply (reached_at m K (c, (j, 0))); iexact HR
    isplitl [Ht1]; · iexact Ht1
    iapply (reached_at m K (peer j c, (j, 1))); iexact HR
  iintro ⟨Hc0, HO⟩
  iapply Hk
  isplitr [HO]
  · unfold flying
    isplitr; · iexists K; iexact HR
    isplitl [Ha0]; · iexact Ha0
    isplitl [Ha1]; · iexact Ha1
    isplitl [Hc0]; · iexact Hc0
    isplitl [Hc]; · iexact Hc
    iexact Hrest
  iexact HO

/-- A wait on one of the four semaphores, and the semaphore put away. -/
theorem wait_step (c : Dev nD) (jb : Fin 2 × Fin 2) (P : sProp 𝕄) (hP : (talk (F := F) m).payload (kcell (c, jb)) 0 () = P)
    {src dst : Memref sig .tc .hbm S512x1024 .bf16} {s : DmaSem sig} (hs : s = semOf jb.1 jb.2) {hsrc : src.view.WordExact} {hdst : dst.view.WordExact}
    {k : PUnit → Prog (TpuEff nD τ sig (Elt F) Λ₀ .tc) α} {Q : α → sProp 𝕄} (K) (W : Waits sig Unit) :
    iprop(records m K ∗ atPos ER (kcell (c, jb)) 0 ∅ 0 ∗ cred (tallyAt (kcell (c, jb)) () N) ∗ owes (c : Thread nD τ) 0 W)
      ⊢ iprop(((∃ W', P ∗ semVal (kcell (c, jb)) 0 ∗ owes (c : Thread nD τ) 0 W') -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst hsrc hdst) k) Q) := by
  subst hs
  iintro ⟨#HR, Hat, Hc, HO⟩
  iintro Hk
  ihave #HI := (inv_at m K (c, jb)) $$ HR
  have hw : ∀ K' : PUnit → sProp 𝕄, wpE (defs₀ (F := F)) 𝒱₀ (c : Thread nD τ) none Set.univ (.waitDma2 (semOf jb.1 jb.2) src dst hsrc hdst) K'
      = waitSpec (c : Thread nD τ) Set.univ (osem jb) N K' := fun K' => by rw [wpE_waitDma2_eq, credit_eq]
  iapply (Rounds.wp_wait_rest_token 𝒱₀ ER (talk m) (c : Thread nD τ) none (κ := K (c, jb)) (sm := osem jb)
      hw (Set.mem_univ _) () (O := 0) (W := W) (R := 0) (m := 0) (T := ∅)
      ((Nat.zero_add _).trans (expect_now m (c, jb)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (all_paid m (c, jb) P hP)) $$ Hpay
  imod (Rounds.cell_close ER (talk m) (Set.mem_univ (K (c, jb))) (fun h => h) (R := 0 + 1) (duties_later m (kcell (c, jb)))) $$ [Hat] with Hz
  · isplitr; · iexact HI
    iexact Hat
  iapply Hk
  iexists _
  isplitl [Hp]; · iexact Hp
  isplitl [Hz]; · iexact Hz
  iexact HO

theorem arrive_step (j : Fin 2) (c : Dev nD) {src dst : Memref sig .tc .hbm S512x1024 .bf16} {s : DmaSem sig} (hs : s = semOf j 1)
    {hsrc : src.view.WordExact} {hdst : dst.view.WordExact} {k : PUnit → Prog (TpuEff nD τ sig (Elt F) Λ₀ .tc) α} {Q : α → sProp 𝕄} (W : Waits sig Unit) :
    iprop(flying m j c ∗ owes (c : Thread nD τ) 0 W)
      ⊢ iprop(((∃ W', arrived m j c ∗ owes (c : Thread nD τ) 0 W') -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst hsrc hdst) k) Q) := by
  unfold flying
  iintro ⟨⟨⟨%K, #HR⟩, Ha0, Ha1, Hc0, Hc1, Hrest⟩, HO⟩
  iintro Hk
  iapply (wait_step m c (j, 1) _ (payload_in m j c ()) hs K W) $$ [Ha1 Hc1 HO]
  · isplitr; · iexact HR
    isplitl [Ha1]; · iexact Ha1
    isplitl [Hc1]; · iexact Hc1
    iexact HO
  iintro ⟨%W', Hs, Hz, HO⟩
  iapply Hk
  iexists W'
  isplitr [HO]
  · unfold arrived
    isplitr; · iexists K; iexact HR
    isplitl [Ha0]; · iexact Ha0
    isplitl [Hc0]; · iexact Hc0
    isplitl [Hrest]; · iexact Hrest
    isplitl [Hz]; · iexact Hz
    iexact Hs
  iexact HO

theorem settle_step (j : Fin 2) (c : Dev nD) {src dst : Memref sig .tc .hbm S512x1024 .bf16} {s : DmaSem sig} (hs : s = semOf j 0)
    {hsrc : src.view.WordExact} {hdst : dst.view.WordExact} {k : PUnit → Prog (TpuEff nD τ sig (Elt F) Λ₀ .tc) α} {Q : α → sProp 𝕄} (W : Waits sig Unit) :
    iprop(arrived m j c ∗ owes (c : Thread nD τ) 0 W)
      ⊢ iprop(((∃ W', settled m j c ∗ owes (c : Thread nD τ) 0 W') -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst hsrc hdst) k) Q) := by
  unfold arrived
  iintro ⟨⟨⟨%K, #HR⟩, Ha0, Hc0, Hrest, Hz1, Hland⟩, HO⟩
  iintro Hk
  iapply (wait_step m c (j, 0) _ (payload_out m j c ()) hs K W) $$ [Ha0 Hc0 HO]
  · isplitr; · iexact HR
    isplitl [Ha0]; · iexact Ha0
    isplitl [Hc0]; · iexact Hc0
    iexact HO
  iintro ⟨%W', Hs, Hz0, HO⟩
  iapply Hk
  iexists W'
  isplitr [HO]
  · unfold settled
    isplitl [Hz0]; · iexact Hz0
    isplitl [Hz1]; · iexact Hz1
    isplitl [Hs Hrest]
    · iapply (whole_split m j c).2
      isplitl [Hs]; · iexact Hs
      iexact Hrest
    iexact Hland
  iexact HO

end Cert.Wup
-- ==== Proof.WupRuns.lean ====
/-
# The body of `wgrad_up` at one grid point
-/
module

public import proofs.«01_k».proof.Proof.WupTalk
public import Idealize.ShloMosaic.Lib.Pipeline.FrameBody
public import Idealize.ShloMosaic.Lib.Pipeline.ReadBack
public import Idealize.ShloMosaic.Lib.Ring
public import Idealize.ShloMosaic.Lib.WordCmp

@[expose] public section

set_option maxRecDepth 16384

noncomputable section

namespace Cert.Wup

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Which branches a point takes -/

abbrev Fresh (i : grid0.Coords) : Prop := Scalar.cmpi .ne (Scalar.extui (Scalar.cmpi .eq (BitVec.ofNat 32 (i 1).val) 0#32) : BitVec 32) 0#32 = 1#1

theorem starts (t : Fin cfg0.N) : k0_cond1 (grid0.coords t) = 1#1 ↔ t.val = 0 :=
  (by decide +kernel : ∀ t : Fin grid0.N, k0_cond1 (grid0.coords t) = 1#1 ↔ t.val = 0) t
theorem fresh (t : Fin cfg0.N) : Fresh (grid0.coords t) ↔ t.val % 4 = 0 :=
  (by decide +kernel : ∀ t : Fin grid0.N, Fresh (grid0.coords t) ↔ t.val % 4 = 0) t
theorem stores (t : Fin cfg0.N) : k0_cond3 (grid0.coords t) = 1#1 ↔ t.val % 4 = 3 :=
  (by decide +kernel : ∀ t : Fin grid0.N, k0_cond3 (grid0.coords t) = 1#1 ↔ t.val % 4 = 3) t
theorem ends (t : Fin cfg0.N) : k0_cond4 (grid0.coords t) = 1#1 ↔ t.val = 7 :=
  (by decide +kernel : ∀ t : Fin grid0.N, k0_cond4 (grid0.coords t) = 1#1 ↔ t.val = 7) t

/-! ## What a point computes -/

/-- The four blocks of 512 columns, rounded, one above the other. -/
def parts (w : Vec F S1024x2048 .f32) : Vec F S4x1024x512 .bf16 := fun j =>
  k0_pay3 (fun q : S1024x512.Idx => w (ValueIdx.ix2 (q 0 : Fin 1024) (⟨512 * (j 0).val + (q 1).val, by
    have h0 : (j 0).val < 4 := (j 0).isLt; have h1 : (q 1).val < 512 := (q 1).isLt; omega⟩ : Fin 2048)))
    (ValueIdx.ix3 (⟨0, Nat.one_pos⟩ : Fin 1) (j 1 : Fin 1024) (j 2 : Fin 512))

variable (c : Dev nD) (i : grid0.Coords) (arg2 : Memref sig .tc .vmem S1024x1024 .bf16) (harg2 : arg2.IsWhole) (arg3 : Memref sig .tc .vmem S1024x2048 .bf16) (harg3 : arg3.IsWhole)
  (arg5 : Memref sig .tc .vmem S4x1024x512 .bf16) (harg5 : arg5.IsWhole) (arg7 : Memref sig .tc .vmem S1024x2048 .f32) (harg7 : arg7.IsWhole)
  (x0 : Vec F S1024x1024 .bf16) (x1 : Vec F S1024x2048 .bf16) (xs : Vec F S1024x2048 .f32)

abbrev body : Prog (TpuEff nD τ sig (Elt F) Λ₀ .tc) PUnit :=
  cc0_wgrad_up i arg2 harg2 arg3 harg3 sentM (Memref.isWhole_whole _) arg5 harg5 landM (Memref.isWhole_whole _) arg7 harg7 cc0_scratch1 cc0_scratch2 cc0_scratch3

/-- The whole accumulator, written and read back. -/
theorem whole_write {κ : Kind} {sp : Space} (v : View sig κ sp S1024x2048 .f32) (f) (inb) (w : S1024x2048.Idx → Elt F .f32) (L) :
    v.read (Elt F) (v.writes (Elt F) f (⟨Rect.unit (s := S1024x2048) ![0, 0] ![1024, 2048] inb, w⟩ :: L)) = w := by
  funext x
  have e : (Rect.unit (s := S1024x2048) ![0, 0] ![1024, 2048] inb).emb x = x := by
    funext a; apply Fin.ext
    match a with
    | ⟨0, _⟩ => show 0 + 1 * (x 0).val = (x 0).val; omega
    | ⟨1, _⟩ => show 0 + 1 * (x 1).val = (x 1).val; omega
  have h := View.read_writes_cons_emb v f (Rect.unit (s := S1024x2048) ![0, 0] ![1024, 2048] inb) w L x
  rw [e] at h
  exact h

set_option maxHeartbeats 300000 in
theorem run_middle (h1 : ¬k0_cond1 i = 1#1) (h2 : ¬Fresh i) (h3 : ¬k0_cond3 i = 1#1) (h4 : ¬k0_cond4 i = 1#1) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1 ∗ owns (c : Thread nD τ) arg7 fullShare (k0_pay2 xs x0 x1)) -∗ K ⟨⟩))
      ⊢ wp frame (wpE (defs₀ (F := F)) 𝒱₀ (c : Thread nD τ) none) Set.univ (body i arg2 harg2 arg3 harg3 arg5 harg5 arg7 harg7) K := by
  simp only [body, cc0_wgrad_up_eq_skeleton]; unfold cc0_wgrad_up_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  frame_out
  exact whole_write _ _ _ _ _

set_option maxHeartbeats 300000 in
theorem run_first (O1 : Waits sig Unit) (h1 : k0_cond1 i = 1#1) (h2 : Fresh i) (h3 : ¬k0_cond3 i = 1#1) (h4 : ¬k0_cond4 i = 1#1) (K : PUnit → sProp 𝕄) :
    iprop(ready m 0 c ∗ ready m 1 c ∗ owes (c : Thread nD τ) (tallyAt (kcell (peer 1 c, (1, 1))) () N + tallyAt (kcell (peer 0 c, (0, 1))) () N) O1
        ∗ owns (c : Thread nD τ) arg2 fullShare x0 ∗ owns (c : Thread nD τ) arg3 fullShare x1 ∗ owns (c : Thread nD τ) arg7 fullShare xs
        ∗ (iprop(flying m 0 c ∗ flying m 1 c ∗ owes (c : Thread nD τ) 0 O1 ∗ owns (c : Thread nD τ) arg2 fullShare x0 ∗ owns (c : Thread nD τ) arg3 fullShare x1
            ∗ owns (c : Thread nD τ) arg7 fullShare (k0_pay2 k0_pay1 x0 x1)) -∗ K ⟨⟩))
      ⊢ wp frame (wpE (defs₀ (F := F)) 𝒱₀ (c : Thread nD τ) none) Set.univ (body i arg2 harg2 arg3 harg3 arg5 harg5 arg7 harg7) K := by
  simp only [body, cc0_wgrad_up_eq_skeleton]; unfold cc0_wgrad_up_skel
  simp only [k0_part1_eq_skeleton]; unfold k0_part1_skel
  rw [dif_pos h1]
  iintro ⟨HR0, HR1, HO, H0, H1, HS, Hk⟩
  simp only [Prog.lift, Prog.bind_op, Prog.bind_ret, Prog.pure_eq_ret, wp_deviceId]
  iapply (send_step m 0 c _ (to_first c _) (slab_at (peer 0 c) _ (k0_off1_eq c) _) rfl rfl rfl (tallyAt (kcell (peer 1 c, (1, 1))) () N) O1) $$ [HR0 HO]
  · isplitl [HR0]; · iexact HR0
    iexact HO
  iintro ⟨HF0, HO⟩
  iapply (send_step m 1 c _ (to_second c _) (slab_at (peer 1 c) _ (k0_off2_eq c) _) rfl rfl rfl 0 O1) $$ [HR1 HO]
  · isplitl [HR1]; · iexact HR1
    rw [zero_add]; iexact HO
  iintro ⟨HF1, HO⟩
  unfold owns
  icases H0 with ⟨%f0, %hf0, H0⟩
  icases H1 with ⟨%f1, %hf1, H1⟩
  icases HS with ⟨%fs, %hfs, HS⟩
  obtain rfl := harg2.eq_unread hf0; obtain rfl := harg3.eq_unread hf1; obtain rfl := harg7.eq_unread hfs
  sl_exec (disch := first | sl_exact h1 | sl_exact h2 | sl_exact h3 | sl_exact h4)
  sl_step
  iapply Hk
  isplitl [HF0]; · iexact HF0
  isplitl [HF1]; · iexact HF1
  isplitl [HO]; · iexact HO
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  frame_out
  exact whole_write _ _ _ _ _

set_option maxHeartbeats 300000 in
theorem run_again (h1 : ¬k0_cond1 i = 1#1) (h2 : Fresh i) (h3 : ¬k0_cond3 i = 1#1) (h4 : ¬k0_cond4 i = 1#1) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1 ∗ owns (c : Thread nD τ) arg7 fullShare (k0_pay2 k0_pay1 x0 x1)) -∗ K ⟨⟩))
      ⊢ wp frame (wpE (defs₀ (F := F)) 𝒱₀ (c : Thread nD τ) none) Set.univ (body i arg2 harg2 arg3 harg3 arg5 harg5 arg7 harg7) K := by
  simp only [body, cc0_wgrad_up_eq_skeleton]; unfold cc0_wgrad_up_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg7.eq_unread hfs
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  frame_out
  exact whole_write _ _ _ _ _

/-- One block of columns, loaded from the accumulator, rounded and stored. -/
theorem part_piece (w : Vec F S1024x2048 .f32) (v : View sig .tc .vmem S1024x2048 .f32) (k o : ℕ) (ho : o = 512 * k) (inb inb' inb0)
    (x : (Rect.unit (s := S4x1024x512) ![k, 0, 0] ![1, 1024, 512] inb').shape.Idx) :
    k0_pay3 (v.readCov (Val := Elt F) [⟨Rect.unit (s := S1024x2048) ![0, 0] ![1024, 2048] inb0, w⟩]
        (Rect.unit (s := S1024x2048) ![0, o] ![1024, 512] inb).toLoadRect) x
      = parts w ((Rect.unit (s := S4x1024x512) ![k, 0, 0] ![1, 1024, 512] inb').emb x) := by
  subst ho
  have hk : k + 1 ≤ 4 := inb' 0
  have x0 : (x 0).val < 1 := (x 0).isLt
  have h0 : ((Rect.unit (s := S4x1024x512) ![k, 0, 0] ![1, 1024, 512] inb').emb x 0).val = k + (x 0).val := Rect.idx_unit_val _ _ inb' x 0
  have h1 : ((Rect.unit (s := S4x1024x512) ![k, 0, 0] ![1, 1024, 512] inb').emb x 1).val = 0 + (x 1).val := Rect.idx_unit_val _ _ inb' x 1
  have h2 : ((Rect.unit (s := S4x1024x512) ![k, 0, 0] ![1, 1024, 512] inb').emb x 2).val = 0 + (x 2).val := Rect.idx_unit_val _ _ inb' x 2
  unfold parts
  refine congr (congrArg k0_pay3 (funext fun q => ?_)) ?_
  · refine (congrFun (View.readCov_fill (Val := Elt F) v inb0 w [] (Rect.unit (s := S1024x2048) ![0, 512 * k] ![1024, 512] inb) (by decide)) q).trans ?_
    refine congrArg w ?_
    have g0 := Rect.idx_unit_val (s := S1024x2048) ![0, 512 * k] ![1024, 512] inb q 0
    have g1 := Rect.idx_unit_val (s := S1024x2048) ![0, 512 * k] ![1024, 512] inb q 1
    funext a; apply Fin.ext
    match a with
    | ⟨0, _⟩ => refine g0.trans ?_; show 0 + (q 0).val = (q 0).val; omega
    | ⟨1, _⟩ => refine g1.trans ?_; show 512 * k + (q 1).val = 512 * _ + (q 1).val; rw [h0]; omega
  · funext a; apply Fin.ext
    match a with
    | ⟨0, _⟩ => show (x 0).val = 0; omega
    | ⟨1, _⟩ => exact (h1.trans (Nat.zero_add _)).symm
    | ⟨2, _⟩ => exact (h2.trans (Nat.zero_add _)).symm

/-- The result's staging buffer after the four stores. -/
theorem stored (w : Vec F S1024x2048 .f32) (v5 : View sig .tc .vmem S4x1024x512 .bf16) (v7 : View sig .tc .vmem S1024x2048 .f32) (f : v5.ty.Contents (Elt F)) :
    v5.read (Elt F) (v5.writes (Elt F) f [
      ⟨Rect.unit (s := S4x1024x512) ![3, 0, 0] ![1, 1024, 512] inb_S4x1024x512_S1x1024x512_3_0_0, k0_pay6 (v7.readCov (Val := Elt F) [⟨Rect.unit (s := S1024x2048) ![0, 0] ![1024, 2048] inb_S1024x2048_S1024x2048_0_0, w⟩] (Rect.unit (s := S1024x2048) ![0, 1536] ![1024, 512] inb_S1024x2048_S1024x512_0_1536).toLoadRect)⟩,
      ⟨Rect.unit (s := S4x1024x512) ![2, 0, 0] ![1, 1024, 512] inb_S4x1024x512_S1x1024x512_2_0_0, k0_pay5 (v7.readCov (Val := Elt F) [⟨Rect.unit (s := S1024x2048) ![0, 0] ![1024, 2048] inb_S1024x2048_S1024x2048_0_0, w⟩] (Rect.unit (s := S1024x2048) ![0, 1024] ![1024, 512] inb_S1024x2048_S1024x512_0_1024).toLoadRect)⟩,
      ⟨Rect.unit (s := S4x1024x512) ![1, 0, 0] ![1, 1024, 512] inb_S4x1024x512_S1x1024x512_1_0_0, k0_pay4 (v7.readCov (Val := Elt F) [⟨Rect.unit (s := S1024x2048) ![0, 0] ![1024, 2048] inb_S1024x2048_S1024x2048_0_0, w⟩] (Rect.unit (s := S1024x2048) ![0, 512] ![1024, 512] inb_S1024x2048_S1024x512_0_512).toLoadRect)⟩,
      ⟨Rect.unit (s := S4x1024x512) ![0, 0, 0] ![1, 1024, 512] inb_S4x1024x512_S1x1024x512_0_0_0, k0_pay3 (v7.readCov (Val := Elt F) [⟨Rect.unit (s := S1024x2048) ![0, 0] ![1024, 2048] inb_S1024x2048_S1024x2048_0_0, w⟩] (Rect.unit (s := S1024x2048) ![0, 0] ![1024, 512] inb_S1024x2048_S1024x512_0_0).toLoadRect)⟩]) = parts w := by
  refine (View.read_writes_eq_canon _ _ _ (View.cover_of_tiledL (s := S4x1024x512) _ S1x1024x512.size (by sl_kernel_rfl))).trans (funext fun y => ?_)
  refine View.canon_apply_of_pieces (Val := Elt F) (e := .bf16) (parts w) _ (View.PiecesOf.mem ?_) y (View.cover_of_tiledL (s := S4x1024x512) _ S1x1024x512.size (by sl_kernel_rfl) y)
  exact ⟨part_piece w v7 3 1536 rfl inb_S1024x2048_S1024x512_0_1536 inb_S4x1024x512_S1x1024x512_3_0_0 inb_S1024x2048_S1024x2048_0_0, part_piece w v7 2 1024 rfl inb_S1024x2048_S1024x512_0_1024 inb_S4x1024x512_S1x1024x512_2_0_0 inb_S1024x2048_S1024x2048_0_0, part_piece w v7 1 512 rfl inb_S1024x2048_S1024x512_0_512 inb_S4x1024x512_S1x1024x512_1_0_0 inb_S1024x2048_S1024x2048_0_0, part_piece w v7 0 0 rfl inb_S1024x2048_S1024x512_0_0 inb_S4x1024x512_S1x1024x512_0_0_0 inb_S1024x2048_S1024x2048_0_0, trivial⟩

set_option maxHeartbeats 300000 in
theorem run_store (h1 : ¬k0_cond1 i = 1#1) (h2 : ¬Fresh i) (h3 : k0_cond3 i = 1#1) (h4 : ¬k0_cond4 i = 1#1) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg7 fullShare xs
        ∗ (iprop(owns (c : Thread nD τ) arg2 fullShare x0 ∗ owns (c : Thread nD τ) arg3 fullShare x1 ∗ owns (c : Thread nD τ) arg5 fullShare (parts (k0_pay2 xs x0 x1))
            ∗ owns (c : Thread nD τ) arg7 fullShare (k0_pay2 xs x0 x1)) -∗ K ⟨⟩))
      ⊢ wp frame (wpE (defs₀ (F := F)) 𝒱₀ (c : Thread nD τ) none) Set.univ (body i arg2 harg2 arg3 harg3 arg5 harg5 arg7 harg7) K := by
  simp only [body, cc0_wgrad_up_eq_skeleton]; unfold cc0_wgrad_up_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg7.eq_unread hfs
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    frame_out
    exact stored (k0_pay2 xs x0 x1) arg5.view arg7.view _
  iexists _; isplitr
  swap; · iexact HS
  ipureintro
  frame_out
  exact whole_write _ _ _ _ _

set_option maxHeartbeats 300000 in
theorem run_last (W : Waits sig Unit) (h1 : ¬k0_cond1 i = 1#1) (h2 : ¬Fresh i) (h3 : k0_cond3 i = 1#1) (h4 : k0_cond4 i = 1#1) (K : PUnit → sProp 𝕄) :
    iprop(flying m 0 c ∗ flying m 1 c ∗ owes (c : Thread nD τ) 0 W ∗ owns (c : Thread nD τ) arg2 fullShare x0 ∗ owns (c : Thread nD τ) arg3 fullShare x1
        ∗ (∃ d, owns (c : Thread nD τ) arg5 fullShare d) ∗ owns (c : Thread nD τ) arg7 fullShare xs
        ∗ (iprop(settled m 0 c ∗ settled m 1 c ∗ (∃ W', owes (c : Thread nD τ) 0 W') ∗ owns (c : Thread nD τ) arg2 fullShare x0 ∗ owns (c : Thread nD τ) arg3 fullShare x1
            ∗ owns (c : Thread nD τ) arg5 fullShare (parts (k0_pay2 xs x0 x1)) ∗ owns (c : Thread nD τ) arg7 fullShare (k0_pay2 xs x0 x1)) -∗ K ⟨⟩))
      ⊢ wp frame (wpE (defs₀ (F := F)) 𝒱₀ (c : Thread nD τ) none) Set.univ (body i arg2 harg2 arg3 harg3 arg5 harg5 arg7 harg7) K := by
  simp only [body, cc0_wgrad_up_eq_skeleton]; unfold cc0_wgrad_up_skel
  simp only [k0_part2_eq_skeleton, k0_part3_eq_skeleton]; unfold k0_part2_skel k0_part3_skel
  unfold owns
  iintro ⟨HF0, HF1, HO, ⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg7.eq_unread hfs
  sl_exec (disch := first | sl_exact h1 | sl_exact h2 | sl_exact h3 | sl_exact h4)
  simp only [Prog.lift, Prog.bind_op, Prog.bind_ret, Prog.pure_eq_ret]
  iapply (arrive_step m 0 c rfl W) $$ [HF0 HO]
  · isplitl [HF0]; · iexact HF0
    iexact HO
  iintro ⟨%W1, HA0, HO⟩
  iapply (arrive_step m 1 c rfl W1) $$ [HF1 HO]
  · isplitl [HF1]; · iexact HF1
    iexact HO
  iintro ⟨%W2, HA1, HO⟩
  iapply (settle_step m 0 c rfl W2) $$ [HA0 HO]
  · isplitl [HA0]; · iexact HA0
    iexact HO
  iintro ⟨%W3, HS0, HO⟩
  iapply (settle_step m 1 c rfl W3) $$ [HA1 HO]
  · isplitl [HA1]; · iexact HA1
    iexact HO
  iintro ⟨%W4, HS1, HO⟩
  sl_step
  iapply Hk
  isplitl [HS0]; · iexact HS0
  isplitl [HS1]; · iexact HS1
  isplitl [HO]; · iexists W4; iexact HO
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    frame_out
    exact stored (k0_pay2 xs x0 x1) arg5.view arg7.view _
  iexists _; isplitr
  swap; · iexact HS
  ipureintro
  frame_out
  exact whole_write _ _ _ _ _

end Cert.Wup
-- ==== Proof.WupLaunch.lean ====
/-
# The launch of `wgrad_up`: what every device starts with

Every device owes the two devices it sends to the slab each of them waits for. The cells of the four semaphores, the
array that is sent and the array that is written into are dealt out before the first point.
-/
module

public import proofs.«01_k».proof.Proof.WupTalk

@[expose] public section

set_option maxRecDepth 16384

noncomputable section

namespace Cert.Wup

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What is owed, and in which order -/

def O₀ (c : Dev nD) : CellTallies nD τ sig Unit := tallyAt (kcell (peer 1 c, (1, 1))) () N + tallyAt (kcell (peer 0 c, (0, 1))) () N

def L (g : GSem nD τ sig) : Finset Unit := if g.1.2 = .tc then {()} else ∅
def lv (g : GSem nD τ sig) (_ : Unit) : ℕ := if g.2 = osem (0, 1) ∨ g.2 = osem (1, 1) then 1 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : ∃ j : Fin 2, g = kcell (peer j c, (j, 1)) := by
  unfold O₀ at h
  rw [Pi.add_apply, Finsupp.add_apply, tallyAt_apply, tallyAt_apply] at h
  by_contra hn
  rw [if_neg (fun e => hn ⟨1, e.1⟩), if_neg (fun e => hn ⟨0, e.1⟩)] at h
  exact Nat.lt_irrefl 0 h

theorem lv_in (j : Fin 2) (c : Dev nD) (u : Unit) : lv (kcell (c, (j, 1))) u = 1 := by
  dsimp only [lv]
  match j with
  | 0 => exact if_pos (Or.inl rfl)
  | 1 => exact if_pos (Or.inr rfl)

omit [FloatOps F] in
/-- The pipeline's own waits come before the slabs that are owed. -/
theorem mayWait_stage (c : Dev nD) (q : DmaSem sig) (hq : SemLoc.dma q ≠ osem (0, 1) ∧ SemLoc.dma q ≠ osem (1, 1)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨j, rfl⟩ := O₀_pos hg; exact Finset.mem_singleton_self _)
      (fun p hp => by rw [Finset.mem_singleton.mp hp]; dsimp only [lv]; rw [if_neg (not_or.mpr hq)])
      (fun g u hg => by obtain ⟨j, rfl⟩ := O₀_pos hg; rw [lv_in]; exact Nat.one_pos)
  · rw [MayWait_zero]; iintro -; iempintro

/-! ## The cells -/

omit [FloatOps F] in
theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

abbrev talkCells : Finset (GSem nD τ sig) := Finset.univ.map ⟨kcell, kcell_injective⟩
abbrev talkToks : Finset (GSem nD τ sig × ℕ × Unit) := Finset.univ.map ⟨fun ck => (kcell ck, 0, ()), fun _ _ h => kcell_injective (congrArg Prod.fst h)⟩
def u₀ : UU := (Rounds.initOf (Pipeline.cells cfgs cellOf_inj) (Pipeline.launchToks cfgs cellOf_inj), Rounds.initOf talkCells talkToks)

def G (c : Dev nD) : sProp 𝕄 :=
  iprop((bigSep Finset.univ fun k => roundState ER (talk m) (kcell (c, k)) 0) ∗ (bigSep Finset.univ fun k => reached ER (kcell (c, k)) 0)
    ∗ (bigSep Finset.univ fun k => atPos ER (kcell (c, k)) 0 ∅ 0) ∗ bigSep Finset.univ fun k => dutyTok ER (kcell (c, k)) 0 ())

omit [FloatOps F] in
theorem fund : BI.own (ER (Rounds.initOf talkCells talkToks)) ⊢ (|==> bigSep Finset.univ (G m) : sProp 𝕄) := by
  have each (Φ : GSem nD τ sig → sProp 𝕄) : bigSep talkCells Φ = bigSep Finset.univ fun c => bigSep Finset.univ fun k => Φ (kcell (c, k)) := by
    unfold talkCells; rw [bigSep_map, bigSep_univ_prod]; rfl
  have each' : (bigSep talkToks fun x => (dutyTok ER x.1 x.2.1 x.2.2 : sProp 𝕄))
      = bigSep Finset.univ fun c => bigSep Finset.univ fun k => dutyTok ER (kcell (c, k)) 0 () := by
    unfold talkToks; rw [bigSep_map, bigSep_univ_prod]; rfl
  iintro HX
  imod (Rounds.fund ER (talk m) talkCells talkToks) $$ HX with ⟨Hst, Hr, Hat, Htok⟩
  imodintro
  unfold G
  simp only [bigSep_sep']
  isplitl [Hst]; · iapply (Entails.of_eq (each fun g => roundState ER (talk m) g 0)); iexact Hst
  isplitl [Hr]; · iapply (Entails.of_eq (each fun g => reached ER g 0)); iexact Hr
  isplitl [Hat]; · iapply (Entails.of_eq (each fun g => atPos ER g 0 ∅ 0)); iexact Hat
  iapply (Entails.of_eq each'); iexact Htok

omit [FloatOps F] in
theorem ownSems0_eq (c : Dev nD) :
    (Pipeline.ownSems0 (Ix := Unit) (Name := ℕ) (U := UU) (Lvl := ℕ) (Val := Elt F) (τ := τ) osem c : sProp 𝕄)
      = bigSep Finset.univ fun k => semVal (kcell (c, k)) 0 := rfl

omit [FloatOps F] in
theorem opened (c : Dev nD) :
    iprop((bigSep Finset.univ fun k => semVal (kcell (c, k)) 0) ∗ bigSep Finset.univ fun k => roundState ER (talk m) (kcell (c, k)) 0)
      ⊢ (|={Set.univ}=> bigSep Finset.univ fun k => iprop(∃ κ : ℕ, cellInv ER (talk m) κ (kcell (c, k))) : sProp 𝕄) := by
  rw [← bigSep_sep']
  exact (bigSep_mono fun k _ => (Rounds.body_intro ER (talk m) (kcell (c, k))).trans inv_alloc).trans (bigSep_fupd _ _)

abbrev both (c : Dev nD) : sProp 𝕄 := iprop(keeps m 0 c ∗ keeps m 1 c)

omit [FloatOps F] in
/-- A device's part, sorted: the open cells, what it keeps and what it hands on. -/
theorem dealt (c : Dev nD) :
    iprop(Pipeline.unscopedRestP Pipeline.Prefetch.none spec0 c (fun b => m ((c.tc : Thread nD τ).loc b))
        ∗ Pipeline.ownSems0 (Ix := Unit) (Name := ℕ) (U := UU) (Lvl := ℕ) (Val := Elt F) (τ := τ) osem c ∗ unscopedSems0 c ∗ G m c)
      ⊢ (|={Set.univ}=> iprop((bigSep Finset.univ fun k => iprop(∃ κ : ℕ, cellInv ER (talk m) κ (kcell (c, k))))
          ∗ (bigSep Finset.univ fun k => reached ER (kcell (c, k)) 0) ∗ both m c ∗ hands 0 c ∗ hands 1 c) : sProp 𝕄) := by
  rw [Pipeline.unscopedRestP_none, unscopedRest0_eq, ownSems0_eq]
  unfold G
  rw [bigSep_four (fun k => atPos ER (kcell (c, k)) 0 ∅ 0), bigSep_four (fun k => dutyTok ER (kcell (c, k)) 0 ())]
  iintro ⟨⟨Ha, Hv⟩, Hz, -, Hst, Hr, ⟨A00, A01, A10, A11⟩, T00, T01, T10, T11⟩
  imod (opened m c) $$ [Hz Hst] with HI
  · isplitl [Hz]; · iexact Hz
    iexact Hst
  ihave Ha' := (sent_split m c).1 $$ Ha
  icases Ha' with ⟨W0, W1⟩
  ihave Hv' := (slots_split c _).1 $$ Hv
  icases Hv' with ⟨S0, S1⟩
  imodintro
  unfold both keeps hands
  isplitl [HI]; · iexact HI
  isplitl [Hr]; · iexact Hr
  isplitl [A00 A01 T00 W0 A10 A11 T10 W1]
  · isplitl [A00 A01 T00 W0]
    · isplitl [A00]; · iexact A00
      isplitl [A01]; · iexact A01
      isplitl [T00]; · iexact T00
      iexact W0
    isplitl [A10]; · iexact A10
    isplitl [A11]; · iexact A11
    isplitl [T10]; · iexact T10
    iexact W1
  isplitl [T01 S0]
  · isplitl [T01]; · iexact T01
    iexists _; iexact S0
  isplitl [T11]; · iexact T11
  iexists _; iexact S1

def G' (c : Dev nD) : sProp 𝕄 := iprop(∃ K, records m K ∗ both m c ∗ hands 0 (peer 0 c) ∗ hands 1 (peer 1 c))

omit [FloatOps F] in
/-- What is handed on goes to the device that will write. -/
theorem regroup : (bigSep Finset.univ fun c => iprop((bigSep Finset.univ fun k => iprop(∃ κ : ℕ, cellInv ER (talk m) κ (kcell (c, k))))
      ∗ (bigSep Finset.univ fun k => reached ER (kcell (c, k)) 0) ∗ both m c ∗ hands 0 c ∗ hands 1 c) : sProp 𝕄) ⊢ bigSep Finset.univ (G' m) := by
  rw [bigSep_sep', bigSep_sep', bigSep_sep' _ (both m), bigSep_sep' _ (fun c => hands 0 c),
    ← bigSep_univ_prod (fun ck => iprop(∃ κ : ℕ, cellInv ER (talk m) κ (kcell ck))), ← bigSep_univ_prod (fun ck => reached ER (kcell ck) 0)]
  iintro ⟨HI, #HR, HK, H0, H1⟩
  ihave H0' := (Entails.of_eq (bigSep_univ_equiv (swap 0) (fun c => hands (F := F) 0 c))) $$ H0
  ihave H1' := (Entails.of_eq (bigSep_univ_equiv (swap 1) (fun c => hands (F := F) 1 c))) $$ H1
  ihave HE := (BI.bigSep_exists_pi Finset.univ (fun ck (κ : ℕ) => cellInv ER (talk m) κ (kcell ck))) $$ HI
  icases HE with ⟨%K, #HC⟩
  iapply (bigSep_with_persistent (R := records m K) (Φ := fun c => iprop(both m c ∗ hands 0 (peer 0 c) ∗ hands 1 (peer 1 c))) (Ψ := G' m)
    (fun c _ => by unfold G'; iintro ⟨#HP, H⟩; iexists K; isplitr; · iexact HP
                   iexact H))
  isplitr
  · unfold records; isplitr; · iexact HC
    iexact HR
  rw [bigSep_sep' _ (both m), bigSep_sep' _ (fun c => hands 0 (peer 0 c))]
  isplitl [HK]; · iexact HK
  isplitl [H0']; · iexact H0'
  iexact H1'

omit [FloatOps F] in
theorem glob : (bigSep Finset.univ fun c => iprop(Pipeline.unscopedRestP Pipeline.Prefetch.none spec0 c (fun b => m ((c.tc : Thread nD τ).loc b))
        ∗ Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dealt m c).trans (bigSep_fupd _ _)).trans (BI.fupd_mono (regroup m))

/-! ## The launch credit -/

theorem owed_in (j : Fin 2) (d c : Dev nD) : O₀ d (kcell (c, (j, 1))) () = if d = peer j c then N else 0 := by
  have e (i : Fin 2) : (tallyAt (kcell (peer i d, (i, 1))) () N : CellTallies nD τ sig Unit) (kcell (c, (j, 1))) () = if i = j ∧ d = peer j c then N else 0 := by
    rw [tallyAt_apply]
    refine if_congr ⟨fun h => ?_, fun h => ?_⟩ rfl rfl
    · have h' := kcell_injective h.1
      have hj : j = i := congrArg (fun x : Dev nD × (Fin 2 × Fin 2) => x.2.1) h'
      have hc : c = peer i d := congrArg Prod.fst h'
      subst hj
      exact ⟨rfl, by rw [hc, peer_peer]⟩
    · obtain ⟨rfl, rfl⟩ := h
      exact ⟨by rw [peer_peer], rfl⟩
  unfold O₀
  rw [Pi.add_apply, Finsupp.add_apply, e 1, e 0]
  match j with
  | 0 => simp
  | 1 => simp

theorem launch_in (j : Fin 2) (c : Dev nD) :
    tallyOn (kcell (c, (j, 1))) (launchCredit (Pipeline.owing O₀) 0 (kcell (c, (j, 1)))) = (tallyAt (kcell (c, (j, 1))) () N : CellTallies nD τ sig Unit) := by
  unfold tallyAt; refine congrArg _ (Finsupp.ext fun u => ?_); cases u
  rw [Pipeline.launchCredit_owing, Finsupp.single_eq_same, Finset.sum_congr rfl fun d _ => owed_in j d c,
    Finset.sum_ite_eq' Finset.univ (peer j c) fun _ => N, if_pos (Finset.mem_univ _)]

omit [FloatOps F] in
theorem creds (c : Dev nD) : (Pipeline.launchCred O₀ c : sProp 𝕄)
    ⊢ iprop(cred (tallyAt (kcell (c, (0, 1))) () N) ∗ cred (tallyAt (kcell (c, (1, 1))) () N)) := by
  unfold Pipeline.launchCred
  rw [bigSep_univ_at _ (osem (0, 1)), launch_in 0 c]
  refine sep_mono_right ?_
  rw [← launch_in 1 c]
  exact bigSep_elim (Finset.mem_erase.mpr ⟨osem_inj.ne (by decide : ((1, 1) : Fin 2 × Fin 2) ≠ (0, 1)), Finset.mem_univ _⟩)

omit [FloatOps F] in
theorem start (c : Dev nD) : iprop(levAts L lv ∗ Pipeline.launchCred O₀ c ∗ prngReg c (ρ c) ∗ G' m c)
    ⊢ (|={Set.univ}=> iprop((ready m 0 c ∗ ready m 1 c) ∗ emp) : sProp 𝕄) := by
  iintro ⟨-, Hcr, -, HG⟩
  ihave Hc := (creds (F := F) c) $$ Hcr
  icases Hc with ⟨C0, C1⟩
  unfold G' both
  icases HG with ⟨%K, #HR, ⟨K0, K1⟩, H0, H1⟩
  imodintro
  isplitl
  · unfold ready
    isplitl [K0 H0 C0]
    · isplitr [C0]
      · iexists K
        isplitr; · iexact HR
        isplitl [K0]; · iexact K0
        iexact H0
      iexact C0
    isplitr [C1]
    · iexists K
      isplitr; · iexact HR
      isplitl [K1]; · iexact K1
      iexact H1
    iexact C1
  · iempintro

end Cert.Wup
-- ==== Proof.WupGrid.lean ====
/-
# `wgrad_up` over its grid

The accumulator of a half of the columns runs through four points; the transfers leave at the first point of all and are
waited for at the last.
-/
module

public import proofs.«01_k».proof.Proof.WupRuns
public import proofs.«01_k».proof.Proof.WupLaunch

@[expose] public section

set_option maxRecDepth 16384

noncomputable section

namespace Cert.Wup

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The points -/

def left (c : Dev nD) (t : Fin cfg0.N) : Vec F S1024x1024 .bf16 :=
  ((cfg0.win 0).blk t).view.read (Elt F) (m ((c : Thread nD τ).loc (Pipeline.arrRef spec0 0)))
def right (c : Dev nD) (t : Fin cfg0.N) : Vec F S1024x2048 .bf16 :=
  ((cfg0.win 1).blk t).view.read (Elt F) (m ((c : Thread nD τ).loc (Pipeline.arrRef spec0 1)))

/-- The accumulator after point `n`. -/
def accAt (c : Dev nD) : (n : ℕ) → n < cfg0.N → Vec F S1024x2048 .f32
  | 0, h => k0_pay2 k0_pay1 (left m c ⟨0, h⟩) (right m c ⟨0, h⟩)
  | n + 1, h => k0_pay2 (if (n + 1) % 4 = 0 then k0_pay1 else accAt c n (Nat.lt_of_succ_lt h)) (left m c ⟨n + 1, h⟩) (right m c ⟨n + 1, h⟩)

theorem acc_fresh (c : Dev nD) (t : Fin cfg0.N) (h : t.val % 4 = 0) : accAt m c t.val t.isLt = k0_pay2 k0_pay1 (left m c t) (right m c t) := by
  obtain ⟨n, hn⟩ := t
  cases n with
  | zero => rfl
  | succ n =>
    show k0_pay2 (if (n + 1) % 4 = 0 then k0_pay1 else accAt m c n (Nat.lt_of_succ_lt hn)) _ _ = _
    rw [if_pos h]
theorem acc_more (c : Dev nD) (t : Fin cfg0.N) (h : t.val % 4 ≠ 0) :
    accAt m c t.val t.isLt = k0_pay2 (accAt m c (t.val - 1) (lt_of_le_of_lt (Nat.sub_le _ _) t.isLt)) (left m c t) (right m c t) := by
  obtain ⟨n, hn⟩ := t
  cases n with
  | zero => exact absurd rfl h
  | succ n =>
    show k0_pay2 (if (n + 1) % 4 = 0 then k0_pay1 else accAt m c n (Nat.lt_of_succ_lt hn)) _ _ = _
    rw [if_neg h]
    rfl

abbrev scr : Memref sig .tc .vmem S1024x2048 .f32 := Memref.whole cc0_scratch0

/-- What a device holds before point `n`. -/
def Inv (c : Dev nD) : (n : ℕ) → n ≤ cfg0.N → sProp 𝕄
  | 0, _ => iprop((ready m 0 c ∗ ready m 1 c) ∗ ∃ d, owns (c : Thread nD τ) scr fullShare d)
  | n + 1, h => if n = 7 then iprop((settled m 0 c ∗ settled m 1 c) ∗ ∃ d, owns (c : Thread nD τ) scr fullShare d)
      else iprop((flying m 0 c ∗ flying m 1 c) ∗ owns (c : Thread nD τ) scr fullShare (accAt m c n h))

theorem Inv_first (c : Dev nD) (n : ℕ) (h) (h0 : n = 0) :
    Inv m c n h = iprop((ready m 0 c ∗ ready m 1 c) ∗ ∃ d, owns (c : Thread nD τ) scr fullShare d) := by
  subst h0; rfl
theorem Inv_before (c : Dev nD) (t : Fin cfg0.N) (h) (h0 : t.val ≠ 0) :
    Inv m c t.val h = iprop((flying m 0 c ∗ flying m 1 c)
      ∗ owns (c : Thread nD τ) scr fullShare (accAt m c (t.val - 1) (lt_of_le_of_lt (Nat.sub_le _ _) t.isLt))) := by
  obtain ⟨n, hn⟩ := t
  cases n with
  | zero => exact absurd rfl h0
  | succ n =>
    have h8 : n + 1 < 8 := lt_of_lt_of_eq hn N_0
    exact if_neg (show ¬n = 7 by omega)
theorem Inv_after (c : Dev nD) (n : ℕ) (h : n + 1 ≤ cfg0.N) (h7 : n ≠ 7) :
    Inv m c (n + 1) h = iprop((flying m 0 c ∗ flying m 1 c) ∗ owns (c : Thread nD τ) scr fullShare (accAt m c n h)) := if_neg h7
theorem Inv_end (c : Dev nD) (n : ℕ) (h : n + 1 ≤ cfg0.N) (h7 : n = 7) :
    Inv m c (n + 1) h = iprop((settled m 0 c ∗ settled m 1 c) ∗ ∃ d, owns (c : Thread nD τ) scr fullShare d) := if_pos h7
theorem Inv_last (c : Dev nD) (n : ℕ) (h : n ≤ cfg0.N) (h8 : n = 8) :
    Inv m c n h = iprop((settled m 0 c ∗ settled m 1 c) ∗ ∃ d, owns (c : Thread nD τ) scr fullShare d) := by
  subst h8; exact Inv_end m c 7 h rfl

def dats (_ : Fin 1) (c : Dev nD) : Dat τ (Elt F) Unit ℕ UU ℕ cfg0 c where
  A w := m ((c : Thread nD τ).loc (Pipeline.arrRef spec0 w))
  after w t := match w with
    | ⟨0, _⟩ => left m c t
    | ⟨1, _⟩ => right m c t
    | ⟨2, _⟩ => parts (accAt m c t.val t.isLt)
  Φ t := Inv m c t.val (Nat.le_of_lt_succ t.isLt)
  q _ := fullShare
  owed t := if t.val = 0 then O₀ c else 0

theorem before_left (c : Dev nD) (t : Fin cfg0.N) (d) : (dats m 0 c).before 0 t d = left m c t :=
  ((dats m 0 c).before_in_eq_fetched 0 rfl (fun _ => rfl) (fun _ _ _ => rfl) (fun _ => rfl) t d).trans rfl
theorem before_right (c : Dev nD) (t : Fin cfg0.N) (d) : (dats m 0 c).before 1 t d = right m c t :=
  ((dats m 0 c).before_in_eq_fetched 1 rfl (fun _ => rfl) (fun _ _ _ => rfl) (fun _ => rfl) t d).trans rfl
theorem leaves_left (c : Dev nD) (t : Fin cfg0.N) : (dats m 0 c).leavesExact 0 t = owns (c : Thread nD τ) (st0_0 t) fullShare (left m c t) := by
  unfold Dat.leavesExact; rw [show cfg0.idle 0 (grid0.coords t) = false from rfl]; rfl
theorem leaves_right (c : Dev nD) (t : Fin cfg0.N) : (dats m 0 c).leavesExact 1 t = owns (c : Thread nD τ) (st0_1 t) fullShare (right m c t) := by
  unfold Dat.leavesExact; rw [show cfg0.idle 1 (grid0.coords t) = false from rfl]; rfl
theorem leaves_parts (c : Dev nD) (t : Fin cfg0.N) (h : t.val % 4 = 3) :
    (dats m 0 c).leavesExact 2 t = owns (c : Thread nD τ) (st0_2 t) fullShare (parts (accAt m c t.val t.isLt)) := by
  have e : cfg0.idle 2 (grid0.coords t) = false := (by decide +kernel : ∀ t : Fin grid0.N, t.val % 4 = 3 → idle0 2 (grid0.coords t) = false) t h
  unfold Dat.leavesExact; rw [e]; rfl
theorem leaves_alone (c : Dev nD) (t : Fin cfg0.N) (h : t.val % 4 ≠ 3) :
    (dats m 0 c).leavesExact 2 t = iprop(∃ d, owns (c : Thread nD τ) (st0_2 t) fullShare ((dats m 0 c).before 2 t d)) := by
  have e : cfg0.idle 2 (grid0.coords t) = true := (by decide +kernel : ∀ t : Fin grid0.N, t.val % 4 ≠ 3 → idle0 2 (grid0.coords t) = true) t h
  exact Dat.leavesExact_idle (dats m 0 c) 2 t e (Bool.eq_false_iff.mpr fun e => h ((flush0_2 t).mp e))

theorem owed_first (c : Dev nD) (t : Fin (cfg0.N + 1)) (h : t.val = 0) : (dats m 0 c).owed t = O₀ c := if_pos h
theorem owed_later (c : Dev nD) (t : Fin (cfg0.N + 1)) (h : t.val ≠ 0) : (dats m 0 c).owed t = 0 := if_neg h
theorem owes_open (c : Dev nD) (t : Fin (cfg0.N + 1)) (O) (h : (dats m 0 c).owed t = O) :
    ((dats m 0 c).owesAt () t : sProp 𝕄) ⊢ iprop(∃ W, owes (c : Thread nD τ) O W) := by
  subst h
  unfold Dat.owesAt Pipeline.owesWithin
  iintro ⟨%W, %hW, HO⟩
  iexists W; iexact HO
theorem owes_close (c : Dev nD) (t : Fin (cfg0.N + 1)) (W) (h : (dats m 0 c).owed t = 0) :
    (owes (c : Thread nD τ) 0 W : sProp 𝕄) ⊢ (dats m 0 c).owesAt () t := by
  unfold Dat.owesAt Pipeline.owesWithin
  rw [h]
  iintro HO
  iexists W
  isplitr
  · ipureintro; exact fun _ _ => Or.inl trivial
  iexact HO

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 400000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before_left, before_right]
  rw [leaves_left, leaves_right, show (dats m 0 c).Φ t.castSucc = Inv m c t.val (Nat.le_of_lt t.isLt) from rfl,
    show (dats m 0 c).Φ t.succ = Inv m c (t.val + 1) t.isLt from rfl]
  have hN : t.val < 8 := lt_of_lt_of_eq t.isLt N_0
  have hclose (W) := owes_close m c t.succ W (owed_later m c t.succ (Nat.succ_ne_zero _))
  by_cases h0 : t.val = 0
  · rw [Inv_first m c _ _ h0, Inv_after m c _ _ (by omega), leaves_alone m c t (by omega), acc_fresh m c t (by omega)]
    iintro ⟨⟨⟨R0, R1⟩, ⟨%d, HS⟩⟩, Ho, ⟨%d0, H0⟩, ⟨%d1, H1⟩, ⟨%d2, H2⟩⟩
    ihave HO := (owes_open m c t.castSucc (O₀ c) (owed_first m c t.castSucc h0)) $$ Ho
    icases HO with ⟨%W, HO⟩
    iapply (run_first m c (grid0.coords t) _ _ _ _ _ _ _ _ (left m c t) (right m c t) d W ((starts t).mpr h0) ((fresh t).mpr (by omega))
      (fun h => by have := (stores t).mp h; omega) (fun h => by have := (ends t).mp h; omega) _)
    isplitl [R0]; · iexact R0
    isplitl [R1]; · iexact R1
    isplitl [HO]; · iexact HO
    isplitl [H0]; · iexact H0
    isplitl [H1]; · iexact H1
    isplitl [HS]; · iexact HS
    iintro ⟨F0, F1, HO, H0, H1, HS⟩
    isplitl [F0 F1 HS]
    · isplitl [F0 F1]; · isplitl [F0]; · iexact F0
                         iexact F1
      iexact HS
    isplitl [HO]; · iapply (hclose W); iexact HO
    isplitl [H0]; · iexact H0
    isplitl [H1]; · iexact H1
    iexists d2; iexact H2
  · have hopen := owes_open m c t.castSucc 0 (owed_later m c t.castSucc h0)
    have n1 : ¬k0_cond1 (grid0.coords t) = 1#1 := fun h => h0 ((starts t).mp h)
    rw [Inv_before m c t _ h0]
    by_cases h7 : t.val = 7
    · rw [Inv_end m c _ _ h7, leaves_parts m c t (by omega), acc_more m c t (by omega)]
      iintro ⟨⟨⟨F0, F1⟩, HS⟩, Ho, ⟨%d0, H0⟩, ⟨%d1, H1⟩, ⟨%d2, H2⟩⟩
      ihave HO := hopen $$ Ho
      icases HO with ⟨%W, HO⟩
      iapply (run_last m c (grid0.coords t) _ _ _ _ _ _ _ _ (left m c t) (right m c t) _ W n1 (fun h => by have := (fresh t).mp h; omega)
        ((stores t).mpr (by omega)) ((ends t).mpr h7) _)
      isplitl [F0]; · iexact F0
      isplitl [F1]; · iexact F1
      isplitl [HO]; · iexact HO
      isplitl [H0]; · iexact H0
      isplitl [H1]; · iexact H1
      isplitl [H2]; · iexists _; iexact H2
      isplitl [HS]; · iexact HS
      iintro ⟨S0, S1, ⟨%W', HO⟩, H0, H1, H2, HS⟩
      isplitl [S0 S1 HS]
      · isplitl [S0 S1]; · isplitl [S0]; · iexact S0
                           iexact S1
        iexists _; iexact HS
      isplitl [HO]; · iapply (hclose W'); iexact HO
      isplitl [H0]; · iexact H0
      isplitl [H1]; · iexact H1
      iexact H2
    · have n4 : ¬k0_cond4 (grid0.coords t) = 1#1 := fun h => h7 ((ends t).mp h)
      rw [Inv_after m c _ _ h7]
      iintro ⟨⟨HF, HS⟩, Ho, ⟨%d0, H0⟩, ⟨%d1, H1⟩, ⟨%d2, H2⟩⟩
      ihave HO := hopen $$ Ho
      icases HO with ⟨%W, HO⟩
      by_cases h3 : t.val % 4 = 3
      · rw [leaves_parts m c t h3, acc_more m c t (by omega)]
        iapply (run_store c (grid0.coords t) _ _ _ _ _ _ _ _ (left m c t) (right m c t) _ n1 (fun h => by have := (fresh t).mp h; omega)
          ((stores t).mpr h3) n4 _)
        isplitl [H0]; · iexact H0
        isplitl [H1]; · iexact H1
        isplitl [H2]; · iexists _; iexact H2
        isplitl [HS]; · iexact HS
        iintro ⟨H0, H1, H2, HS⟩
        isplitl [HF HS]
        · isplitl [HF]; · iexact HF
          iexact HS
        isplitl [HO]; · iapply (hclose W); iexact HO
        isplitl [H0]; · iexact H0
        isplitl [H1]; · iexact H1
        iexact H2
      · have n3 : ¬k0_cond3 (grid0.coords t) = 1#1 := fun h => h3 ((stores t).mp h)
        rw [leaves_alone m c t h3]
        by_cases h4 : t.val % 4 = 0
        · rw [acc_fresh m c t h4]
          iapply (run_again c (grid0.coords t) _ _ _ _ _ _ _ _ (left m c t) (right m c t) _ n1 ((fresh t).mpr h4) n3 n4 _)
          isplitl [H0]; · iexact H0
          isplitl [H1]; · iexact H1
          isplitl [HS]; · iexact HS
          iintro ⟨H0, H1, HS⟩
          isplitl [HF HS]
          · isplitl [HF]; · iexact HF
            iexact HS
          isplitl [HO]; · iapply (hclose W); iexact HO
          isplitl [H0]; · iexact H0
          isplitl [H1]; · iexact H1
          iexists d2; iexact H2
        · rw [acc_more m c t h4]
          iapply (run_middle c (grid0.coords t) _ _ _ _ _ _ _ _ (left m c t) (right m c t) _ n1 (fun h => h4 ((fresh t).mp h)) n3 n4 _)
          isplitl [H0]; · iexact H0
          isplitl [H1]; · iexact H1
          isplitl [HS]; · iexact HS
          iintro ⟨H0, H1, HS⟩
          isplitl [HF HS]
          · isplitl [HF]; · iexact HF
            iexact HS
          isplitl [HO]; · iapply (hclose W); iexact HO
          isplitl [H0]; · iexact H0
          isplitl [H1]; · iexact H1
          iexists d2; iexact H2

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

/-! ## The whole run -/

/-- What is left at the end besides the semaphores. -/
abbrev kept (c : Dev nD) : sProp 𝕄 :=
  iprop((wholeAt m 0 c ∗ wholeAt m 1 c) ∗ slotAt 0 c (landed m c) ∗ slotAt 1 c (landed m c))

theorem enter (c : Dev nD) :
    iprop((ready m 0 c ∗ ready m 1 c) ∗ Pipeline.prefHeld Pipeline.Prefetch.none c (fun _ => fullShare.right) (fun k => k.elim0) ∗ Pipeline.scopedRest spec0 c)
      ⊢ (dats m 0 c).Φ 0 := by
  rw [show (dats m 0 c).Φ 0 = Inv m c 0 (Nat.zero_le _) from rfl, Inv_first m c 0 _ rfl, scopedRest0_eq]
  iintro ⟨HR, -, ⟨%f, HS⟩⟩
  isplitl [HR]; · iexact HR
  iexists f; rw [owns_whole]; iexact HS

theorem leave (c : Dev nD) :
    (dats m 0 c).Φ (Fin.last cfg0.N) ⊢ iprop(kept m c ∗ Pipeline.ownSems0 osem c ∗ Pipeline.scopedRest spec0 c) := by
  rw [show (dats m 0 c).Φ (Fin.last cfg0.N) = Inv m c cfg0.N le_rfl from rfl, Inv_last m c _ _ N_0, scopedRest0_eq, ownSems0_eq, bigSep_four]
  unfold settled
  iintro ⟨⟨⟨Z00, Z01, W0, S0⟩, Z10, Z11, W1, S1⟩, ⟨%d, HS⟩⟩
  isplitl [W0 W1 S0 S1]
  · isplitl [W0 W1]
    · isplitl [W0]; · iexact W0
      iexact W1
    isplitl [S0]; · iexact S0
    iexact S1
  isplitl [Z00 Z01 Z10 Z11]
  · isplitl [Z00]; · iexact Z00
    isplitl [Z01]; · iexact Z01
    isplitl [Z10]; · iexact Z10
    iexact Z11
  iexists d; rw [← owns_whole]; iexact HS

omit [FloatOps F] in
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%e, H⟩
  isplitr
  · ipureintro; exact e () (Finset.mem_singleton_self _)
  iexact H

def Seen (c : Dev nD) (s : MemSt nD τ sig (Elt F)) : Prop :=
  s.mem ((c : Thread nD τ).loc main_arg2) = m ((c : Thread nD τ).loc main_arg2) ∧ s.mem ((c : Thread nD τ).loc main_v1_1) = landed m c

omit [FloatOps F] in
theorem read_kept (c : Dev nD) (s' : Phys nD τ sig (Elt F)) :
    iprop(kept m c ∗ emp ∗ SI s') ⊢ (|={Set.univ}=> iprop(⌜Seen m c s'.mem⌝ ∗ SI s') : sProp 𝕄) := by
  unfold kept
  iintro ⟨⟨HW, HS⟩, -, HSI⟩
  ihave Ha := (sent_split m c).2 $$ HW
  ihave Hv := (slots_split c (landed m c)).2 $$ HS
  ihave H1 := (read_one _ _ s') $$ [Ha HSI]
  · isplitl [Ha]; · iexact Ha
    iexact HSI
  icases H1 with ⟨%e1, HSI⟩
  ihave H2 := (read_one _ _ s') $$ [Hv HSI]
  · isplitl [Hv]; · iexact Hv
    iexact HSI
  icases H2 with ⟨%e2, HSI⟩
  imodintro
  isplitr
  · ipureintro; exact ⟨e1, e2⟩
  iexact HSI

theorem ownSemFacts : Pipeline.OwnSemFacts cfg0.spec osem := by decide

end Cert.Wup
-- ==== Proof.WupStart.lean ====
/-
# `wgrad_up` from the start of the devices to their end

First each device's holdings at the start are sorted into what it keeps and what goes round: the landing array and the
four semaphores have to be with the writers before any device starts. Then the staging cells and the exchange are opened
for all devices at once, after which each device holds all that its call asks for. The end is read device by device.
-/
module

public import proofs.«01_k».proof.Proof.WupGrid

@[expose] public section

set_option maxRecDepth 16384

noncomputable section

namespace Cert.Wup

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What a device starts with -/

/-- Kept by the device until its call begins. -/
def keeping (c : Dev nD) : sProp 𝕄 :=
  iprop((dats m 0 c).arrays ((dats m 0 c).arrAt · 0) ∗ owes (c : Thread nD τ) (O₀ c) ∅ ∗ Pipeline.launchCred O₀ c ∗ prngReg c (ρ c)
    ∗ Pipeline.idleSems0 cfgs cellOf_inj 0 ownSemFacts c ∗ scopedBufs (c : Thread nD τ))

/-- Put together with the other devices': the arrays no window stages and the semaphores of the exchange. -/
def pooled (c : Dev nD) : sProp 𝕄 :=
  iprop(Pipeline.unscopedRestP Pipeline.Prefetch.none spec0 c (fun b => m ((c.tc : Thread nD τ).loc b))
    ∗ Pipeline.ownSems0 (Ix := Unit) (Name := ℕ) (U := UU) (Lvl := ℕ) (Val := Elt F) (τ := τ) osem c ∗ unscopedSems0 c)

theorem shares (c : Dev nD) (w : Fin cfg0.W) : (dats m 0 c).share w = fullShare := by unfold Dat.share; split <;> rfl

theorem array_parts (c : Dev nD) : (unscopedBufs c (fun b => m ((c.tc : Thread nD τ).loc b)) : sProp 𝕄)
    ⊢ iprop((dats m 0 c).arrays ((dats m 0 c).arrAt · 0)
        ∗ Pipeline.unscopedRestP Pipeline.Prefetch.none spec0 c (fun b => m ((c.tc : Thread nD τ).loc b))) := by
  rw [Pipeline.unscopedRestP_none]
  exact Pipeline.arrays_of_unscopedBufs (fun p => (cfgs p).toPCfg) (fun p => (cfgs p).toPCfg_adm) (dats m) (p := 0)
    winFacts0 arr_whole0 c (shares m c) _ fun _ => rfl

theorem sorted (c : Dev nD) :
    coreInit (Ix := Unit) (Name := ℕ) (U := UU) (Lvl := ℕ) (Pipeline.owing O₀) 0 (⟨m, fun _ => 0, ρ⟩ : MemSt nD τ sig (Elt F)) (c.tc : Thread nD τ)
      ⊢ iprop(keeping m ρ c ∗ pooled m c ∗ Pipeline.cellsSems0 cfgs 0 c ∗ levels0 c) := by
  have hs := Entails.of_eq (Pipeline.scopedSems0_split (Ix := Unit) (Val := Elt F) (Name := ℕ) (U := UU) (Lvl := ℕ) (τ := τ)
    cfgs cellOf_inj 0 winFacts0.to₀ ownSemFacts c)
  refine (Pipeline.coreInit_boundary_owing O₀ m ρ c).trans ?_
  unfold boundary keeping pooled
  iintro ⟨⟨HB, HZ, -⟩, HA, HU, HO, HV, HP, HC⟩
  ihave HA' := (array_parts m c) $$ HA
  icases HA' with ⟨HA, HR⟩
  ihave HZ' := hs $$ HZ
  icases HZ' with ⟨⟨HZ, HX⟩, HI⟩
  isplitl [HA HO HC HP HI HB]
  · isplitl [HA]; · iexact HA
    isplitl [HO]; · iexact HO
    isplitl [HC]; · iexact HC
    isplitl [HP]; · iexact HP
    isplitl [HI]; · iexact HI
    iexact HB
  isplitl [HR HX HU]
  · isplitl [HR]; · iexact HR
    isplitl [HX]; · iexact HX
    iexact HU
  isplitl [HZ]; · iexact HZ
  iexact HV

/-! ## All devices at once -/

omit [FloatOps F] in
/-- Only the first core of a device has cells to wait at. -/
theorem no_other (x : Thread nD τ) (hx : x.2 ≠ .tc) : (emp : sProp 𝕄) ⊢ coreLevAts x L lv :=
  Entails.of_eq ((bigSep_emp_const Finset.univ).symm.trans (bigSep_congr fun sm _ => by
    rw [L_of_ne (x, sm) hx]; exact bigSep_empty.symm))

omit [FloatOps F] in
theorem order_set : (bigSep Finset.univ fun c : Dev nD => levels0 (Ix := Unit) (Val := Elt F) (Name := ℕ) (U := UU) (Lvl := ℕ) (τ := τ) (sig := sig) c)
    ⊢ (|==> levAts L lv : sProp 𝕄) := by
  have drop (P Q : sProp 𝕄) : iprop(P ∗ Q) ⊢ Q := by iintro ⟨-, H⟩; iexact H
  have one (c : Dev nD) : (levels0 (Ix := Unit) (Val := Elt F) (Name := ℕ) (U := UU) (Lvl := ℕ) (τ := τ) (sig := sig) c) ⊢ (|==> coreLevAts (c.tc : Thread nD τ) L lv : sProp 𝕄) :=
    (lev_assign_cells (c.tc : Thread nD τ) L lv).trans (BI.bupd_mono (drop _ _))
  have join : (bigSep Finset.univ fun c : Dev nD => coreLevAts (c.tc : Thread nD τ) L lv) ⊢ (levAts L lv : sProp 𝕄) := by
    have both : (bigSep Finset.univ fun c : Dev nD => coreLevAts (c.tc : Thread nD τ) L lv) ⊢ (iprop((bigSep Finset.univ fun c : Dev nD => coreLevAts (c.tc : Thread nD τ) L lv)
        ∗ bigSep Finset.univ fun d : Dev nD => bigSep (Finset.univ.erase Proc.tc) fun q => coreLevAts ((d, q) : Thread nD τ) L lv) : sProp 𝕄) := by
      iintro H
      isplitl [H]; · iexact H
      iapply (bigSep_intro_persistent (R := (iprop(emp) : sProp 𝕄)) (S := Finset.univ) fun (d : Dev nD) _ =>
        bigSep_intro_persistent (R := (iprop(emp) : sProp 𝕄)) (S := Finset.univ.erase Proc.tc) fun q hq => no_other ((d, q) : Thread nD τ) (Finset.ne_of_mem_erase hq))
      iempintro
    exact both.trans (Entails.of_eq ((bigSep_univ_prod fun g : GSem nD τ sig => bigSep (L g) fun ι => levAt g ι (lv g ι)).trans
      (bigSep_threads fun x : Thread nD τ => coreLevAts x L lv)).symm)
  exact ((bigSep_mono fun c _ => one c).trans (bigSep_bupd _ _)).trans (BI.bupd_mono join)

omit [FloatOps F] in
theorem single (Φ : Fin 1 → sProp 𝕄) : bigSep Finset.univ Φ = Φ 0 := by
  rw [show (Finset.univ : Finset (Fin 1)) = {0} from rfl, bigSep_singleton]

/-- The staging cells of every device, open. -/
theorem staging_open :
    iprop((bigSep Finset.univ fun c : Dev nD => Pipeline.cellsSems0 cfgs 0 c)
        ∗ BI.own (EP (Rounds.initOf (Pipeline.cells cfgs cellOf_inj) (Pipeline.launchToks cfgs cellOf_inj))))
      ⊢ (|={Set.univ}=> iprop(∃ κ : GSem nD τ sig → ℕ, bigSep Finset.univ fun c : Dev nD =>
          iprop(Pipeline.cellsInit cfgs (dats m) EP κ 0 c ∗ Pipeline.toksInit cfgs EP 0 c)) : sProp 𝕄) := by
  have h := Pipeline.fund cfgs (dats m) EP cellOf_inj (Es := Set.univ)
  simp only [single] at h
  refine h.trans (BI.fupd_mono ?_)
  iintro ⟨%κ, -, H⟩
  iexists κ; iexact H

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      by_cases h : t.val = 0
      · exact Or.inl (if_pos h)
      · exact Or.inr (if_neg h))

theorem owes_begin (c : Dev nD) : (owes (c : Thread nD τ) (O₀ c) ∅ : sProp 𝕄) ⊢ (dats m 0 c).owesAt () 0 := by
  unfold Dat.owesAt Pipeline.owesWithin
  rw [owed_first m c 0 rfl]
  iintro H
  iexists ∅
  isplitr
  · ipureintro; exact fun _ h => absurd h (by simp)
  iexact H

/-- All that the call of a device asks for. -/
def opening (κ : GSem nD τ sig → ℕ) (c : Dev nD) : sProp 𝕄 :=
  iprop(Pipeline.EntryPre cfgs (dats m) () EP κ 0 c
    ∗ Pipeline.prefHeld Pipeline.Prefetch.none c (fun _ => fullShare.right) (fun k => k.elim0)
    ∗ (ready m 0 c ∗ ready m 1 c) ∗ Pipeline.idleSems0 cfgs cellOf_inj 0 ownSemFacts c ∗ scopedBufs (c : Thread nD τ))

omit [FloatOps F] in
theorem no_tables (c : Dev nD) : (emp : sProp 𝕄)
    ⊢ Pipeline.prefHeld Pipeline.Prefetch.none c (fun _ => fullShare.right) (fun k => k.elim0) := by
  unfold Pipeline.prefHeld
  exact Entails.of_eq bigSep_empty.symm

theorem opens (κ : GSem nD τ sig → ℕ) (c : Dev nD) :
    iprop(levAts L lv ∗ keeping m ρ c ∗ G' m c ∗ Pipeline.cellsInit cfgs (dats m) EP κ 0 c ∗ Pipeline.toksInit cfgs EP 0 c)
      ⊢ (|={Set.univ}=> opening m κ c : sProp 𝕄) := by
  unfold keeping opening
  iintro ⟨#HL, ⟨HA, HO, HC, HP, HI, HB⟩, HG, HD, HT⟩
  imod (start m ρ c) $$ [HC HP HG] with ⟨HR, -⟩
  · isplitr; · iexact HL
    isplitl [HC]; · iexact HC
    isplitl [HP]; · iexact HP
    iexact HG
  ihave HW := (waits m c) $$ HL
  imodintro
  isplitl [HA HO HW HD HT]
  · unfold Pipeline.EntryPre Pipeline.PerCore.EntryPre
    isplitl [HA]; · iexact HA
    isplitl [HO]
    · iapply (owes_begin m c); iexact HO
    isplitl [HW]; · iexact HW
    isplitl [HD]; · iexact HD
    iexact HT
  isplitr
  · iapply (no_tables (F := F) c); iempintro
  isplitl [HR]; · iexact HR
  isplitl [HI]; · iexact HI
  iexact HB

theorem all_open :
    iprop((bigSep Finset.univ fun c : Dev nD =>
        coreInit (Ix := Unit) (Name := ℕ) (U := UU) (Lvl := ℕ) (Pipeline.owing O₀) 0 (⟨m, fun _ => 0, ρ⟩ : MemSt nD τ sig (Elt F)) (c.tc : Thread nD τ)) ∗ ownU u₀)
      ⊢ (iprop(|={Set.univ}=> ∃ κ : GSem nD τ sig → ℕ, bigSep Finset.univ (opening m κ) ∗ emp) : sProp 𝕄) := by
  have hsort : (bigSep Finset.univ fun c : Dev nD =>
        coreInit (Ix := Unit) (Name := ℕ) (U := UU) (Lvl := ℕ) (Pipeline.owing O₀) 0 (⟨m, fun _ => 0, ρ⟩ : MemSt nD τ sig (Elt F)) (c.tc : Thread nD τ))
      ⊢ iprop((bigSep Finset.univ (keeping m ρ)) ∗ (bigSep Finset.univ (pooled m)) ∗ (bigSep Finset.univ fun c => Pipeline.cellsSems0 cfgs 0 c)
        ∗ bigSep Finset.univ fun c => levels0 c) := by
    rw [← bigSep_sep', ← bigSep_sep', ← bigSep_sep']
    exact bigSep_mono fun c _ => sorted m ρ c
  have hglob : (bigSep Finset.univ fun c => iprop(pooled m c ∗ G m c)) ⊢ (|={Set.univ}=> bigSep Finset.univ (G' m) : sProp 𝕄) := by
    have flat (A B C D : sProp 𝕄) : iprop((A ∗ B ∗ C) ∗ D) ⊢ iprop(A ∗ B ∗ C ∗ D) := by
      iintro ⟨⟨H1, H2, H3⟩, H4⟩
      isplitl [H1]; · iexact H1
      isplitl [H2]; · iexact H2
      isplitl [H3]; · iexact H3
      iexact H4
    exact BI.Entails.trans (bigSep_mono fun c _ => flat _ _ _ _) (glob m)
  have hopens (κ : GSem nD τ sig → ℕ) : iprop((bigSep Finset.univ fun c : Dev nD => levAts L lv) ∗ bigSep Finset.univ (keeping m ρ) ∗ bigSep Finset.univ (G' m)
      ∗ bigSep Finset.univ fun c => iprop(Pipeline.cellsInit cfgs (dats m) EP κ 0 c ∗ Pipeline.toksInit cfgs EP 0 c))
      ⊢ (|={Set.univ}=> bigSep Finset.univ (opening m κ) : sProp 𝕄) := by
    rw [← bigSep_sep', ← bigSep_sep', ← bigSep_sep']
    exact (bigSep_mono fun c _ => opens m ρ κ c).trans (bigSep_fupd _ _)
  unfold u₀
  iintro ⟨HS, HU⟩
  ihave HS' := hsort $$ HS
  icases HS' with ⟨HK, HQ, HZ, HV⟩
  ihave HU' := (ownU_pair _ _) $$ HU
  icases HU' with ⟨HP, HX⟩
  imod (order_set (F := F)) $$ HV with #HL
  imod (fund m) $$ HX with HG
  imod (staging_open m) $$ [HZ HP] with ⟨%κ, HD⟩
  · isplitl [HZ]; · iexact HZ
    iexact HP
  imod hglob $$ [HQ HG] with HG'
  · rw [bigSep_sep']
    isplitl [HQ]; · iexact HQ
    iexact HG
  imod (hopens κ) $$ [HK HG' HD] with H
  · isplitr
    · iapply (bigSep_intro_persistent (S := Finset.univ) fun (c : Dev nD) _ => (Entails.refl (levAts L lv : sProp 𝕄))); iexact HL
    isplitl [HK]; · iexact HK
    isplitl [HG']; · iexact HG'
    iexact HD
  imodintro
  iexists κ
  isplitl [H]; · iexact H
  iempintro

/-! ## One device -/

/-- What a device holds when it has ended. -/
def closing (c : Dev nD) : sProp 𝕄 :=
  iprop((dats m 0 c).arrays ((dats m 0 c).arrAt · cfg0.N) ∗ kept m c ∗ scopedSems0 (c : Thread nD τ))

theorem gives_back (c : Dev nD) :
    iprop((dats m 0 c).Φ (Fin.last cfg0.N) ∗ Pipeline.cellsSems0 cfgs 0 c ∗ Dat.staging cfg0 c ∗ Pipeline.idleSems0 cfgs cellOf_inj 0 ownSemFacts c)
      ⊢ (iprop(kept m c ∗ scopedSems0 (c : Thread nD τ) ∗ scopedBufs (c : Thread nD τ)) : sProp 𝕄) := by
  iintro ⟨HF, HZ, HB, HI⟩
  ihave HF' := (leave m c) $$ HF
  icases HF' with ⟨HK, HX, HR⟩
  isplitl [HK]; · iexact HK
  isplitl [HZ HX HI]
  · iapply (Entails.of_eq (Pipeline.scopedSems0_split cfgs cellOf_inj 0 winFacts0.to₀ ownSemFacts c).symm)
    isplitl [HZ HX]
    · isplitl [HZ]; · iexact HZ
      iexact HX
    iexact HI
  iapply (Entails.of_eq (Pipeline.scopedBufs_split cfgs 0 winFacts0.stage_scoped winFacts0.stage_inj stage_whole0 c).symm)
  isplitl [HB]; · iexact HB
  iexact HR

theorem runs (κ : GSem nD τ sig → ℕ) (c : Dev nD) :
    opening m κ c ⊢ wp frame (wpE defs (Variants.lift 𝒱₀) (c.tc : Thread nD τ) none) Set.univ (main (F := F) c)
      (fun _ => post (liftTc (closing m) iprop(emp)) (c.tc : Thread nD τ)) := by
  have call : opening m κ c ⊢ iprop(((Pipeline.EntryPost cfgs (dats m) () 0 c ∗ kept m c ∗ scopedSems0 (c : Thread nD τ) ∗ scopedBufs (c : Thread nD τ))
        -∗ wp frame (wpE defs (Variants.lift 𝒱₀) (c.tc : Thread nD τ) none) Set.univ (.ret PUnit.unit) fun _ => post (liftTc (closing m) iprop(emp)) (c.tc : Thread nD τ))
      -∗ wp frame (wpE defs (Variants.lift 𝒱₀) (c.tc : Thread nD τ) none) Set.univ (main (F := F) c) fun _ => post (liftTc (closing m) iprop(emp)) (c.tc : Thread nD τ)) :=
    Pipeline.wp_customCall_entry_frame (fun p => (cfgs p).toPCfg) (fun p => (cfgs p).toPCfg_adm) (dats m) () EP κ cellOf_inj 0
    defs₀ 𝒱₀ (fun _ => fullShare.right) c Set.univ (fun _ _ => Set.mem_univ _) (body_obligation m c).loose block_pos0 none (fun u h => nomatch h)
    (Entails.of_eq (Pipeline.scopedBufs_split cfgs 0 winFacts0.stage_scoped winFacts0.stage_inj stage_whole0 c)) (enter m c) (gives_back m c)
    (α := PUnit) (k := fun _ => .ret ⟨⟩) (Q := fun _ => post (liftTc (closing m) iprop(emp)) (c.tc : Thread nD τ))
  iintro H
  iapply call $$ H
  unfold Pipeline.EntryPost Pipeline.PerCore.EntryPost
  iintro ⟨⟨HA, HO⟩, HK, HZ, -⟩
  rw [wp_ret]; imodintro
  unfold post; simp only [liftTc_tc]
  unfold closing
  isplitr [HO]
  · isplitl [HA]; · iexact HA
    isplitl [HK]; · iexact HK
    iexact HZ
  iapply (owes_open m c (Fin.last cfg0.N) 0 (owed_later m c _ (by decide))); iexact HO

/-! ## The end -/

/-- What the memory shows of one device at the end. -/
def Shows (c : Dev nD) (s : MemSt nD τ sig (Elt F)) : Prop :=
  ((∀ w : Fin cfg0.W, s.mem ((cfg0.win w).arr.view.loc (c : Thread nD τ)) = (dats m 0 c).arrAt w cfg0.N) ∧ Seen m c s)
    ∧ ∀ sm : SemLoc sig, sm.isScoped .tc = true → s.sem ((c.tc : Thread nD τ), sm) = 0

theorem shown (c : Dev nD) (s' : Phys nD τ sig (Elt F)) :
    iprop(closing m c ∗ SI s') ⊢ (iprop(|={Set.univ}=> (⌜Shows m c s'.mem⌝ ∗ SI s')) : sProp 𝕄) := by
  unfold closing
  iintro ⟨⟨HA, HK, HZ⟩, HS⟩
  ihave %z := (tcScoped_read_pers c s') $$ [HZ HS]
  · isplitl [HZ]; · iexact HZ
    iexact HS
  ihave HA' := (Pipeline.arrays_read (fun p => (cfgs p).toPCfg) (fun p => (cfgs p).toPCfg_adm) (dats m) (p := 0) arr_whole0 c (shares m c) _ s') $$ [HA HS]
  · isplitl [HA]; · iexact HA
    iexact HS
  icases HA' with ⟨%a, HS⟩
  imod (read_kept m c s') $$ [HK HS] with ⟨%k, HS⟩
  · isplitl [HK]; · iexact HK
    isplitr; · iempintro
    iexact HS
  imodintro
  isplitr
  · ipureintro; exact ⟨⟨a, k⟩, z⟩
  iexact HS

/-- Every execution ends: the result's array as the points leave it, the slabs landed, and every semaphore at zero. -/
theorem run_main : θ_run defs (onTc (τ := τ) (main (F := F))) ⟨m, fun _ => 0, ρ⟩ fun r =>
    (∀ c : Dev nD, (∀ w : Fin cfg0.W, r.2.mem ((cfg0.win w).arr.view.loc (c : Thread nD τ)) = (dats m 0 c).arrAt w cfg0.N) ∧ Seen m c r.2)
      ∧ r.2.sem = fun _ => 0 := by
  refine adequate_tpu defs _ _ _ (reflect_intro_fupd_tc_sems (Variants.lift 𝒱₀) (Pipeline.owing O₀) 0 (noBookings fun _ => le_rfl) (Pipeline.owing_of_ne O₀) u₀
    (opening m) (fun _ => closing m) (fun _ => iprop(emp)) Set.univ (all_open m ρ) (runs m) fun κ => ?_)
  iintro ⟨HE, -, HN⟩ %s' HS
  ihave %n := (scSems_read_zero m ρ s') $$ [HN HS]
  · isplitl [HN]; · iexact HN
    iexact HS
  imod (posts_fupd Finset.univ (shown m) s') $$ [HE HS] with %e
  · isplitl [HE]; · iexact HE
    iexact HS
  imodintro
  ipureintro
  exact ⟨fun c => (e c (Finset.mem_univ c)).1, sem_eq_zero_of_scoped (by decide) (sems_of_reads (fun c => (e c (Finset.mem_univ c)).2) n)⟩

/-- The arguments stay. -/
theorem kept_args (c : Dev nD) (s : MemSt nD τ sig (Elt F))
    (h : (∀ w : Fin cfg0.W, s.mem ((cfg0.win w).arr.view.loc (c : Thread nD τ)) = (dats m 0 c).arrAt w cfg0.N) ∧ Seen m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2) :=
  ⟨(h.1 0).trans ((dats m 0 c).arrAt_in (0 : Fin 3) rfl _), (h.1 1).trans ((dats m 0 c).arrAt_in (1 : Fin 3) rfl _), h.2.1⟩

theorem frame_holds : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => kept_args m c r.2 (h.1 c), h.2⟩) (run_main m ρ)

end Cert.Wup
-- ==== Proof.WupSame.lean ====
/-
  `wgrad_up` and its idealized form have one text; the kernel's frame is the idealized form's run read over machine
  floats.
-/
module

public import proofs.«01_k».proof.Proof.Gen.Kernel5
public import proofs.«01_k».proof.Proof.Same
public import proofs.«01_k».proof.Proof.WupStart

@[expose] public section

set_option maxRecDepth 16384
set_option maxHeartbeats 4000000

namespace Cert.WupSame

open Idealize.ShloMosaic Idealize.SL.Sem

theorem bodies : Cert.Kernel5.defs₀ (F := Bits) = Cert.Kernel5Ideal.defs₀ (F := Bits) := by
  funext p l a
  cases p with
  | tc =>
    match l with
    | ⟨0, _⟩ => rfl
  | scScalar _ => rfl
  | scVector _ _ => rfl

theorem tables : Cert.Kernel5.defs (F := Bits) = Cert.Kernel5Ideal.defs (F := Bits) :=
  congrArg (Pipeline.defs Cert.Kernel5Ideal.pcfgs) bodies

theorem mains : Cert.Kernel5.main (F := Bits) = Cert.Kernel5Ideal.main (F := Bits) := by
  funext c
  unfold Cert.Kernel5.main Cert.Kernel5Ideal.main
  rfl

theorem frame : Cert.quiescent_Kernel5 := fun m ρ _ =>
  Cert.Same.run_of_eq tables mains (Cert.Wup.frame_holds (F := Bits) m ρ)

end Cert.WupSame
-- ==== Proof.WupRef.lean ====
/-
# What the reference of `wgrad_up` leaves
-/
module

public import proofs.«01_k».proof.Proof.Gen.Reference5Ideal.Run
public import proofs.«01_k».proof.Proof.Rows
public import Idealize.ShloMosaic.Lib.Layout

@[expose] public section

set_option maxRecDepth 16384

noncomputable section

namespace Cert.Wup

open Idealize.ShloMosaic Idealize.ShloMosaic.TcCoe
open Cert.Rows
open scoped BigOperators

/-! ## Several products of two arrays over their rows -/

section Batch

variable {B K M N : ℕ} (wf : DotDims.WF ⟨3, ![B, K, M]⟩ ⟨3, ![B, K, N]⟩ ⟨3, ![B, M, N]⟩ [1] [1] [2] [2] [0] [0])

/-- The dimension numbers of `B` products `[K, M]ᵀ × [K, N]`. -/
abbrev many : DotDims ⟨3, ![B, K, M]⟩ ⟨3, ![B, K, N]⟩ ⟨3, ![B, M, N]⟩ where
  lhsContracting := [1]
  rhsContracting := [1]
  lhsNonContracting := [2]
  rhsNonContracting := [2]
  lhsBatch := [0]
  rhsBatch := [0]
  wf := wf

/-- An entry of one of the products. -/
theorem many_at {φ ψ : FTy} (prec : Option ContractPrecision) (sched : HostSchedule) (a : FVec Ideal ⟨3, ![B, K, M]⟩ φ) (b : FVec Ideal ⟨3, ![B, K, N]⟩ ψ)
    (g : Fin B) (p : Fin M) (q : Fin N) :
    FloatOps.dotGeneral (F := Ideal) (many wf) prec sched a b (ValueIdx.ix3 g p q) = ∑ k : Fin K, a (ValueIdx.ix3 g k p) * b (ValueIdx.ix3 g k q) := by
  rw [Ideal.dotGeneral_apply, ← Equiv.sum_comp (ValueIdx.contrEquiv1 (many wf) K rfl rfl).symm]
  refine Finset.sum_congr rfl fun k _ => ?_
  have hk := ValueIdx.contrEquiv1_symm_val (many wf) K rfl rfl k
  have e1 : (many wf).lhsIdx (ValueIdx.ix3 g p q) ((ValueIdx.contrEquiv1 (many wf) K rfl rfl).symm k) = ValueIdx.ix3 g k p := by
    funext x; apply Fin.ext
    match x with
    | ⟨0, _⟩ => rfl
    | ⟨1, _⟩ => exact hk
    | ⟨2, _⟩ => rfl
  have e2 : (many wf).rhsIdx (ValueIdx.ix3 g p q) ((ValueIdx.contrEquiv1 (many wf) K rfl rfl).symm k) = ValueIdx.ix3 g k q := by
    funext x; apply Fin.ext
    match x with
    | ⟨0, _⟩ => rfl
    | ⟨1, _⟩ => exact hk
    | ⟨2, _⟩ => rfl
  rw [e1, e2]

end Batch

open Cert.Reference5Ideal Cert.Reference5Ideal.Gen

/-- The gradient of one device: in slab `s` the columns from `512 s` on of the product over the rows. -/
def slabs (a : (⟨2, ![4096, 1024]⟩ : Shape).Idx → EReal) (b : (⟨2, ![4096, 4096]⟩ : Shape).Idx → EReal) : (⟨3, ![8, 1024, 512]⟩ : Shape).Idx → EReal :=
  fun j => upto 4096 a b (j 1).val (512 * (j 0).val + (j 2).val)

variable (A0 : S32768x1024.Idx → EReal) (A1 : S32768x4096.Idx → EReal) (A2 : S64x512x1024.Idx → EReal)

abbrev rows (c : Fin 8) : (⟨2, ![4096, 1024]⟩ : Shape).Idx → EReal := Layout.block ⟨2, ![4096, 1024]⟩ ⟨2, ![32768, 1024]⟩ 0 8 c A0
abbrev cols (c : Fin 8) : (⟨2, ![4096, 4096]⟩ : Shape).Idx → EReal := Layout.block ⟨2, ![4096, 4096]⟩ ⟨2, ![32768, 4096]⟩ 0 8 c A1

theorem rows_at (c : Fin 8) (k : Fin 4096) (p : Fin 1024) (h) : A0 (ValueIdx.ix2 (⟨4096 * c.val + k.val, h⟩ : Fin 32768) p) = rows A0 c (ValueIdx.ix2 k p) := by
  refine congrArg A0 ?_
  funext x; apply Fin.ext
  match x with
  | ⟨0, _⟩ => show 4096 * c.val + k.val = c.val * 4096 + k.val; omega
  | ⟨1, _⟩ => rfl
theorem cols_at (c : Fin 8) (k : Fin 4096) (p : Fin 4096) (h) : A1 (ValueIdx.ix2 (⟨4096 * c.val + k.val, h⟩ : Fin 32768) p) = cols A1 c (ValueIdx.ix2 k p) := by
  refine congrArg A1 ?_
  funext x; apply Fin.ext
  match x with
  | ⟨0, _⟩ => show 4096 * c.val + k.val = c.val * 4096 + k.val; omega
  | ⟨1, _⟩ => rfl

abbrev stacked : FVec Ideal S8x1024x4096 .f32 :=
  Host.dotGeneral (F := Ideal) dot_S8x4096x1024_S8x4096x4096_S8x1024x4096_1_1_2_2_0_0 none
    (shapeCast S8x4096x1024 (extf (F := Ideal) .f32 (A0 : FVec Ideal S32768x1024 .bf16) bitsLt_bf16_f32) shapeCasts_S32768x1024_S8x4096x1024)
    (shapeCast S8x4096x4096 (extf (F := Ideal) .f32 (A1 : FVec Ideal S32768x4096 .bf16) bitsLt_bf16_f32) shapeCasts_S32768x4096_S8x4096x4096)

theorem stacked_at (c : Fin 8) (p : Fin 1024) (q : Fin 4096) :
    stacked A0 A1 (ValueIdx.ix3 c p q) = upto 4096 (rows A0 c) (cols A1 c) p.val q.val := by
  refine (many_at (B := 8) (K := 4096) (M := 1024) (N := 4096) _ none _ _ _ c p q).trans ?_
  rw [← upto_all]
  have hc : c.val < 8 := c.isLt
  refine Finset.sum_congr rfl fun k _ => ?_
  have hk : k.val < 4096 := k.isLt
  have l := shapeCast_apply (extf (F := Ideal) .f32 (A0 : FVec Ideal S32768x1024 .bf16) bitsLt_bf16_f32) shapeCasts_S32768x1024_S8x4096x1024 (ValueIdx.ix3 c k p)
    (ValueIdx.ix2 (⟨4096 * c.val + k.val, by omega⟩ : Fin 32768) p) (by
      rw [Shape.rowMajor_val_two, Shape.rowMajor_val_three]
      show (4096 * c.val + k.val) * 1024 + p.val = (c.val * 4096 + k.val) * 1024 + p.val
      omega)
  have r := shapeCast_apply (extf (F := Ideal) .f32 (A1 : FVec Ideal S32768x4096 .bf16) bitsLt_bf16_f32) shapeCasts_S32768x4096_S8x4096x4096 (ValueIdx.ix3 c k q)
    (ValueIdx.ix2 (⟨4096 * c.val + k.val, by omega⟩ : Fin 32768) q) (by
      rw [Shape.rowMajor_val_two, Shape.rowMajor_val_three]
      show (4096 * c.val + k.val) * 4096 + q.val = (c.val * 4096 + k.val) * 4096 + q.val
      omega)
  have l' := l.trans (rows_at A0 c k p (by omega))
  have r' := r.trans (cols_at A1 c k q (by omega))
  exact congrArg₂ (fun x y : EReal => x * y) l' r'

/-- The slabs of all the devices, one device after the other. -/
theorem result_at (c : Fin 8) :
    Layout.block ⟨3, ![8, 1024, 512]⟩ ⟨3, ![64, 1024, 512]⟩ 0 8 c
        (shapeCast S64x1024x512 (transpose S8x8x1024x512 [0, 2, 1, 3]
          (shapeCast S8x1024x8x512 (truncf (F := Ideal) .bf16 (stacked A0 A1) bitsLt_bf16_f32) shapeCasts_S8x1024x4096_S8x1024x8x512)
          transposes_S8x1024x8x512_S8x8x1024x512_0_2_1_3) shapeCasts_S8x8x1024x512_S64x1024x512)
      = slabs (rows A0 c) (cols A1 c) := by
  funext j
  obtain ⟨s, p, q, rfl⟩ : ∃ (s : Fin 8) (p : Fin 1024) (q : Fin 512), j = ValueIdx.ix3 s p q := ⟨_, _, _, ValueIdx.eq_ix3 j⟩
  have hc : c.val < 8 := c.isLt
  have h0 : s.val < 8 := s.isLt
  have hp : p.val < 1024 := p.isLt
  have hq : q.val < 512 := q.isLt
  refine (shapeCast_apply _ _ _ (ValueIdx.ix4 c s p q : S8x8x1024x512.Idx) ?_).trans ?_
  · refine (Shape.rowMajor_val_four _).trans (Eq.trans ?_ (Shape.rowMajor_val_three _).symm)
    show ((c.val * 8 + s.val) * 1024 + p.val) * 512 + q.val = ((c.val * 8 + s.val) * 1024 + p.val) * 512 + q.val
    rfl
  refine (transpose_apply _ _ _ _ (ValueIdx.ix4 c p s q : S8x1024x8x512.Idx) ?_).trans ?_
  · intro b
    match b with
    | ⟨0, _⟩ => rfl
    | ⟨1, _⟩ => rfl
    | ⟨2, _⟩ => rfl
    | ⟨3, _⟩ => rfl
  refine (shapeCast_apply _ _ _ (ValueIdx.ix3 c p (⟨512 * s.val + q.val, by omega⟩ : Fin 4096) : S8x1024x4096.Idx) ?_).trans ?_
  · refine (Shape.rowMajor_val_three _).trans (Eq.trans ?_ (Shape.rowMajor_val_four _).symm)
    show (c.val * 1024 + p.val) * 4096 + (512 * s.val + q.val) = ((c.val * 1024 + p.val) * 8 + s.val) * 512 + q.val
    omega
  exact stacked_at A0 A1 c p ⟨512 * s.val + q.val, by omega⟩

/-! ## The slabs that have travelled -/

/-- The places, among all the slabs, of those that arrive, device by device and transfer by transfer. -/
def place (n : Fin 16) : ℕ := (![16, 32, 25, 41, 2, 50, 11, 59, 52, 4, 61, 13, 38, 22, 47, 31] : Fin 16 → ℕ) n
theorem place_lt (n : Fin 16) : place n < 64 := by revert n; decide

theorem place_fits (n : Fin 16) : S64x512x1024.Slices ![place n, 0, 0] S1x512x1024 := by
  have h := place_lt n
  refine ⟨rfl, fun a => ?_⟩
  match a with
  | ⟨0, _⟩ => show place n + 1 ≤ 64; omega
  | ⟨1, _⟩ => show 0 + 512 ≤ 512; omega
  | ⟨2, _⟩ => show 0 + 1024 ≤ 1024; omega

abbrev moved (n : Fin 16) : S1x512x1024.Idx → EReal := extractStridedSlice S1x512x1024 ![place n, 0, 0] A2 (place_fits n)

theorem moved_at (h) (n : Fin 16) (p : Fin 512) (q : Fin 1024) :
    concatenate S16x512x1024 0 (List.ofFn fun n : Fin 16 => (⟨S1x512x1024, moved A2 n⟩ : (s : Shape) × (s.Idx → EReal))) h (ValueIdx.ix3 n p q)
      = A2 (ValueIdx.ix3 (⟨place n, place_lt n⟩ : Fin 64) p q) := by
  refine (concatenate_ofFn_unit_apply (t := S16x512x1024) (s₁ := S1x512x1024) 0 (moved A2) h rfl rfl (ValueIdx.ix3 n p q) n rfl (ValueIdx.ix3 (0 : Fin 1) p q) ?_).trans ?_
  · intro b hb
    match b with
    | ⟨0, _⟩ => exact absurd rfl hb
    | ⟨1, _⟩ => rfl
    | ⟨2, _⟩ => rfl
  · refine extractStridedSlice_apply _ _ _ _ _ fun a => ?_
    match a with
    | ⟨0, _⟩ => rfl
    | ⟨1, _⟩ => show p.val = 0 + p.val; omega
    | ⟨2, _⟩ => show q.val = 0 + q.val; omega

end Cert.Wup
-- ==== Proof.WupValue.lean ====
/-
# What `wgrad_up` leaves, over the extended reals
-/
module

public import proofs.«01_k».proof.Proof.WupStart
public import proofs.«01_k».proof.Proof.WupRef

@[expose] public section

set_option maxRecDepth 16384

noncomputable section

namespace Cert.Wup

open Cert.Kernel5Ideal Cert.Kernel5Ideal.Gen
open Idealize.ShloMosaic Idealize.ShloMosaic.TcCoe
open Idealize.SL.Sem
open Idealize.ShloMosaic.Pipeline (Dat Cfg Window)
open Cert.Rows
open scoped BigOperators

variable (m : (ℓ : Loc nD τ sig) → Buf (Elt Ideal) ℓ) (ρ : Dev nD → PrngReg) (c : Dev nD)

/-- The two factors. -/
def lhs : (⟨2, ![4096, 1024]⟩ : Shape).Idx → EReal := m ((c : Thread nD τ).loc main_arg0)
def rhs : (⟨2, ![4096, 4096]⟩ : Shape).Idx → EReal := m ((c : Thread nD τ).loc main_arg1)
/-- Half of the columns. -/
def halfOf (b : (⟨2, ![4096, 4096]⟩ : Shape).Idx → EReal) (g : Fin 2) : (⟨2, ![4096, 2048]⟩ : Shape).Idx → EReal := fun j =>
  b (ValueIdx.ix2 (j 0 : Fin 4096) (⟨2048 * g.val + (j 1).val, by have h0 := g.isLt; have h1 : (j 1).val < 2048 := (j 1).isLt; omega⟩ : Fin 4096))

theorem upto_half (n : ℕ) (a : (⟨2, ![4096, 1024]⟩ : Shape).Idx → EReal) (b : (⟨2, ![4096, 4096]⟩ : Shape).Idx → EReal) (g : Fin 2) (p q : ℕ) (hq : q < 2048) :
    upto n a (halfOf b g) p q = upto n a b p (2048 * g.val + q) := by
  have hg := g.isLt
  refine Finset.sum_congr rfl fun k _ => congrArg (entry a k p * ·) ?_
  unfold entry
  by_cases hk : k < 4096
  · rw [dif_pos ⟨hk, hq⟩, dif_pos ⟨hk, by omega⟩]; rfl
  · rw [dif_neg (fun h => hk h.1), dif_neg (fun h => hk h.1)]

/-- The half of the columns that a point works on. -/
def grp (t : Fin cfg0.N) : Fin 2 := ⟨t.val / 4, by have := lt_of_lt_of_eq t.isLt N_0; omega⟩

theorem block_left (t : Fin cfg0.N) (k p : Fin 1024) (h : 1024 * (t.val % 4) + k.val < 4096) :
    (left m c t : S1024x1024.Idx → EReal) (ValueIdx.ix2 k p) = lhs m c (ValueIdx.ix2 ⟨1024 * (t.val % 4) + k.val, h⟩ p) := by
  have i0 : win0_0.index t 0 = t.val % 4 := (by decide +kernel : ∀ t : Fin grid0.N, win0_0.index t 0 = t.val % 4) t
  have i1 : win0_0.index t 1 = 0 := (by decide +kernel : ∀ t : Fin grid0.N, win0_0.index t 1 = 0) t
  show lhs m c (((cfg0.win 0).blk t).view.emb (ValueIdx.ix2 k p)) = _
  refine congrArg (lhs m c) ?_
  funext a; apply Fin.ext
  match a with
  | ⟨0, _⟩ => show win0_0.index t 0 * 1024 + 1 * k.val = 1024 * (t.val % 4) + k.val; rw [i0]; ring
  | ⟨1, _⟩ => show win0_0.index t 1 * 1024 + 1 * p.val = p.val; rw [i1]; ring
theorem block_right (t : Fin cfg0.N) (k : Fin 1024) (q : Fin 2048) (h : 1024 * (t.val % 4) + k.val < 4096) :
    (right m c t : S1024x2048.Idx → EReal) (ValueIdx.ix2 k q) = halfOf (rhs m c) (grp t) (ValueIdx.ix2 ⟨1024 * (t.val % 4) + k.val, h⟩ q) := by
  have i0 : win0_1.index t 0 = t.val % 4 := (by decide +kernel : ∀ t : Fin grid0.N, win0_1.index t 0 = t.val % 4) t
  have i1 : win0_1.index t 1 = t.val / 4 := (by decide +kernel : ∀ t : Fin grid0.N, win0_1.index t 1 = t.val / 4) t
  show rhs m c (((cfg0.win 1).blk t).view.emb (ValueIdx.ix2 k q)) = rhs m c _
  refine congrArg (rhs m c) ?_
  funext a; apply Fin.ext
  match a with
  | ⟨0, _⟩ => show win0_1.index t 0 * 1024 + 1 * k.val = 1024 * (t.val % 4) + k.val; rw [i0]; ring
  | ⟨1, _⟩ => show win0_1.index t 1 * 2048 + 1 * q.val = 2048 * (t.val / 4) + q.val; rw [i1]; ring

theorem zeros (j : S1024x2048.Idx) : k0_pay1 (F := Ideal) j = 0 := by
  unfold k0_pay1
  rw [shapeCast_self]
  exact Ideal.ofBits_zero_f32

/-- One block's products, added to what was there. -/
theorem added (z : S1024x2048.Idx → EReal) (a : S1024x1024.Idx → EReal) (b : S1024x2048.Idx → EReal) (p : Fin 1024) (q : Fin 2048) :
    k0_pay2 (F := Ideal) z a b (ValueIdx.ix2 p q) = z (ValueIdx.ix2 p q) + ∑ k : Fin 1024, a (ValueIdx.ix2 k p) * b (ValueIdx.ix2 k q) := by
  unfold k0_pay2
  simp only [shapeCast_self]
  refine congrArg (z (ValueIdx.ix2 p q) + ·) ?_
  refine (matmul_at (K := 1024) (M := 1024) (N := 2048) _ none a b (constant S1024x2048 .f32 0x00000000#32) p q).trans ?_
  show Ideal.ofBits .f32 0x00000000#32 + _ = _
  rw [Ideal.ofBits_zero_f32, zero_add]

theorem step (t : Fin cfg0.N) (z : S1024x2048.Idx → EReal)
    (hz : ∀ (p : Fin 1024) (q : Fin 2048), z (ValueIdx.ix2 p q) = upto (1024 * (t.val % 4)) (lhs m c) (halfOf (rhs m c) (grp t)) p.val q.val)
    (p : Fin 1024) (q : Fin 2048) :
    k0_pay2 (F := Ideal) z (left m c t) (right m c t) (ValueIdx.ix2 p q)
      = upto (1024 * (t.val % 4 + 1)) (lhs m c) (halfOf (rhs m c) (grp t)) p.val q.val := by
  rw [added, hz]
  exact upto_block (1024 * (t.val % 4)) (by omega) (lhs m c) (halfOf (rhs m c) (grp t)) (left m c t) (right m c t)
    (fun k p => block_left m c t k p (by omega)) (fun k q => block_right m c t k q (by omega)) p q

/-- The accumulator holds the products over the rows of its points so far. -/
theorem acc_at : ∀ (n : ℕ) (h : n < cfg0.N) (p : Fin 1024) (q : Fin 2048),
    (accAt m c n h : S1024x2048.Idx → EReal) (ValueIdx.ix2 p q) = upto (1024 * (n % 4 + 1)) (lhs m c) (halfOf (rhs m c) (grp ⟨n, h⟩)) p.val q.val := by
  have first (t : Fin cfg0.N) (h4 : t.val % 4 = 0) (p : Fin 1024) (q : Fin 2048) :
      (accAt m c t.val t.isLt : S1024x2048.Idx → EReal) (ValueIdx.ix2 p q) = upto (1024 * (t.val % 4 + 1)) (lhs m c) (halfOf (rhs m c) (grp t)) p.val q.val := by
    rw [acc_fresh m c t h4]
    refine step m c t _ (fun p q => ?_) p q
    rw [zeros, h4, Nat.mul_zero, upto_zero]
  intro n
  induction n with
  | zero => exact fun h p q => first ⟨0, h⟩ rfl p q
  | succ n ih =>
    intro h p q
    by_cases h4 : (n + 1) % 4 = 0
    · exact first ⟨n + 1, h⟩ h4 p q
    · refine (congrFun (acc_more m c ⟨n + 1, h⟩ h4) _).trans (step m c ⟨n + 1, h⟩ _ (fun p q => ?_) p q)
      refine (ih (Nat.lt_of_succ_lt h) p q).trans ?_
      have e : n % 4 + 1 = (n + 1) % 4 := by omega
      have g : grp ⟨n, Nat.lt_of_succ_lt h⟩ = grp ⟨n + 1, h⟩ := Fin.ext (by show n / 4 = (n + 1) / 4; omega)
      rw [e, g]

theorem parts_at (w : S1024x2048.Idx → EReal) (s : Fin 4) (p : Fin 1024) (q : Fin 512) :
    (parts (F := Ideal) w : S4x1024x512.Idx → EReal) (ValueIdx.ix3 s p q)
      = w (ValueIdx.ix2 p (⟨512 * s.val + q.val, by have h0 := s.isLt; have h1 := q.isLt; omega⟩ : Fin 2048)) := by
  unfold parts k0_pay3
  refine (shapeCast_apply _ _ _ (ValueIdx.ix2 p q : S1024x512.Idx) ?_).trans rfl
  refine (Shape.rowMajor_val_two _).trans (Eq.trans ?_ (Shape.rowMajor_val_three _).symm)
  show p.val * 512 + q.val = (0 * 1024 + p.val) * 512 + q.val
  omega

/-- What a point writes back is its slabs of the gradient. -/
theorem flushed_eq (t : Fin cfg0.N) (hf : (cfg0.win 2).flush t = true) :
    (dats m 0 c).flushed 2 t = ((cfg0.win 2).blk t).view.read (Elt Ideal) (slabs (lhs m c) (rhs m c)) := by
  have h3 : t.val % 4 = 3 := (flush0_2 t).mp hf
  have i0 : win0_2.index t 0 = t.val / 4 := (by decide +kernel : ∀ t : Fin grid0.N, win0_2.index t 0 = t.val / 4) t
  have i1 : win0_2.index t 1 = 0 := (by decide +kernel : ∀ t : Fin grid0.N, win0_2.index t 1 = 0) t
  have i2 : win0_2.index t 2 = 0 := (by decide +kernel : ∀ t : Fin grid0.N, win0_2.index t 2 = 0) t
  have key : ∀ y : S4x1024x512.Idx, (parts (F := Ideal) (accAt m c t.val t.isLt) : S4x1024x512.Idx → EReal) y
      = slabs (lhs m c) (rhs m c) (((cfg0.win 2).blk t).view.emb y) := by
    intro y
    have hb0 : (((cfg0.win 2).blk t).view.emb y 0).val = win0_2.index t (0 : Fin 3) * 4 + 1 * (y 0).val := rfl
    have hb1 : (((cfg0.win 2).blk t).view.emb y 1).val = win0_2.index t (1 : Fin 3) * 1024 + 1 * (y 1).val := rfl
    have hb2 : (((cfg0.win 2).blk t).view.emb y 2).val = win0_2.index t (2 : Fin 3) * 512 + 1 * (y 2).val := rfl
    have y0 : (y 0).val < 4 := (y 0).isLt
    have y2 : (y 2).val < 512 := (y 2).isLt
    have e := parts_at (accAt m c t.val t.isLt) (y 0) (y 1) (y 2)
    refine (congrArg (parts (F := Ideal) (accAt m c t.val t.isLt)) (ValueIdx.eq_ix3 y)).trans (e.trans ?_)
    refine (acc_at m c t.val t.isLt _ _).trans ?_
    rw [h3]
    refine (upto_half 4096 _ _ (grp t) _ _ (by show 512 * (y 0).val + (y 2).val < 2048; omega)).trans ?_
    have e1 : (((cfg0.win 2).blk t).view.emb y 1).val = (y 1).val := by rw [hb1, i1]; omega
    have e2 : 512 * (((cfg0.win 2).blk t).view.emb y 0).val + (((cfg0.win 2).blk t).view.emb y 2).val = 2048 * (t.val / 4) + (512 * (y 0).val + (y 2).val) := by
      rw [hb0, hb2, i0, i2]; omega
    exact (congrArg₂ (upto 4096 (lhs m c) (rhs m c)) e1 e2).symm
  funext y
  exact key y

theorem array : (dats m 0 c).arrAt 2 cfg0.N = slabs (lhs m c) (rhs m c) :=
  (dats m 0 c).arrAt_eq_of_cover 2 _ (fun t hf => flushed_eq m c t hf) (fun i => by
    have h0 : (i 0).val < 8 := (i 0).isLt
    have h1 : (i 1).val < 1024 := (i 1).isLt
    have h2 : (i 2).val < 512 := (i 2).isLt
    let t : Fin cfg0.N := ⟨4 * ((i 0).val / 4) + 3, by rw [show cfg0.N = 8 from N_0]; omega⟩
    have ht : t.val = 4 * ((i 0).val / 4) + 3 := rfl
    have i0 : win0_2.index t 0 = t.val / 4 := (by decide +kernel : ∀ t : Fin grid0.N, win0_2.index t 0 = t.val / 4) t
    have i1 : win0_2.index t 1 = 0 := (by decide +kernel : ∀ t : Fin grid0.N, win0_2.index t 1 = 0) t
    have i2 : win0_2.index t 2 = 0 := (by decide +kernel : ∀ t : Fin grid0.N, win0_2.index t 2 = 0) t
    refine ⟨t, (flush0_2 t).mpr (by omega), ?_⟩
    show i ∈ ((View.whole main_v1_0).slice (win0_2.rect t)).set
    rw [View.set_slice_whole, Rect.mem_set_unit]
    intro a
    match a with
    | ⟨0, _⟩ => show win0_2.index t 0 * 4 ≤ (i 0).val ∧ (i 0).val < win0_2.index t 0 * 4 + 4; omega
    | ⟨1, _⟩ => show win0_2.index t 1 * 1024 ≤ (i 1).val ∧ (i 1).val < win0_2.index t 1 * 1024 + 1024; omega
    | ⟨2, _⟩ => show win0_2.index t 2 * 512 ≤ (i 2).val ∧ (i 2).val < win0_2.index t 2 * 512 + 512; omega)

/-! ## The slabs that have travelled -/

theorem place_peer (d : Dev nD) (j : Fin 2) (h) : place ⟨d.val * 2 + j.val, h⟩ = (peer j d).val * 8 + d.val := by
  revert d j; decide

theorem landed_eq (A2 : (⟨3, ![64, 512, 1024]⟩ : Shape).Idx → EReal)
    (hm : ∀ d : Dev nD, m ((d : Thread nD τ).loc main_arg2) = Layout.block ⟨3, ![8, 512, 1024]⟩ ⟨3, ![64, 512, 1024]⟩ 0 8 d A2) (h) :
    (landed m c : S2x512x1024.Idx → EReal) = Layout.block ⟨3, ![2, 512, 1024]⟩ ⟨3, ![16, 512, 1024]⟩ 0 8 c
      (concatenate ⟨3, ![16, 512, 1024]⟩ 0 (List.ofFn fun n : Fin 16 => (⟨⟨3, ![1, 512, 1024]⟩, moved A2 n⟩ : (s : Shape) × (s.Idx → EReal))) h) := by
  funext i
  obtain ⟨j, p, q, rfl⟩ : ∃ (j : Fin 2) (p : Fin 512) (q : Fin 1024), i = ValueIdx.ix3 j p q := ⟨_, _, _, ValueIdx.eq_ix3 i⟩
  have hc : c.val < 8 := c.isLt
  have hj := j.isLt
  have hp : (peer j c).val < 8 := (peer j c).isLt
  have hn : c.val * 2 + j.val < 16 := by omega
  have l : landed m c (ValueIdx.ix3 j p q) = A2 (ValueIdx.ix3 (⟨(peer j c).val * 8 + c.val, by omega⟩ : Fin 64) p q) := by
    refine (congrFun (hm (peer j c)) (ValueIdx.ix3 (c : Fin 8) p q)).trans (congrArg A2 ?_)
    funext a; apply Fin.ext
    match a with
    | ⟨0, _⟩ => rfl
    | ⟨1, _⟩ => rfl
    | ⟨2, _⟩ => rfl
  have r := moved_at A2 h ⟨c.val * 2 + j.val, hn⟩ p q
  refine l.trans (Eq.trans ?_ (r.symm.trans (congrArg _ ?_)))
  · exact congrArg (fun x : Fin 64 => A2 (ValueIdx.ix3 x p q)) (Fin.ext (place_peer c j hn).symm)
  · funext a; apply Fin.ext
    match a with
    | ⟨0, _⟩ => rfl
    | ⟨1, _⟩ => rfl
    | ⟨2, _⟩ => rfl

end Cert.Wup
-- ==== Proof.lean ====
module

public import proofs.«01_k».proof.Defs
public import proofs.«01_k».proof.Proof.Gen.Kernel
public import proofs.«01_k».proof.Proof.MlpRun
public import proofs.«01_k».proof.Proof.Same
public import proofs.«01_k».proof.Proof.MlpValue
public import proofs.«01_k».proof.Proof.Finite
public import proofs.«01_k».proof.Proof.RefRun
public import proofs.«01_k».proof.Proof.Gen.Kernel2.Frame
public import proofs.«01_k».proof.Proof.BwdValue
public import proofs.«01_k».proof.Proof.BwdFinite
public import proofs.«01_k».proof.Proof.BwdRef
public import proofs.«01_k».proof.Proof.Gen.Kernel3.Frame
public import proofs.«01_k».proof.Proof.Wout
public import proofs.«01_k».proof.Proof.FwdSame
public import proofs.«01_k».proof.Proof.FwdValue
public import proofs.«01_k».proof.Proof.FwdPack
public import proofs.«01_k».proof.Proof.FwdRef
public import proofs.«01_k».proof.Proof.WupSame
public import proofs.«01_k».proof.Proof.WupValue

@[expose] public section

set_option maxRecDepth 16384

noncomputable section

namespace Cert.Proof

open Idealize.ShloMosaic Idealize.SL.Sem

theorem frame_kernel : Cert.quiescent_Kernel := Cert.Same.frame
theorem frame_ideal : Cert.quiescent_KernelIdeal := fun m ρ _ => Cert.Mlp.frame m ρ
theorem frame_ideal_finite : Cert.quiescent_KernelIdeal_pre_finite := fun m ρ _ => Cert.Mlp.frame m ρ
theorem frame_reference : Cert.quiescent_ReferenceIdeal := fun m ρ _ => Cert.Plain.frame m ρ
theorem frame_reference_finite : Cert.quiescent_ReferenceIdeal_pre_finite := fun m ρ _ => Cert.Plain.frame m ρ

/-- The idealized kernel and the reference both compute the stages of the specification. -/
theorem same_values : Cert.algebraic_KernelIdeal_ReferenceIdeal_pre_finite := by
  intro m ρ m' ρ' hpre hagree
  obtain ⟨D, H⟩ := Cert.Mlp.args_of_pre m hpre
  have H' : ∀ c, Cert.Plain.Args m' c (D c) := fun c => by
    obtain ⟨a0, a1, a2, a3, a4, a5, a6, a7, a8, a9, a10⟩ := hagree c
    exact ⟨a0.trans (H c).x, a1.trans (H c).yp, a2.trans (H c).ya, a3.trans (H c).t, a4.trans (H c).gp, a5.trans (H c).ga, a6.trans (H c).wo, a7.trans (H c).g2, a8.trans (H c).wu, a9.trans (H c).wd, a10.trans (H c).gf⟩
  exact ⟨_, _, _, _, _, _, _, _, _, _, Cert.Mlp.run m ρ D H, Cert.Plain.run ρ' D H'⟩

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ideal2_finite : Cert.quiescent_Kernel2Ideal_pre_finite_in := fun m ρ _ => Cert.Kernel2Ideal.Gen.frame m ρ
theorem frame_reference2 : Cert.quiescent_Reference2Ideal := fun m ρ _ => Cert.BwdRef.frame m ρ
theorem frame_reference2_finite : Cert.quiescent_Reference2Ideal_pre_finite_in := fun m ρ _ => Cert.BwdRef.frame m ρ

/-- Both compute the gradient back through the input projection. -/
theorem same_values2 : Cert.algebraic_Kernel2Ideal_Reference2Ideal_pre_finite_in := by
  intro m ρ m' ρ' hpre hagree
  obtain ⟨D, H⟩ := Cert.Bwd.args_of_pre m hpre
  have H' : ∀ c, Cert.BwdRef.Args m' c (D c) := fun c => by
    obtain ⟨a0, a1, a2, a3, a4, a5, a6, a7⟩ := hagree c
    exact ⟨a0.trans (H c).du, a1.trans (H c).dq, a2.trans (H c).dk, a3.trans (H c).dv, a4.trans (H c).w, a5.trans (H c).x, a6.trans (H c).dh, a7.trans (H c).g⟩
  exact ⟨_, _, _, Cert.Bwd.run_kernel m ρ D H, Cert.BwdRef.run m' ρ' D H'⟩

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ => Cert.Wout.frame_plain m ρ

/-- Both compute the output projection's gradient, cut into slabs. -/
theorem same_values3 : Cert.algebraic_Kernel3Ideal_Reference3Ideal := by
  intro m ρ m' ρ' _ hagree
  exact ⟨_, Cert.Wout.run_kernel m ρ, Cert.Wout.run_plain m m' ρ' (fun c => (hagree c).1) (fun c => (hagree c).2)⟩

theorem frame_kernel4 : Cert.quiescent_Kernel4 := Cert.FwdSame.frame
theorem frame_ideal4 : Cert.quiescent_Kernel4Ideal := fun m ρ _ => Cert.Fwd.frame_holds m ρ
theorem frame_reference4 : Cert.quiescent_Reference4Ideal := fun m ρ _ =>
  (θ_run _ _ _).mono (fun r h => ⟨fun c => (h c).2.2.2.2.2.2.2.2.2.2.2, sem_eq_zero_of_no_sems (by decide) r.2⟩) (Cert.Reference4Ideal.Value.run m ρ)

/-- Both compute the norm, the parts of the projection, the weights and the packed vectors. -/
theorem same_values4 : Cert.algebraic_Kernel4Ideal_Reference4Ideal := by
  intro m ρ m' ρ' _ hagree
  choose D H using fun c => Cert.Fwd.args m c
  have H' : ∀ c, Cert.FwdRef.Args m' c (D c) := fun c => by
    obtain ⟨a0, a1, a2, a3, a4, a5, -⟩ := hagree c
    exact ⟨a0.trans (H c).x, a1.trans (H c).g, a2.trans (H c).w, a3.trans (H c).wo, a4.trans (H c).wu, a5.trans (H c).wd⟩
  refine ⟨fun c => (Cert.Fwd.E2 (D c).hn : Cert.Kernel4Ideal.S4096x1024.Idx → EReal), fun c => (Cert.Fwd.E2 (D c).proj : Cert.Kernel4Ideal.S4096x512.Idx → EReal), fun c => (Cert.Fwd.E2 (Cert.Fwd.times (Cert.Fwd.right 512 (D c).proj)) : Cert.Kernel4Ideal.S4096x512.Idx → EReal), fun c => (Cert.Fwd.E2 (Cert.Fwd.right 1024 (D c).proj) : Cert.Kernel4Ideal.S4096x512.Idx → EReal), fun c => (Cert.Fwd.E2 (Cert.Fwd.right 1536 (D c).proj) : Cert.Kernel4Ideal.S4096x512.Idx → EReal), fun c => (Cert.Fwd.E2 (D c).wo : Cert.Kernel4Ideal.S128x1024.Idx → EReal), fun c => (Cert.Fwd.E2 (D c).wu : Cert.Kernel4Ideal.S1024x512.Idx → EReal), fun c => (Cert.Fwd.E2 (D c).wd : Cert.Kernel4Ideal.S512x1024.Idx → EReal),
    fun c => Cert.Fwd.packed (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg10)), fun c => Cert.Fwd.packed (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)), fun c => Cert.Fwd.packed (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20)) (m ((c.tc : Thread Cert.Kernel4Ideal.nD Cert.Kernel4Ideal.τ).loc Cert.Kernel4Ideal.main_arg21)) (m ((c.tc : Thread Cert.Kernel4Ideal.nD Cert.Kernel4Ideal.τ).loc Cert.Kernel4Ideal.main_arg22)),
    (θ_run _ _ _).mono (fun r h c => ?_) (θ_run_and (θ_run_and (Cert.Fwd.results m ρ D H) (Cert.Fwd.packs m ρ)) (Cert.Fwd.frame_holds m ρ)),
    (θ_run _ _ _).mono (fun r h c => ?_) (θ_run_and (θ_run_and (Cert.FwdRef.results m' ρ' D H') (Cert.FwdRef.packs m' ρ')) (frame_reference4 m' ρ' trivial))⟩
  · obtain ⟨e0, e1, e2, e3, e4, e5, e6, e7⟩ := h.1.1 c
    obtain ⟨e8, e9, e10⟩ := h.1.2 c
    exact ⟨e0, e1, e2, e3, e4, e5, e6, e7, e8, e9, e10, h.2.1 c⟩
  · obtain ⟨e0, e1, e2, e3, e4, e5, e6, e7⟩ := h.1.1 c
    obtain ⟨e8, e9, e10⟩ := h.1.2 c
    obtain ⟨a0, a1, a2, a3, a4, a5, a6, a7, a8, a9, a10, a11, a12, a13, a14, a15, a16, a17, a18, a19, a20, a21, a22⟩ := hagree c
    exact ⟨e0, e1, e2, e3, e4, e5, e6, e7, e8.trans (by rw [a6, a7, a8, a9, a1, a10]), e9.trans (by rw [a11, a12, a13, a14, a15, a16]), e10.trans (by rw [a17, a18, a19, a20, a21, a22]), h.2.1 c⟩

theorem frame_kernel5 : Cert.quiescent_Kernel5 := Cert.WupSame.frame
theorem frame_ideal5 : Cert.quiescent_Kernel5Ideal := fun m ρ _ => Cert.Wup.frame_holds m ρ
theorem frame_reference5 : Cert.quiescent_Reference5Ideal := fun m ρ _ =>
  (θ_run _ _ _).mono (fun r h => ⟨fun c => (h c).2.2, sem_eq_zero_of_no_sems (by decide) r.2⟩) (Cert.Reference5Ideal.Value.run m ρ)

/-- Every device's slabs are its part of the gradient, and its two landed slabs are those its two peers sent. -/
theorem same_values5 : Cert.algebraic_Kernel5Ideal_Reference5Ideal := by
  intro m ρ m' ρ' _ hagree
  refine ⟨_, _, ?_, (θ_run _ _ _).mono (fun r h => h 0) (Cert.Reference5Ideal.Value.run m' ρ')⟩
  refine (θ_run _ _ _).mono (fun r h c => ⟨?_, ?_, Cert.Wup.kept_args m c r.2 (h.1 c)⟩) (Cert.Wup.run_main m ρ)
  · exact ((h.1 c).1 2).trans ((Cert.Wup.array m c).trans
      ((congrArg₂ Cert.Wup.slabs (hagree c).1 (hagree c).2.1).trans (Cert.Wup.result_at _ _ c).symm))
  · exact (h.1 c).2.2.trans (Cert.Wup.landed_eq m c _ (fun d => (hagree d).2.2) _)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite_in.Gen.facts,
  frame_kernel, frame_ideal, frame_ideal_finite, frame_reference, frame_reference_finite,
  frame_kernel2, frame_ideal2, frame_ideal2_finite, frame_reference2, frame_reference2_finite,
  frame_kernel3, frame_ideal3, frame_reference3, frame_kernel4, frame_ideal4, frame_reference4,
  frame_kernel5, frame_ideal5, frame_reference5,
  trivial, same_values, trivial, same_values2, trivial, same_values3, trivial, same_values4, trivial, same_values5⟩

end Cert.Proof

end
